-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "neg_scale_log2e" .f32 0xBE0293EE#32 ((-((Real.sqrt 128)⁻¹ * (Real.log 2)⁻¹) : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v33) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_v30) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  IdealRules.named_const.Statement Cert.Kernel10Ideal.κ "mask" .f32 0x7149F2CA#32 ⊤
  ∧ IdealRules.named_const.Statement Cert.Kernel10Ideal.κ "neg_mask" .f32 0xF149F2CA#32 ⊥
  ∧ IdealRules.named_const.Statement Cert.Kernel10Ideal.κ "scale_log2e" .f32 0x3E0293EE#32 (((Real.sqrt 128)⁻¹ * (Real.log 2)⁻¹ : ℝ) : EReal)

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v87) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
-- ==== Pre_finite.lean ====
abbrev S8x4096x3072 : Shape := ⟨3, ![8, 4096, 3072]⟩
abbrev S8x4096x2048 : Shape := ⟨3, ![8, 4096, 2048]⟩
abbrev S_ : Shape := ⟨0, ![]⟩

class Facts : Prop where
  slices_S8x4096x3072_S8x4096x2048_0_0_0 : S8x4096x3072.Slices ![0, 0, 0] S8x4096x2048
  bitsLt_bf16_f32 : FTy.bits .bf16 < FTy.bits .f32
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel

variable [Facts]

def fn {F : FTy → Type} [FloatOps F] (main_arg0 : FVec F S8x4096x3072 .bf16) : IVec S_ 1 :=
  let main_v0 : FVec F S8x4096x2048 .bf16 := (extractStridedSlice S8x4096x2048 ![0, 0, 0] · slices_S8x4096x3072_S8x4096x2048_0_0_0) main_arg0
  let main_v1 : FVec F S8x4096x2048 .f32 := (extf .f32 · bitsLt_bf16_f32) main_v0
  let main_v2 : FVec F S8x4096x2048 .f32 := Host.absf main_v1
  let main_cst : FVec F S_ .f32 := constant S_ .f32 0x7F800000#32
  let main_v3 : FVec F S8x4096x2048 .f32 := broadcastInDim S8x4096x2048 ![] bcast_S_S8x4096x2048 main_cst
  let main_v4 : IVec S8x4096x2048 1 := cmpf .olt main_v2 main_v3
  let main_c : IVec S_ 1 := constantI S_ 1 1#1
  let main_v5 : IVec S_ 1 := (fun x v => Host.reduce IntOp.andi x v reducesTo_S8x4096x2048_S_d0_1_2 h_S_) main_v4 main_c
  main_v5
-- ==== Pre_finite10.lean ====
abbrev S8x4096x6144 : Shape := ⟨3, ![8, 4096, 6144]⟩
abbrev S8x4096x2048 : Shape := ⟨3, ![8, 4096, 2048]⟩
abbrev S_ : Shape := ⟨0, ![]⟩

class Facts : Prop where
  slices_S8x4096x6144_S8x4096x2048_0_0_0 : S8x4096x6144.Slices ![0, 0, 0] S8x4096x2048
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel

variable [Facts]

def fn {F : FTy → Type} [FloatOps F] (main_arg0 : FVec F S8x4096x6144 .f32) : IVec S_ 1 :=
  let main_v0 : FVec F S8x4096x2048 .f32 := (extractStridedSlice S8x4096x2048 ![0, 0, 0] · slices_S8x4096x6144_S8x4096x2048_0_0_0) main_arg0
  let main_v1 : FVec F S8x4096x2048 .f32 := Host.absf main_v0
  let main_cst : FVec F S_ .f32 := constant S_ .f32 0x7F800000#32
  let main_v2 : FVec F S8x4096x2048 .f32 := broadcastInDim S8x4096x2048 ![] bcast_S_S8x4096x2048 main_cst
  let main_v3 : IVec S8x4096x2048 1 := cmpf .olt main_v1 main_v2
  let main_c : IVec S_ 1 := constantI S_ 1 1#1
  let main_v4 : IVec S_ 1 := (fun x v => Host.reduce IntOp.andi x v reducesTo_S8x4096x2048_S_d0_1_2 h_S_) main_v3 main_c
  main_v4
-- ==== Kernel.lean ====
abbrev S8x4096x3072 : Shape := ⟨3, ![8, 4096, 3072]⟩
abbrev S8x4096x1024 : Shape := ⟨3, ![8, 4096, 1024]⟩
abbrev S1x512x128 : Shape := ⟨3, ![1, 512, 128]⟩
abbrev S1x4096x128 : Shape := ⟨3, ![1, 4096, 128]⟩
abbrev S4096x128 : Shape := ⟨2, ![4096, 128]⟩
abbrev S512x128 : Shape := ⟨2, ![512, 128]⟩
abbrev S256x256 : Shape := ⟨2, ![256, 256]⟩
abbrev S512x256 : Shape := ⟨2, ![512, 256]⟩
abbrev S256x128 : Shape := ⟨2, ![256, 128]⟩

abbrev nBuf : Space → Nat
  | .hbm => 2
  | .vmem => 12
  | .smem => 0
  | _ => 0

abbrev bufTy : (tb : Table) → Fin (tcTables nBuf tb) → BufTy
  | .hbm, ⟨0, _⟩ => ⟨S8x4096x3072, .bf16⟩
  | .hbm, ⟨1, _⟩ => ⟨S8x4096x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x128, .bf16⟩
  | .local _ .vmem, ⟨7, _⟩ => ⟨S1x512x128, .bf16⟩
  | .local _ .vmem, ⟨8, _⟩ => ⟨S4096x128, .bf16⟩
  | .local _ .vmem, ⟨9, _⟩ => ⟨S4096x128, .bf16⟩
  | .local _ .vmem, ⟨10, _⟩ => ⟨S512x128, .f32⟩
  | .local _ .vmem, ⟨11, _⟩ => ⟨S512x128, .f32⟩
  | _, _ => ⟨S8x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 8], ![false, false, false]⟩

def k0_mult1 (i : grid0.Coords) : BitVec 32 :=
  let arg2 : BitVec 32 := BitVec.ofNat 32 (i 2).val
  let c512_i32_15 : BitVec 32 := 512#32
  let v43 : BitVec 32 := Scalar.muli arg2 c512_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c512_i32_16 : BitVec 32 := 512#32
  let c0_i32_19 : BitVec 32 := 0#32
  let v50 : BitVec 1 := Scalar.cmpi .sgt c512_i32_16 c0_i32_19
  let v51 : BitVec 32 := Scalar.extui v50
  let c0_i32_20 : BitVec 32 := 0#32
  let v52 : BitVec 1 := Scalar.cmpi .slt c512_i32_16 c0_i32_20
  let v53 : BitVec 32 := Scalar.extui v52
  let v54 : BitVec 32 := Scalar.subi v51 v53
  let v55 : BitVec 1 := Scalar.cmpi .ne v49 v54
  let v56 : BitVec 32 := Scalar.remsi v43 c512_i32_16
  let c0_i32_21 : BitVec 32 := 0#32
  let v57 : BitVec 1 := Scalar.cmpi .ne v56 c0_i32_21
  let v58 : BitVec 1 := Scalar.andi v55 v57
  let v44 : BitVec 32 := Scalar.divsi v43 c512_i32_16
  let c1_i32_22 : BitVec 32 := 1#32
  let v59 : BitVec 32 := Scalar.subi v44 c1_i32_22
  let v60 : BitVec 32 := Scalar.select v58 v59 v44
  let c512_i32_23 : BitVec 32 := 512#32
  let v61 : BitVec 32 := Scalar.muli v60 c512_i32_23
  let c256_i32 : BitVec 32 := 256#32
  let v62 : BitVec 32 := Scalar.addi v61 c256_i32
  v62
def k0_mult2 (i : grid0.Coords) : BitVec 32 :=
  let arg2 : BitVec 32 := BitVec.ofNat 32 (i 2).val
  let c512_i32_15 : BitVec 32 := 512#32
  let v43 : BitVec 32 := Scalar.muli arg2 c512_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c512_i32_16 : BitVec 32 := 512#32
  let c0_i32_19 : BitVec 32 := 0#32
  let v50 : BitVec 1 := Scalar.cmpi .sgt c512_i32_16 c0_i32_19
  let v51 : BitVec 32 := Scalar.extui v50
  let c0_i32_20 : BitVec 32 := 0#32
  let v52 : BitVec 1 := Scalar.cmpi .slt c512_i32_16 c0_i32_20
  let v53 : BitVec 32 := Scalar.extui v52
  let v54 : BitVec 32 := Scalar.subi v51 v53
  let v55 : BitVec 1 := Scalar.cmpi .ne v49 v54
  let v56 : BitVec 32 := Scalar.remsi v43 c512_i32_16
  let c0_i32_21 : BitVec 32 := 0#32
  let v57 : BitVec 1 := Scalar.cmpi .ne v56 c0_i32_21
  let v58 : BitVec 1 := Scalar.andi v55 v57
  let v44 : BitVec 32 := Scalar.divsi v43 c512_i32_16
  let c1_i32_22 : BitVec 32 := 1#32
  let v59 : BitVec 32 := Scalar.subi v44 c1_i32_22
  let v60 : BitVec 32 := Scalar.select v58 v59 v44
  let c512_i32_23 : BitVec 32 := 512#32
  let v61 : BitVec 32 := Scalar.muli v60 c512_i32_23
  let c0_i32_24 : BitVec 32 := 0#32
  let v64 : BitVec 32 := Scalar.addi v61 c0_i32_24
  v64
def k0_off1 (i : grid0.Coords) (c256_i32 : BitVec 32) : Fin 2 → Nat :=
  let arg2 : BitVec 32 := BitVec.ofNat 32 (i 2).val
  let c512_i32_15 : BitVec 32 := 512#32
  let v43 : BitVec 32 := Scalar.muli arg2 c512_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c512_i32_16 : BitVec 32 := 512#32
  let c0_i32_19 : BitVec 32 := 0#32
  let v50 : BitVec 1 := Scalar.cmpi .sgt c512_i32_16 c0_i32_19
  let v51 : BitVec 32 := Scalar.extui v50
  let c0_i32_20 : BitVec 32 := 0#32
  let v52 : BitVec 1 := Scalar.cmpi .slt c512_i32_16 c0_i32_20
  let v53 : BitVec 32 := Scalar.extui v52
  let v54 : BitVec 32 := Scalar.subi v51 v53
  let v55 : BitVec 1 := Scalar.cmpi .ne v49 v54
  let v56 : BitVec 32 := Scalar.remsi v43 c512_i32_16
  let c0_i32_21 : BitVec 32 := 0#32
  let v57 : BitVec 1 := Scalar.cmpi .ne v56 c0_i32_21
  let v58 : BitVec 1 := Scalar.andi v55 v57
  let v44 : BitVec 32 := Scalar.divsi v43 c512_i32_16
  let c1_i32_22 : BitVec 32 := 1#32
  let v59 : BitVec 32 := Scalar.subi v44 c1_i32_22
  let v60 : BitVec 32 := Scalar.select v58 v59 v44
  let c512_i32_23 : BitVec 32 := 512#32
  let v61 : BitVec 32 := Scalar.muli v60 c512_i32_23
  let v62 : BitVec 32 := Scalar.addi v61 c256_i32
  let v63 : BitVec 32 := v62
  let v66 : Index := Scalar.indexCast v63
  let c0_25 : Index := 0#32
  ![v66.toNat, 0]
@[reducible] def k0_t1_loop (i : grid0.Coords) : Scf.Loop 32 :=
  let c1_i32_62 : BitVec 32 := 1#32
  let arg2 : BitVec 32 := BitVec.ofNat 32 (i 2).val
  let c512_i32_15 : BitVec 32 := 512#32
  let v43 : BitVec 32 := Scalar.muli arg2 c512_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c512_i32_16 : BitVec 32 := 512#32
  let c0_i32_19 : BitVec 32 := 0#32
  let v50 : BitVec 1 := Scalar.cmpi .sgt c512_i32_16 c0_i32_19
  let v51 : BitVec 32 := Scalar.extui v50
  let c0_i32_20 : BitVec 32 := 0#32
  let v52 : BitVec 1 := Scalar.cmpi .slt c512_i32_16 c0_i32_20
  let v53 : BitVec 32 := Scalar.extui v52
  let v54 : BitVec 32 := Scalar.subi v51 v53
  let v55 : BitVec 1 := Scalar.cmpi .ne v49 v54
  let v56 : BitVec 32 := Scalar.remsi v43 c512_i32_16
  let c0_i32_21 : BitVec 32 := 0#32
  let v57 : BitVec 1 := Scalar.cmpi .ne v56 c0_i32_21
  let v58 : BitVec 1 := Scalar.andi v55 v57
  let v44 : BitVec 32 := Scalar.divsi v43 c512_i32_16
  let c1_i32_22 : BitVec 32 := 1#32
  let v59 : BitVec 32 := Scalar.subi v44 c1_i32_22
  let v60 : BitVec 32 := Scalar.select v58 v59 v44
  let c1_i32_60 : BitVec 32 := 1#32
  let v184 : BitVec 32 := Scalar.addi v60 c1_i32_60
  let v185 : BitVec 32 := Scalar.subi v184 c1_i32_62
  let c1_i32_63 : BitVec 32 := 1#32
  let v187 : BitVec 32 := Scalar.divsi v185 c1_i32_63
  let v188 : BitVec 32 := Scalar.muli v187 c1_i32_63
  let v189 : BitVec 32 := Scalar.addi c1_i32_62 v188
  let c1_i32_64 : BitVec 32 := 1#32
  ⟨c1_i32_62, v189, c1_i32_64⟩
def k0_mult3 (i : grid0.Coords) (k0_t1 : Fin (k0_t1_loop i).trips) : BitVec 32 :=
  let arg2 : BitVec 32 := BitVec.ofNat 32 (i 2).val
  let c512_i32_15 : BitVec 32 := 512#32
  let v43 : BitVec 32 := Scalar.muli arg2 c512_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c512_i32_16 : BitVec 32 := 512#32
  let c0_i32_19 : BitVec 32 := 0#32
  let v50 : BitVec 1 := Scalar.cmpi .sgt c512_i32_16 c0_i32_19
  let v51 : BitVec 32 := Scalar.extui v50
  let c0_i32_20 : BitVec 32 := 0#32
  let v52 : BitVec 1 := Scalar.cmpi .slt c512_i32_16 c0_i32_20
  let v53 : BitVec 32 := Scalar.extui v52
  let v54 : BitVec 32 := Scalar.subi v51 v53
  let v55 : BitVec 1 := Scalar.cmpi .ne v49 v54
  let v56 : BitVec 32 := Scalar.remsi v43 c512_i32_16
  let c0_i32_21 : BitVec 32 := 0#32
  let v57 : BitVec 1 := Scalar.cmpi .ne v56 c0_i32_21
  let v58 : BitVec 1 := Scalar.andi v55 v57
  let v44 : BitVec 32 := Scalar.divsi v43 c512_i32_16
  let c1_i32_22 : BitVec 32 := 1#32
  let v59 : BitVec 32 := Scalar.subi v44 c1_i32_22
  let v60 : BitVec 32 := Scalar.select v58 v59 v44
  let c1_i32_62 : BitVec 32 := 1#32
  let c1_i32_64 : BitVec 32 := 1#32
  let arg11 : BitVec 32 := Scf.iv c1_i32_62 c1_i32_64 k0_t1
  let v195 : BitVec 32 := Scalar.subi v60 arg11
  let c512_i32_71 : BitVec 32 := 512#32
  let v196 : BitVec 32 := Scalar.muli v195 c512_i32_71
  let c256_i32_72 : BitVec 32 := 256#32
  let v197 : BitVec 32 := Scalar.addi v196 c256_i32_72
  v197
def k0_mult4 (i : grid0.Coords) (k0_t1 : Fin (k0_t1_loop i).trips) : BitVec 32 :=
  let arg2 : BitVec 32 := BitVec.ofNat 32 (i 2).val
  let c512_i32_15 : BitVec 32 := 512#32
  let v43 : BitVec 32 := Scalar.muli arg2 c512_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c512_i32_16 : BitVec 32 := 512#32
  let c0_i32_19 : BitVec 32 := 0#32
  let v50 : BitVec 1 := Scalar.cmpi .sgt c512_i32_16 c0_i32_19
  let v51 : BitVec 32 := Scalar.extui v50
  let c0_i32_20 : BitVec 32 := 0#32
  let v52 : BitVec 1 := Scalar.cmpi .slt c512_i32_16 c0_i32_20
  let v53 : BitVec 32 := Scalar.extui v52
  let v54 : BitVec 32 := Scalar.subi v51 v53
  let v55 : BitVec 1 := Scalar.cmpi .ne v49 v54
  let v56 : BitVec 32 := Scalar.remsi v43 c512_i32_16
  let c0_i32_21 : BitVec 32 := 0#32
  let v57 : BitVec 1 := Scalar.cmpi .ne v56 c0_i32_21
  let v58 : BitVec 1 := Scalar.andi v55 v57
  let v44 : BitVec 32 := Scalar.divsi v43 c512_i32_16
  let c1_i32_22 : BitVec 32 := 1#32
  let v59 : BitVec 32 := Scalar.subi v44 c1_i32_22
  let v60 : BitVec 32 := Scalar.select v58 v59 v44
  let c1_i32_62 : BitVec 32 := 1#32
  let c1_i32_64 : BitVec 32 := 1#32
  let arg11 : BitVec 32 := Scf.iv c1_i32_62 c1_i32_64 k0_t1
  let v195 : BitVec 32 := Scalar.subi v60 arg11
  let c512_i32_71 : BitVec 32 := 512#32
  let v196 : BitVec 32 := Scalar.muli v195 c512_i32_71
  let c0_i32_73 : BitVec 32 := 0#32
  let v199 : BitVec 32 := Scalar.addi v196 c0_i32_73
  v199
def k0_off2 (i : grid0.Coords) (k0_t1 : Fin (k0_t1_loop i).trips) (c256_i32_72 : BitVec 32) : Fin 2 → Nat :=
  let arg2 : BitVec 32 := BitVec.ofNat 32 (i 2).val
  let c512_i32_15 : BitVec 32 := 512#32
  let v43 : BitVec 32 := Scalar.muli arg2 c512_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c512_i32_16 : BitVec 32 := 512#32
  let c0_i32_19 : BitVec 32 := 0#32
  let v50 : BitVec 1 := Scalar.cmpi .sgt c512_i32_16 c0_i32_19
  let v51 : BitVec 32 := Scalar.extui v50
  let c0_i32_20 : BitVec 32 := 0#32
  let v52 : BitVec 1 := Scalar.cmpi .slt c512_i32_16 c0_i32_20
  let v53 : BitVec 32 := Scalar.extui v52
  let v54 : BitVec 32 := Scalar.subi v51 v53
  let v55 : BitVec 1 := Scalar.cmpi .ne v49 v54
  let v56 : BitVec 32 := Scalar.remsi v43 c512_i32_16
  let c0_i32_21 : BitVec 32 := 0#32
  let v57 : BitVec 1 := Scalar.cmpi .ne v56 c0_i32_21
  let v58 : BitVec 1 := Scalar.andi v55 v57
  let v44 : BitVec 32 := Scalar.divsi v43 c512_i32_16
  let c1_i32_22 : BitVec 32 := 1#32
  let v59 : BitVec 32 := Scalar.subi v44 c1_i32_22
  let v60 : BitVec 32 := Scalar.select v58 v59 v44
  let c1_i32_62 : BitVec 32 := 1#32
  let c1_i32_64 : BitVec 32 := 1#32
  let arg11 : BitVec 32 := Scf.iv c1_i32_62 c1_i32_64 k0_t1
  let v195 : BitVec 32 := Scalar.subi v60 arg11
  let c512_i32_71 : BitVec 32 := 512#32
  let v196 : BitVec 32 := Scalar.muli v195 c512_i32_71
  let v197 : BitVec 32 := Scalar.addi v196 c256_i32_72
  let v198 : BitVec 32 := v197
  let v201 : Index := Scalar.indexCast v198
  let c0_74 : Index := 0#32
  ![v201.toNat, 0]
@[reducible] def k0_t2_loop (i : grid0.Coords) : Scf.Loop 32 :=
  let c1_i32_62 : BitVec 32 := 1#32
  let arg2 : BitVec 32 := BitVec.ofNat 32 (i 2).val
  let c512_i32_15 : BitVec 32 := 512#32
  let v43 : BitVec 32 := Scalar.muli arg2 c512_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c512_i32_16 : BitVec 32 := 512#32
  let c0_i32_19 : BitVec 32 := 0#32
  let v50 : BitVec 1 := Scalar.cmpi .sgt c512_i32_16 c0_i32_19
  let v51 : BitVec 32 := Scalar.extui v50
  let c0_i32_20 : BitVec 32 := 0#32
  let v52 : BitVec 1 := Scalar.cmpi .slt c512_i32_16 c0_i32_20
  let v53 : BitVec 32 := Scalar.extui v52
  let v54 : BitVec 32 := Scalar.subi v51 v53
  let v55 : BitVec 1 := Scalar.cmpi .ne v49 v54
  let v56 : BitVec 32 := Scalar.remsi v43 c512_i32_16
  let c0_i32_21 : BitVec 32 := 0#32
  let v57 : BitVec 1 := Scalar.cmpi .ne v56 c0_i32_21
  let v58 : BitVec 1 := Scalar.andi v55 v57
  let v44 : BitVec 32 := Scalar.divsi v43 c512_i32_16
  let c1_i32_22 : BitVec 32 := 1#32
  let v59 : BitVec 32 := Scalar.subi v44 c1_i32_22
  let v60 : BitVec 32 := Scalar.select v58 v59 v44
  let c1_i32_60 : BitVec 32 := 1#32
  let v184 : BitVec 32 := Scalar.addi v60 c1_i32_60
  let v185 : BitVec 32 := Scalar.subi v184 c1_i32_62
  let c1_i32_63 : BitVec 32 := 1#32
  let v187 : BitVec 32 := Scalar.divsi v185 c1_i32_63
  let v188 : BitVec 32 := Scalar.muli v187 c1_i32_63
  let v189 : BitVec 32 := Scalar.addi c1_i32_62 v188
  let v186 : BitVec 32 := Scalar.addi c1_i32_62 v185
  let c1_i32_65 : BitVec 32 := 1#32
  ⟨v189, v186, c1_i32_65⟩
def k0_mult5 (i : grid0.Coords) (k0_t2 : Fin (k0_t2_loop i).trips) : BitVec 32 :=
  let arg2 : BitVec 32 := BitVec.ofNat 32 (i 2).val
  let c512_i32_15 : BitVec 32 := 512#32
  let v43 : BitVec 32 := Scalar.muli arg2 c512_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c512_i32_16 : BitVec 32 := 512#32
  let c0_i32_19 : BitVec 32 := 0#32
  let v50 : BitVec 1 := Scalar.cmpi .sgt c512_i32_16 c0_i32_19
  let v51 : BitVec 32 := Scalar.extui v50
  let c0_i32_20 : BitVec 32 := 0#32
  let v52 : BitVec 1 := Scalar.cmpi .slt c512_i32_16 c0_i32_20
  let v53 : BitVec 32 := Scalar.extui v52
  let v54 : BitVec 32 := Scalar.subi v51 v53
  let v55 : BitVec 1 := Scalar.cmpi .ne v49 v54
  let v56 : BitVec 32 := Scalar.remsi v43 c512_i32_16
  let c0_i32_21 : BitVec 32 := 0#32
  let v57 : BitVec 1 := Scalar.cmpi .ne v56 c0_i32_21
  let v58 : BitVec 1 := Scalar.andi v55 v57
  let v44 : BitVec 32 := Scalar.divsi v43 c512_i32_16
  let c1_i32_22 : BitVec 32 := 1#32
  let v59 : BitVec 32 := Scalar.subi v44 c1_i32_22
  let v60 : BitVec 32 := Scalar.select v58 v59 v44
  let c1_i32_62 : BitVec 32 := 1#32
  let c1_i32_60 : BitVec 32 := 1#32
  let v184 : BitVec 32 := Scalar.addi v60 c1_i32_60
  let v185 : BitVec 32 := Scalar.subi v184 c1_i32_62
  let c1_i32_63 : BitVec 32 := 1#32
  let v187 : BitVec 32 := Scalar.divsi v185 c1_i32_63
  let v188 : BitVec 32 := Scalar.muli v187 c1_i32_63
  let v189 : BitVec 32 := Scalar.addi c1_i32_62 v188
  let c1_i32_65 : BitVec 32 := 1#32
  let arg11 : BitVec 32 := Scf.iv v189 c1_i32_65 k0_t2
  let v195 : BitVec 32 := Scalar.subi v60 arg11
  let c512_i32_71 : BitVec 32 := 512#32
  let v196 : BitVec 32 := Scalar.muli v195 c512_i32_71
  let c256_i32_72 : BitVec 32 := 256#32
  let v197 : BitVec 32 := Scalar.addi v196 c256_i32_72
  v197
def k0_mult6 (i : grid0.Coords) (k0_t2 : Fin (k0_t2_loop i).trips) : BitVec 32 :=
  let arg2 : BitVec 32 := BitVec.ofNat 32 (i 2).val
  let c512_i32_15 : BitVec 32 := 512#32
  let v43 : BitVec 32 := Scalar.muli arg2 c512_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c512_i32_16 : BitVec 32 := 512#32
  let c0_i32_19 : BitVec 32 := 0#32
  let v50 : BitVec 1 := Scalar.cmpi .sgt c512_i32_16 c0_i32_19
  let v51 : BitVec 32 := Scalar.extui v50
  let c0_i32_20 : BitVec 32 := 0#32
  let v52 : BitVec 1 := Scalar.cmpi .slt c512_i32_16 c0_i32_20
  let v53 : BitVec 32 := Scalar.extui v52
  let v54 : BitVec 32 := Scalar.subi v51 v53
  let v55 : BitVec 1 := Scalar.cmpi .ne v49 v54
  let v56 : BitVec 32 := Scalar.remsi v43 c512_i32_16
  let c0_i32_21 : BitVec 32 := 0#32
  let v57 : BitVec 1 := Scalar.cmpi .ne v56 c0_i32_21
  let v58 : BitVec 1 := Scalar.andi v55 v57
  let v44 : BitVec 32 := Scalar.divsi v43 c512_i32_16
  let c1_i32_22 : BitVec 32 := 1#32
  let v59 : BitVec 32 := Scalar.subi v44 c1_i32_22
  let v60 : BitVec 32 := Scalar.select v58 v59 v44
  let c1_i32_62 : BitVec 32 := 1#32
  let c1_i32_60 : BitVec 32 := 1#32
  let v184 : BitVec 32 := Scalar.addi v60 c1_i32_60
  let v185 : BitVec 32 := Scalar.subi v184 c1_i32_62
  let c1_i32_63 : BitVec 32 := 1#32
  let v187 : BitVec 32 := Scalar.divsi v185 c1_i32_63
  let v188 : BitVec 32 := Scalar.muli v187 c1_i32_63
  let v189 : BitVec 32 := Scalar.addi c1_i32_62 v188
  let c1_i32_65 : BitVec 32 := 1#32
  let arg11 : BitVec 32 := Scf.iv v189 c1_i32_65 k0_t2
  let v195 : BitVec 32 := Scalar.subi v60 arg11
  let c512_i32_71 : BitVec 32 := 512#32
  let v196 : BitVec 32 := Scalar.muli v195 c512_i32_71
  let c0_i32_73 : BitVec 32 := 0#32
  let v199 : BitVec 32 := Scalar.addi v196 c0_i32_73
  v199
def k0_off3 (i : grid0.Coords) (k0_t2 : Fin (k0_t2_loop i).trips) (c256_i32_72 : BitVec 32) : Fin 2 → Nat :=
  let arg2 : BitVec 32 := BitVec.ofNat 32 (i 2).val
  let c512_i32_15 : BitVec 32 := 512#32
  let v43 : BitVec 32 := Scalar.muli arg2 c512_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c512_i32_16 : BitVec 32 := 512#32
  let c0_i32_19 : BitVec 32 := 0#32
  let v50 : BitVec 1 := Scalar.cmpi .sgt c512_i32_16 c0_i32_19
  let v51 : BitVec 32 := Scalar.extui v50
  let c0_i32_20 : BitVec 32 := 0#32
  let v52 : BitVec 1 := Scalar.cmpi .slt c512_i32_16 c0_i32_20
  let v53 : BitVec 32 := Scalar.extui v52
  let v54 : BitVec 32 := Scalar.subi v51 v53
  let v55 : BitVec 1 := Scalar.cmpi .ne v49 v54
  let v56 : BitVec 32 := Scalar.remsi v43 c512_i32_16
  let c0_i32_21 : BitVec 32 := 0#32
  let v57 : BitVec 1 := Scalar.cmpi .ne v56 c0_i32_21
  let v58 : BitVec 1 := Scalar.andi v55 v57
  let v44 : BitVec 32 := Scalar.divsi v43 c512_i32_16
  let c1_i32_22 : BitVec 32 := 1#32
  let v59 : BitVec 32 := Scalar.subi v44 c1_i32_22
  let v60 : BitVec 32 := Scalar.select v58 v59 v44
  let c1_i32_62 : BitVec 32 := 1#32
  let c1_i32_60 : BitVec 32 := 1#32
  let v184 : BitVec 32 := Scalar.addi v60 c1_i32_60
  let v185 : BitVec 32 := Scalar.subi v184 c1_i32_62
  let c1_i32_63 : BitVec 32 := 1#32
  let v187 : BitVec 32 := Scalar.divsi v185 c1_i32_63
  let v188 : BitVec 32 := Scalar.muli v187 c1_i32_63
  let v189 : BitVec 32 := Scalar.addi c1_i32_62 v188
  let c1_i32_65 : BitVec 32 := 1#32
  let arg11 : BitVec 32 := Scf.iv v189 c1_i32_65 k0_t2
  let v195 : BitVec 32 := Scalar.subi v60 arg11
  let c512_i32_71 : BitVec 32 := 512#32
  let v196 : BitVec 32 := Scalar.muli v195 c512_i32_71
  let v197 : BitVec 32 := Scalar.addi v196 c256_i32_72
  let v198 : BitVec 32 := v197
  let v201 : Index := Scalar.indexCast v198
  let c0_74 : Index := 0#32
  ![v201.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "log2e" => some (((Real.log 2)⁻¹ : ℝ) : EReal)
  | "neg_scale_log2e" => some ((-((Real.sqrt 128)⁻¹ * (Real.log 2)⁻¹) : ℝ) : EReal)
  | "scale" => some (((Real.sqrt 128)⁻¹ : ℝ) : EReal)
  | _ => none
-- ==== ReferenceIdeal.lean ====
abbrev S8x4096x3072 : Shape := ⟨3, ![8, 4096, 3072]⟩
abbrev S8x4096x1024 : Shape := ⟨3, ![8, 4096, 1024]⟩
abbrev S8x4096x8x128 : Shape := ⟨4, ![8, 4096, 8, 128]⟩
abbrev S8x8x4096x128 : Shape := ⟨4, ![8, 8, 4096, 128]⟩
abbrev S8x8x4096x4096 : Shape := ⟨4, ![8, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 75
  | .vmem => 0
  | .smem => 0
  | _ => 0

abbrev bufTy : (tb : Table) → Fin (tcTables nBuf tb) → BufTy
  | .hbm, ⟨0, _⟩ => ⟨S8x4096x3072, .bf16⟩
  | .hbm, ⟨1, _⟩ => ⟨S8x4096x3072, .f32⟩
  | .hbm, ⟨2, _⟩ => ⟨S8x4096x1024, .f32⟩
  | .hbm, ⟨3, _⟩ => ⟨S8x4096x8x128, .f32⟩
  | .hbm, ⟨4, _⟩ => ⟨S8x8x4096x128, .f32⟩
  | .hbm, ⟨5, _⟩ => ⟨S8x4096x1024, .f32⟩
  | .hbm, ⟨6, _⟩ => ⟨S8x4096x8x128, .f32⟩
  | .hbm, ⟨7, _⟩ => ⟨S8x8x4096x128, .f32⟩
  | .hbm, ⟨8, _⟩ => ⟨S8x4096x1024, .f32⟩
  | .hbm, ⟨9, _⟩ => ⟨S8x4096x8x128, .f32⟩
  | .hbm, ⟨10, _⟩ => ⟨S8x8x4096x128, .f32⟩
  | .hbm, ⟨11, _⟩ => ⟨S8x8x4096x4096, .f32⟩
  | .hbm, ⟨12, _⟩ => ⟨S_, .f32⟩
  | .hbm, ⟨13, _⟩ => ⟨S_, .f32⟩
  | .hbm, ⟨14, _⟩ => ⟨S8x8x4096x4096, .f32⟩
  | .hbm, ⟨15, _⟩ => ⟨S8x8x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S8x8x4096x4096, .f32⟩
  | .hbm, ⟨23, _⟩ => ⟨S8x8x4096x4096, .f32⟩
  | .hbm, ⟨24, _⟩ => ⟨S_, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .f32⟩
  | .hbm, ⟨28, _⟩ => ⟨S8x8x4096x4096, .f32⟩
  | .hbm, ⟨29, _⟩ => ⟨S8x8x4096x4096, .i1⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S8x8x4096x4096, .f32⟩
  | .hbm, ⟨38, _⟩ => ⟨S8x8x4096x4096, .f32⟩
  | .hbm, ⟨39, _⟩ => ⟨S_, .f32⟩
  | .hbm, ⟨40, _⟩ => ⟨S_, .f32⟩
  | .hbm, ⟨41, _⟩ => ⟨S8x8x4096x4096, .i1⟩
  | .hbm, ⟨42, _⟩ => ⟨S8x8x4096x4096, .f32⟩
  | .hbm, ⟨43, _⟩ => ⟨S8x8x4096x4096, .f32⟩
  | .hbm, ⟨44, _⟩ => ⟨S_, .f32⟩
  | .hbm, ⟨45, _⟩ => ⟨S_, .f32⟩
  | .hbm, ⟨46, _⟩ => ⟨S8x8x4096x4096, .f32⟩
  | .hbm, ⟨47, _⟩ => ⟨S8x8x4096x4096, .f32⟩
  | .hbm, ⟨48, _⟩ => ⟨S8x8x4096x4096, .f32⟩
  | .hbm, ⟨49, _⟩ => ⟨S_, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .f32⟩
  | .hbm, ⟨53, _⟩ => ⟨S8x8x4096x4096, .f32⟩
  | .hbm, ⟨54, _⟩ => ⟨S8x8x4096x4096, .i1⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S8x8x4096x4096, .f32⟩
  | .hbm, ⟨61, _⟩ => ⟨S8x8x4096x4096, .f32⟩
  | .hbm, ⟨62, _⟩ => ⟨S8x8x4096x4096, .f32⟩
  | .hbm, ⟨63, _⟩ => ⟨S8x8x4096x4096, .f32⟩
  | .hbm, ⟨64, _⟩ => ⟨S8x8x4096x4096, .f32⟩
  | .hbm, ⟨65, _⟩ => ⟨S8x8x4096x4096, .f32⟩
  | .hbm, ⟨66, _⟩ => ⟨S_, .f32⟩
  | .hbm, ⟨67, _⟩ => ⟨S_, .f32⟩
  | .hbm, ⟨68, _⟩ => ⟨S8x8x4096x4096, .i1⟩
  | .hbm, ⟨69, _⟩ => ⟨S8x8x4096x4096, .f32⟩
  | .hbm, ⟨70, _⟩ => ⟨S8x8x4096x4096, .f32⟩
  | .hbm, ⟨71, _⟩ => ⟨S8x8x4096x128, .f32⟩
  | .hbm, ⟨72, _⟩ => ⟨S8x4096x8x128, .f32⟩
  | .hbm, ⟨73, _⟩ => ⟨S8x4096x1024, .f32⟩
  | .hbm, ⟨74, _⟩ => ⟨S8x4096x1024, .bf16⟩
  | _, _ => ⟨S8x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v21 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v22 : Ref sig .tc := ⟨.hbm, 43, rfl⟩
abbrev main_call2_cst : Ref sig .tc := ⟨.hbm, 44, rfl⟩
abbrev main_call2_v0 : Ref sig .tc := ⟨.hbm, 45, rfl⟩
abbrev main_v23 : Ref sig .tc := ⟨.hbm, 46, rfl⟩
abbrev main_v24 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩

abbrev nD : Nat := 1
abbrev τ : Topo := Topo.v7x

variable {F : FTy → Type} [FloatOps F]
-- ==== Kernel2.lean ====
abbrev S32768x2048 : Shape := ⟨2, ![32768, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S32768x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S32768x2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S32768x2048 : Shape := ⟨2, ![32768, 2048]⟩
abbrev S2048x5632 : Shape := ⟨2, ![2048, 5632]⟩
abbrev S5632x2048 : Shape := ⟨2, ![5632, 2048]⟩
abbrev S2048 : Shape := ⟨1, ![2048]⟩
abbrev S32768x5632 : Shape := ⟨2, ![32768, 5632]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S32768x2048, .f32⟩
  | .hbm, ⟨5, _⟩ => ⟨S2048, .f32⟩
  | .hbm, ⟨6, _⟩ => ⟨S32768x2048, .f32⟩
  | .hbm, ⟨7, _⟩ => ⟨S32768x5632, .f32⟩
  | .hbm, ⟨8, _⟩ => ⟨S32768x5632, .f32⟩
  | .hbm, ⟨9, _⟩ => ⟨S32768x5632, .f32⟩
  | .hbm, ⟨10, _⟩ => ⟨S_, .f32⟩
  | .hbm, ⟨11, _⟩ => ⟨S32768x5632, .f32⟩
  | .hbm, ⟨12, _⟩ => ⟨S32768x5632, .f32⟩
  | .hbm, ⟨13, _⟩ => ⟨S_, .f32⟩
  | .hbm, ⟨14, _⟩ => ⟨S32768x5632, .f32⟩
  | .hbm, ⟨15, _⟩ => ⟨S32768x5632, .f32⟩
  | .hbm, ⟨16, _⟩ => ⟨S32768x5632, .f32⟩
  | .hbm, ⟨17, _⟩ => ⟨S32768x5632, .f32⟩
  | .hbm, ⟨18, _⟩ => ⟨S32768x5632, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S32768x2048, .f32⟩
  | .hbm, ⟨32, _⟩ => ⟨S32768x2048, .f32⟩
  | .hbm, ⟨33, _⟩ => ⟨S1x2048, .f32⟩
  | .hbm, ⟨34, _⟩ => ⟨S32768x2048, .f32⟩
  | .hbm, ⟨35, _⟩ => ⟨S32768x2048, .f32⟩
  | .hbm, ⟨36, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== Kernel3.lean ====
abbrev S32768x2048 : Shape := ⟨2, ![32768, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 17
  | .smem => 0
  | _ => 0

abbrev bufTy : (tb : Table) → Fin (tcTables nBuf tb) → BufTy
  | .hbm, ⟨0, _⟩ => ⟨S32768x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S32768x2048, .f32⟩
  | .hbm, ⟨5, _⟩ => ⟨S2048, .f32⟩
  | .hbm, ⟨6, _⟩ => ⟨S2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S1x2048, .f32⟩
  | .hbm, ⟨12, _⟩ => ⟨S32768x2048, .f32⟩
  | .hbm, ⟨13, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S32768x2048 : Shape := ⟨2, ![32768, 2048]⟩
abbrev S2048x5632 : Shape := ⟨2, ![2048, 5632]⟩
abbrev S5632x2048 : Shape := ⟨2, ![5632, 2048]⟩
abbrev S2048 : Shape := ⟨1, ![2048]⟩
abbrev S32768x5632 : Shape := ⟨2, ![32768, 5632]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S32768x2048, .f32⟩
  | .hbm, ⟨5, _⟩ => ⟨S2048, .f32⟩
  | .hbm, ⟨6, _⟩ => ⟨S2048, .f32⟩
  | .hbm, ⟨7, _⟩ => ⟨S32768x2048, .f32⟩
  | .hbm, ⟨8, _⟩ => ⟨S32768x5632, .f32⟩
  | .hbm, ⟨9, _⟩ => ⟨S32768x5632, .f32⟩
  | .hbm, ⟨10, _⟩ => ⟨S32768x5632, .f32⟩
  | .hbm, ⟨11, _⟩ => ⟨S_, .f32⟩
  | .hbm, ⟨12, _⟩ => ⟨S32768x5632, .f32⟩
  | .hbm, ⟨13, _⟩ => ⟨S32768x5632, .f32⟩
  | .hbm, ⟨14, _⟩ => ⟨S_, .f32⟩
  | .hbm, ⟨15, _⟩ => ⟨S32768x5632, .f32⟩
  | .hbm, ⟨16, _⟩ => ⟨S32768x5632, .f32⟩
  | .hbm, ⟨17, _⟩ => ⟨S32768x5632, .f32⟩
  | .hbm, ⟨18, _⟩ => ⟨S32768x5632, .f32⟩
  | .hbm, ⟨19, _⟩ => ⟨S32768x5632, .f32⟩
  | .hbm, ⟨20, _⟩ => ⟨S32768x2048, .f32⟩
  | .hbm, ⟨21, _⟩ => ⟨S32768x2048, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x2048, .f32⟩
  | .hbm, ⟨33, _⟩ => ⟨S32768x2048, .f32⟩
  | .hbm, ⟨34, _⟩ => ⟨S1x2048, .f32⟩
  | .hbm, ⟨35, _⟩ => ⟨S32768x2048, .f32⟩
  | .hbm, ⟨36, _⟩ => ⟨S32768x2048, .f32⟩
  | .hbm, ⟨37, _⟩ => ⟨S32768x2048, .f32⟩
  | .hbm, ⟨38, _⟩ => ⟨S32768x2048, .f32⟩
  | .hbm, ⟨39, _⟩ => ⟨S_, .f32⟩
  | .hbm, ⟨40, _⟩ => ⟨S32768, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x2048, .f32⟩
  | .hbm, ⟨50, _⟩ => ⟨S32768x2048, .f32⟩
  | .hbm, ⟨51, _⟩ => ⟨S1x2048, .f32⟩
  | .hbm, ⟨52, _⟩ => ⟨S32768x2048, .f32⟩
  | .hbm, ⟨53, _⟩ => ⟨S32768x2048, .f32⟩
  | .hbm, ⟨54, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel4.lean ====
abbrev S32768x2048 : Shape := ⟨2, ![32768, 2048]⟩
abbrev S2048x7184 : Shape := ⟨2, ![2048, 7184]⟩
abbrev S2048x3072 : Shape := ⟨2, ![2048, 3072]⟩
abbrev S32768x3072 : Shape := ⟨2, ![32768, 3072]⟩
abbrev S2048x2048 : Shape := ⟨2, ![2048, 2048]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x7184, .f32⟩
  | .hbm, ⟨2, _⟩ => ⟨S2048x3072, .f32⟩
  | .hbm, ⟨3, _⟩ => ⟨S2048x3072, .bf16⟩
  | .hbm, ⟨4, _⟩ => ⟨S32768x3072, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S32768x2048 : Shape := ⟨2, ![32768, 2048]⟩
abbrev S2048x7184 : Shape := ⟨2, ![2048, 7184]⟩
abbrev S2048x3072 : Shape := ⟨2, ![2048, 3072]⟩
abbrev S32768x3072 : Shape := ⟨2, ![32768, 3072]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x7184, .f32⟩
  | .hbm, ⟨2, _⟩ => ⟨S32768x2048, .f32⟩
  | .hbm, ⟨3, _⟩ => ⟨S2048x3072, .f32⟩
  | .hbm, ⟨4, _⟩ => ⟨S32768x3072, .f32⟩
  | .hbm, ⟨5, _⟩ => ⟨S32768x3072, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S32768x2048 : Shape := ⟨2, ![32768, 2048]⟩
abbrev S2048x7184 : Shape := ⟨2, ![2048, 7184]⟩
abbrev S2048x4096 : Shape := ⟨2, ![2048, 4096]⟩
abbrev S32768x4096 : Shape := ⟨2, ![32768, 4096]⟩
abbrev S2048x2048 : Shape := ⟨2, ![2048, 2048]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x7184, .f32⟩
  | .hbm, ⟨2, _⟩ => ⟨S2048x4096, .f32⟩
  | .hbm, ⟨3, _⟩ => ⟨S2048x4096, .bf16⟩
  | .hbm, ⟨4, _⟩ => ⟨S32768x4096, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S32768x2048 : Shape := ⟨2, ![32768, 2048]⟩
abbrev S2048x7184 : Shape := ⟨2, ![2048, 7184]⟩
abbrev S2048x4096 : Shape := ⟨2, ![2048, 4096]⟩
abbrev S32768x4096 : Shape := ⟨2, ![32768, 4096]⟩

abbrev nBuf : Space → Nat
  | .hbm => 5
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x7184, .f32⟩
  | .hbm, ⟨2, _⟩ => ⟨S32768x2048, .f32⟩
  | .hbm, ⟨3, _⟩ => ⟨S2048x4096, .f32⟩
  | .hbm, ⟨4, _⟩ => ⟨S32768x4096, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S32768x2048 : Shape := ⟨2, ![32768, 2048]⟩
abbrev S2048x6144 : Shape := ⟨2, ![2048, 6144]⟩
abbrev S32768x6144 : Shape := ⟨2, ![32768, 6144]⟩
abbrev S2048x2048 : Shape := ⟨2, ![2048, 2048]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x6144, .f32⟩
  | .hbm, ⟨2, _⟩ => ⟨S2048x6144, .bf16⟩
  | .hbm, ⟨3, _⟩ => ⟨S32768x6144, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S32768x2048 : Shape := ⟨2, ![32768, 2048]⟩
abbrev S2048x6144 : Shape := ⟨2, ![2048, 6144]⟩
abbrev S32768x6144 : Shape := ⟨2, ![32768, 6144]⟩

abbrev nBuf : Space → Nat
  | .hbm => 4
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x6144, .f32⟩
  | .hbm, ⟨2, _⟩ => ⟨S32768x2048, .f32⟩
  | .hbm, ⟨3, _⟩ => ⟨S32768x6144, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S32768x1024 : Shape := ⟨2, ![32768, 1024]⟩
abbrev S2048x2048 : Shape := ⟨2, ![2048, 2048]⟩
abbrev S32768x2048 : Shape := ⟨2, ![32768, 2048]⟩
abbrev S2048 : Shape := ⟨1, ![2048]⟩
abbrev S1024x2048 : Shape := ⟨2, ![1024, 2048]⟩
abbrev S1x2048 : Shape := ⟨2, ![1, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x2048, .f32⟩
  | .hbm, ⟨3, _⟩ => ⟨S32768x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S1024x2048, .bf16⟩
  | .hbm, ⟨8, _⟩ => ⟨S1024x2048, .bf16⟩
  | .hbm, ⟨9, _⟩ => ⟨S1x2048, .f32⟩
  | .hbm, ⟨10, _⟩ => ⟨S1x2048, .f32⟩
  | .hbm, ⟨11, _⟩ => ⟨S32768x2048, .f32⟩
  | .hbm, ⟨12, _⟩ => ⟨S32768x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S32768x1024 : Shape := ⟨2, ![32768, 1024]⟩
abbrev S2048x2048 : Shape := ⟨2, ![2048, 2048]⟩
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x2048, .f32⟩
  | .hbm, ⟨3, _⟩ => ⟨S32768x2048, .f32⟩
  | .hbm, ⟨4, _⟩ => ⟨S2048, .f32⟩
  | .hbm, ⟨5, _⟩ => ⟨S2048, .f32⟩
  | .hbm, ⟨6, _⟩ => ⟨S32768x2048, .bf16⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x2048, .f32⟩
  | .hbm, ⟨21, _⟩ => ⟨S32768x2048, .f32⟩
  | .hbm, ⟨22, _⟩ => ⟨S1x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S32768x2048, .f32⟩
  | .hbm, ⟨38, _⟩ => ⟨S32768x2048, .f32⟩
  | .hbm, ⟨39, _⟩ => ⟨S1x2048, .f32⟩
  | .hbm, ⟨40, _⟩ => ⟨S32768x2048, .f32⟩
  | .hbm, ⟨41, _⟩ => ⟨S32768x2048, .f32⟩
  | .hbm, ⟨42, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel8.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048, .f32⟩
  | .hbm, ⟨3, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S32768x2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x2048, .f32⟩
  | .hbm, ⟨14, _⟩ => ⟨S32768x2048, .f32⟩
  | .hbm, ⟨15, _⟩ => ⟨S1x2048, .f32⟩
  | .hbm, ⟨16, _⟩ => ⟨S32768x2048, .f32⟩
  | .hbm, ⟨17, _⟩ => ⟨S32768x2048, .f32⟩
  | .hbm, ⟨18, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S32768x2048 : Shape := ⟨2, ![32768, 2048]⟩
abbrev S2048x7184 : Shape := ⟨2, ![2048, 7184]⟩
abbrev S2048x16 : Shape := ⟨2, ![2048, 16]⟩
abbrev S_ : Shape := ⟨0, ![]⟩
abbrev S2048x128 : Shape := ⟨2, ![2048, 128]⟩
abbrev S32768x128 : Shape := ⟨2, ![32768, 128]⟩
abbrev S2048x2048 : Shape := ⟨2, ![2048, 2048]⟩

abbrev nBuf : Space → Nat
  | .hbm => 8
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S2048x7184, .f32⟩
  | .hbm, ⟨2, _⟩ => ⟨S2048x16, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S2048x128, .bf16⟩
  | .hbm, ⟨7, _⟩ => ⟨S32768x128, .f32⟩
  | .local _ .vmem, ⟨0, _⟩ => ⟨S2048x2048, .bf16⟩
  | .local _ .vmem, ⟨1, _⟩ => ⟨S2048x2048, .bf16⟩
  | .local _ .vmem, ⟨2, _⟩ => ⟨S2048x128, .bf16⟩
  | .local _ .vmem, ⟨3, _⟩ => ⟨S2048x128, .f32⟩
  | .local _ .vmem, ⟨4, _⟩ => ⟨S2048x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S32768x2048 : Shape := ⟨2, ![32768, 2048]⟩
abbrev S2048x7184 : Shape := ⟨2, ![2048, 7184]⟩
abbrev S2048x16 : Shape := ⟨2, ![2048, 16]⟩
abbrev S32768x16 : Shape := ⟨2, ![32768, 16]⟩
abbrev S_ : Shape := ⟨0, ![]⟩
abbrev S32768x128 : Shape := ⟨2, ![32768, 128]⟩

abbrev nBuf : Space → Nat
  | .hbm => 8
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x7184, .f32⟩
  | .hbm, ⟨2, _⟩ => ⟨S32768x2048, .f32⟩
  | .hbm, ⟨3, _⟩ => ⟨S2048x16, .f32⟩
  | .hbm, ⟨4, _⟩ => ⟨S32768x16, .f32⟩
  | .hbm, ⟨5, _⟩ => ⟨S_, .i32⟩
  | .hbm, ⟨6, _⟩ => ⟨S_, .f32⟩
  | .hbm, ⟨7, _⟩ => ⟨S32768x128, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel10.lean ====
abbrev S8x4096x6144 : Shape := ⟨3, ![8, 4096, 6144]⟩
abbrev S8x4096x1024 : Shape := ⟨3, ![8, 4096, 1024]⟩
abbrev S1x4096x128 : Shape := ⟨3, ![1, 4096, 128]⟩
abbrev S1x1024x128 : Shape := ⟨3, ![1, 1024, 128]⟩
abbrev S4096x256 : Shape := ⟨2, ![4096, 256]⟩
abbrev S4096x128 : Shape := ⟨2, ![4096, 128]⟩
abbrev S1024x128 : Shape := ⟨2, ![1024, 128]⟩
abbrev S1024x4096 : Shape := ⟨2, ![1024, 4096]⟩
abbrev S128x4096 : Shape := ⟨2, ![128, 4096]⟩
abbrev S128x128 : Shape := ⟨2, ![128, 128]⟩
abbrev S16x1024 : Shape := ⟨2, ![16, 1024]⟩
abbrev S128x1024 : Shape := ⟨2, ![128, 1024]⟩
abbrev S1024 : Shape := ⟨1, ![1024]⟩
abbrev S1x1024 : Shape := ⟨2, ![1, 1024]⟩
abbrev S112x1024 : Shape := ⟨2, ![112, 1024]⟩
abbrev S1024x256 : Shape := ⟨2, ![1024, 256]⟩
abbrev S1024x1024 : Shape := ⟨2, ![1024, 1024]⟩
abbrev S2048x256 : Shape := ⟨2, ![2048, 256]⟩
abbrev S1024x2048 : Shape := ⟨2, ![1024, 2048]⟩
abbrev S1024x1 : Shape := ⟨2, ![1024, 1]⟩
abbrev S2048x128 : Shape := ⟨2, ![2048, 128]⟩

abbrev nBuf : Space → Nat
  | .hbm => 2
  | .vmem => 15
  | .smem => 0
  | _ => 0

abbrev bufTy : (tb : Table) → Fin (tcTables nBuf tb) → BufTy
  | .hbm, ⟨0, _⟩ => ⟨S8x4096x6144, .f32⟩
  | .hbm, ⟨1, _⟩ => ⟨S8x4096x1024, .bf16⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x1024x128, .bf16⟩
  | .local _ .vmem, ⟨7, _⟩ => ⟨S1x1024x128, .bf16⟩
  | .local _ .vmem, ⟨8, _⟩ => ⟨S4096x256, .bf16⟩
  | .local _ .vmem, ⟨9, _⟩ => ⟨S4096x128, .bf16⟩
  | .local _ .vmem, ⟨10, _⟩ => ⟨S4096x256, .bf16⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x4096, .f32⟩
  | _, _ => ⟨S8x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 4], ![false, false, false]⟩

def k0_mult1 (i : grid0.Coords) : BitVec 32 :=
  let c4_i32 : BitVec 32 := 4#32
  let arg2 : BitVec 32 := BitVec.ofNat 32 (i 2).val
  let v0 : BitVec 32 := Scalar.muli c4_i32 arg2
  let c256_i32 : BitVec 32 := 256#32
  let v4 : BitVec 32 := Scalar.muli v0 c256_i32
  v4
def k0_off1 (i : grid0.Coords) : Fin 2 → Nat :=
  let c4_i32 : BitVec 32 := 4#32
  let arg2 : BitVec 32 := BitVec.ofNat 32 (i 2).val
  let v0 : BitVec 32 := Scalar.muli c4_i32 arg2
  let c256_i32 : BitVec 32 := 256#32
  let v4 : BitVec 32 := Scalar.muli v0 c256_i32
  let v5 : BitVec 32 := v4
  let v6 : Index := Scalar.indexCast v5
  let c0 : Index := 0#32
  ![v6.toNat, 0]
def k0_mult2 (i : grid0.Coords) : BitVec 32 :=
  let c4_i32 : BitVec 32 := 4#32
  let arg2 : BitVec 32 := BitVec.ofNat 32 (i 2).val
  let v0 : BitVec 32 := Scalar.muli c4_i32 arg2
  let c256_i32_1 : BitVec 32 := 256#32
  let v8 : BitVec 32 := Scalar.muli v0 c256_i32_1
  v8
@[reducible] def k0_t1_loop (i : grid0.Coords) : Scf.Loop 32 :=
  let c0_i32_12 : BitVec 32 := 0#32
  let c4_i32 : BitVec 32 := 4#32
  let arg2 : BitVec 32 := BitVec.ofNat 32 (i 2).val
  let v0 : BitVec 32 := Scalar.muli c4_i32 arg2
  let c0_i32_6 : BitVec 32 := 0#32
  let v37 : BitVec 1 := Scalar.cmpi .sgt v0 c0_i32_6
  let v38 : BitVec 32 := Scalar.extui v37
  let c0_i32_7 : BitVec 32 := 0#32
  let v39 : BitVec 1 := Scalar.cmpi .slt v0 c0_i32_7
  let v40 : BitVec 32 := Scalar.extui v39
  let v41 : BitVec 32 := Scalar.subi v38 v40
  let c8_i32 : BitVec 32 := 8#32
  let c0_i32_8 : BitVec 32 := 0#32
  let v42 : BitVec 1 := Scalar.cmpi .sgt c8_i32 c0_i32_8
  let v43 : BitVec 32 := Scalar.extui v42
  let c0_i32_9 : BitVec 32 := 0#32
  let v44 : BitVec 1 := Scalar.cmpi .slt c8_i32 c0_i32_9
  let v45 : BitVec 32 := Scalar.extui v44
  let v46 : BitVec 32 := Scalar.subi v43 v45
  let v47 : BitVec 1 := Scalar.cmpi .ne v41 v46
  let v48 : BitVec 32 := Scalar.remsi v0 c8_i32
  let c0_i32_10 : BitVec 32 := 0#32
  let v49 : BitVec 1 := Scalar.cmpi .ne v48 c0_i32_10
  let v50 : BitVec 1 := Scalar.andi v47 v49
  let v36 : BitVec 32 := Scalar.divsi v0 c8_i32
  let c1_i32 : BitVec 32 := 1#32
  let v51 : BitVec 32 := Scalar.subi v36 c1_i32
  let v52 : BitVec 32 := Scalar.select v50 v51 v36
  let v53 : BitVec 32 := Scalar.subi v52 c0_i32_12
  let c1_i32_13 : BitVec 32 := 1#32
  let v55 : BitVec 32 := Scalar.divsi v53 c1_i32_13
  let v56 : BitVec 32 := Scalar.muli v55 c1_i32_13
  let v57 : BitVec 32 := Scalar.addi c0_i32_12 v56
  let c1_i32_14 : BitVec 32 := 1#32
  ⟨c0_i32_12, v57, c1_i32_14⟩
def k0_mult3 (i : grid0.Coords) (k0_t1 : Fin (k0_t1_loop i).trips) : BitVec 32 :=
  let c0_i32_12 : BitVec 32 := 0#32
  let c1_i32_14 : BitVec 32 := 1#32
  let arg14 : BitVec 32 := Scf.iv c0_i32_12 c1_i32_14 k0_t1
  let c8_i32_86 : BitVec 32 := 8#32
  let v217 : BitVec 32 := Scalar.muli arg14 c8_i32_86
  let c256_i32_87 : BitVec 32 := 256#32
  let v218 : BitVec 32 := Scalar.muli v217 c256_i32_87
  v218
def k0_off2 (i : grid0.Coords) (k0_t1 : Fin (k0_t1_loop i).trips) : Fin 2 → Nat :=
  let c0_i32_12 : BitVec 32 := 0#32
  let c1_i32_14 : BitVec 32 := 1#32
  let arg14 : BitVec 32 := Scf.iv c0_i32_12 c1_i32_14 k0_t1
  let c8_i32_86 : BitVec 32 := 8#32
  let v217 : BitVec 32 := Scalar.muli arg14 c8_i32_86
  let c256_i32_87 : BitVec 32 := 256#32
  let v218 : BitVec 32 := Scalar.muli v217 c256_i32_87
  let v219 : BitVec 32 := v218
  let v220 : Index := Scalar.indexCast v219
  let c0_88 : Index := 0#32
  ![v220.toNat, 0]
def k0_mult4 (i : grid0.Coords) (k0_t1 : Fin (k0_t1_loop i).trips) : BitVec 32 :=
  let c0_i32_12 : BitVec 32 := 0#32
  let c1_i32_14 : BitVec 32 := 1#32
  let arg14 : BitVec 32 := Scf.iv c0_i32_12 c1_i32_14 k0_t1
  let c8_i32_86 : BitVec 32 := 8#32
  let v217 : BitVec 32 := Scalar.muli arg14 c8_i32_86
  let c256_i32_90 : BitVec 32 := 256#32
  let v223 : BitVec 32 := Scalar.muli v217 c256_i32_90
  v223
def k0_off3 (i : grid0.Coords) (k0_t1 : Fin (k0_t1_loop i).trips) : Fin 2 → Nat :=
  let c0_91 : Index := 0#32
  let c0_i32_12 : BitVec 32 := 0#32
  let c1_i32_14 : BitVec 32 := 1#32
  let arg14 : BitVec 32 := Scf.iv c0_i32_12 c1_i32_14 k0_t1
  let c8_i32_86 : BitVec 32 := 8#32
  let v217 : BitVec 32 := Scalar.muli arg14 c8_i32_86
  let c256_i32_90 : BitVec 32 := 256#32
  let v223 : BitVec 32 := Scalar.muli v217 c256_i32_90
  let v224 : BitVec 32 := v223
  let v225 : Index := Scalar.indexCast v224
  ![0, v225.toNat]
@[reducible] def k0_t2_loop (i : grid0.Coords) : Scf.Loop 32 :=
  let c0_i32_12 : BitVec 32 := 0#32
  let c4_i32 : BitVec 32 := 4#32
  let arg2 : BitVec 32 := BitVec.ofNat 32 (i 2).val
  let v0 : BitVec 32 := Scalar.muli c4_i32 arg2
  let c0_i32_6 : BitVec 32 := 0#32
  let v37 : BitVec 1 := Scalar.cmpi .sgt v0 c0_i32_6
  let v38 : BitVec 32 := Scalar.extui v37
  let c0_i32_7 : BitVec 32 := 0#32
  let v39 : BitVec 1 := Scalar.cmpi .slt v0 c0_i32_7
  let v40 : BitVec 32 := Scalar.extui v39
  let v41 : BitVec 32 := Scalar.subi v38 v40
  let c8_i32 : BitVec 32 := 8#32
  let c0_i32_8 : BitVec 32 := 0#32
  let v42 : BitVec 1 := Scalar.cmpi .sgt c8_i32 c0_i32_8
  let v43 : BitVec 32 := Scalar.extui v42
  let c0_i32_9 : BitVec 32 := 0#32
  let v44 : BitVec 1 := Scalar.cmpi .slt c8_i32 c0_i32_9
  let v45 : BitVec 32 := Scalar.extui v44
  let v46 : BitVec 32 := Scalar.subi v43 v45
  let v47 : BitVec 1 := Scalar.cmpi .ne v41 v46
  let v48 : BitVec 32 := Scalar.remsi v0 c8_i32
  let c0_i32_10 : BitVec 32 := 0#32
  let v49 : BitVec 1 := Scalar.cmpi .ne v48 c0_i32_10
  let v50 : BitVec 1 := Scalar.andi v47 v49
  let v36 : BitVec 32 := Scalar.divsi v0 c8_i32
  let c1_i32 : BitVec 32 := 1#32
  let v51 : BitVec 32 := Scalar.subi v36 c1_i32
  let v52 : BitVec 32 := Scalar.select v50 v51 v36
  let v53 : BitVec 32 := Scalar.subi v52 c0_i32_12
  let c1_i32_13 : BitVec 32 := 1#32
  let v55 : BitVec 32 := Scalar.divsi v53 c1_i32_13
  let v56 : BitVec 32 := Scalar.muli v55 c1_i32_13
  let v57 : BitVec 32 := Scalar.addi c0_i32_12 v56
  let v54 : BitVec 32 := Scalar.addi c0_i32_12 v53
  let c1_i32_15 : BitVec 32 := 1#32
  ⟨v57, v54, c1_i32_15⟩
def k0_mult5 (i : grid0.Coords) (k0_t2 : Fin (k0_t2_loop i).trips) : BitVec 32 :=
  let c0_i32_12 : BitVec 32 := 0#32
  let c4_i32 : BitVec 32 := 4#32
  let arg2 : BitVec 32 := BitVec.ofNat 32 (i 2).val
  let v0 : BitVec 32 := Scalar.muli c4_i32 arg2
  let c0_i32_6 : BitVec 32 := 0#32
  let v37 : BitVec 1 := Scalar.cmpi .sgt v0 c0_i32_6
  let v38 : BitVec 32 := Scalar.extui v37
  let c0_i32_7 : BitVec 32 := 0#32
  let v39 : BitVec 1 := Scalar.cmpi .slt v0 c0_i32_7
  let v40 : BitVec 32 := Scalar.extui v39
  let v41 : BitVec 32 := Scalar.subi v38 v40
  let c8_i32 : BitVec 32 := 8#32
  let c0_i32_8 : BitVec 32 := 0#32
  let v42 : BitVec 1 := Scalar.cmpi .sgt c8_i32 c0_i32_8
  let v43 : BitVec 32 := Scalar.extui v42
  let c0_i32_9 : BitVec 32 := 0#32
  let v44 : BitVec 1 := Scalar.cmpi .slt c8_i32 c0_i32_9
  let v45 : BitVec 32 := Scalar.extui v44
  let v46 : BitVec 32 := Scalar.subi v43 v45
  let v47 : BitVec 1 := Scalar.cmpi .ne v41 v46
  let v48 : BitVec 32 := Scalar.remsi v0 c8_i32
  let c0_i32_10 : BitVec 32 := 0#32
  let v49 : BitVec 1 := Scalar.cmpi .ne v48 c0_i32_10
  let v50 : BitVec 1 := Scalar.andi v47 v49
  let v36 : BitVec 32 := Scalar.divsi v0 c8_i32
  let c1_i32 : BitVec 32 := 1#32
  let v51 : BitVec 32 := Scalar.subi v36 c1_i32
  let v52 : BitVec 32 := Scalar.select v50 v51 v36
  let v53 : BitVec 32 := Scalar.subi v52 c0_i32_12
  let c1_i32_13 : BitVec 32 := 1#32
  let v55 : BitVec 32 := Scalar.divsi v53 c1_i32_13
  let v56 : BitVec 32 := Scalar.muli v55 c1_i32_13
  let v57 : BitVec 32 := Scalar.addi c0_i32_12 v56
  let c1_i32_15 : BitVec 32 := 1#32
  let arg14 : BitVec 32 := Scf.iv v57 c1_i32_15 k0_t2
  let c8_i32_86 : BitVec 32 := 8#32
  let v217 : BitVec 32 := Scalar.muli arg14 c8_i32_86
  let c256_i32_87 : BitVec 32 := 256#32
  let v218 : BitVec 32 := Scalar.muli v217 c256_i32_87
  v218
def k0_off4 (i : grid0.Coords) (k0_t2 : Fin (k0_t2_loop i).trips) : Fin 2 → Nat :=
  let c0_i32_12 : BitVec 32 := 0#32
  let c4_i32 : BitVec 32 := 4#32
  let arg2 : BitVec 32 := BitVec.ofNat 32 (i 2).val
  let v0 : BitVec 32 := Scalar.muli c4_i32 arg2
  let c0_i32_6 : BitVec 32 := 0#32
  let v37 : BitVec 1 := Scalar.cmpi .sgt v0 c0_i32_6
  let v38 : BitVec 32 := Scalar.extui v37
  let c0_i32_7 : BitVec 32 := 0#32
  let v39 : BitVec 1 := Scalar.cmpi .slt v0 c0_i32_7
  let v40 : BitVec 32 := Scalar.extui v39
  let v41 : BitVec 32 := Scalar.subi v38 v40
  let c8_i32 : BitVec 32 := 8#32
  let c0_i32_8 : BitVec 32 := 0#32
  let v42 : BitVec 1 := Scalar.cmpi .sgt c8_i32 c0_i32_8
  let v43 : BitVec 32 := Scalar.extui v42
  let c0_i32_9 : BitVec 32 := 0#32
  let v44 : BitVec 1 := Scalar.cmpi .slt c8_i32 c0_i32_9
  let v45 : BitVec 32 := Scalar.extui v44
  let v46 : BitVec 32 := Scalar.subi v43 v45
  let v47 : BitVec 1 := Scalar.cmpi .ne v41 v46
  let v48 : BitVec 32 := Scalar.remsi v0 c8_i32
  let c0_i32_10 : BitVec 32 := 0#32
  let v49 : BitVec 1 := Scalar.cmpi .ne v48 c0_i32_10
  let v50 : BitVec 1 := Scalar.andi v47 v49
  let v36 : BitVec 32 := Scalar.divsi v0 c8_i32
  let c1_i32 : BitVec 32 := 1#32
  let v51 : BitVec 32 := Scalar.subi v36 c1_i32
  let v52 : BitVec 32 := Scalar.select v50 v51 v36
  let v53 : BitVec 32 := Scalar.subi v52 c0_i32_12
  let c1_i32_13 : BitVec 32 := 1#32
  let v55 : BitVec 32 := Scalar.divsi v53 c1_i32_13
  let v56 : BitVec 32 := Scalar.muli v55 c1_i32_13
  let v57 : BitVec 32 := Scalar.addi c0_i32_12 v56
  let c1_i32_15 : BitVec 32 := 1#32
  let arg14 : BitVec 32 := Scf.iv v57 c1_i32_15 k0_t2
  let c8_i32_86 : BitVec 32 := 8#32
  let v217 : BitVec 32 := Scalar.muli arg14 c8_i32_86
  let c256_i32_87 : BitVec 32 := 256#32
  let v218 : BitVec 32 := Scalar.muli v217 c256_i32_87
  let v219 : BitVec 32 := v218
  let v220 : Index := Scalar.indexCast v219
  let c0_88 : Index := 0#32
  ![v220.toNat, 0]
def k0_mult6 (i : grid0.Coords) (k0_t2 : Fin (k0_t2_loop i).trips) : BitVec 32 :=
  let c0_i32_12 : BitVec 32 := 0#32
  let c4_i32 : BitVec 32 := 4#32
  let arg2 : BitVec 32 := BitVec.ofNat 32 (i 2).val
  let v0 : BitVec 32 := Scalar.muli c4_i32 arg2
  let c0_i32_6 : BitVec 32 := 0#32
  let v37 : BitVec 1 := Scalar.cmpi .sgt v0 c0_i32_6
  let v38 : BitVec 32 := Scalar.extui v37
  let c0_i32_7 : BitVec 32 := 0#32
  let v39 : BitVec 1 := Scalar.cmpi .slt v0 c0_i32_7
  let v40 : BitVec 32 := Scalar.extui v39
  let v41 : BitVec 32 := Scalar.subi v38 v40
  let c8_i32 : BitVec 32 := 8#32
  let c0_i32_8 : BitVec 32 := 0#32
  let v42 : BitVec 1 := Scalar.cmpi .sgt c8_i32 c0_i32_8
  let v43 : BitVec 32 := Scalar.extui v42
  let c0_i32_9 : BitVec 32 := 0#32
  let v44 : BitVec 1 := Scalar.cmpi .slt c8_i32 c0_i32_9
  let v45 : BitVec 32 := Scalar.extui v44
  let v46 : BitVec 32 := Scalar.subi v43 v45
  let v47 : BitVec 1 := Scalar.cmpi .ne v41 v46
  let v48 : BitVec 32 := Scalar.remsi v0 c8_i32
  let c0_i32_10 : BitVec 32 := 0#32
  let v49 : BitVec 1 := Scalar.cmpi .ne v48 c0_i32_10
  let v50 : BitVec 1 := Scalar.andi v47 v49
  let v36 : BitVec 32 := Scalar.divsi v0 c8_i32
  let c1_i32 : BitVec 32 := 1#32
  let v51 : BitVec 32 := Scalar.subi v36 c1_i32
  let v52 : BitVec 32 := Scalar.select v50 v51 v36
  let v53 : BitVec 32 := Scalar.subi v52 c0_i32_12
  let c1_i32_13 : BitVec 32 := 1#32
  let v55 : BitVec 32 := Scalar.divsi v53 c1_i32_13
  let v56 : BitVec 32 := Scalar.muli v55 c1_i32_13
  let v57 : BitVec 32 := Scalar.addi c0_i32_12 v56
  let c1_i32_15 : BitVec 32 := 1#32
  let arg14 : BitVec 32 := Scf.iv v57 c1_i32_15 k0_t2
  let c8_i32_86 : BitVec 32 := 8#32
  let v217 : BitVec 32 := Scalar.muli arg14 c8_i32_86
  let c256_i32_90 : BitVec 32 := 256#32
  let v223 : BitVec 32 := Scalar.muli v217 c256_i32_90
  v223
def k0_off5 (i : grid0.Coords) (k0_t2 : Fin (k0_t2_loop i).trips) : Fin 2 → Nat :=
  let c0_91 : Index := 0#32
  let c0_i32_12 : BitVec 32 := 0#32
  let c4_i32 : BitVec 32 := 4#32
  let arg2 : BitVec 32 := BitVec.ofNat 32 (i 2).val
  let v0 : BitVec 32 := Scalar.muli c4_i32 arg2
  let c0_i32_6 : BitVec 32 := 0#32
  let v37 : BitVec 1 := Scalar.cmpi .sgt v0 c0_i32_6
  let v38 : BitVec 32 := Scalar.extui v37
  let c0_i32_7 : BitVec 32 := 0#32
  let v39 : BitVec 1 := Scalar.cmpi .slt v0 c0_i32_7
  let v40 : BitVec 32 := Scalar.extui v39
  let v41 : BitVec 32 := Scalar.subi v38 v40
  let c8_i32 : BitVec 32 := 8#32
  let c0_i32_8 : BitVec 32 := 0#32
  let v42 : BitVec 1 := Scalar.cmpi .sgt c8_i32 c0_i32_8
  let v43 : BitVec 32 := Scalar.extui v42
  let c0_i32_9 : BitVec 32 := 0#32
  let v44 : BitVec 1 := Scalar.cmpi .slt c8_i32 c0_i32_9
  let v45 : BitVec 32 := Scalar.extui v44
  let v46 : BitVec 32 := Scalar.subi v43 v45
  let v47 : BitVec 1 := Scalar.cmpi .ne v41 v46
  let v48 : BitVec 32 := Scalar.remsi v0 c8_i32
  let c0_i32_10 : BitVec 32 := 0#32
  let v49 : BitVec 1 := Scalar.cmpi .ne v48 c0_i32_10
  let v50 : BitVec 1 := Scalar.andi v47 v49
  let v36 : BitVec 32 := Scalar.divsi v0 c8_i32
  let c1_i32 : BitVec 32 := 1#32
  let v51 : BitVec 32 := Scalar.subi v36 c1_i32
  let v52 : BitVec 32 := Scalar.select v50 v51 v36
  let v53 : BitVec 32 := Scalar.subi v52 c0_i32_12
  let c1_i32_13 : BitVec 32 := 1#32
  let v55 : BitVec 32 := Scalar.divsi v53 c1_i32_13
  let v56 : BitVec 32 := Scalar.muli v55 c1_i32_13
  let v57 : BitVec 32 := Scalar.addi c0_i32_12 v56
  let c1_i32_15 : BitVec 32 := 1#32
  let arg14 : BitVec 32 := Scf.iv v57 c1_i32_15 k0_t2
  let c8_i32_86 : BitVec 32 := 8#32
  let v217 : BitVec 32 := Scalar.muli arg14 c8_i32_86
  let c256_i32_90 : BitVec 32 := 256#32
  let v223 : BitVec 32 := Scalar.muli v217 c256_i32_90
  let v224 : BitVec 32 := v223
  let v225 : Index := Scalar.indexCast v224
  ![0, v225.toNat]
def k0_cond2 (i : grid0.Coords) : BitVec 1 :=
  let c4_i32 : BitVec 32 := 4#32
  let arg2 : BitVec 32 := BitVec.ofNat 32 (i 2).val
  let v0 : BitVec 32 := Scalar.muli c4_i32 arg2
  let c0_i32_17 : BitVec 32 := 0#32
  let v59 : BitVec 1 := Scalar.cmpi .sgt v0 c0_i32_17
  let v60 : BitVec 32 := Scalar.extui v59
  let c0_i32_18 : BitVec 32 := 0#32
  let v61 : BitVec 1 := Scalar.cmpi .slt v0 c0_i32_18
  let v62 : BitVec 32 := Scalar.extui v61
  let v63 : BitVec 32 := Scalar.subi v60 v62
  let c4_i32_16 : BitVec 32 := 4#32
  let c0_i32_19 : BitVec 32 := 0#32
  let v64 : BitVec 1 := Scalar.cmpi .sgt c4_i32_16 c0_i32_19
  let v65 : BitVec 32 := Scalar.extui v64
  let c0_i32_20 : BitVec 32 := 0#32
  let v66 : BitVec 1 := Scalar.cmpi .slt c4_i32_16 c0_i32_20
  let v67 : BitVec 32 := Scalar.extui v66
  let v68 : BitVec 32 := Scalar.subi v65 v67
  let v69 : BitVec 1 := Scalar.cmpi .ne v63 v68
  let v70 : BitVec 32 := Scalar.remsi v0 c4_i32_16
  let c0_i32_21 : BitVec 32 := 0#32
  let v71 : BitVec 1 := Scalar.cmpi .ne v70 c0_i32_21
  let v72 : BitVec 1 := Scalar.andi v69 v71
  let v58 : BitVec 32 := Scalar.divsi v0 c4_i32_16
  let c1_i32_22 : BitVec 32 := 1#32
  let v73 : BitVec 32 := Scalar.subi v58 c1_i32_22
  let v74 : BitVec 32 := Scalar.select v72 v73 v58
  let c2_i32 : BitVec 32 := 2#32
  let c0_i32_23 : BitVec 32 := 0#32
  let v75 : BitVec 1 := Scalar.cmpi .eq c2_i32 c0_i32_23
  let c1_i32_24 : BitVec 32 := 1#32
  let v76 : BitVec 32 := Scalar.select v75 c1_i32_24 c2_i32
  let v77 : BitVec 32 := Scalar.remsi v74 v76
  let c0_i32_26 : BitVec 32 := 0#32
  let v79 : BitVec 1 := Scalar.cmpi .slt v77 c0_i32_26
  let c0_i32_27 : BitVec 32 := 0#32
  let v80 : BitVec 1 := Scalar.cmpi .slt v76 c0_i32_27
  let v81 : BitVec 1 := Scalar.xori v79 v80
  let c0_i32_25 : BitVec 32 := 0#32
  let v78 : BitVec 1 := Scalar.cmpi .ne v77 c0_i32_25
  let v82 : BitVec 1 := Scalar.andi v81 v78
  let v83 : BitVec 32 := Scalar.addi v77 v76
  let v84 : BitVec 32 := Scalar.select v82 v83 v77
  let c1_i32_28 : BitVec 32 := 1#32
  let v85 : BitVec 1 := Scalar.cmpi .eq v84 c1_i32_28
  let v86 : BitVec 32 := Scalar.extui v85
  let c0_i32_29 : BitVec 32 := 0#32
  let v87 : BitVec 1 := Scalar.cmpi .ne v86 c0_i32_29
  v87

def k0_mult7 (i : grid0.Coords) : BitVec 32 :=
  let c4_i32 : BitVec 32 := 4#32
  let arg2 : BitVec 32 := BitVec.ofNat 32 (i 2).val
  let v0 : BitVec 32 := Scalar.muli c4_i32 arg2
  let c0_i32_87 : BitVec 32 := 0#32
  let v218 : BitVec 1 := Scalar.cmpi .sgt v0 c0_i32_87
  let v219 : BitVec 32 := Scalar.extui v218
  let c0_i32_88 : BitVec 32 := 0#32
  let v220 : BitVec 1 := Scalar.cmpi .slt v0 c0_i32_88
  let v221 : BitVec 32 := Scalar.extui v220
  let v222 : BitVec 32 := Scalar.subi v219 v221
  let c8_i32_86 : BitVec 32 := 8#32
  let c0_i32_89 : BitVec 32 := 0#32
  let v223 : BitVec 1 := Scalar.cmpi .sgt c8_i32_86 c0_i32_89
  let v224 : BitVec 32 := Scalar.extui v223
  let c0_i32_90 : BitVec 32 := 0#32
  let v225 : BitVec 1 := Scalar.cmpi .slt c8_i32_86 c0_i32_90
  let v226 : BitVec 32 := Scalar.extui v225
  let v227 : BitVec 32 := Scalar.subi v224 v226
  let v228 : BitVec 1 := Scalar.cmpi .ne v222 v227
  let v229 : BitVec 32 := Scalar.remsi v0 c8_i32_86
  let c0_i32_91 : BitVec 32 := 0#32
  let v230 : BitVec 1 := Scalar.cmpi .ne v229 c0_i32_91
  let v231 : BitVec 1 := Scalar.andi v228 v230
  let v217 : BitVec 32 := Scalar.divsi v0 c8_i32_86
  let c1_i32_92 : BitVec 32 := 1#32
  let v232 : BitVec 32 := Scalar.subi v217 c1_i32_92
  let v233 : BitVec 32 := Scalar.select v231 v232 v217
  let c8_i32_93 : BitVec 32 := 8#32
  let v234 : BitVec 32 := Scalar.muli v233 c8_i32_93
  let c256_i32_94 : BitVec 32 := 256#32
  let v235 : BitVec 32 := Scalar.muli v234 c256_i32_94
  v235
def k0_off6 (i : grid0.Coords) : Fin 2 → Nat :=
  let c4_i32 : BitVec 32 := 4#32
  let arg2 : BitVec 32 := BitVec.ofNat 32 (i 2).val
  let v0 : BitVec 32 := Scalar.muli c4_i32 arg2
  let c0_i32_87 : BitVec 32 := 0#32
  let v218 : BitVec 1 := Scalar.cmpi .sgt v0 c0_i32_87
  let v219 : BitVec 32 := Scalar.extui v218
  let c0_i32_88 : BitVec 32 := 0#32
  let v220 : BitVec 1 := Scalar.cmpi .slt v0 c0_i32_88
  let v221 : BitVec 32 := Scalar.extui v220
  let v222 : BitVec 32 := Scalar.subi v219 v221
  let c8_i32_86 : BitVec 32 := 8#32
  let c0_i32_89 : BitVec 32 := 0#32
  let v223 : BitVec 1 := Scalar.cmpi .sgt c8_i32_86 c0_i32_89
  let v224 : BitVec 32 := Scalar.extui v223
  let c0_i32_90 : BitVec 32 := 0#32
  let v225 : BitVec 1 := Scalar.cmpi .slt c8_i32_86 c0_i32_90
  let v226 : BitVec 32 := Scalar.extui v225
  let v227 : BitVec 32 := Scalar.subi v224 v226
  let v228 : BitVec 1 := Scalar.cmpi .ne v222 v227
  let v229 : BitVec 32 := Scalar.remsi v0 c8_i32_86
  let c0_i32_91 : BitVec 32 := 0#32
  let v230 : BitVec 1 := Scalar.cmpi .ne v229 c0_i32_91
  let v231 : BitVec 1 := Scalar.andi v228 v230
  let v217 : BitVec 32 := Scalar.divsi v0 c8_i32_86
  let c1_i32_92 : BitVec 32 := 1#32
  let v232 : BitVec 32 := Scalar.subi v217 c1_i32_92
  let v233 : BitVec 32 := Scalar.select v231 v232 v217
  let c8_i32_93 : BitVec 32 := 8#32
  let v234 : BitVec 32 := Scalar.muli v233 c8_i32_93
  let c256_i32_94 : BitVec 32 := 256#32
  let v235 : BitVec 32 := Scalar.muli v234 c256_i32_94
  let v236 : BitVec 32 := v235
  let v237 : Index := Scalar.indexCast v236
  let c0_95 : Index := 0#32
  ![v237.toNat, 0]
def k0_mult8 (i : grid0.Coords) : BitVec 32 :=
  let c4_i32 : BitVec 32 := 4#32
  let arg2 : BitVec 32 := BitVec.ofNat 32 (i 2).val
  let v0 : BitVec 32 := Scalar.muli c4_i32 arg2
  let c0_i32_87 : BitVec 32 := 0#32
  let v218 : BitVec 1 := Scalar.cmpi .sgt v0 c0_i32_87
  let v219 : BitVec 32 := Scalar.extui v218
  let c0_i32_88 : BitVec 32 := 0#32
  let v220 : BitVec 1 := Scalar.cmpi .slt v0 c0_i32_88
  let v221 : BitVec 32 := Scalar.extui v220
  let v222 : BitVec 32 := Scalar.subi v219 v221
  let c8_i32_86 : BitVec 32 := 8#32
  let c0_i32_89 : BitVec 32 := 0#32
  let v223 : BitVec 1 := Scalar.cmpi .sgt c8_i32_86 c0_i32_89
  let v224 : BitVec 32 := Scalar.extui v223
  let c0_i32_90 : BitVec 32 := 0#32
  let v225 : BitVec 1 := Scalar.cmpi .slt c8_i32_86 c0_i32_90
  let v226 : BitVec 32 := Scalar.extui v225
  let v227 : BitVec 32 := Scalar.subi v224 v226
  let v228 : BitVec 1 := Scalar.cmpi .ne v222 v227
  let v229 : BitVec 32 := Scalar.remsi v0 c8_i32_86
  let c0_i32_91 : BitVec 32 := 0#32
  let v230 : BitVec 1 := Scalar.cmpi .ne v229 c0_i32_91
  let v231 : BitVec 1 := Scalar.andi v228 v230
  let v217 : BitVec 32 := Scalar.divsi v0 c8_i32_86
  let c1_i32_92 : BitVec 32 := 1#32
  let v232 : BitVec 32 := Scalar.subi v217 c1_i32_92
  let v233 : BitVec 32 := Scalar.select v231 v232 v217
  let c8_i32_93 : BitVec 32 := 8#32
  let v234 : BitVec 32 := Scalar.muli v233 c8_i32_93
  let c256_i32_97 : BitVec 32 := 256#32
  let v240 : BitVec 32 := Scalar.muli v234 c256_i32_97
  v240
def k0_off7 (i : grid0.Coords) : Fin 2 → Nat :=
  let c0_98 : Index := 0#32
  let c4_i32 : BitVec 32 := 4#32
  let arg2 : BitVec 32 := BitVec.ofNat 32 (i 2).val
  let v0 : BitVec 32 := Scalar.muli c4_i32 arg2
  let c0_i32_87 : BitVec 32 := 0#32
  let v218 : BitVec 1 := Scalar.cmpi .sgt v0 c0_i32_87
  let v219 : BitVec 32 := Scalar.extui v218
  let c0_i32_88 : BitVec 32 := 0#32
  let v220 : BitVec 1 := Scalar.cmpi .slt v0 c0_i32_88
  let v221 : BitVec 32 := Scalar.extui v220
  let v222 : BitVec 32 := Scalar.subi v219 v221
  let c8_i32_86 : BitVec 32 := 8#32
  let c0_i32_89 : BitVec 32 := 0#32
  let v223 : BitVec 1 := Scalar.cmpi .sgt c8_i32_86 c0_i32_89
  let v224 : BitVec 32 := Scalar.extui v223
  let c0_i32_90 : BitVec 32 := 0#32
  let v225 : BitVec 1 := Scalar.cmpi .slt c8_i32_86 c0_i32_90
  let v226 : BitVec 32 := Scalar.extui v225
  let v227 : BitVec 32 := Scalar.subi v224 v226
  let v228 : BitVec 1 := Scalar.cmpi .ne v222 v227
  let v229 : BitVec 32 := Scalar.remsi v0 c8_i32_86
  let c0_i32_91 : BitVec 32 := 0#32
  let v230 : BitVec 1 := Scalar.cmpi .ne v229 c0_i32_91
  let v231 : BitVec 1 := Scalar.andi v228 v230
  let v217 : BitVec 32 := Scalar.divsi v0 c8_i32_86
  let c1_i32_92 : BitVec 32 := 1#32
  let v232 : BitVec 32 := Scalar.subi v217 c1_i32_92
  let v233 : BitVec 32 := Scalar.select v231 v232 v217
  let c8_i32_93 : BitVec 32 := 8#32
  let v234 : BitVec 32 := Scalar.muli v233 c8_i32_93
  let c256_i32_97 : BitVec 32 := 256#32
  let v240 : BitVec 32 := Scalar.muli v234 c256_i32_97
  let v241 : BitVec 32 := v240
  let v242 : Index := Scalar.indexCast v241
  ![0, v242.toNat]
def k0_off8 (i : grid0.Coords) : Fin 2 → Nat :=
  let c4_i32 : BitVec 32 := 4#32
  let arg2 : BitVec 32 := BitVec.ofNat 32 (i 2).val
  let v0 : BitVec 32 := Scalar.muli c4_i32 arg2
  let c256_i32_1 : BitVec 32 := 256#32
  let v8 : BitVec 32 := Scalar.muli v0 c256_i32_1
  let v9 : BitVec 32 := v8
  let v146 : Index := Scalar.indexCast v9
  let c0_45 : Index := 0#32
  ![v146.toNat, 0]
@[reducible] def k0_t3_loop (i : grid0.Coords) : Scf.Loop 32 :=
  let c0_i32_59 : BitVec 32 := 0#32
  let c4_i32 : BitVec 32 := 4#32
  let arg2 : BitVec 32 := BitVec.ofNat 32 (i 2).val
  let v0 : BitVec 32 := Scalar.muli c4_i32 arg2
  let c0_i32_52 : BitVec 32 := 0#32
  let v156 : BitVec 1 := Scalar.cmpi .sgt v0 c0_i32_52
  let v157 : BitVec 32 := Scalar.extui v156
  let c0_i32_53 : BitVec 32 := 0#32
  let v158 : BitVec 1 := Scalar.cmpi .slt v0 c0_i32_53
  let v159 : BitVec 32 := Scalar.extui v158
  let v160 : BitVec 32 := Scalar.subi v157 v159
  let c8_i32_51 : BitVec 32 := 8#32
  let c0_i32_54 : BitVec 32 := 0#32
  let v161 : BitVec 1 := Scalar.cmpi .sgt c8_i32_51 c0_i32_54
  let v162 : BitVec 32 := Scalar.extui v161
  let c0_i32_55 : BitVec 32 := 0#32
  let v163 : BitVec 1 := Scalar.cmpi .slt c8_i32_51 c0_i32_55
  let v164 : BitVec 32 := Scalar.extui v163
  let v165 : BitVec 32 := Scalar.subi v162 v164
  let v166 : BitVec 1 := Scalar.cmpi .ne v160 v165
  let v167 : BitVec 32 := Scalar.remsi v0 c8_i32_51
  let c0_i32_56 : BitVec 32 := 0#32
  let v168 : BitVec 1 := Scalar.cmpi .ne v167 c0_i32_56
  let v169 : BitVec 1 := Scalar.andi v166 v168
  let v155 : BitVec 32 := Scalar.divsi v0 c8_i32_51
  let c1_i32_57 : BitVec 32 := 1#32
  let v170 : BitVec 32 := Scalar.subi v155 c1_i32_57
  let v171 : BitVec 32 := Scalar.select v169 v170 v155
  let v172 : BitVec 32 := Scalar.subi v171 c0_i32_59
  let c1_i32_60 : BitVec 32 := 1#32
  let v174 : BitVec 32 := Scalar.divsi v172 c1_i32_60
  let v175 : BitVec 32 := Scalar.muli v174 c1_i32_60
  let v176 : BitVec 32 := Scalar.addi c0_i32_59 v175
  let c1_i32_61 : BitVec 32 := 1#32
  ⟨c0_i32_59, v176, c1_i32_61⟩
def k0_mult9 (i : grid0.Coords) (k0_t3 : Fin (k0_t3_loop i).trips) : BitVec 32 :=
  let c0_i32_59 : BitVec 32 := 0#32
  let c1_i32_61 : BitVec 32 := 1#32
  let arg14 : BitVec 32 := Scf.iv c0_i32_59 c1_i32_61 k0_t3
  let c8_i32_86 : BitVec 32 := 8#32
  let v217 : BitVec 32 := Scalar.muli arg14 c8_i32_86
  let c256_i32_87 : BitVec 32 := 256#32
  let v218 : BitVec 32 := Scalar.muli v217 c256_i32_87
  v218
def k0_off9 (i : grid0.Coords) (k0_t3 : Fin (k0_t3_loop i).trips) : Fin 2 → Nat :=
  let c0_88 : Index := 0#32
  let c0_i32_59 : BitVec 32 := 0#32
  let c1_i32_61 : BitVec 32 := 1#32
  let arg14 : BitVec 32 := Scf.iv c0_i32_59 c1_i32_61 k0_t3
  let c8_i32_86 : BitVec 32 := 8#32
  let v217 : BitVec 32 := Scalar.muli arg14 c8_i32_86
  let c256_i32_87 : BitVec 32 := 256#32
  let v218 : BitVec 32 := Scalar.muli v217 c256_i32_87
  let v219 : BitVec 32 := v218
  let v220 : Index := Scalar.indexCast v219
  ![0, v220.toNat]
def k0_off10 (i : grid0.Coords) (k0_t3 : Fin (k0_t3_loop i).trips) : Fin 2 → Nat :=
  let c0_i32_59 : BitVec 32 := 0#32
  let c1_i32_61 : BitVec 32 := 1#32
  let arg14 : BitVec 32 := Scf.iv c0_i32_59 c1_i32_61 k0_t3
  let c8_i32_86 : BitVec 32 := 8#32
  let v217 : BitVec 32 := Scalar.muli arg14 c8_i32_86
  let c256_i32_87 : BitVec 32 := 256#32
  let v218 : BitVec 32 := Scalar.muli v217 c256_i32_87
  let v219 : BitVec 32 := v218
  let v320 : Index := Scalar.indexCast v219
  let c0_107 : Index := 0#32
  ![v320.toNat, 0]
@[reducible] def k0_t4_loop (i : grid0.Coords) : Scf.Loop 32 :=
  let c0_i32_59 : BitVec 32 := 0#32
  let c4_i32 : BitVec 32 := 4#32
  let arg2 : BitVec 32 := BitVec.ofNat 32 (i 2).val
  let v0 : BitVec 32 := Scalar.muli c4_i32 arg2
  let c0_i32_52 : BitVec 32 := 0#32
  let v156 : BitVec 1 := Scalar.cmpi .sgt v0 c0_i32_52
  let v157 : BitVec 32 := Scalar.extui v156
  let c0_i32_53 : BitVec 32 := 0#32
  let v158 : BitVec 1 := Scalar.cmpi .slt v0 c0_i32_53
  let v159 : BitVec 32 := Scalar.extui v158
  let v160 : BitVec 32 := Scalar.subi v157 v159
  let c8_i32_51 : BitVec 32 := 8#32
  let c0_i32_54 : BitVec 32 := 0#32
  let v161 : BitVec 1 := Scalar.cmpi .sgt c8_i32_51 c0_i32_54
  let v162 : BitVec 32 := Scalar.extui v161
  let c0_i32_55 : BitVec 32 := 0#32
  let v163 : BitVec 1 := Scalar.cmpi .slt c8_i32_51 c0_i32_55
  let v164 : BitVec 32 := Scalar.extui v163
  let v165 : BitVec 32 := Scalar.subi v162 v164
  let v166 : BitVec 1 := Scalar.cmpi .ne v160 v165
  let v167 : BitVec 32 := Scalar.remsi v0 c8_i32_51
  let c0_i32_56 : BitVec 32 := 0#32
  let v168 : BitVec 1 := Scalar.cmpi .ne v167 c0_i32_56
  let v169 : BitVec 1 := Scalar.andi v166 v168
  let v155 : BitVec 32 := Scalar.divsi v0 c8_i32_51
  let c1_i32_57 : BitVec 32 := 1#32
  let v170 : BitVec 32 := Scalar.subi v155 c1_i32_57
  let v171 : BitVec 32 := Scalar.select v169 v170 v155
  let v172 : BitVec 32 := Scalar.subi v171 c0_i32_59
  let c1_i32_60 : BitVec 32 := 1#32
  let v174 : BitVec 32 := Scalar.divsi v172 c1_i32_60
  let v175 : BitVec 32 := Scalar.muli v174 c1_i32_60
  let v176 : BitVec 32 := Scalar.addi c0_i32_59 v175
  let v173 : BitVec 32 := Scalar.addi c0_i32_59 v172
  let c1_i32_62 : BitVec 32 := 1#32
  ⟨v176, v173, c1_i32_62⟩
def k0_mult10 (i : grid0.Coords) (k0_t4 : Fin (k0_t4_loop i).trips) : BitVec 32 :=
  let c0_i32_59 : BitVec 32 := 0#32
  let c4_i32 : BitVec 32 := 4#32
  let arg2 : BitVec 32 := BitVec.ofNat 32 (i 2).val
  let v0 : BitVec 32 := Scalar.muli c4_i32 arg2
  let c0_i32_52 : BitVec 32 := 0#32
  let v156 : BitVec 1 := Scalar.cmpi .sgt v0 c0_i32_52
  let v157 : BitVec 32 := Scalar.extui v156
  let c0_i32_53 : BitVec 32 := 0#32
  let v158 : BitVec 1 := Scalar.cmpi .slt v0 c0_i32_53
  let v159 : BitVec 32 := Scalar.extui v158
  let v160 : BitVec 32 := Scalar.subi v157 v159
  let c8_i32_51 : BitVec 32 := 8#32
  let c0_i32_54 : BitVec 32 := 0#32
  let v161 : BitVec 1 := Scalar.cmpi .sgt c8_i32_51 c0_i32_54
  let v162 : BitVec 32 := Scalar.extui v161
  let c0_i32_55 : BitVec 32 := 0#32
  let v163 : BitVec 1 := Scalar.cmpi .slt c8_i32_51 c0_i32_55
  let v164 : BitVec 32 := Scalar.extui v163
  let v165 : BitVec 32 := Scalar.subi v162 v164
  let v166 : BitVec 1 := Scalar.cmpi .ne v160 v165
  let v167 : BitVec 32 := Scalar.remsi v0 c8_i32_51
  let c0_i32_56 : BitVec 32 := 0#32
  let v168 : BitVec 1 := Scalar.cmpi .ne v167 c0_i32_56
  let v169 : BitVec 1 := Scalar.andi v166 v168
  let v155 : BitVec 32 := Scalar.divsi v0 c8_i32_51
  let c1_i32_57 : BitVec 32 := 1#32
  let v170 : BitVec 32 := Scalar.subi v155 c1_i32_57
  let v171 : BitVec 32 := Scalar.select v169 v170 v155
  let v172 : BitVec 32 := Scalar.subi v171 c0_i32_59
  let c1_i32_60 : BitVec 32 := 1#32
  let v174 : BitVec 32 := Scalar.divsi v172 c1_i32_60
  let v175 : BitVec 32 := Scalar.muli v174 c1_i32_60
  let v176 : BitVec 32 := Scalar.addi c0_i32_59 v175
  let c1_i32_62 : BitVec 32 := 1#32
  let arg14 : BitVec 32 := Scf.iv v176 c1_i32_62 k0_t4
  let c8_i32_86 : BitVec 32 := 8#32
  let v217 : BitVec 32 := Scalar.muli arg14 c8_i32_86
  let c256_i32_87 : BitVec 32 := 256#32
  let v218 : BitVec 32 := Scalar.muli v217 c256_i32_87
  v218
def k0_off11 (i : grid0.Coords) (k0_t4 : Fin (k0_t4_loop i).trips) : Fin 2 → Nat :=
  let c0_88 : Index := 0#32
  let c0_i32_59 : BitVec 32 := 0#32
  let c4_i32 : BitVec 32 := 4#32
  let arg2 : BitVec 32 := BitVec.ofNat 32 (i 2).val
  let v0 : BitVec 32 := Scalar.muli c4_i32 arg2
  let c0_i32_52 : BitVec 32 := 0#32
  let v156 : BitVec 1 := Scalar.cmpi .sgt v0 c0_i32_52
  let v157 : BitVec 32 := Scalar.extui v156
  let c0_i32_53 : BitVec 32 := 0#32
  let v158 : BitVec 1 := Scalar.cmpi .slt v0 c0_i32_53
  let v159 : BitVec 32 := Scalar.extui v158
  let v160 : BitVec 32 := Scalar.subi v157 v159
  let c8_i32_51 : BitVec 32 := 8#32
  let c0_i32_54 : BitVec 32 := 0#32
  let v161 : BitVec 1 := Scalar.cmpi .sgt c8_i32_51 c0_i32_54
  let v162 : BitVec 32 := Scalar.extui v161
  let c0_i32_55 : BitVec 32 := 0#32
  let v163 : BitVec 1 := Scalar.cmpi .slt c8_i32_51 c0_i32_55
  let v164 : BitVec 32 := Scalar.extui v163
  let v165 : BitVec 32 := Scalar.subi v162 v164
  let v166 : BitVec 1 := Scalar.cmpi .ne v160 v165
  let v167 : BitVec 32 := Scalar.remsi v0 c8_i32_51
  let c0_i32_56 : BitVec 32 := 0#32
  let v168 : BitVec 1 := Scalar.cmpi .ne v167 c0_i32_56
  let v169 : BitVec 1 := Scalar.andi v166 v168
  let v155 : BitVec 32 := Scalar.divsi v0 c8_i32_51
  let c1_i32_57 : BitVec 32 := 1#32
  let v170 : BitVec 32 := Scalar.subi v155 c1_i32_57
  let v171 : BitVec 32 := Scalar.select v169 v170 v155
  let v172 : BitVec 32 := Scalar.subi v171 c0_i32_59
  let c1_i32_60 : BitVec 32 := 1#32
  let v174 : BitVec 32 := Scalar.divsi v172 c1_i32_60
  let v175 : BitVec 32 := Scalar.muli v174 c1_i32_60
  let v176 : BitVec 32 := Scalar.addi c0_i32_59 v175
  let c1_i32_62 : BitVec 32 := 1#32
  let arg14 : BitVec 32 := Scf.iv v176 c1_i32_62 k0_t4
  let c8_i32_86 : BitVec 32 := 8#32
  let v217 : BitVec 32 := Scalar.muli arg14 c8_i32_86
  let c256_i32_87 : BitVec 32 := 256#32
  let v218 : BitVec 32 := Scalar.muli v217 c256_i32_87
  let v219 : BitVec 32 := v218
  let v220 : Index := Scalar.indexCast v219
  ![0, v220.toNat]
def k0_off12 (i : grid0.Coords) (k0_t4 : Fin (k0_t4_loop i).trips) : Fin 2 → Nat :=
  let c0_i32_59 : BitVec 32 := 0#32
  let c4_i32 : BitVec 32 := 4#32
  let arg2 : BitVec 32 := BitVec.ofNat 32 (i 2).val
  let v0 : BitVec 32 := Scalar.muli c4_i32 arg2
  let c0_i32_52 : BitVec 32 := 0#32
  let v156 : BitVec 1 := Scalar.cmpi .sgt v0 c0_i32_52
  let v157 : BitVec 32 := Scalar.extui v156
  let c0_i32_53 : BitVec 32 := 0#32
  let v158 : BitVec 1 := Scalar.cmpi .slt v0 c0_i32_53
  let v159 : BitVec 32 := Scalar.extui v158
  let v160 : BitVec 32 := Scalar.subi v157 v159
  let c8_i32_51 : BitVec 32 := 8#32
  let c0_i32_54 : BitVec 32 := 0#32
  let v161 : BitVec 1 := Scalar.cmpi .sgt c8_i32_51 c0_i32_54
  let v162 : BitVec 32 := Scalar.extui v161
  let c0_i32_55 : BitVec 32 := 0#32
  let v163 : BitVec 1 := Scalar.cmpi .slt c8_i32_51 c0_i32_55
  let v164 : BitVec 32 := Scalar.extui v163
  let v165 : BitVec 32 := Scalar.subi v162 v164
  let v166 : BitVec 1 := Scalar.cmpi .ne v160 v165
  let v167 : BitVec 32 := Scalar.remsi v0 c8_i32_51
  let c0_i32_56 : BitVec 32 := 0#32
  let v168 : BitVec 1 := Scalar.cmpi .ne v167 c0_i32_56
  let v169 : BitVec 1 := Scalar.andi v166 v168
  let v155 : BitVec 32 := Scalar.divsi v0 c8_i32_51
  let c1_i32_57 : BitVec 32 := 1#32
  let v170 : BitVec 32 := Scalar.subi v155 c1_i32_57
  let v171 : BitVec 32 := Scalar.select v169 v170 v155
  let v172 : BitVec 32 := Scalar.subi v171 c0_i32_59
  let c1_i32_60 : BitVec 32 := 1#32
  let v174 : BitVec 32 := Scalar.divsi v172 c1_i32_60
  let v175 : BitVec 32 := Scalar.muli v174 c1_i32_60
  let v176 : BitVec 32 := Scalar.addi c0_i32_59 v175
  let c1_i32_62 : BitVec 32 := 1#32
  let arg14 : BitVec 32 := Scf.iv v176 c1_i32_62 k0_t4
  let c8_i32_86 : BitVec 32 := 8#32
  let v217 : BitVec 32 := Scalar.muli arg14 c8_i32_86
  let c256_i32_87 : BitVec 32 := 256#32
  let v218 : BitVec 32 := Scalar.muli v217 c256_i32_87
  let v219 : BitVec 32 := v218
  let v320 : Index := Scalar.indexCast v219
  let c0_107 : Index := 0#32
  ![v320.toNat, 0]
def k0_cond3 (i : grid0.Coords) : BitVec 1 :=
  let c4_i32 : BitVec 32 := 4#32
  let arg2 : BitVec 32 := BitVec.ofNat 32 (i 2).val
  let v0 : BitVec 32 := Scalar.muli c4_i32 arg2
  let c0_i32_64 : BitVec 32 := 0#32
  let v178 : BitVec 1 := Scalar.cmpi .sgt v0 c0_i32_64
  let v179 : BitVec 32 := Scalar.extui v178
  let c0_i32_65 : BitVec 32 := 0#32
  let v180 : BitVec 1 := Scalar.cmpi .slt v0 c0_i32_65
  let v181 : BitVec 32 := Scalar.extui v180
  let v182 : BitVec 32 := Scalar.subi v179 v181
  let c4_i32_63 : BitVec 32 := 4#32
  let c0_i32_66 : BitVec 32 := 0#32
  let v183 : BitVec 1 := Scalar.cmpi .sgt c4_i32_63 c0_i32_66
  let v184 : BitVec 32 := Scalar.extui v183
  let c0_i32_67 : BitVec 32 := 0#32
  let v185 : BitVec 1 := Scalar.cmpi .slt c4_i32_63 c0_i32_67
  let v186 : BitVec 32 := Scalar.extui v185
  let v187 : BitVec 32 := Scalar.subi v184 v186
  let v188 : BitVec 1 := Scalar.cmpi .ne v182 v187
  let v189 : BitVec 32 := Scalar.remsi v0 c4_i32_63
  let c0_i32_68 : BitVec 32 := 0#32
  let v190 : BitVec 1 := Scalar.cmpi .ne v189 c0_i32_68
  let v191 : BitVec 1 := Scalar.andi v188 v190
  let v177 : BitVec 32 := Scalar.divsi v0 c4_i32_63
  let c1_i32_69 : BitVec 32 := 1#32
  let v192 : BitVec 32 := Scalar.subi v177 c1_i32_69
  let v193 : BitVec 32 := Scalar.select v191 v192 v177
  let c2_i32_70 : BitVec 32 := 2#32
  let c0_i32_71 : BitVec 32 := 0#32
  let v194 : BitVec 1 := Scalar.cmpi .eq c2_i32_70 c0_i32_71
  let c1_i32_72 : BitVec 32 := 1#32
  let v195 : BitVec 32 := Scalar.select v194 c1_i32_72 c2_i32_70
  let v196 : BitVec 32 := Scalar.remsi v193 v195
  let c0_i32_74 : BitVec 32 := 0#32
  let v198 : BitVec 1 := Scalar.cmpi .slt v196 c0_i32_74
  let c0_i32_75 : BitVec 32 := 0#32
  let v199 : BitVec 1 := Scalar.cmpi .slt v195 c0_i32_75
  let v200 : BitVec 1 := Scalar.xori v198 v199
  let c0_i32_73 : BitVec 32 := 0#32
  let v197 : BitVec 1 := Scalar.cmpi .ne v196 c0_i32_73
  let v201 : BitVec 1 := Scalar.andi v200 v197
  let v202 : BitVec 32 := Scalar.addi v196 v195
  let v203 : BitVec 32 := Scalar.select v201 v202 v196
  let c1_i32_76 : BitVec 32 := 1#32
  let v204 : BitVec 1 := Scalar.cmpi .eq v203 c1_i32_76
  let v205 : BitVec 32 := Scalar.extui v204
  let c0_i32_77 : BitVec 32 := 0#32
  let v206 : BitVec 1 := Scalar.cmpi .ne v205 c0_i32_77
  v206

def k0_mult11 (i : grid0.Coords) : BitVec 32 :=
  let c4_i32 : BitVec 32 := 4#32
  let arg2 : BitVec 32 := BitVec.ofNat 32 (i 2).val
  let v0 : BitVec 32 := Scalar.muli c4_i32 arg2
  let c0_i32_87 : BitVec 32 := 0#32
  let v218 : BitVec 1 := Scalar.cmpi .sgt v0 c0_i32_87
  let v219 : BitVec 32 := Scalar.extui v218
  let c0_i32_88 : BitVec 32 := 0#32
  let v220 : BitVec 1 := Scalar.cmpi .slt v0 c0_i32_88
  let v221 : BitVec 32 := Scalar.extui v220
  let v222 : BitVec 32 := Scalar.subi v219 v221
  let c8_i32_86 : BitVec 32 := 8#32
  let c0_i32_89 : BitVec 32 := 0#32
  let v223 : BitVec 1 := Scalar.cmpi .sgt c8_i32_86 c0_i32_89
  let v224 : BitVec 32 := Scalar.extui v223
  let c0_i32_90 : BitVec 32 := 0#32
  let v225 : BitVec 1 := Scalar.cmpi .slt c8_i32_86 c0_i32_90
  let v226 : BitVec 32 := Scalar.extui v225
  let v227 : BitVec 32 := Scalar.subi v224 v226
  let v228 : BitVec 1 := Scalar.cmpi .ne v222 v227
  let v229 : BitVec 32 := Scalar.remsi v0 c8_i32_86
  let c0_i32_91 : BitVec 32 := 0#32
  let v230 : BitVec 1 := Scalar.cmpi .ne v229 c0_i32_91
  let v231 : BitVec 1 := Scalar.andi v228 v230
  let v217 : BitVec 32 := Scalar.divsi v0 c8_i32_86
  let c1_i32_92 : BitVec 32 := 1#32
  let v232 : BitVec 32 := Scalar.subi v217 c1_i32_92
  let v233 : BitVec 32 := Scalar.select v231 v232 v217
  let c8_i32_93 : BitVec 32 := 8#32
  let v234 : BitVec 32 := Scalar.muli v233 c8_i32_93
  let c256_i32_94 : BitVec 32 := 256#32
  let v235 : BitVec 32 := Scalar.muli v234 c256_i32_94
  v235
def k0_off13 (i : grid0.Coords) : Fin 2 → Nat :=
  let c0_95 : Index := 0#32
  let c4_i32 : BitVec 32 := 4#32
  let arg2 : BitVec 32 := BitVec.ofNat 32 (i 2).val
  let v0 : BitVec 32 := Scalar.muli c4_i32 arg2
  let c0_i32_87 : BitVec 32 := 0#32
  let v218 : BitVec 1 := Scalar.cmpi .sgt v0 c0_i32_87
  let v219 : BitVec 32 := Scalar.extui v218
  let c0_i32_88 : BitVec 32 := 0#32
  let v220 : BitVec 1 := Scalar.cmpi .slt v0 c0_i32_88
  let v221 : BitVec 32 := Scalar.extui v220
  let v222 : BitVec 32 := Scalar.subi v219 v221
  let c8_i32_86 : BitVec 32 := 8#32
  let c0_i32_89 : BitVec 32 := 0#32
  let v223 : BitVec 1 := Scalar.cmpi .sgt c8_i32_86 c0_i32_89
  let v224 : BitVec 32 := Scalar.extui v223
  let c0_i32_90 : BitVec 32 := 0#32
  let v225 : BitVec 1 := Scalar.cmpi .slt c8_i32_86 c0_i32_90
  let v226 : BitVec 32 := Scalar.extui v225
  let v227 : BitVec 32 := Scalar.subi v224 v226
  let v228 : BitVec 1 := Scalar.cmpi .ne v222 v227
  let v229 : BitVec 32 := Scalar.remsi v0 c8_i32_86
  let c0_i32_91 : BitVec 32 := 0#32
  let v230 : BitVec 1 := Scalar.cmpi .ne v229 c0_i32_91
  let v231 : BitVec 1 := Scalar.andi v228 v230
  let v217 : BitVec 32 := Scalar.divsi v0 c8_i32_86
  let c1_i32_92 : BitVec 32 := 1#32
  let v232 : BitVec 32 := Scalar.subi v217 c1_i32_92
  let v233 : BitVec 32 := Scalar.select v231 v232 v217
  let c8_i32_93 : BitVec 32 := 8#32
  let v234 : BitVec 32 := Scalar.muli v233 c8_i32_93
  let c256_i32_94 : BitVec 32 := 256#32
  let v235 : BitVec 32 := Scalar.muli v234 c256_i32_94
  let v236 : BitVec 32 := v235
  let v237 : Index := Scalar.indexCast v236
  ![0, v237.toNat]
def k0_off14 (i : grid0.Coords) : Fin 2 → Nat :=
  let c4_i32 : BitVec 32 := 4#32
  let arg2 : BitVec 32 := BitVec.ofNat 32 (i 2).val
  let v0 : BitVec 32 := Scalar.muli c4_i32 arg2
  let c0_i32_87 : BitVec 32 := 0#32
  let v218 : BitVec 1 := Scalar.cmpi .sgt v0 c0_i32_87
  let v219 : BitVec 32 := Scalar.extui v218
  let c0_i32_88 : BitVec 32 := 0#32
  let v220 : BitVec 1 := Scalar.cmpi .slt v0 c0_i32_88
  let v221 : BitVec 32 := Scalar.extui v220
  let v222 : BitVec 32 := Scalar.subi v219 v221
  let c8_i32_86 : BitVec 32 := 8#32
  let c0_i32_89 : BitVec 32 := 0#32
  let v223 : BitVec 1 := Scalar.cmpi .sgt c8_i32_86 c0_i32_89
  let v224 : BitVec 32 := Scalar.extui v223
  let c0_i32_90 : BitVec 32 := 0#32
  let v225 : BitVec 1 := Scalar.cmpi .slt c8_i32_86 c0_i32_90
  let v226 : BitVec 32 := Scalar.extui v225
  let v227 : BitVec 32 := Scalar.subi v224 v226
  let v228 : BitVec 1 := Scalar.cmpi .ne v222 v227
  let v229 : BitVec 32 := Scalar.remsi v0 c8_i32_86
  let c0_i32_91 : BitVec 32 := 0#32
  let v230 : BitVec 1 := Scalar.cmpi .ne v229 c0_i32_91
  let v231 : BitVec 1 := Scalar.andi v228 v230
  let v217 : BitVec 32 := Scalar.divsi v0 c8_i32_86
  let c1_i32_92 : BitVec 32 := 1#32
  let v232 : BitVec 32 := Scalar.subi v217 c1_i32_92
  let v233 : BitVec 32 := Scalar.select v231 v232 v217
  let c8_i32_93 : BitVec 32 := 8#32
  let v234 : BitVec 32 := Scalar.muli v233 c8_i32_93
  let c256_i32_94 : BitVec 32 := 256#32
  let v235 : BitVec 32 := Scalar.muli v234 c256_i32_94
  let v236 : BitVec 32 := v235
  let v289 : Index := Scalar.indexCast v236
  let c0_106 : Index := 0#32
  ![v289.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel10Ideal.lean ====
variable {F : FTy → Type} [FloatOps F] [Named F]
def κ : String → Option EReal := fun
  | "mask" => some ⊤
  | "neg_mask" => some ⊥
  | "scale_log2e" => some (((Real.sqrt 128)⁻¹ * (Real.log 2)⁻¹ : ℝ) : EReal)
  | _ => none
-- ==== Reference10Ideal.lean ====
abbrev S8x4096x6144 : Shape := ⟨3, ![8, 4096, 6144]⟩
abbrev S8x4096x1024 : Shape := ⟨3, ![8, 4096, 1024]⟩
abbrev S8x4096x8x128 : Shape := ⟨4, ![8, 4096, 8, 128]⟩
abbrev S8x8x4096x128 : Shape := ⟨4, ![8, 8, 4096, 128]⟩
abbrev S4096 : Shape := ⟨1, ![4096]⟩
abbrev S_ : Shape := ⟨0, ![]⟩
abbrev S16 : Shape := ⟨1, ![16]⟩
abbrev S8x8x16x256x128 : Shape := ⟨5, ![8, 8, 16, 256, 128]⟩
abbrev S8x8x16x128 : Shape := ⟨4, ![8, 8, 16, 128]⟩
abbrev S8x8x4096x16 : Shape := ⟨4, ![8, 8, 4096, 16]⟩
abbrev S1x16 : Shape := ⟨2, ![1, 16]⟩
abbrev S4096x1 : Shape := ⟨2, ![4096, 1]⟩
abbrev S4096x16 : Shape := ⟨2, ![4096, 16]⟩
abbrev S8x8x4096x1x16 : Shape := ⟨5, ![8, 8, 4096, 1, 16]⟩
abbrev S8x8x4096x16x1 : Shape := ⟨5, ![8, 8, 4096, 16, 1]⟩
abbrev S8x8x4096x16x16 : Shape := ⟨5, ![8, 8, 4096, 16, 16]⟩
abbrev S16x1 : Shape := ⟨2, ![16, 1]⟩
abbrev S16x16 : Shape := ⟨2, ![16, 16]⟩
abbrev S1x1x1x16x16 : Shape := ⟨5, ![1, 1, 1, 16, 16]⟩
abbrev S1x1x4096x16 : Shape := ⟨4, ![1, 1, 4096, 16]⟩
abbrev S8x8x4096x16x256 : Shape := ⟨5, ![8, 8, 4096, 16, 256]⟩
abbrev S8x8x4096x4096 : Shape := ⟨4, ![8, 8, 4096, 4096]⟩
abbrev S1x4096 : Shape := ⟨2, ![1, 4096]⟩
abbrev S4096x4096 : Shape := ⟨2, ![4096, 4096]⟩
abbrev S1x1x4096x4096 : Shape := ⟨4, ![1, 1, 4096, 4096]⟩
abbrev S8x8x4096 : Shape := ⟨3, ![8, 8, 4096]⟩
abbrev S8x8x4096x1 : Shape := ⟨4, ![8, 8, 4096, 1]⟩

abbrev nBuf : Space → Nat
  | .hbm => 125
  | .vmem => 0
  | .smem => 0
  | _ => 0

abbrev bufTy : (tb : Table) → Fin (tcTables nBuf tb) → BufTy
  | .hbm, ⟨0, _⟩ => ⟨S8x4096x6144, .f32⟩
  | .hbm, ⟨1, _⟩ => ⟨S8x4096x1024, .f32⟩
  | .hbm, ⟨2, _⟩ => ⟨S8x4096x8x128, .f32⟩
  | .hbm, ⟨3, _⟩ => ⟨S8x8x4096x128, .f32⟩
  | .hbm, ⟨4, _⟩ => ⟨S8x4096x1024, .f32⟩
  | .hbm, ⟨5, _⟩ => ⟨S8x4096x8x128, .f32⟩
  | .hbm, ⟨6, _⟩ => ⟨S8x8x4096x128, .f32⟩
  | .hbm, ⟨7, _⟩ => ⟨S8x4096x1024, .f32⟩
  | .hbm, ⟨8, _⟩ => ⟨S8x4096x8x128, .f32⟩
  | .hbm, ⟨9, _⟩ => ⟨S8x8x4096x128, .f32⟩
  | .hbm, ⟨10, _⟩ => ⟨S4096, .i32⟩
  | .hbm, ⟨11, _⟩ => ⟨S_, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S16, .i32⟩
  | .hbm, ⟨30, _⟩ => ⟨S8x8x16x256x128, .f32⟩
  | .hbm, ⟨31, _⟩ => ⟨S_, .f32⟩
  | .hbm, ⟨32, _⟩ => ⟨S8x8x16x128, .f32⟩
  | .hbm, ⟨33, _⟩ => ⟨S_, .f32⟩
  | .hbm, ⟨34, _⟩ => ⟨S8x8x16x128, .f32⟩
  | .hbm, ⟨35, _⟩ => ⟨S8x8x16x128, .f32⟩
  | .hbm, ⟨36, _⟩ => ⟨S8x8x4096x16, .f32⟩
  | .hbm, ⟨37, _⟩ => ⟨S1x16, .i32⟩
  | .hbm, ⟨38, _⟩ => ⟨S4096x1, .i32⟩
  | .hbm, ⟨39, _⟩ => ⟨S4096x16, .i32⟩
  | .hbm, ⟨40, _⟩ => ⟨S4096x16, .i32⟩
  | .hbm, ⟨41, _⟩ => ⟨S4096x16, .i1⟩
  | .hbm, ⟨42, _⟩ => ⟨S_, .f32⟩
  | .hbm, ⟨43, _⟩ => ⟨S_, .f32⟩
  | .hbm, ⟨44, _⟩ => ⟨S8x8x4096x16, .i1⟩
  | .hbm, ⟨45, _⟩ => ⟨S8x8x4096x16, .f32⟩
  | .hbm, ⟨46, _⟩ => ⟨S8x8x4096x16, .f32⟩
  | .hbm, ⟨47, _⟩ => ⟨S8x8x4096x1x16, .f32⟩
  | .hbm, ⟨48, _⟩ => ⟨S8x8x4096x16x1, .f32⟩
  | .hbm, ⟨49, _⟩ => ⟨S8x8x4096x16x16, .f32⟩
  | .hbm, ⟨50, _⟩ => ⟨S8x8x4096x16x16, .f32⟩
  | .hbm, ⟨51, _⟩ => ⟨S8x8x4096x16x16, .i1⟩
  | .hbm, ⟨52, _⟩ => ⟨S8x8x4096x1x16, .f32⟩
  | .hbm, ⟨53, _⟩ => ⟨S8x8x4096x16x1, .f32⟩
  | .hbm, ⟨54, _⟩ => ⟨S8x8x4096x16x16, .f32⟩
  | .hbm, ⟨55, _⟩ => ⟨S8x8x4096x16x16, .f32⟩
  | .hbm, ⟨56, _⟩ => ⟨S8x8x4096x16x16, .i1⟩
  | .hbm, ⟨57, _⟩ => ⟨S1x16, .i32⟩
  | .hbm, ⟨58, _⟩ => ⟨S16x1, .i32⟩
  | .hbm, ⟨59, _⟩ => ⟨S16x16, .i32⟩
  | .hbm, ⟨60, _⟩ => ⟨S16x16, .i32⟩
  | .hbm, ⟨61, _⟩ => ⟨S16x16, .i1⟩
  | .hbm, ⟨62, _⟩ => ⟨S1x1x1x16x16, .i1⟩
  | .hbm, ⟨63, _⟩ => ⟨S8x8x4096x16x16, .i1⟩
  | .hbm, ⟨64, _⟩ => ⟨S8x8x4096x16x16, .i1⟩
  | .hbm, ⟨65, _⟩ => ⟨S8x8x4096x16x16, .i1⟩
  | .hbm, ⟨66, _⟩ => ⟨S_, .f32⟩
  | .hbm, ⟨67, _⟩ => ⟨S_, .f32⟩
  | .hbm, ⟨68, _⟩ => ⟨S8x8x4096x16x16, .f32⟩
  | .hbm, ⟨69, _⟩ => ⟨S8x8x4096x16x16, .f32⟩
  | .hbm, ⟨70, _⟩ => ⟨S8x8x4096x16x16, .f32⟩
  | .hbm, ⟨71, _⟩ => ⟨S8x8x4096x16x16, .f32⟩
  | .hbm, ⟨72, _⟩ => ⟨S_, .f32⟩
  | .hbm, ⟨73, _⟩ => ⟨S8x8x4096x16, .f32⟩
  | .hbm, ⟨74, _⟩ => ⟨S_, .f32⟩
  | .hbm, ⟨75, _⟩ => ⟨S8x8x4096x16, .f32⟩
  | .hbm, ⟨76, _⟩ => ⟨S8x8x4096x16, .i1⟩
  | .hbm, ⟨77, _⟩ => ⟨S1x1x4096x16, .i1⟩
  | .hbm, ⟨78, _⟩ => ⟨S8x8x4096x16, .i1⟩
  | .hbm, ⟨79, _⟩ => ⟨S8x8x4096x16, .i1⟩
  | .hbm, ⟨80, _⟩ => ⟨S1x16, .i32⟩
  | .hbm, ⟨81, _⟩ => ⟨S4096x1, .i32⟩
  | .hbm, ⟨82, _⟩ => ⟨S4096x16, .i32⟩
  | .hbm, ⟨83, _⟩ => ⟨S4096x16, .i32⟩
  | .hbm, ⟨84, _⟩ => ⟨S4096x16, .i1⟩
  | .hbm, ⟨85, _⟩ => ⟨S1x1x4096x16, .i1⟩
  | .hbm, ⟨86, _⟩ => ⟨S8x8x4096x16, .i1⟩
  | .hbm, ⟨87, _⟩ => ⟨S8x8x4096x16, .i1⟩
  | .hbm, ⟨88, _⟩ => ⟨S8x8x4096x16x256, .i1⟩
  | .hbm, ⟨89, _⟩ => ⟨S8x8x4096x4096, .i1⟩
  | .hbm, ⟨90, _⟩ => ⟨S1x4096, .i32⟩
  | .hbm, ⟨91, _⟩ => ⟨S4096x1, .i32⟩
  | .hbm, ⟨92, _⟩ => ⟨S4096x4096, .i32⟩
  | .hbm, ⟨93, _⟩ => ⟨S4096x4096, .i32⟩
  | .hbm, ⟨94, _⟩ => ⟨S4096x4096, .i1⟩
  | .hbm, ⟨95, _⟩ => ⟨S1x1x4096x4096, .i1⟩
  | .hbm, ⟨96, _⟩ => ⟨S8x8x4096x4096, .i1⟩
  | .hbm, ⟨97, _⟩ => ⟨S8x8x4096x4096, .i1⟩
  | .hbm, ⟨98, _⟩ => ⟨S8x8x4096x4096, .f32⟩
  | .hbm, ⟨99, _⟩ => ⟨S_, .f32⟩
  | .hbm, ⟨100, _⟩ => ⟨S_, .f32⟩
  | .hbm, ⟨101, _⟩ => ⟨S8x8x4096x4096, .f32⟩
  | .hbm, ⟨102, _⟩ => ⟨S8x8x4096x4096, .f32⟩
  | .hbm, ⟨103, _⟩ => ⟨S_, .f32⟩
  | .hbm, ⟨104, _⟩ => ⟨S_, .f32⟩
  | .hbm, ⟨105, _⟩ => ⟨S8x8x4096x4096, .f32⟩
  | .hbm, ⟨106, _⟩ => ⟨S8x8x4096x4096, .f32⟩
  | .hbm, ⟨107, _⟩ => ⟨S_, .f32⟩
  | .hbm, ⟨108, _⟩ => ⟨S8x8x4096, .f32⟩
  | .hbm, ⟨109, _⟩ => ⟨S_, .f32⟩
  | .hbm, ⟨110, _⟩ => ⟨S8x8x4096, .f32⟩
  | .hbm, ⟨111, _⟩ => ⟨S8x8x4096, .f32⟩
  | .hbm, ⟨112, _⟩ => ⟨S8x8x4096x1, .f32⟩
  | .hbm, ⟨113, _⟩ => ⟨S8x8x4096x4096, .f32⟩
  | .hbm, ⟨114, _⟩ => ⟨S8x8x4096x4096, .f32⟩
  | .hbm, ⟨115, _⟩ => ⟨S8x8x4096x4096, .f32⟩
  | .hbm, ⟨116, _⟩ => ⟨S_, .f32⟩
  | .hbm, ⟨117, _⟩ => ⟨S8x8x4096, .f32⟩
  | .hbm, ⟨118, _⟩ => ⟨S8x8x4096x1, .f32⟩
  | .hbm, ⟨119, _⟩ => ⟨S8x8x4096x4096, .f32⟩
  | .hbm, ⟨120, _⟩ => ⟨S8x8x4096x4096, .f32⟩
  | .hbm, ⟨121, _⟩ => ⟨S8x8x4096x128, .f32⟩
  | .hbm, ⟨122, _⟩ => ⟨S8x4096x8x128, .f32⟩
  | .hbm, ⟨123, _⟩ => ⟨S8x4096x1024, .f32⟩
  | .hbm, ⟨124, _⟩ => ⟨S8x4096x1024, .bf16⟩
  | _, _ => ⟨S8x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_cst_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_2 : Ref sig .tc := ⟨.hbm, 66, rfl⟩
abbrev main_cst_3 : Ref sig .tc := ⟨.hbm, 67, rfl⟩
abbrev main_call2_v0 : Ref sig .tc := ⟨.hbm, 68, rfl⟩
abbrev main_call2_v1 : Ref sig .tc := ⟨.hbm, 69, rfl⟩
abbrev main_v42 : Ref sig .tc := ⟨.hbm, 70, rfl⟩
abbrev main_v43 : Ref sig .tc := ⟨.hbm, 71, rfl⟩
abbrev main_cst_4 : Ref sig .tc := ⟨.hbm, 72, rfl⟩
abbrev main_v44 : Ref sig .tc := ⟨.hbm, 73, rfl⟩
abbrev main_cst_5 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_6 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_7 : Ref sig .tc := ⟨.hbm, 103, rfl⟩
abbrev main_call3_v0 : Ref sig .tc := ⟨.hbm, 104, rfl⟩
abbrev main_call3_v1 : Ref sig .tc := ⟨.hbm, 105, rfl⟩
abbrev main_v72 : Ref sig .tc := ⟨.hbm, 106, rfl⟩
abbrev main_cst_8 : Ref sig .tc := ⟨.hbm, 107, rfl⟩
abbrev main_v73 : Ref sig .tc := ⟨.hbm, 108, rfl⟩
abbrev main_cst_9 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_10 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩

abbrev nD : Nat := 1
abbrev τ : Topo := Topo.v7x

variable {F : FTy → Type} [FloatOps F]
-- ==== Proof.StickRun.lean ====
/-
  What one grid point of the stick-breaking attention leaves in its output block, as a term: the diagonal key block's
  step over a zero accumulator and a zero carry, then one step per earlier key block, nearest first. The pieces the run
  found are read back as these values; no arithmetic is done here.
-/
module

public import proofs.«01_k».proof.Proof.Gen.KernelIdeal.Value
public import Idealize.ShloMosaic.Lib.VecWindow
public import Idealize.ShloMosaic.Lib.LoopRemainder

@[expose] public section

set_option maxRecDepth 16384
set_option maxHeartbeats 1000000

noncomputable section

namespace Cert.Stick

open Cert.KernelIdeal Cert.KernelIdeal.Gen Idealize.ShloMosaic Idealize.ShloMosaic.TcCoe Idealize.SL.Sem Idealize.ShloMosaic.Tactic

variable {F : FTy → Type} [FloatOps F] [Named F]

/-- The accumulator and the carry of one query tile. -/
abbrev St (F : FTy → Type) := Vec F S512x128 .f32 × Vec F S512x128 .f32

/-- The query tile's own key block, as the kernel computes it. -/
def word60 (i : grid0.Coords) : BitVec 32 :=
  let v43 : BitVec 32 := Scalar.muli (BitVec.ofNat 32 (i 2).val) 512#32
  let v49 : BitVec 32 := Scalar.subi (Scalar.extui (Scalar.cmpi .sgt v43 0#32)) (Scalar.extui (Scalar.cmpi .slt v43 0#32))
  let v54 : BitVec 32 := Scalar.subi (Scalar.extui (Scalar.cmpi .sgt 512#32 0#32)) (Scalar.extui (Scalar.cmpi .slt 512#32 0#32))
  let v58 : BitVec 1 := Scalar.andi (Scalar.cmpi .ne v49 v54) (Scalar.cmpi .ne (Scalar.remsi v43 512#32) 0#32)
  let v44 : BitVec 32 := Scalar.divsi v43 512#32
  Scalar.select v58 (Scalar.subi v44 1#32) v44

/-- The first key position of the diagonal block's far and near halves, as words. -/
def wordFar (i : grid0.Coords) : BitVec 32 := Scalar.addi (Scalar.muli (word60 i) 512#32) 0#32
def wordNear (i : grid0.Coords) : BitVec 32 := Scalar.addi (Scalar.muli (word60 i) 512#32) 256#32

/-- The matrix of the suffix sums. -/
def suf : FVec F S256x256 .bf16 := k0_pay63 k0_pay62 (Scalar.ofBits .f32 0x3F800000#32)

/-- The step of the diagonal key block: keys at or after the query's position are masked. -/
def diagStep (i : grid0.Coords) (q : FVec F S512x128 .bf16) (u : FVec F S256x256 .bf16) (kn kf vn vf : Vec F S256x128 .bf16) (s : St F) : St F :=
  let v42 := k0_pay64 (BitVec.ofNat 32 (i 2).val)
  let v63 := wordNear i
  let v65 := wordFar i
  let v68 := k0_pay65 q kn
  let v75 := k0_pay68 q kn
  let v71 := k0_pay66 q kf
  let v97 := k0_pay75 v42 v63 v68 v75
  let v100 := k0_pay76 v42 v63 v68 v75
  let v123 := k0_pay83 v42 v65 v71
  let v126 := k0_pay84 v42 v65 v71
  let v127 := k0_pay85 v42 v65 v71
  (k0_pay1 (k0_pay94 u (k0_pay70 v68 (k0_pay67 q kn) v75) (k0_pay71 v42 v63) v97 v100 s.2)
      (k0_pay95 u v97 v100 (k0_pay79 v71) (k0_pay80 v42 v65) v123 v126 v127 s.2) s.1 vn vf,
    k0_pay93 u v97 v100 v123 v126 v127 s.2)

/-- The step of an earlier key block. -/
def pastStep (q : FVec F S512x128 .bf16) (u : FVec F S256x256 .bf16) (kn kf vn vf : Vec F S256x128 .bf16) (s : St F) : St F :=
  (k0_pay2 (k0_pay29 u (k0_pay9 q kn) (k0_pay12 q kn) (k0_pay13 q kn) s.2)
      (k0_pay30 u (k0_pay12 q kn) (k0_pay13 q kn) (k0_pay14 q kf) (k0_pay15 q kf) (k0_pay16 q kf) k0_pay17 s.2) s.1 vn vf,
    k0_pay28 u (k0_pay12 q kn) (k0_pay13 q kn) (k0_pay15 q kf) (k0_pay16 q kf) k0_pay17 s.2)

/-- The rows a loop trip reads of an array of all keys (or values). -/
def rows (K : Vec F S4096x128 .bf16) (off : Fin 2 → Nat) (inb : ∀ a, off a + S256x128.size a ≤ S4096x128.size a) : Vec F S256x128 .bf16 :=
  View.ld K (Rect.unit (s := S4096x128) off S256x128.size inb)

/-- The state before trip `k` of the loop over the earlier key blocks. -/
def loopSt (i : grid0.Coords) (q : FVec F S512x128 .bf16) (u : FVec F S256x256 .bf16) (K V : Vec F S4096x128 .bf16) (s : St F) : ℕ → St F
  | 0 => s
  | k + 1 => if h : k < (k0_t1_loop i).trips then
      pastStep q u (rows K (k0_off2 i ⟨k, h⟩ 256#32) (k0_off2_inb i ⟨k, h⟩ 1)) (rows K (k0_off2 i ⟨k, h⟩ 0#32) (k0_off2_inb i ⟨k, h⟩ 0))
        (rows V (k0_off2 i ⟨k, h⟩ 256#32) (k0_off2_inb i ⟨k, h⟩ 1)) (rows V (k0_off2 i ⟨k, h⟩ 0#32) (k0_off2_inb i ⟨k, h⟩ 0))
        (loopSt i q u K V s k)
    else loopSt i q u K V s k

/-- The state after the diagonal block. -/
def diagSt (i : grid0.Coords) (q : FVec F S512x128 .bf16) (K V : Vec F S4096x128 .bf16) : St F :=
  diagStep i q suf (rows K (k0_off1 i 256#32) (k0_off1_inb i 1)) (rows K (k0_off1 i 0#32) (k0_off1_inb i 0))
    (rows V (k0_off1 i 256#32) (k0_off1_inb i 1)) (rows V (k0_off1 i 0#32) (k0_off1_inb i 0)) (k0_pay60, k0_pay61)

/-- What a point leaves in its output block. -/
def pointOut (i : grid0.Coords) (x0 : Vec F S1x512x128 .bf16) (K V : Vec F S4096x128 .bf16) : Vec F S1x512x128 .bf16 :=
  k0_pay4 (loopSt i (k0_pay59 x0) suf K V (diagSt i (k0_pay59 x0) K V) (k0_t1_loop i).trips).1

theorem hz2 : (![0, 0] : Fin 2 → Nat) = fun _ => 0 := funext fun a => by fin_cases a <;> rfl
theorem hz3 : (![0, 0, 0] : Fin 3 → Nat) = fun _ => 0 := funext fun a => by fin_cases a <;> rfl

/-- One trip's pieces. -/
theorem trip_eq (𝒱 : Variants) (c : Dev nD) (bd : Option 𝒱.V) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S512x128 .f32) (harg9 : arg9.IsWhole) (arg10 : Memref sig .tc .vmem S512x128 .f32) (harg10 : arg10.IsWhole)
    (q : FVec F S512x128 .bf16) (u : FVec F S256x256 .bf16) (w : BitVec 32) (X7 : BufTy.Contents (Elt F) arg7.view.ty) (X8 : BufTy.Contents (Elt F) arg8.view.ty)
    (k : Fin (k0_t1_loop i).trips) (f9 : BufTy.Contents (Elt F) arg9.view.ty) (f10 : BufTy.Contents (Elt F) arg10.view.ty) :
    tripL_k0_t1 (F := F) 𝒱 c bd i arg3 harg3 arg4 harg4 arg5 harg5 arg6 harg6 arg7 harg7 arg8 harg8 arg9 harg9 arg10 harg10 q u w X7 X8 k f9 f10
      = ([⟨Rect.unit ![0, 0] S512x128.size inb_S512x128_S512x128_0_0, (pastStep q u
            (rows (arg7.view.read (Elt F) X7) (k0_off2 i k 256#32) (k0_off2_inb i k 1)) (rows (arg7.view.read (Elt F) X7) (k0_off2 i k 0#32) (k0_off2_inb i k 0))
            (rows (arg8.view.read (Elt F) X8) (k0_off2 i k 256#32) (k0_off2_inb i k 1)) (rows (arg8.view.read (Elt F) X8) (k0_off2 i k 0#32) (k0_off2_inb i k 0))
            (arg9.view.read (Elt F) f9, arg10.view.read (Elt F) f10)).1⟩],
         [⟨Rect.unit ![0, 0] S512x128.size inb_S512x128_S512x128_0_0, (pastStep q u
            (rows (arg7.view.read (Elt F) X7) (k0_off2 i k 256#32) (k0_off2_inb i k 1)) (rows (arg7.view.read (Elt F) X7) (k0_off2 i k 0#32) (k0_off2_inb i k 0))
            (rows (arg8.view.read (Elt F) X8) (k0_off2 i k 256#32) (k0_off2_inb i k 1)) (rows (arg8.view.read (Elt F) X8) (k0_off2 i k 0#32) (k0_off2_inb i k 0))
            (arg9.view.read (Elt F) f9, arg10.view.read (Elt F) f10)).2⟩]) := by
  unfold tripL_k0_t1 trip_k0_t1
  dsimp only
  sl_unfold_words
  unfold pastStep rows
  dsimp only
  simp only [View.readAt_eq_ld]
  rw [View.ld_unit_zero (S := S512x128) hz2, View.ld_unit_zero (S := S512x128) hz2]

/-- The loop's pieces read back: the state by recursion on the trip. -/
theorem loop_read (𝒱 : Variants) (c : Dev nD) (bd : Option 𝒱.V) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S512x128 .f32) (harg9 : arg9.IsWhole) (arg10 : Memref sig .tc .vmem S512x128 .f32) (harg10 : arg10.IsWhole)
    (q : FVec F S512x128 .bf16) (u : FVec F S256x256 .bf16) (w : BitVec 32) (X7 : BufTy.Contents (Elt F) arg7.view.ty) (X8 : BufTy.Contents (Elt F) arg8.view.ty)
    (G9 : BufTy.Contents (Elt F) arg9.view.ty) (G10 : BufTy.Contents (Elt F) arg10.view.ty) (k : ℕ) (hk : k ≤ (k0_t1_loop i).trips) :
    (arg9.view.read (Elt F) (arg9.view.writes (Elt F) G9 (pb_k0_t1 (F := F) 𝒱 c bd i arg3 harg3 arg4 harg4 arg5 harg5 arg6 harg6 arg7 harg7 arg8 harg8 arg9 harg9 arg10 harg10 q u w X7 X8 G9 G10 k).1),
      arg10.view.read (Elt F) (arg10.view.writes (Elt F) G10 (pb_k0_t1 (F := F) 𝒱 c bd i arg3 harg3 arg4 harg4 arg5 harg5 arg6 harg6 arg7 harg7 arg8 harg8 arg9 harg9 arg10 harg10 q u w X7 X8 G9 G10 k).2))
      = loopSt i q u (arg7.view.read (Elt F) X7) (arg8.view.read (Elt F) X8) (arg9.view.read (Elt F) G9, arg10.view.read (Elt F) G10) k := by
  induction k with
  | zero => rfl
  | succ k ih =>
    have hk' : k < (k0_t1_loop i).trips := hk
    rw [loopSt, dif_pos hk', ← ih hk'.le]
    rw [pb_k0_t1_succ 𝒱 c bd i arg3 harg3 arg4 harg4 arg5 harg5 arg6 harg6 arg7 harg7 arg8 harg8 arg9 harg9 arg10 harg10 q u w X7 X8 G9 G10 ⟨k, hk'⟩]
    rw [trip_eq]
    dsimp only
    rw [List.singleton_append, List.singleton_append, View.read_writes_full, View.read_writes_full]

/-- What the point reads back of the accumulator after both loops; the second makes no trip. -/
theorem tail_read (𝒱 : Variants) (c : Dev nD) (bd : Option 𝒱.V) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S512x128 .f32) (harg9 : arg9.IsWhole) (arg10 : Memref sig .tc .vmem S512x128 .f32) (harg10 : arg10.IsWhole)
    (q : FVec F S512x128 .bf16) (u : FVec F S256x256 .bf16) (w w' : BitVec 32) (X7 : BufTy.Contents (Elt F) arg7.view.ty) (X8 : BufTy.Contents (Elt F) arg8.view.ty)
    (L9 L10 : List (View.Piece (Elt F) S512x128 .f32)) (G9 : BufTy.Contents (Elt F) arg9.view.ty) (G10 : BufTy.Contents (Elt F) arg10.view.ty) :
    arg9.view.readCov ((pb_k0_t2 (F := F) 𝒱 c bd i arg3 harg3 arg4 harg4 arg5 harg5 arg6 harg6 arg7 harg7 arg8 harg8 arg9 harg9 arg10 harg10 q u w w' X7 X8 G9 G10 (Scf.trips (k0_t2_loop i).lb (k0_t2_loop i).ub (k0_t2_loop i).st)).1
        ++ ((pb_k0_t1 (F := F) 𝒱 c bd i arg3 harg3 arg4 harg4 arg5 harg5 arg6 harg6 arg7 harg7 arg8 harg8 arg9 harg9 arg10 harg10 q u w X7 X8 (arg9.view.writes (Elt F) arg9.view.junk L9) (arg10.view.writes (Elt F) arg10.view.junk L10)
            (Scf.trips (k0_t1_loop i).lb (k0_t1_loop i).ub (k0_t1_loop i).st)).1 ++ L9))
        (Rect.unit ![0, 0] S512x128.size inb_S512x128_S512x128_0_0).toLoadRect
      = (loopSt i q u (arg7.view.read (Elt F) X7) (arg8.view.read (Elt F) X8)
          (arg9.view.read (Elt F) (arg9.view.writes (Elt F) arg9.view.junk L9), arg10.view.read (Elt F) (arg10.view.writes (Elt F) arg10.view.junk L10))
          (k0_t1_loop i).trips).1 := by
  have h2 : Scf.trips (k0_t2_loop i).lb (k0_t2_loop i).ub (k0_t2_loop i).st = 0 := Scf.rem_trips _ _
  rw [h2]
  unfold View.readCov
  rw [View.readAt_full, View.writes_append, View.writes_append]
  exact congrArg Prod.fst (loop_read 𝒱 c bd i arg3 harg3 arg4 harg4 arg5 harg5 arg6 harg6 arg7 harg7 arg8 harg8 arg9 harg9 arg10 harg10 q u w X7 X8 _ _ _ le_rfl)

theorem word_B (i : grid0.Coords) : kernelRun0_B.sl.v62 i = wordNear i ∧ kernelRun0_B.sl.v64 i = wordFar i := ⟨rfl, rfl⟩
theorem word_A (i : grid0.Coords) : kernelRun0_A.sl.v62 i = wordNear i ∧ kernelRun0_A.sl.v64 i = wordFar i := ⟨rfl, rfl⟩

theorem zero_A (c : Dev nD) (arg : Memref sig .tc .vmem S512x128 .f32) : kernelRun0_A.sl.v134 (F := F) c arg = k0_pay61 ∧ kernelRun0_A.sl.v170 (F := F) c arg = k0_pay60 := by
  constructor
  · unfold kernelRun0_A.sl.v134 kernelRun0_A.sl.HS3_1
    exact View.readCov_full (s := S512x128) arg.view inb_S512x128_S512x128_0_0 inb_S512x128_S512x128_0_0 _ []
  · unfold kernelRun0_A.sl.v170 kernelRun0_A.sl.HS2_1
    exact View.readCov_full (s := S512x128) arg.view inb_S512x128_S512x128_0_0 inb_S512x128_S512x128_0_0 _ []
theorem zero_B (c : Dev nD) (arg : Memref sig .tc .vmem S512x128 .f32) : kernelRun0_B.sl.v134 (F := F) c arg = k0_pay61 ∧ kernelRun0_B.sl.v170 (F := F) c arg = k0_pay60 := by
  constructor
  · unfold kernelRun0_B.sl.v134 kernelRun0_B.sl.HS3_1
    exact View.readCov_full (s := S512x128) arg.view inb_S512x128_S512x128_0_0 inb_S512x128_S512x128_0_0 _ []
  · unfold kernelRun0_B.sl.v170 kernelRun0_B.sl.HS2_1
    exact View.readCov_full (s := S512x128) arg.view inb_S512x128_S512x128_0_0 inb_S512x128_S512x128_0_0 _ []

/-- Where the keys were kept from an earlier point. -/
theorem out_B (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S512x128 .f32) (harg9 : arg9.IsWhole) (arg10 : Memref sig .tc .vmem S512x128 .f32) (harg10 : arg10.IsWhole) (hc0 : ¬cond0_0 i)
    (x0 : Vec F S1x512x128 .bf16) (x1 : Vec F S1x4096x128 .bf16) (x2 : Vec F S1x4096x128 .bf16) (xs0 : Vec F S4096x128 .bf16) (xs1 : Vec F S4096x128 .bf16) :
    out0_B_3 c i arg3 harg3 arg4 harg4 arg5 harg5 arg6 harg6 arg7 harg7 arg8 harg8 arg9 harg9 arg10 harg10 hc0 x0 x1 x2 xs0 xs1 = pointOut i x0 xs0 xs1 := by
  unfold out0_B_3
  rw [View.read_writes_eq_canon _ _ _ (cover0_B_3 c i arg3 harg3 arg4 harg4 arg5 harg5 arg6 harg6 arg7 harg7 arg8 harg8 arg9 harg9 arg10 harg10 hc0 x0 x1 x2 xs0 xs1)]
  unfold kernelRun0_B
  dsimp only
  refine (View.canon_unit_zero hz3 _ _).trans ?_
  unfold pointOut
  refine congrArg k0_pay4 ?_
  refine (tail_read Variants.none c none i arg3 harg3 arg4 harg4 arg5 harg5 arg6 harg6 arg7 harg7 arg8 harg8 arg9 harg9 arg10 harg10 _ _ _ _ _ _ _ _ _ _).trans ?_
  unfold kernelRun0_B.sl.HS2_2 kernelRun0_B.sl.HS3_2
  rw [View.read_writes_full, View.read_writes_full, harg7.read_unread, harg8.read_unread]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, zero_B, word_B, kernelRun0_B.sl.cst_13,
    View.readAt_eq_ld, harg3.read_unread, harg7.read_unread, harg8.read_unread, View.readCov_full, View.ld_unit_zero (S := S1x512x128) hz3]
  simp only [diagSt, diagStep, rows, suf, Scalar.ofBits]

/-- Where the point stores the keys first. -/
theorem out_A (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S512x128 .f32) (harg9 : arg9.IsWhole) (arg10 : Memref sig .tc .vmem S512x128 .f32) (harg10 : arg10.IsWhole) (hc0 : cond0_0 i)
    (x0 : Vec F S1x512x128 .bf16) (x1 : Vec F S1x4096x128 .bf16) (x2 : Vec F S1x4096x128 .bf16) :
    out0_A_3 c i arg3 harg3 arg4 harg4 arg5 harg5 arg6 harg6 arg7 harg7 arg8 harg8 arg9 harg9 arg10 harg10 hc0 x0 x1 x2 = pointOut i x0 (k0_pay57 x1) (k0_pay58 x2) := by
  unfold out0_A_3
  rw [View.read_writes_eq_canon _ _ _ (cover0_A_3 c i arg3 harg3 arg4 harg4 arg5 harg5 arg6 harg6 arg7 harg7 arg8 harg8 arg9 harg9 arg10 harg10 hc0 x0 x1 x2)]
  unfold kernelRun0_A
  dsimp only
  refine (View.canon_unit_zero hz3 _ _).trans ?_
  unfold pointOut
  refine congrArg k0_pay4 ?_
  refine (tail_read Variants.none c none i arg3 harg3 arg4 harg4 arg5 harg5 arg6 harg6 arg7 harg7 arg8 harg8 arg9 harg9 arg10 harg10 _ _ _ _ _ _ _ _ _ _).trans ?_
  have e7 : arg7.view.read (Elt F) (arg7.view.writes (Elt F) arg7.view.junk (kernelRun0_A.sl.HS0_1 c arg4 harg4 x1)) = k0_pay57 x1 := by
    unfold kernelRun0_A.sl.HS0_1
    rw [View.read_writes_full, View.readAt_eq_ld, harg4.read_unread, View.ld_unit_zero (S := S1x4096x128) hz3]
  have e8 : arg8.view.read (Elt F) (arg8.view.writes (Elt F) arg8.view.junk (kernelRun0_A.sl.HS1_1 c arg5 harg5 x2)) = k0_pay58 x2 := by
    unfold kernelRun0_A.sl.HS1_1
    rw [View.read_writes_full, View.readAt_eq_ld, harg5.read_unread, View.ld_unit_zero (S := S1x4096x128) hz3]
  unfold kernelRun0_A.sl.HS2_2 kernelRun0_A.sl.HS3_2
  rw [View.read_writes_full arg9.view, View.read_writes_full arg10.view]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, zero_A, word_A, kernelRun0_A.sl.cst_13, kernelRun0_A.sl.v67, kernelRun0_A.sl.v70, kernelRun0_A.sl.v172, kernelRun0_A.sl.v177,
    View.readAt_eq_ld, harg3.read_unread, e7, e8, View.readCov_full, View.ld_unit_zero (S := S1x512x128) hz3]
  simp only [diagSt, diagStep, rows, suf, Scalar.ofBits]

theorem sout_A_0 (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S512x128 .f32) (harg9 : arg9.IsWhole) (arg10 : Memref sig .tc .vmem S512x128 .f32) (harg10 : arg10.IsWhole) (hc0 : cond0_0 i)
    (x0 : Vec F S1x512x128 .bf16) (x1 : Vec F S1x4096x128 .bf16) (x2 : Vec F S1x4096x128 .bf16) :
    sout0_A_0 c i arg3 harg3 arg4 harg4 arg5 harg5 arg6 harg6 arg7 harg7 arg8 harg8 arg9 harg9 arg10 harg10 hc0 x0 x1 x2 = k0_pay57 x1 := by
  unfold sout0_A_0
  rw [View.read_writes_eq_canon _ _ _ (scover0_A_0 c i arg3 harg3 arg4 harg4 arg5 harg5 arg6 harg6 arg7 harg7 arg8 harg8 arg9 harg9 arg10 harg10 hc0 x0 x1 x2)]
  unfold kernelRun0_A
  dsimp only
  sl_unfold_words
  rw [View.canon_unit_zero hz2]
  simp only [View.readAt_eq_ld, harg4.read_unread, View.ld_unit_zero (S := S1x4096x128) hz3]

theorem sout_A_1 (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S512x128 .f32) (harg9 : arg9.IsWhole) (arg10 : Memref sig .tc .vmem S512x128 .f32) (harg10 : arg10.IsWhole) (hc0 : cond0_0 i)
    (x0 : Vec F S1x512x128 .bf16) (x1 : Vec F S1x4096x128 .bf16) (x2 : Vec F S1x4096x128 .bf16) :
    sout0_A_1 c i arg3 harg3 arg4 harg4 arg5 harg5 arg6 harg6 arg7 harg7 arg8 harg8 arg9 harg9 arg10 harg10 hc0 x0 x1 x2 = k0_pay58 x2 := by
  unfold sout0_A_1
  rw [View.read_writes_eq_canon _ _ _ (scover0_A_1 c i arg3 harg3 arg4 harg4 arg5 harg5 arg6 harg6 arg7 harg7 arg8 harg8 arg9 harg9 arg10 harg10 hc0 x0 x1 x2)]
  unfold kernelRun0_A
  dsimp only
  sl_unfold_words
  rw [View.canon_unit_zero hz2]
  simp only [View.readAt_eq_ld, harg5.read_unread, View.ld_unit_zero (S := S1x4096x128) hz3]

end Cert.Stick

end
-- ==== Proof.StickMath.lean ====
/-
  The real numbers behind the stick-breaking attention: the softplus as kernel and reference each write it, the weight of a
  key, and sums over consecutive key blocks.
-/
module

public import Idealize.ShloMosaic.Lib.Pointwise

@[expose] public section

noncomputable section

namespace Cert.Stick

open Idealize.ShloMosaic

/-- One over the square root of the head's width. -/
def sc : ℝ := (Real.sqrt 128)⁻¹

/-- log (1 + exp x), written so that the exponential stays small. -/
def sp (x : ℝ) : ℝ := max x 0 + Real.log (1 + Real.exp (-|x|))

theorem sc_pos : 0 < sc := by unfold sc; positivity

theorem coe_max (a b : ℝ) : max (a : EReal) (b : EReal) = ((max a b : ℝ) : EReal) :=
  (Monotone.map_max (f := fun r : ℝ => (r : EReal)) (fun _ _ h => EReal.coe_le_coe_iff.mpr h)).symm

theorem coe_abs (a : ℝ) : max (a : EReal) (-(a : EReal)) = ((|a| : ℝ) : EReal) := by
  rw [← EReal.coe_neg, coe_max]; rfl

theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem sp_neg (x : ℝ) : sp (-x) = sp x - x := by
  unfold sp
  rw [abs_neg]
  have : max (-x) 0 = max x 0 - x := by
    rcases le_total x 0 with h | h
    · rw [max_eq_left (by linarith), max_eq_right h]; ring
    · rw [max_eq_right (by linarith), max_eq_left h]; ring
  rw [this]; ring

/-- An exponential to base 2 of a multiple of 1 / log 2. -/
theorem exp2_log2e (x : ℝ) : Ideal.exp2 (((x * (Real.log 2)⁻¹ : ℝ) : EReal)) = ((Real.exp x : ℝ) : EReal) := by
  rw [Ideal.exp2_coe]
  congr 1
  have h2 : Real.log 2 ≠ 0 := (Real.log_pos (by norm_num)).ne'
  change (2 : ℝ) ^ (x * (Real.log 2)⁻¹) = _
  rw [Real.rpow_def_of_pos (by norm_num)]
  congr 1
  field_simp

/-- The softplus as the kernel writes it. -/
theorem kernel_sp (x : ℝ) :
    max ((x : EReal) * ((sc : ℝ) : EReal)) 0 + Ideal.log (1 + Ideal.exp2 (max (x : EReal) (-(x : EReal)) * (((-(sc * (Real.log 2)⁻¹) : ℝ)) : EReal)))
      = ((sp (x * sc) : ℝ) : EReal) := by
  rw [coe_abs, ← EReal.coe_mul, ← EReal.coe_mul,
    show |x| * -(sc * (Real.log 2)⁻¹) = (-|x * sc|) * (Real.log 2)⁻¹ by rw [abs_mul, abs_of_pos sc_pos]; ring, exp2_log2e]
  rw [← EReal.coe_zero, coe_max, ← EReal.coe_one, ← EReal.coe_add, Ideal.log_coe, if_neg (not_le.mpr (by positivity)), ← EReal.coe_add]
  rfl

/-- The logarithm of the sigmoid as the reference writes it. -/
theorem host_sp (x : ℝ) :
    max (x : EReal) 0 + Ideal.log1p (Ideal.exp (-(max (x : EReal) (-(x : EReal))))) = ((sp x : ℝ) : EReal) := by
  unfold Ideal.log1p
  rw [coe_abs, ← EReal.coe_neg, Ideal.exp_coe, ← EReal.coe_zero, coe_max, ← EReal.coe_one, ← EReal.coe_add, Ideal.log_coe,
    if_neg (not_le.mpr (by positivity)), ← EReal.coe_add]
  rfl

/-- The mass of key `j` for the query at `n`: nothing at or after the query. -/
def mass (z : ℕ → ℝ) (n j : ℕ) : ℝ := if j < n then sp (z j) else 0

/-- The masses of the keys from `a` on. -/
def tail (z : ℕ → ℝ) (n a : ℕ) : ℝ := ∑ j ∈ Finset.Ico a 4096, mass z n j

/-- The weight of key `j` for the query at `n`. -/
def wt (z : ℕ → ℝ) (n j : ℕ) : ℝ := if j < n then Real.exp (z j - sp (z j) - tail z n (j + 1)) else 0

/-- The weighted values of the keys from `a` on. -/
def accum (z : ℕ → ℝ) (n : ℕ) (v : ℕ → EReal) (a : ℕ) : EReal := ∑ j ∈ Finset.Ico a 4096, ((wt z n j : ℝ) : EReal) * v j

theorem fin_sum_Ico {M : Type*} [AddCommMonoid M] (f : ℕ → M) (b m : ℕ) : ∑ c : Fin m, f (b + c) = ∑ j ∈ Finset.Ico b (b + m), f j := by
  rw [Finset.sum_Ico_eq_sum_range, Nat.add_sub_cancel_left]
  exact Fin.sum_univ_eq_sum_range (fun j => f (b + j)) m

theorem tail_split (z : ℕ → ℝ) (n a b : ℕ) (h : a ≤ b) (hb : b ≤ 4096) : tail z n a = ∑ j ∈ Finset.Ico a b, mass z n j + tail z n b :=
  (Finset.sum_Ico_consecutive _ h hb).symm

theorem accum_split (z : ℕ → ℝ) (n : ℕ) (v : ℕ → EReal) (a b : ℕ) (h : a ≤ b) (hb : b ≤ 4096) :
    accum z n v a = ∑ j ∈ Finset.Ico a b, ((wt z n j : ℝ) : EReal) * v j + accum z n v b :=
  (Finset.sum_Ico_consecutive _ h hb).symm

theorem tail_zero (z : ℕ → ℝ) (n a : ℕ) (h : n ≤ a) : tail z n a = 0 :=
  Finset.sum_eq_zero fun j hj => if_neg (by have := (Finset.mem_Ico.mp hj).1; omega)

theorem accum_zero (z : ℕ → ℝ) (n : ℕ) (v : ℕ → EReal) (a : ℕ) (h : n ≤ a) : accum z n v a = 0 :=
  Finset.sum_eq_zero fun j hj => by
    unfold wt
    rw [if_neg (by have := (Finset.mem_Ico.mp hj).1; omega), EReal.coe_zero, zero_mul]

/-- The masses after key `c` of a run of `m` keys from `b` on. -/
theorem suffix_sum (f : ℕ → ℝ) (b m c : ℕ) (hc : c < m) : (∑ k : Fin m, if c < k.1 then f (b + k) else 0) = ∑ j ∈ Finset.Ico (b + c + 1) (b + m), f j := by
  have e : (∑ k : Fin m, if c < k.1 then f (b + k) else 0) = ∑ k : Fin m, (fun j => if b + c < j then f j else 0) (b + k) :=
    Finset.sum_congr rfl fun k _ => by simp
  rw [e, fin_sum_Ico (fun j => if b + c < j then f j else 0) b m]
  rw [← Finset.sum_Ico_consecutive _ (show b ≤ b + c + 1 by omega) (show b + c + 1 ≤ b + m by omega)]
  rw [Finset.sum_eq_zero (fun j hj => if_neg (by have := (Finset.mem_Ico.mp hj).2; omega)), zero_add]
  exact Finset.sum_congr rfl fun j hj => if_pos (by have := (Finset.mem_Ico.mp hj).1; omega)

end Cert.Stick

end
-- ==== Proof.StickPay.lean ====
/-
  The step of the kernel at an element: masses, suffix sums by the dot with the suffix matrix, weights, the new carry and the
  new accumulator, for a block of keys whose products with the queries are real numbers.
-/
module

public import proofs.«01_k».proof.Proof.StickRun
public import proofs.«01_k».proof.Proof.StickMath
public import Idealize.ShloMosaic.Lib.Pointwise
public import Idealize.ShloMosaic.Lib.WordCmp

@[expose] public section

set_option maxRecDepth 16384

noncomputable section

namespace Cert.Stick

open Cert.KernelIdeal Cert.KernelIdeal.Gen Idealize.ShloMosaic Idealize.ShloMosaic.TcCoe Idealize.SL.Sem Idealize.ShloMosaic.Tactic

theorem named_scale : (Named.named κ "scale" 0x3DB504F3#32 : Ideal .f32) = ((sc : ℝ) : EReal) :=
  IdealRules.named_const.ideal_named_scalar _ _ _ _ rfl
theorem named_log2e : (Named.named κ "log2e" 0x3FB8AA3B#32 : Ideal .f32) = (((Real.log 2)⁻¹ : ℝ) : EReal) :=
  IdealRules.named_const.ideal_named_scalar _ _ _ _ rfl
theorem named_neg : (Named.named κ "neg_scale_log2e" 0xBE0293EE#32 : Ideal .f32) = ((-(sc * (Real.log 2)⁻¹) : ℝ) : EReal) :=
  IdealRules.named_const.ideal_named_scalar _ _ _ _ rfl

/-! ### The words -/

theorem i2_lt (i : grid0.Coords) : (i 2).val < 8 := (i 2).isLt

theorem wordNear_eq (i : grid0.Coords) : wordNear i = BitVec.ofNat 32 (512 * (i 2).val + 256) := by
  have h := i2_lt i
  unfold wordNear word60
  generalize (i 2).val = v at h ⊢
  interval_cases v <;> decide +kernel

theorem wordFar_eq (i : grid0.Coords) : wordFar i = BitVec.ofNat 32 (512 * (i 2).val) := by
  have h := i2_lt i
  unfold wordFar word60
  generalize (i 2).val = v at h ⊢
  interval_cases v <;> decide +kernel

theorem trips_eq (i : grid0.Coords) : (k0_t1_loop i).trips = (i 2).val := by
  have h := i2_lt i
  unfold k0_t1_loop
  generalize (i 2).val = v at h ⊢
  interval_cases v <;> decide +kernel

theorem off1_near (i : grid0.Coords) : k0_off1 i 256#32 0 = 512 * (i 2).val + 256 ∧ k0_off1 i 256#32 1 = 0 := by
  have h := i2_lt i
  unfold k0_off1
  generalize (i 2).val = v at h ⊢
  interval_cases v <;> decide +kernel

theorem off1_far (i : grid0.Coords) : k0_off1 i 0#32 0 = 512 * (i 2).val ∧ k0_off1 i 0#32 1 = 0 := by
  have h := i2_lt i
  unfold k0_off1
  generalize (i 2).val = v at h ⊢
  interval_cases v <;> decide +kernel

theorem off2_near (i : grid0.Coords) (k : Fin (k0_t1_loop i).trips) :
    k0_off2 i k 256#32 0 = 512 * ((i 2).val - 1 - k.val) + 256 ∧ k0_off2 i k 256#32 1 = 0 := by
  have h := i2_lt i
  have hk : k.val < (i 2).val := trips_eq i ▸ k.isLt
  unfold k0_off2
  generalize k.val = κ at hk ⊢
  generalize (i 2).val = v at h hk ⊢
  interval_cases v <;> interval_cases κ <;> decide +kernel

theorem off2_far (i : grid0.Coords) (k : Fin (k0_t1_loop i).trips) :
    k0_off2 i k 0#32 0 = 512 * ((i 2).val - 1 - k.val) ∧ k0_off2 i k 0#32 1 = 0 := by
  have h := i2_lt i
  have hk : k.val < (i 2).val := trips_eq i ▸ k.isLt
  unfold k0_off2
  generalize k.val = κ at hk ⊢
  generalize (i 2).val = v at h hk ⊢
  interval_cases v <;> interval_cases κ <;> decide +kernel

/-- A key's position against a query's, as words. -/
theorem mask_eq (i : grid0.Coords) (b : ℕ) (hb : b ≤ 3840) (r : Fin 512) (c : Fin 256) (x y : EReal) :
    Scalar.select (IntOp.cmpi .slt (IntOp.addi (BitVec.ofNat 32 b) (BitVec.ofNat 32 c.val))
      (IntOp.addi (Scalar.muli (BitVec.ofNat 32 (i 2).val) 512#32) (BitVec.ofNat 32 r.val))) x y
      = if b + c.val < 512 * (i 2).val + r.val then x else y := by
  have h := i2_lt i
  have hr := r.isLt
  have hc := c.isLt
  have e1 : IntOp.addi (BitVec.ofNat 32 b) (BitVec.ofNat 32 c.val) = BitVec.ofNat 32 (b + c.val) := (BitVec.ofNat_add _ _).symm
  have e2 : IntOp.addi (Scalar.muli (BitVec.ofNat 32 (i 2).val) 512#32) (BitVec.ofNat 32 r.val) = BitVec.ofNat 32 (512 * (i 2).val + r.val) := by
    rw [BitVec.ofNat_add, mul_comm, BitVec.ofNat_mul]; rfl
  rw [e1, e2, WordCmp.cmpi_slt_ofNat (by norm_num; omega) (by norm_num; omega)]
  by_cases hh : b + c.val < 512 * (i 2).val + r.val <;> simp [hh, Scalar.select]

/-! ### The suffix matrix -/

theorem rem_eq (k : Fin 256) :
    Scalar.select (IntOp.andi (IntOp.xori (IntOp.cmpi .slt (IntOp.remsi .vector (BitVec.ofNat 32 k.val) 128#32) 0#32) 0#1)
        (IntOp.cmpi .ne (IntOp.remsi .vector (BitVec.ofNat 32 k.val) 128#32) 0#32))
      (IntOp.addi (IntOp.remsi .vector (BitVec.ofNat 32 k.val) 128#32) 128#32) (IntOp.remsi .vector (BitVec.ofNat 32 k.val) 128#32)
      = BitVec.ofNat 32 (k.val % 128) := by
  revert k; decide +kernel

theorem suf_apply (k c : Fin 256) : suf (F := Ideal) (ix2 k c) = if 128 ≤ c.val ∨ c.val < k.val % 128 then 1 else 0 := by
  unfold suf k0_pay63 k0_pay62
  pointwise
  rw [show Scalar.select (Scalar.cmpi CmpIPredicate.eq 128#32 0#32) 1#32 128#32 = 128#32 from rfl, show Scalar.cmpi CmpIPredicate.slt 128#32 0#32 = 0#1 from rfl,
    rem_eq]
  have hk := k.isLt
  have hc := c.isLt
  rw [WordCmp.cmpi_sgt_ofNat (by norm_num; omega) (by norm_num; omega),
    show (128#32 : BitVec 32) = BitVec.ofNat 32 128 from rfl, WordCmp.cmpi_sge_ofNat (by norm_num; omega) (by norm_num)]
  by_cases h1 : 128 ≤ c.val <;> by_cases h2 : c.val < k.val % 128 <;> simp [h1, h2, Scalar.select, IntOp.ori]

/-- A row of masses and zeros against the suffix matrix: the masses after `c`, or all of them. -/
theorem suf_dot (A : FVec Ideal S512x256 .bf16) (m : Fin 512 → Fin 128 → ℝ)
    (hA : ∀ (r : Fin 512) (k : Fin 256), A (ix2 r k) = if h : k.val < 128 then ((m r ⟨k.val, h⟩ : ℝ) : EReal) else 0) (r : Fin 512) (c : Fin 256) :
    ∑ x : Fin 256, A (ix2 r x) * suf (F := Ideal) (ix2 x c)
      = (((if c.val < 128 then ∑ k : Fin 128, if c.val < k.val then m r k else 0 else ∑ k : Fin 128, m r k) : ℝ) : EReal) := by
  rw [Fin.sum_univ_two_halves 128 128 rfl]
  have e2 : ∀ k : Fin 128, A (ix2 r ⟨128 + k.val, by omega⟩) * suf (F := Ideal) (ix2 ⟨128 + k.val, by omega⟩ c) = 0 := fun k => by
    rw [hA, dif_neg (by simp), zero_mul]
  have e1 : ∀ k : Fin 128, A (ix2 r ⟨k.val, by omega⟩) * suf (F := Ideal) (ix2 ⟨k.val, by omega⟩ c)
      = (((if 128 ≤ c.val ∨ c.val < k.val then m r k else 0 : ℝ)) : EReal) := fun k => by
    have hk := k.isLt
    rw [hA, dif_pos hk, suf_apply]
    simp only [Nat.mod_eq_of_lt hk]
    split_ifs <;> simp
  rw [Finset.sum_congr rfl fun k _ => e1 k, Finset.sum_eq_zero fun k _ => e2 k, add_zero, coe_sum]
  by_cases hc : c.val < 128
  · rw [if_pos hc]; simp [not_le.mpr hc]
  · rw [if_neg hc]; simp [not_lt.mp hc]

end Cert.Stick

end
-- ==== Proof.StickStep.lean ====
/-
  The kernel's step at an element, over masses that are real numbers: the suffix dots, the weights of the near and the far
  half, the new carry.
-/
module

public import proofs.«01_k».proof.Proof.StickPay

@[expose] public section

set_option maxRecDepth 16384

noncomputable section

namespace Cert.Stick

open Cert.KernelIdeal Cert.KernelIdeal.Gen Idealize.ShloMosaic Idealize.ShloMosaic.TcCoe Idealize.SL.Sem Idealize.ShloMosaic.Tactic

/-- What the suffix dot gives at column `c` of a half's masses. -/
def hs (m : Fin 128 → ℝ) (c : Fin 256) : ℝ := if c.val < 128 then ∑ k : Fin 128, if c.val < k.val then m k else 0 else ∑ k : Fin 128, m k

/-- The two halves of 256 masses. -/
def lo (m : Fin 256 → ℝ) (k : Fin 128) : ℝ := m ⟨k.val, by omega⟩
def hi (m : Fin 256 → ℝ) (k : Fin 128) : ℝ := m ⟨128 + k.val, by omega⟩

/-- The masses after column `c`. -/
def after (m : Fin 256 → ℝ) (c : Fin 256) : ℝ := ∑ k : Fin 256, if c.val < k.val then m k else 0

/-- A half's masses, then zeros. -/
def HalfForm (A : FVec Ideal S512x256 .bf16) (m : Fin 512 → Fin 128 → ℝ) : Prop :=
  ∀ (r : Fin 512) (k : Fin 256), A (ix2 r k) = if h : k.val < 128 then ((m r ⟨k.val, h⟩ : ℝ) : EReal) else 0

theorem hs_hi (m : Fin 128 → ℝ) (n : ℕ) (h : 128 + n < 256) : hs m ⟨128 + n, h⟩ = ∑ k, m k := by
  unfold hs; rw [if_neg (by simp)]

theorem sum_halves (m : Fin 256 → ℝ) : ∑ k, m k = ∑ k, lo m k + ∑ k, hi m k := Fin.sum_univ_two_halves 128 128 rfl m

theorem after_lo (m : Fin 256 → ℝ) (c : Fin 256) (h : c.val < 128) : after m c = hs (lo m) c + ∑ k, hi m k := by
  unfold after hs
  rw [if_pos h, Fin.sum_univ_two_halves 128 128 rfl]
  congr 1
  exact Finset.sum_congr rfl fun k _ => if_pos (by simp; omega)

theorem after_hi (m : Fin 256 → ℝ) (c : Fin 256) (h : ¬c.val < 128) : after m c = hs (hi m) ⟨c.val - 128, by omega⟩ := by
  have hc := c.isLt
  unfold after hs
  rw [if_pos (by simp; omega), Fin.sum_univ_two_halves 128 128 rfl, Finset.sum_eq_zero fun k _ => if_neg (by have := k.isLt; simp; omega), zero_add]
  refine Finset.sum_congr rfl fun k _ => ?_
  by_cases hk : c.val - 128 < k.val
  · rw [if_pos (by simp; omega), if_pos hk]; rfl
  · rw [if_neg (by simp; omega), if_neg hk]

/-- The dot with the suffix matrix, as the kernel writes it. -/
theorem dot_eq (A : FVec Ideal S512x256 .bf16) (m : Fin 512 → Fin 128 → ℝ) (hA : HalfForm A m) (r : Fin 512) (c : Fin 256) :
    matmul dot_S512x256_S256x256_S512x256_1_0_0_1_n_n none A (suf (F := Ideal)) (constant S512x256 .f32 0x00000000#32) (ix2 r c)
      = ((hs (m r) c : ℝ) : EReal) := by
  refine Eq.trans ?_ (suf_dot A m hA r c)
  pointwise

theorem exp2_scaled (a s : ℝ) : Ideal.exp2 (((a : EReal) - (s : EReal)) * (((Real.log 2)⁻¹ : ℝ) : EReal)) = ((Real.exp (a - s) : ℝ) : EReal) := by
  rw [← EReal.coe_sub, ← EReal.coe_mul, exp2_log2e]

variable (car : Vec Ideal S512x128 .f32) (C : Fin 512 → ℝ) (hC : ∀ (r : Fin 512) (l : Fin 128), car (ix2 r l) = ((C r : ℝ) : EReal))
  (mN mF aN aF : Fin 512 → Fin 256 → ℝ) (A B : FVec Ideal S512x256 .bf16) (hA : HalfForm A fun r => hi (mN r)) (hB : HalfForm B fun r => lo (mN r))

include hC hA hB in
/-- The near half's weights. -/
theorem near_weight (a : FVec Ideal S512x256 .f32) (ha : ∀ r c, a (ix2 r c) = ((aN r c : ℝ) : EReal)) (r : Fin 512) (c : Fin 256) :
    k0_pay29 suf a A B car (ix2 r c) = ((Real.exp (aN r c - (after (mN r) c + C r)) : ℝ) : EReal) := by
  have h21 : ∀ r c, k0_pay21 (suf (F := Ideal)) A (ix2 r c) = ((hs (hi (mN r)) c : ℝ) : EReal) := dot_eq A _ hA
  have h22 : ∀ r c, k0_pay22 (suf (F := Ideal)) B (ix2 r c) = ((hs (lo (mN r)) c : ℝ) : EReal) := dot_eq B _ hB
  pointwise [k0_pay29, k0_pay25]
  rw [ha, named_log2e]
  change Ideal.exp2 _ = _
  rw [← exp2_scaled]
  congr 3
  by_cases h : c.val < 128
  · rw [dif_pos h, h22, hC, h21, hs_hi, ← EReal.coe_add, ← EReal.coe_add, after_lo _ _ h]
    congr 1; ring
  · rw [dif_neg h, h21, hC, ← EReal.coe_add, after_hi _ _ h]

include hC hA hB in
/-- The near half's weights in the diagonal block. -/
theorem near_weight_masked (a : FVec Ideal S512x256 .f32) (ha : ∀ r c, a (ix2 r c) = ((aN r c : ℝ) : EReal)) (msk : IVec S512x256 1) (r : Fin 512) (c : Fin 256) :
    k0_pay94 suf a msk A B car (ix2 r c) = Scalar.select (msk (ix2 r c)) ((Real.exp (aN r c - (after (mN r) c + C r)) : ℝ) : EReal) 0 := by
  have h21 : ∀ r c, k0_pay86 (suf (F := Ideal)) A (ix2 r c) = ((hs (hi (mN r)) c : ℝ) : EReal) := dot_eq A _ hA
  have h22 : ∀ r c, k0_pay87 (suf (F := Ideal)) B (ix2 r c) = ((hs (lo (mN r)) c : ℝ) : EReal) := dot_eq B _ hB
  pointwise [k0_pay94, k0_pay90]
  congr 1
  rw [ha, named_log2e]
  change Ideal.exp2 _ = _
  rw [← exp2_scaled]
  congr 3
  by_cases h : c.val < 128
  · rw [dif_pos h, h22, hC, h21, hs_hi, ← EReal.coe_add, ← EReal.coe_add, after_lo _ _ h]
    congr 1; ring
  · rw [dif_neg h, h21, hC, ← EReal.coe_add, after_hi _ _ h]

section past

variable (x y o : FVec Ideal S512x256 .f32) (hm : ∀ r c, k0_pay18 x y o (ix2 r c) = ((mF r c : ℝ) : EReal))

include hm in
theorem far_hi (r : Fin 512) (c : Fin 256) : k0_pay23 suf x y o (ix2 r c) = ((hs (hi (mF r)) c : ℝ) : EReal) := by
  unfold k0_pay23
  refine dot_eq _ (fun r => hi (mF r)) (fun r k => ?_) r c
  pointwise [k0_pay19, k0_pay20]
  split
  · rw [hm]; rfl
  · rw [hm, ← EReal.coe_sub, sub_self, EReal.coe_zero]

include hm in
theorem far_lo (r : Fin 512) (c : Fin 256) : k0_pay24 suf x y o (ix2 r c) = ((hs (lo (mF r)) c : ℝ) : EReal) := by
  unfold k0_pay24
  refine dot_eq _ (fun r => lo (mF r)) (fun r k => ?_) r c
  pointwise [k0_pay19, k0_pay20]
  split
  · rw [hm]; rfl
  · rw [hm, ← EReal.coe_sub, sub_self, EReal.coe_zero]

include hC hA hB hm in
/-- The far half's weights. -/
theorem far_weight (z : FVec Ideal S512x256 .f32) (hz : ∀ r c, z (ix2 r c) = ((aF r c : ℝ) : EReal)) (r : Fin 512) (c : Fin 256) :
    k0_pay30 suf A B z x y o car (ix2 r c) = ((Real.exp (aF r c - mF r c - (after (mF r) c + (∑ k, mN r k + C r))) : ℝ) : EReal) := by
  have h21 : ∀ r c, k0_pay21 (suf (F := Ideal)) A (ix2 r c) = ((hs (hi (mN r)) c : ℝ) : EReal) := dot_eq A _ hA
  have h22 : ∀ r c, k0_pay22 (suf (F := Ideal)) B (ix2 r c) = ((hs (lo (mN r)) c : ℝ) : EReal) := dot_eq B _ hB
  pointwise [k0_pay30, k0_pay25, k0_pay26, k0_pay27]
  rw [hz, hm, named_log2e]
  change Ideal.exp2 _ = _
  rw [← exp2_scaled, EReal.coe_sub]
  congr 3
  by_cases h : c.val < 128
  · rw [dif_pos h, far_lo mF x y o hm, far_hi mF x y o hm, hC, h21, h22]
    simp only [hs_hi, ← EReal.coe_add]
    rw [after_lo _ _ h, sum_halves]
    congr 1; ring
  · rw [dif_neg h, far_hi mF x y o hm, hC, h21, h22]
    simp only [hs_hi, ← EReal.coe_add]
    rw [after_hi _ _ h, sum_halves]
    congr 1; ring

include hC hA hB hm in
/-- The new carry. -/
theorem new_carry (r : Fin 512) (l : Fin 128) :
    k0_pay28 suf A B x y o car (ix2 r l) = ((∑ k, mF r k + (∑ k, mN r k + C r) : ℝ) : EReal) := by
  have h21 : ∀ r c, k0_pay21 (suf (F := Ideal)) A (ix2 r c) = ((hs (hi (mN r)) c : ℝ) : EReal) := dot_eq A _ hA
  have h22 : ∀ r c, k0_pay22 (suf (F := Ideal)) B (ix2 r c) = ((hs (lo (mN r)) c : ℝ) : EReal) := dot_eq B _ hB
  pointwise [k0_pay28, k0_pay25, k0_pay26, k0_pay27]
  rw [far_lo mF x y o hm, far_hi mF x y o hm, hC, h21, h22]
  simp only [hs_hi, ← EReal.coe_add]
  rw [sum_halves, sum_halves]
  congr 1; ring

end past

section diagonal

variable (v123 v126 : FVec Ideal S512x256 .bf16) (v127 : FVec Ideal S512x128 .bf16) (h123 : ∀ r c, v123 (ix2 r c) = 0)
  (h126 : HalfForm v126 fun r => hi (mF r)) (h127 : ∀ r l, v127 (ix2 r l) = ((lo (mF r) l : ℝ) : EReal))

include h123 h127 in
theorem diag_lo (r : Fin 512) (c : Fin 256) : k0_pay89 suf v123 v127 (ix2 r c) = ((hs (lo (mF r)) c : ℝ) : EReal) := by
  unfold k0_pay89
  refine dot_eq _ (fun r => lo (mF r)) (fun r k => ?_) r c
  pointwise
  split
  · rw [h127]
  · rw [h123]

include hC hA hB h123 h126 h127 in
/-- The far half's weights in the diagonal block. -/
theorem far_weight_masked (a : FVec Ideal S512x256 .f32) (ha : ∀ r c, a (ix2 r c) = ((aF r c : ℝ) : EReal)) (msk : IVec S512x256 1) (r : Fin 512) (c : Fin 256) :
    k0_pay95 suf A B a msk v123 v126 v127 car (ix2 r c)
      = Scalar.select (msk (ix2 r c)) ((Real.exp (aF r c - (after (mF r) c + (∑ k, mN r k + C r))) : ℝ) : EReal) 0 := by
  have h21 : ∀ r c, k0_pay86 (suf (F := Ideal)) A (ix2 r c) = ((hs (hi (mN r)) c : ℝ) : EReal) := dot_eq A _ hA
  have h22 : ∀ r c, k0_pay87 (suf (F := Ideal)) B (ix2 r c) = ((hs (lo (mN r)) c : ℝ) : EReal) := dot_eq B _ hB
  have h23 : ∀ r c, k0_pay88 (suf (F := Ideal)) v126 (ix2 r c) = ((hs (hi (mF r)) c : ℝ) : EReal) := dot_eq v126 _ h126
  pointwise [k0_pay95, k0_pay90, k0_pay91, k0_pay92]
  congr 1
  rw [ha, named_log2e]
  change Ideal.exp2 _ = _
  rw [← exp2_scaled]
  congr 3
  by_cases h : c.val < 128
  · rw [dif_pos h, diag_lo mF v123 v127 h123 h127, h23, hC, h21, h22]
    simp only [hs_hi, ← EReal.coe_add]
    rw [after_lo _ _ h, sum_halves]
    congr 1; ring
  · rw [dif_neg h, h23, hC, h21, h22]
    simp only [hs_hi, ← EReal.coe_add]
    rw [after_hi _ _ h, sum_halves]
    congr 1; ring

include hC hA hB h123 h126 h127 in
/-- The carry after the diagonal block. -/
theorem diag_carry (r : Fin 512) (l : Fin 128) :
    k0_pay93 suf A B v123 v126 v127 car (ix2 r l) = ((∑ k, mF r k + (∑ k, mN r k + C r) : ℝ) : EReal) := by
  have h21 : ∀ r c, k0_pay86 (suf (F := Ideal)) A (ix2 r c) = ((hs (hi (mN r)) c : ℝ) : EReal) := dot_eq A _ hA
  have h22 : ∀ r c, k0_pay87 (suf (F := Ideal)) B (ix2 r c) = ((hs (lo (mN r)) c : ℝ) : EReal) := dot_eq B _ hB
  have h23 : ∀ r c, k0_pay88 (suf (F := Ideal)) v126 (ix2 r c) = ((hs (hi (mF r)) c : ℝ) : EReal) := dot_eq v126 _ h126
  pointwise [k0_pay93, k0_pay90, k0_pay91, k0_pay92]
  rw [diag_lo mF v123 v127 h123 h127, h23, hC, h21, h22]
  simp only [hs_hi, ← EReal.coe_add]
  rw [sum_halves, sum_halves]
  congr 1; ring

end diagonal

end Cert.Stick

end
-- ==== Proof.StickLoop.lean ====
/-
  The loop over key blocks: after the blocks from key `b` on, the carry is the masses of the keys from `b` on and the
  accumulator their weighted values; after the last block, all keys before the query.
-/
module

public import proofs.«01_k».proof.Proof.StickStep

@[expose] public section

set_option maxRecDepth 16384

noncomputable section

namespace Cert.Stick

open Cert.KernelIdeal Cert.KernelIdeal.Gen Idealize.ShloMosaic Idealize.ShloMosaic.TcCoe Idealize.SL.Sem Idealize.ShloMosaic.Tactic

theorem after_tail (z : ℕ → ℝ) (n b : ℕ) (hb : b + 256 ≤ 4096) (m : Fin 256 → ℝ) (hm : ∀ k : Fin 256, m k = mass z n (b + k.val)) (c : Fin 256) :
    after m c + tail z n (b + 256) = tail z n (b + c.val + 1) := by
  have hc := c.isLt
  rw [tail_split z n (b + c.val + 1) (b + 256) (by omega) hb, ← suffix_sum (mass z n) b 256 c.val hc]
  unfold after
  congr 1
  exact Finset.sum_congr rfl fun k _ => by rw [hm]

theorem total_tail (z : ℕ → ℝ) (n b : ℕ) (hb : b + 256 ≤ 4096) (m : Fin 256 → ℝ) (hm : ∀ k : Fin 256, m k = mass z n (b + k.val)) :
    ∑ k, m k + tail z n (b + 256) = tail z n b := by
  rw [tail_split z n b (b + 256) (by omega) hb, ← fin_sum_Ico]
  congr 1
  exact Finset.sum_congr rfl fun k _ => hm k

theorem accum_block (z : ℕ → ℝ) (n b : ℕ) (hb : b + 512 ≤ 4096) (v : ℕ → EReal) :
    accum z n v b = accum z n v (b + 512) + (∑ c : Fin 256, ((wt z n (b + 256 + c.val) : ℝ) : EReal) * v (b + 256 + c.val)
      + ∑ c : Fin 256, ((wt z n (b + c.val) : ℝ) : EReal) * v (b + c.val)) := by
  rw [fin_sum_Ico (fun j => ((wt z n j : ℝ) : EReal) * v j) b 256, fin_sum_Ico (fun j => ((wt z n j : ℝ) : EReal) * v j) (b + 256) 256,
    accum_split z n v b (b + 256) (by omega) (by omega), accum_split z n v (b + 256) (b + 512) (by omega) hb]
  rw [show b + 256 + 256 = b + 512 by omega]
  ac_rfl

/-- The state holds what the keys from `b` on contribute to the queries from `N` on. -/
def Holds (X : Fin 512 → ℕ → ℝ) (v : Fin 128 → ℕ → EReal) (N b : ℕ) (s : St Ideal) : Prop :=
  (∀ (r : Fin 512) (d : Fin 128), s.1 (ix2 r d) = accum (fun j => X r j * sc) (N + r.val) (v d) b)
    ∧ ∀ (r : Fin 512) (l : Fin 128), s.2 (ix2 r l) = ((tail (fun j => X r j * sc) (N + r.val) b : ℝ) : EReal)

section

variable (q : FVec Ideal S512x128 .bf16) (kn kf vn vf : Vec Ideal S256x128 .bf16) (X : Fin 512 → ℕ → ℝ) (v : Fin 128 → ℕ → EReal) (b : ℕ)
  (hkn : ∀ (r : Fin 512) (c : Fin 256), ∑ x : Fin 128, q (ix2 r x) * kn (ix2 c x) = ((X r (b + 256 + c.val) : ℝ) : EReal))
  (hkf : ∀ (r : Fin 512) (c : Fin 256), ∑ x : Fin 128, q (ix2 r x) * kf (ix2 c x) = ((X r (b + c.val) : ℝ) : EReal))
  (hvn : ∀ (c : Fin 256) (d : Fin 128), vn (ix2 c d) = v d (b + 256 + c.val))
  (hvf : ∀ (c : Fin 256) (d : Fin 128), vf (ix2 c d) = v d (b + c.val))

include hkn hkf hvn hvf in
theorem past_holds (N : ℕ) (hN : b + 512 ≤ N) (hb : b + 512 ≤ 4096) (s : St Ideal) (hs : Holds X v N (b + 512) s) :
    Holds X v N b (pastStep q suf kn kf vn vf s) := by
  obtain ⟨hacc, hcar⟩ := hs
  have h8 : ∀ r c, k0_pay8 q kn (ix2 r c) = ((sp (X r (b + 256 + c.val) * sc) : ℝ) : EReal) := fun r c => by
    pointwise [k0_pay8, k0_pay7, k0_pay5]
    rw [hkn, named_scale, named_neg]
    exact kernel_sp _
  have h9 : ∀ r c, k0_pay9 q kn (ix2 r c) = ((X r (b + 256 + c.val) * sc - sp (X r (b + 256 + c.val) * sc) : ℝ) : EReal) := fun r c => by
    pointwise [k0_pay9]
    rw [h8, EReal.coe_sub]
    congr 1
    pointwise [k0_pay7, k0_pay5]
    rw [hkn, named_scale, EReal.coe_mul]
  have h14 : ∀ r c, k0_pay14 q kf (ix2 r c) = ((X r (b + c.val) * sc : ℝ) : EReal) := fun r c => by
    pointwise [k0_pay14, k0_pay6]
    rw [hkf, named_scale, EReal.coe_mul]
  have h18 : ∀ r c, k0_pay18 (k0_pay15 q kf) (k0_pay16 q kf) k0_pay17 (ix2 r c) = ((sp (X r (b + c.val) * sc) : ℝ) : EReal) := fun r c => by
    pointwise [k0_pay18, k0_pay15, k0_pay16, k0_pay17, k0_pay14, k0_pay6]
    rw [hkf, named_scale, named_neg]
    exact kernel_sp _
  have h12 : HalfForm (k0_pay12 q kn) fun r => hi fun c => sp (X r (b + 256 + c.val) * sc) := fun r k => by
    pointwise [k0_pay12, k0_pay10, k0_pay11]
    split
    · rw [h8]; rfl
    · rw [h8, ← EReal.coe_sub, sub_self, EReal.coe_zero]
  have h13 : HalfForm (k0_pay13 q kn) fun r => lo fun c => sp (X r (b + 256 + c.val) * sc) := fun r k => by
    pointwise [k0_pay13, k0_pay10, k0_pay11]
    split
    · rw [h8]; rfl
    · rw [h8, ← EReal.coe_sub, sub_self, EReal.coe_zero]
  have mN : ∀ (r : Fin 512) (k : Fin 256), sp (X r (b + 256 + k.val) * sc) = mass (fun j => X r j * sc) (N + r.val) (b + 256 + k.val) := fun r k => by
    have := k.isLt; unfold mass; rw [if_pos (by omega)]
  have mF : ∀ (r : Fin 512) (k : Fin 256), sp (X r (b + k.val) * sc) = mass (fun j => X r j * sc) (N + r.val) (b + k.val) := fun r k => by
    have := k.isLt; unfold mass; rw [if_pos (by omega)]
  have wN : ∀ (r : Fin 512) (c : Fin 256), k0_pay29 suf (k0_pay9 q kn) (k0_pay12 q kn) (k0_pay13 q kn) s.2 (ix2 r c)
      = ((wt (fun j => X r j * sc) (N + r.val) (b + 256 + c.val) : ℝ) : EReal) := fun r c => by
    have hc := c.isLt
    rw [near_weight s.2 (fun r => tail (fun j => X r j * sc) (N + r.val) (b + 512)) hcar (fun r c => sp (X r (b + 256 + c.val) * sc)) _ _ _ h12 h13 _ h9]
    rw [show b + 512 = b + 256 + 256 by omega, after_tail _ _ _ (by omega) _ (mN r)]
    unfold wt; rw [if_pos (by omega)]
  have wF : ∀ (r : Fin 512) (c : Fin 256),
      k0_pay30 suf (k0_pay12 q kn) (k0_pay13 q kn) (k0_pay14 q kf) (k0_pay15 q kf) (k0_pay16 q kf) k0_pay17 s.2 (ix2 r c)
      = ((wt (fun j => X r j * sc) (N + r.val) (b + c.val) : ℝ) : EReal) := fun r c => by
    have hc := c.isLt
    rw [far_weight s.2 (fun r => tail (fun j => X r j * sc) (N + r.val) (b + 512)) hcar (fun r c => sp (X r (b + 256 + c.val) * sc))
      (fun r c => sp (X r (b + c.val) * sc)) (fun r c => X r (b + c.val) * sc) _ _ h12 h13 _ _ _ h18 _ h14]
    rw [show b + 512 = b + 256 + 256 by omega, total_tail _ _ _ (by omega) _ (mN r), after_tail _ _ _ (by omega) _ (mF r)]
    unfold wt; rw [if_pos (by omega)]
  refine ⟨fun r d => ?_, fun r l => ?_⟩
  · unfold pastStep
    pointwise [k0_pay2]
    rw [hacc, accum_block _ _ b hb]
    simp only [wN, wF, hvn, hvf]
  · unfold pastStep
    dsimp only
    rw [new_carry s.2 (fun r => tail (fun j => X r j * sc) (N + r.val) (b + 512)) hcar (fun r c => sp (X r (b + 256 + c.val) * sc))
      (fun r c => sp (X r (b + c.val) * sc)) _ _ h12 h13 _ _ _ h18]
    rw [show b + 512 = b + 256 + 256 by omega, total_tail _ _ _ (by omega) _ (mN r), total_tail _ _ _ (by omega) _ (mF r)]

include hkn hkf hvn hvf in
theorem diag_holds (i : grid0.Coords) (hb : b = 512 * (i 2).val) (s : St Ideal) (hs : Holds X v b (b + 512) s) :
    Holds X v b b (diagStep i q suf kn kf vn vf s) := by
  have hi2 := i2_lt i
  obtain ⟨hacc, hcar⟩ := hs
  have h69 : ∀ r c, k0_pay69 (k0_pay65 q kn) (k0_pay68 q kn) (ix2 r c) = ((sp (X r (b + 256 + c.val) * sc) : ℝ) : EReal) := fun r c => by
    pointwise [k0_pay69, k0_pay65, k0_pay68, k0_pay67]
    rw [hkn, named_scale, named_neg]
    exact kernel_sp _
  have h70 : ∀ r c, k0_pay70 (k0_pay65 q kn) (k0_pay67 q kn) (k0_pay68 q kn) (ix2 r c)
      = ((X r (b + 256 + c.val) * sc - sp (X r (b + 256 + c.val) * sc) : ℝ) : EReal) := fun r c => by
    pointwise [k0_pay70]
    rw [h69, EReal.coe_sub]
    congr 1
    pointwise [k0_pay67, k0_pay65]
    rw [hkn, named_scale, EReal.coe_mul]
  have h78 : ∀ r c, k0_pay78 (k0_pay66 q kf) (ix2 r c) = ((sp (X r (b + c.val) * sc) : ℝ) : EReal) := fun r c => by
    pointwise [k0_pay78, k0_pay66, k0_pay77]
    rw [hkf, named_scale, named_neg]
    exact kernel_sp _
  have h79 : ∀ r c, k0_pay79 (k0_pay66 q kf) (ix2 r c) = ((X r (b + c.val) * sc - sp (X r (b + c.val) * sc) : ℝ) : EReal) := fun r c => by
    pointwise [k0_pay79]
    rw [h78, EReal.coe_sub]
    congr 1
    pointwise [k0_pay77, k0_pay66]
    rw [hkf, named_scale, EReal.coe_mul]
  have kN : ∀ (r : Fin 512) (c : Fin 256) (x y : EReal), Scalar.select (k0_pay71 (k0_pay64 (BitVec.ofNat 32 (i 2).val)) (wordNear i) (ix2 r c)) x y
      = if b + 256 + c.val < b + r.val then x else y := fun r c x y => by
    pointwise [k0_pay71, k0_pay64]
    rw [wordNear_eq, mask_eq i _ (by omega), hb]
  have kF : ∀ (r : Fin 512) (c : Fin 256) (x y : EReal), Scalar.select (k0_pay80 (k0_pay64 (BitVec.ofNat 32 (i 2).val)) (wordFar i) (ix2 r c)) x y
      = if b + c.val < b + r.val then x else y := fun r c x y => by
    pointwise [k0_pay80, k0_pay64]
    rw [wordFar_eq, mask_eq i _ (by omega), hb]
  have h72 : ∀ r c, k0_pay72 (k0_pay64 (BitVec.ofNat 32 (i 2).val)) (wordNear i) (k0_pay65 q kn) (k0_pay68 q kn) (ix2 r c)
      = ((mass (fun j => X r j * sc) (b + r.val) (b + 256 + c.val) : ℝ) : EReal) := fun r c => by
    pointwise [k0_pay72]
    rw [kN, h69]
    unfold mass
    split <;> simp
  have h81 : ∀ r c, k0_pay81 (k0_pay64 (BitVec.ofNat 32 (i 2).val)) (wordFar i) (k0_pay66 q kf) (ix2 r c)
      = ((mass (fun j => X r j * sc) (b + r.val) (b + c.val) : ℝ) : EReal) := fun r c => by
    pointwise [k0_pay81]
    rw [kF, h78]
    unfold mass
    split <;> simp
  have h75 : HalfForm (k0_pay75 (k0_pay64 (BitVec.ofNat 32 (i 2).val)) (wordNear i) (k0_pay65 q kn) (k0_pay68 q kn))
      fun r => hi fun c => mass (fun j => X r j * sc) (b + r.val) (b + 256 + c.val) := fun r k => by
    pointwise [k0_pay75, k0_pay73, k0_pay74]
    split
    · rw [h72]; rfl
    · rw [h72, ← EReal.coe_sub, sub_self, EReal.coe_zero]
  have h76 : HalfForm (k0_pay76 (k0_pay64 (BitVec.ofNat 32 (i 2).val)) (wordNear i) (k0_pay65 q kn) (k0_pay68 q kn))
      fun r => lo fun c => mass (fun j => X r j * sc) (b + r.val) (b + 256 + c.val) := fun r k => by
    pointwise [k0_pay76, k0_pay73, k0_pay74]
    split
    · rw [h72]; rfl
    · rw [h72, ← EReal.coe_sub, sub_self, EReal.coe_zero]
  have h83 : ∀ r c, k0_pay83 (k0_pay64 (BitVec.ofNat 32 (i 2).val)) (wordFar i) (k0_pay66 q kf) (ix2 r c) = 0 := fun r c => by
    pointwise [k0_pay83, k0_pay82]
    rw [h81, ← EReal.coe_sub, sub_self, EReal.coe_zero]
  have h84 : HalfForm (k0_pay84 (k0_pay64 (BitVec.ofNat 32 (i 2).val)) (wordFar i) (k0_pay66 q kf))
      fun r => hi fun c => mass (fun j => X r j * sc) (b + r.val) (b + c.val) := fun r k => by
    pointwise [k0_pay84, k0_pay82]
    split
    · rw [h81]; rfl
    · rw [h83]
  have h85 : ∀ (r : Fin 512) (l : Fin 128), k0_pay85 (k0_pay64 (BitVec.ofNat 32 (i 2).val)) (wordFar i) (k0_pay66 q kf) (ix2 r l)
      = ((lo (fun c => mass (fun j => X r j * sc) (b + r.val) (b + c.val)) l : ℝ) : EReal) := fun r l => by
    pointwise [k0_pay85, k0_pay82]
    rw [h81]; rfl
  have tN : ∀ r : Fin 512, ∑ k : Fin 256, mass (fun j => X r j * sc) (b + r.val) (b + 256 + k.val) + tail (fun j => X r j * sc) (b + r.val) (b + 512)
      = tail (fun j => X r j * sc) (b + r.val) (b + 256) := fun r => by
    rw [show b + 512 = b + 256 + 256 by omega, total_tail _ _ _ (by omega) _ fun k => rfl]
  have wN : ∀ (r : Fin 512) (c : Fin 256), k0_pay94 suf (k0_pay70 (k0_pay65 q kn) (k0_pay67 q kn) (k0_pay68 q kn))
      (k0_pay71 (k0_pay64 (BitVec.ofNat 32 (i 2).val)) (wordNear i))
      (k0_pay75 (k0_pay64 (BitVec.ofNat 32 (i 2).val)) (wordNear i) (k0_pay65 q kn) (k0_pay68 q kn))
      (k0_pay76 (k0_pay64 (BitVec.ofNat 32 (i 2).val)) (wordNear i) (k0_pay65 q kn) (k0_pay68 q kn)) s.2 (ix2 r c)
      = ((wt (fun j => X r j * sc) (b + r.val) (b + 256 + c.val) : ℝ) : EReal) := fun r c => by
    rw [near_weight_masked s.2 (fun r => tail (fun j => X r j * sc) (b + r.val) (b + 512)) hcar
      (fun r c => mass (fun j => X r j * sc) (b + r.val) (b + 256 + c.val)) _ _ _ h75 h76 _ h70, kN]
    rw [show b + 512 = b + 256 + 256 by omega, after_tail _ _ _ (by omega) _ fun k => rfl]
    unfold wt
    split <;> simp
  have wF : ∀ (r : Fin 512) (c : Fin 256), k0_pay95 suf
      (k0_pay75 (k0_pay64 (BitVec.ofNat 32 (i 2).val)) (wordNear i) (k0_pay65 q kn) (k0_pay68 q kn))
      (k0_pay76 (k0_pay64 (BitVec.ofNat 32 (i 2).val)) (wordNear i) (k0_pay65 q kn) (k0_pay68 q kn))
      (k0_pay79 (k0_pay66 q kf)) (k0_pay80 (k0_pay64 (BitVec.ofNat 32 (i 2).val)) (wordFar i))
      (k0_pay83 (k0_pay64 (BitVec.ofNat 32 (i 2).val)) (wordFar i) (k0_pay66 q kf))
      (k0_pay84 (k0_pay64 (BitVec.ofNat 32 (i 2).val)) (wordFar i) (k0_pay66 q kf))
      (k0_pay85 (k0_pay64 (BitVec.ofNat 32 (i 2).val)) (wordFar i) (k0_pay66 q kf)) s.2 (ix2 r c)
      = ((wt (fun j => X r j * sc) (b + r.val) (b + c.val) : ℝ) : EReal) := fun r c => by
    rw [far_weight_masked s.2 (fun r => tail (fun j => X r j * sc) (b + r.val) (b + 512)) hcar
      (fun r c => mass (fun j => X r j * sc) (b + r.val) (b + 256 + c.val)) (fun r c => mass (fun j => X r j * sc) (b + r.val) (b + c.val))
      (fun r c => X r (b + c.val) * sc - sp (X r (b + c.val) * sc)) _ _ h75 h76 _ _ _ h83 h84 h85 _ h79, kF]
    rw [tN r, after_tail _ _ _ (by omega) _ fun k => rfl]
    unfold wt
    split <;> simp
  refine ⟨fun r d => ?_, fun r l => ?_⟩
  · unfold diagStep
    pointwise [k0_pay1]
    rw [hacc, accum_block _ _ b (by omega)]
    simp only [wN, wF, hvn, hvf]
  · unfold diagStep
    dsimp only
    rw [diag_carry s.2 (fun r => tail (fun j => X r j * sc) (b + r.val) (b + 512)) hcar
      (fun r c => mass (fun j => X r j * sc) (b + r.val) (b + 256 + c.val)) (fun r c => mass (fun j => X r j * sc) (b + r.val) (b + c.val)) _ _ h75 h76 _ _ _ h83 h84 h85]
    rw [tN r, total_tail _ _ _ (by omega) _ fun k => rfl]

end

end Cert.Stick

end
-- ==== Proof.StickPoint.lean ====
/-
  A whole grid point: the block on the diagonal, then the key blocks before it from the nearest back to the first, leave
  each query row's weighted sum of the values of all keys before it.
-/
module

public import proofs.«01_k».proof.Proof.StickLoop
public import Idealize.ShloMosaic.Lib.Pipeline.ValueKit.Point

@[expose] public section

set_option maxRecDepth 16384

noncomputable section

namespace Cert.Stick

open Cert.KernelIdeal Cert.KernelIdeal.Gen Idealize.ShloMosaic Idealize.ShloMosaic.TcCoe Idealize.SL.Sem Idealize.ShloMosaic.Tactic

variable (i : grid0.Coords) (q : FVec Ideal S512x128 .bf16) (K V : Vec Ideal S4096x128 .bf16) (X : Fin 512 → ℕ → ℝ) (v : Fin 128 → ℕ → EReal)
  (hK : ∀ (r : Fin 512) (j : Fin 4096), ∑ x : Fin 128, q (ix2 r x) * K (ix2 j x) = ((X r j.val : ℝ) : EReal))
  (hV : ∀ (j : Fin 4096) (d : Fin 128), V (ix2 j d) = v d j.val)

/-- A row of a block of 256 rows is the row of the whole array at the block's offset. -/
theorem rows_apply (A : Vec Ideal S4096x128 .bf16) (off : Fin 2 → ℕ) (inb : ∀ a, off a + S256x128.size a ≤ S4096x128.size a) (b : ℕ) (h0 : off 0 = b) (h1 : off 1 = 0)
    (hb : b + 256 ≤ 4096) (c : Fin 256) (d : Fin 128) :
    rows A off inb (ix2 c d) = A (ix2 (⟨b + c.val, by have := c.isLt; omega⟩ : Fin 4096) d) := by
  unfold rows
  pointwise
  congr 1
  blk_ext [h0, h1]

include hK in
theorem dot_rows (off : Fin 2 → ℕ) (inb : ∀ a, off a + S256x128.size a ≤ S4096x128.size a) (b : ℕ) (h0 : off 0 = b) (h1 : off 1 = 0) (hb : b + 256 ≤ 4096) (r : Fin 512) (c : Fin 256) :
    ∑ x : Fin 128, q (ix2 r x) * rows K off inb (ix2 c x) = ((X r (b + c.val) : ℝ) : EReal) := by
  rw [← hK r ⟨b + c.val, by have := c.isLt; omega⟩]
  exact Finset.sum_congr rfl fun x _ => by rw [rows_apply K off inb b h0 h1 hb]

include hV in
theorem val_rows (off : Fin 2 → ℕ) (inb : ∀ a, off a + S256x128.size a ≤ S4096x128.size a) (b : ℕ) (h0 : off 0 = b) (h1 : off 1 = 0) (hb : b + 256 ≤ 4096) (c : Fin 256) (d : Fin 128) :
    (rows V off inb (ix2 c d) : EReal) = v d (b + c.val) := by
  rw [rows_apply V off inb b h0 h1 hb, hV]

include hK hV in
theorem diagSt_holds (b : ℕ) (hb : b = 512 * (i 2).val) : Holds X v b b (diagSt i q K V) := by
  have hi := i2_lt i
  have n := off1_near i
  have f := off1_far i
  unfold diagSt
  refine diag_holds q _ _ _ _ X v b ?_ ?_ ?_ ?_ i hb _ ⟨fun r d => ?_, fun r l => ?_⟩
  · exact fun r c => dot_rows q K X hK _ _ (b + 256) (by rw [n.1, hb]) n.2 (by omega) r c
  · exact fun r c => dot_rows q K X hK _ _ b (by rw [f.1, hb]) f.2 (by omega) r c
  · exact fun c d => val_rows V v hV _ _ (b + 256) (by rw [n.1, hb]) n.2 (by omega) c d
  · exact fun c d => val_rows V v hV _ _ b (by rw [f.1, hb]) f.2 (by omega) c d
  · have := r.isLt
    rw [accum_zero _ _ _ _ (by omega)]
    pointwise [k0_pay60]
  · have := r.isLt
    rw [tail_zero _ _ _ (by omega)]
    pointwise [k0_pay61]
    simp

include hK hV in
theorem loopSt_holds (b : ℕ) (hb : b = 512 * (i 2).val) (k : ℕ) (hk : k ≤ (i 2).val) :
    Holds X v b (b - 512 * k) (loopSt i q suf K V (diagSt i q K V) k) := by
  have hi := i2_lt i
  induction k with
  | zero => exact diagSt_holds i q K V X v hK hV b hb
  | succ k ih =>
    have h : k < (k0_t1_loop i).trips := by rw [trips_eq]; omega
    have n := off2_near i ⟨k, h⟩
    have f := off2_far i ⟨k, h⟩
    dsimp only at n f
    rw [loopSt, dif_pos h]
    have e : b - 512 * (k + 1) + 512 = b - 512 * k := by omega
    refine past_holds q _ _ _ _ X v (b - 512 * (k + 1)) ?_ ?_ ?_ ?_ b (by omega) (by omega) _ (e ▸ ih (by omega))
    · exact fun r c => dot_rows q K X hK _ _ (b - 512 * (k + 1) + 256) (by rw [n.1]; omega) n.2 (by omega) r c
    · exact fun r c => dot_rows q K X hK _ _ (b - 512 * (k + 1)) (by rw [f.1]; omega) f.2 (by omega) r c
    · exact fun c d => val_rows V v hV _ _ (b - 512 * (k + 1) + 256) (by rw [n.1]; omega) n.2 (by omega) c d
    · exact fun c d => val_rows V v hV _ _ (b - 512 * (k + 1)) (by rw [f.1]; omega) f.2 (by omega) c d

/-- WHAT A POINT WRITES: at query row `r` and lane `d`, the weighted sum of the values of all keys before the query. -/
theorem pointOut_apply (x0 : Vec Ideal S1x512x128 .bf16)
    (hK : ∀ (r : Fin 512) (j : Fin 4096), ∑ x : Fin 128, x0 (ix3 (0 : Fin 1) r x) * K (ix2 j x) = ((X r j.val : ℝ) : EReal))
    (hV : ∀ (j : Fin 4096) (d : Fin 128), V (ix2 j d) = v d j.val) (z : Fin 1) (r : Fin 512) (d : Fin 128) :
    (pointOut i x0 K V (ix3 z r d) : EReal) = accum (fun j => X r j * sc) (512 * (i 2).val + r.val) (v d) 0 := by
  have hq : ∀ (r : Fin 512) (j : Fin 4096), ∑ x : Fin 128, k0_pay59 x0 (ix2 r x) * K (ix2 j x) = ((X r j.val : ℝ) : EReal) := fun r j => by
    rw [← hK r j]
    exact Finset.sum_congr rfl fun x _ => by pointwise [k0_pay59]
  have h := (loopSt_holds i (k0_pay59 x0) K V X v hq hV _ rfl (i 2).val le_rfl).1 r d
  rw [Nat.sub_self] at h
  unfold pointOut
  rw [trips_eq]
  pointwise [k0_pay4]
  exact h

end Cert.Stick

end
-- ==== Proof.StickSpec.lean ====
/-
  What both programs compute, as one function of the argument's entries: per batch and head, each query's values of the
  keys before it, weighted by the stick the keys in between leave.
-/
module

public import proofs.«01_k».proof.Proof.StickMath
public import proofs.«01_k».proof.Proof.Gen.KernelIdeal.Value
public import Idealize.ShloMosaic.Lib.Pointwise

@[expose] public section

set_option maxRecDepth 16384

noncomputable section

namespace Cert.Stick

open Cert.KernelIdeal Cert.KernelIdeal.Gen Idealize.ShloMosaic Idealize.ShloMosaic.TcCoe Idealize.SL.Sem Idealize.ShloMosaic.Tactic

/-- The entry of an array of 8 × 4096 × 3072 at three numbers, zero outside. -/
def entry (P : (⟨3, ![8, 4096, 3072]⟩ : Shape).Idx → EReal) (b n c : ℕ) : EReal :=
  if h : b < 8 ∧ n < 4096 ∧ c < 3072 then P (ix3 (⟨b, h.1⟩ : Fin 8) (⟨n, h.2.1⟩ : Fin 4096) (⟨c, h.2.2⟩ : Fin 3072)) else 0

theorem entry_eq (P : (⟨3, ![8, 4096, 3072]⟩ : Shape).Idx → EReal) (b : Fin 8) (n : Fin 4096) (c : Fin 3072) :
    P (ix3 b n c) = entry P b.val n.val c.val := by
  unfold entry
  rw [dif_pos ⟨b.isLt, n.isLt, c.isLt⟩]

/-- Queries and keys are real numbers. -/
def Real2048 (P : (⟨3, ![8, 4096, 3072]⟩ : Shape).Idx → EReal) : Prop :=
  ∀ b n c, c < 2048 → ∃ r : ℝ, entry P b n c = (r : EReal)

/-- The product of query `n` and key `j` of head `h` of batch `b`. -/
def dots (P : (⟨3, ![8, 4096, 3072]⟩ : Shape).Idx → EReal) (b h n j : ℕ) : ℝ :=
  (∑ x : Fin 128, entry P b n (128 * h + x.val) * entry P b j (1024 + 128 * h + x.val)).toReal

theorem dots_eq (P : (⟨3, ![8, 4096, 3072]⟩ : Shape).Idx → EReal) (hP : Real2048 P) (b h n j : ℕ) (hh : h < 8) :
    ∑ x : Fin 128, entry P b n (128 * h + x.val) * entry P b j (1024 + 128 * h + x.val) = ((dots P b h n j : ℝ) : EReal) := by
  have e : ∃ r : ℝ, ∑ x : Fin 128, entry P b n (128 * h + x.val) * entry P b j (1024 + 128 * h + x.val) = (r : EReal) := by
    choose f hf using hP
    refine ⟨∑ x : Fin 128, f b n (128 * h + x.val) (by have := x.isLt; omega) * f b j (1024 + 128 * h + x.val) (by have := x.isLt; omega), ?_⟩
    rw [← coe_sum]
    exact Finset.sum_congr rfl fun x _ => by rw [hf b n _ (by have := x.isLt; omega), hf b j _ (by have := x.isLt; omega), EReal.coe_mul]
  obtain ⟨r, hr⟩ := e
  unfold dots
  rw [hr, EReal.toReal_coe]

/-- The result at batch `b`, position `n` and column `c` (head `c / 128`). -/
def result (P : (⟨3, ![8, 4096, 3072]⟩ : Shape).Idx → EReal) (b n c : ℕ) : EReal :=
  accum (fun j => dots P b (c / 128) n j * sc) n (fun j => entry P b j (2048 + c)) 0

end Cert.Stick

end
-- ==== Proof.StickGrid.lean ====
/-
  The kernel's result array: the two scratch arrays hold the head's keys and values at every point, a point writes its
  block of the result, and the blocks cover the array.
-/
module

public import proofs.«01_k».proof.Proof.StickPoint
public import proofs.«01_k».proof.Proof.StickSpec
public import Idealize.ShloMosaic.Lib.Pipeline.ValueKit

@[expose] public section

set_option maxRecDepth 16384

noncomputable section

namespace Cert.Stick

open Cert.KernelIdeal Cert.KernelIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ) (c : Dev nD)

/-- The argument. -/
abbrev arg : (⟨3, ![8, 4096, 3072]⟩ : Shape).Idx → EReal := m ((c : Thread nD τ).loc main_arg0)

theorem idx : ∀ t : Fin cfg0.N, win0_0.index t = ![t.val / 64, t.val % 8, t.val / 8 % 8] ∧ win0_1.index t = ![t.val / 64, 0, 8 + t.val / 8 % 8]
    ∧ win0_2.index t = ![t.val / 64, 0, 16 + t.val / 8 % 8] ∧ win0_3.index t = ![t.val / 64, t.val % 8, t.val / 8 % 8] ∧ ((grid0.coords t) 2).val = t.val % 8 :=
  (by decide +kernel : ∀ t : Fin grid0.N, _)

theorem t_lt (t : Fin cfg0.N) : t.val < 512 := lt_of_lt_of_eq t.isLt N_0

theorem blk0 (t : Fin cfg0.N) (z : Fin 1) (r : Fin 512) (x : Fin 128) :
    (iblk m c 0 t (ix3 z r x) : EReal) = entry (arg m c) (t.val / 64) (512 * (t.val % 8) + r.val) (128 * (t.val / 8 % 8) + x.val) := by
  have ht := t_lt t
  have hr := r.isLt
  have hx := x.isLt
  unfold entry
  rw [dif_pos ⟨by omega, by omega, by omega⟩]
  blk_ext! [iblk, V, idx t]

theorem blk1 (t : Fin cfg0.N) (z : Fin 1) (r : Fin 4096) (x : Fin 128) :
    (iblk m c 1 t (ix3 z r x) : EReal) = entry (arg m c) (t.val / 64) r.val (1024 + 128 * (t.val / 8 % 8) + x.val) := by
  have ht := t_lt t
  have hr := r.isLt
  have hx := x.isLt
  unfold entry
  rw [dif_pos ⟨by omega, by omega, by omega⟩]
  blk_ext! [iblk, V, idx t]

theorem blk2 (t : Fin cfg0.N) (z : Fin 1) (r : Fin 4096) (x : Fin 128) :
    (iblk m c 2 t (ix3 z r x) : EReal) = entry (arg m c) (t.val / 64) r.val (2048 + 128 * (t.val / 8 % 8) + x.val) := by
  have ht := t_lt t
  have hr := r.isLt
  have hx := x.isLt
  unfold entry
  rw [dif_pos ⟨by omega, by omega, by omega⟩]
  blk_ext! [iblk, V, idx t]

/-- The head's rows that the point's column block from `off` on holds. -/
def slab (P : (⟨3, ![8, 4096, 3072]⟩ : Shape).Idx → EReal) (n off : ℕ) : Vec Ideal S4096x128 .bf16 :=
  fun y => entry P (n / 64) (y 0).val (off + 128 * (n / 8 % 8) + (y 1).val)

theorem load1 (t : Fin cfg0.N) : k0_pay57 (iblk m c 1 t) = slab (arg m c) t.val 1024 := by
  funext y
  idx_vars y
  pointwise [k0_pay57]
  exact blk1 m c t 0 _ _

theorem load2 (t : Fin cfg0.N) : k0_pay58 (iblk m c 2 t) = slab (arg m c) t.val 2048 := by
  funext y
  idx_vars y
  pointwise [k0_pay58]
  exact blk2 m c t 0 _ _

theorem slab_pred (P : (⟨3, ![8, 4096, 3072]⟩ : Shape).Idx → EReal) (n off : ℕ) (h : ¬ n % 8 = 0) : slab P (n - 1) off = slab P n off := by
  unfold slab
  rw [show (n - 1) / 64 = n / 64 by omega, show (n - 1) / 8 = n / 8 by omega]

/-- After every point the scratch arrays hold the keys and the values of the point's head. -/
theorem scratch (n : ℕ) (h : n < cfg0.N) :
    (outsAt0 m c n h).2.1 = slab (arg m c) n 1024 ∧ (outsAt0 m c n h).2.2 = slab (arg m c) n 2048 := by
  induction n with
  | zero =>
    rw [outsAt0_A m c ⟨0, h⟩ rfl]
    dsimp only
    rw [sout_A_0, sout_A_1]
    exact ⟨load1 m c ⟨0, h⟩, load2 m c ⟨0, h⟩⟩
  | succ n ih =>
    by_cases h0 : (n + 1) % 8 = 0
    · rw [outsAt0_A m c ⟨n + 1, h⟩ h0]
      dsimp only
      rw [sout_A_0, sout_A_1]
      exact ⟨load1 m c ⟨n + 1, h⟩, load2 m c ⟨n + 1, h⟩⟩
    · have ih' := ih (by omega)
      rw [outsAt0_B m c ⟨n + 1, h⟩ h0, ← slab_pred _ _ _ h0, ← slab_pred _ _ _ h0]
      exact ih'

/-- What a point writes back. -/
theorem point (t : Fin cfg0.N) : (outsAt0 m c t.val t.isLt).1
    = pointOut (grid0.coords t) (iblk m c 0 t) (slab (arg m c) t.val 1024) (slab (arg m c) t.val 2048) := by
  by_cases h0 : t.val % 8 = 0
  · rw [outsAt0_A m c t h0]
    dsimp only
    rw [out_A, load1 m c t, load2 m c t]
  · have h := scratch m c (t.val - 1) (by have := t.isLt; omega)
    rw [outsAt0_B m c t h0]
    dsimp only
    rw [out_B, h.1, h.2, slab_pred _ _ _ h0, slab_pred _ _ _ h0]

theorem point_apply (hP : Real2048 (arg m c)) (t : Fin cfg0.N) (z : Fin 1) (r : Fin 512) (d : Fin 128) :
    ((outsAt0 m c t.val t.isLt).1 (ix3 z r d) : EReal)
      = result (arg m c) (t.val / 64) (512 * (t.val % 8) + r.val) (128 * (t.val / 8 % 8) + d.val) := by
  have ht := t_lt t
  have hd := d.isLt
  have hi := (idx t).2.2.2.2
  rw [point m c t, pointOut_apply (grid0.coords t) _ _
    (fun r j => dots (arg m c) (t.val / 64) (t.val / 8 % 8) (512 * (t.val % 8) + r.val) j)
    (fun d j => entry (arg m c) (t.val / 64) j (2048 + 128 * (t.val / 8 % 8) + d.val)) _ ?_ ?_, hi]
  · unfold result
    rw [show (128 * (t.val / 8 % 8) + d.val) / 128 = t.val / 8 % 8 by omega, ← add_assoc]
  · intro r j
    rw [← dots_eq _ hP _ _ _ _ (by omega)]
    exact Finset.sum_congr rfl fun x _ => by rw [blk0]; rfl
  · intro j d
    rfl

/-- THE KERNEL'S RESULT ARRAY. -/
theorem final (hP : Real2048 (arg m c)) : (dats m 0 c).arrAt 3 cfg0.N
    = fun i : S8x4096x1024.Idx => result (arg m c) (i 0).val (i 1).val (i 2).val := by
  refine (dats m 0 c).arrAt_eq_of_covers 3 _ (by decide +kernel) fun t hf y => ?_
  blk_simp [idx t]
  rw [after0_3]
  idx_vars y
  rw [point_apply m c hP t, Nat.mul_comm 512, Nat.mul_comm 128]

end Cert.Stick

end
-- ==== Proof.StickRef.lean ====
/-
  The reference read at an index: the same weighted sum.
-/
module

public import proofs.«01_k».proof.Proof.StickSpec
public import proofs.«01_k».proof.Proof.Gen.ReferenceIdeal.Read
public import Idealize.ShloMosaic.Lib.Pipeline.ValueKit.Point

@[expose] public section

set_option maxRecDepth 16384

noncomputable section

namespace Cert.Stick

open Cert.ReferenceIdeal Cert.ReferenceIdeal.Gen Cert.ReferenceIdeal.Read Idealize.ShloMosaic Idealize.ShloMosaic.TcCoe Idealize.SL.Sem Idealize.ShloMosaic.Tactic

theorem foldl_add {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

/-- The positions of a window along the last axis. -/
def along : Fin 4096 ≃ (⟨4, ![1, 1, 1, 4096]⟩ : Shape).Idx where
  toFun k := ix4 (0 : Fin 1) (0 : Fin 1) (0 : Fin 1) k
  invFun y := y 3
  left_inv k := rfl
  right_inv y := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

theorem fin_sum_tail (N : ℕ) (f : ℕ → ℝ) (j : ℕ) (hj : j ≤ N) :
    ∑ k : Fin N, (if j + k.val < N then f (j + k.val) else 0) = ∑ k ∈ Finset.Ico j N, f k := by
  rw [Fin.sum_univ_eq_sum_range (fun k => if j + k < N then f (j + k) else 0) N, Finset.sum_Ico_eq_sum_range, ← Finset.sum_filter]
  refine Finset.sum_congr ?_ fun _ _ => rfl
  ext k
  simp only [Finset.mem_filter, Finset.mem_range]
  omega

/-- A reverse running sum along the last axis, of numbers `f`. -/
theorem cumsum_apply (x : S8x8x4096x4096.Idx → EReal) (f : ℕ → ℝ) (b h : Fin 8) (n j : Fin 4096)
    (hx : ∀ k : Fin 4096, x (ix4 b h n k) = ((f k.val : ℝ) : EReal)) :
    Ideal.hostReduceWindowAdd ![1, 1, 1, 4096] ![1, 1, 1, 1] ![0, 0, 0, 0] ![0, 0, 0, 4095]
      reduceWindows_S8x8x4096x4096_S8x8x4096x4096_w1s1p0_0_w1s1p0_0_w1s1p0_0_w4096s1p0_4095 x 0 (ix4 b h n j)
      = ((∑ k ∈ Finset.Ico j.val 4096, f k : ℝ) : EReal) := by
  unfold Ideal.hostReduceWindowAdd Host.reduceWindow
  dsimp only
  rw [foldl_add, zero_add, ← List.ofFn_eq_map, List.sum_ofFn]
  have hj := j.isLt
  refine (Fintype.sum_equiv ((Shape.rowMajor ⟨4, ![1, 1, 1, 4096]⟩).symm.trans along.symm) _
    (fun k : Fin 4096 => (((if j.val + k.val < 4096 then f (j.val + k.val) else 0 : ℝ)) : EReal)) fun i => ?_).trans ?_
  · obtain ⟨k, hk⟩ := along.surjective ((Shape.rowMajor ⟨4, ![1, 1, 1, 4096]⟩).symm i)
    simp only [Equiv.trans_apply, ← hk, Equiv.symm_apply_apply]
    split
    · rename_i hin
      have h3 : j.val * 1 + k.val - 0 < 4096 := (hin 3).2
      rw [if_pos (by omega), ← hx ⟨j.val + k.val, by omega⟩]
      refine congrArg x (funext fun a => Fin.ext ?_)
      match a with
      | ⟨0, _⟩ => show b.val * 1 + 0 - 0 = b.val; omega
      | ⟨1, _⟩ => show h.val * 1 + 0 - 0 = h.val; omega
      | ⟨2, _⟩ => show n.val * 1 + 0 - 0 = n.val; omega
      | ⟨3, _⟩ => show j.val * 1 + k.val - 0 = j.val + k.val; omega
    · rename_i hin
      rw [if_neg fun hk' => hin fun a => ?_]
      · rfl
      · have := b.isLt
        have := h.isLt
        have := n.isLt
        match a with
        | ⟨0, _⟩ => exact ⟨Nat.zero_le _, show b.val * 1 + 0 - 0 < 8 by omega⟩
        | ⟨1, _⟩ => exact ⟨Nat.zero_le _, show h.val * 1 + 0 - 0 < 8 by omega⟩
        | ⟨2, _⟩ => exact ⟨Nat.zero_le _, show n.val * 1 + 0 - 0 < 4096 by omega⟩
        | ⟨3, _⟩ => exact ⟨Nat.zero_le _, show j.val * 1 + k.val - 0 < 4096 by omega⟩
  · exact (coe_sum _ _).trans (congrArg Real.toEReal (fin_sum_tail 4096 f j.val hj.le))

section

variable (P : (⟨3, ![8, 4096, 3072]⟩ : Shape).Idx → EReal)

theorem queries (b h : Fin 8) (n : Fin 4096) (x : Fin 128) :
    (val_main_v3 (F := Ideal) P (ix4 b h n x) : EReal) = entry P b.val n.val (128 * h.val + x.val) := by
  rw [val_main_v3_apply, val_main_v2_apply, val_main_v1_apply, val_main_v0_apply]
  unfold entry
  have := b.isLt
  have := h.isLt
  have := n.isLt
  have := x.isLt
  rw [dif_pos ⟨by omega, by omega, by omega⟩]
  refine congrArg P (funext fun a => Fin.ext ?_)
  match a with
  | ⟨0, _⟩ => show (((b.val * 4096 + n.val) * 8 + h.val) * 128 + x.val) / 4194304 = b.val; omega
  | ⟨1, _⟩ => show (((b.val * 4096 + n.val) * 8 + h.val) * 128 + x.val) / 1024 % 4096 = n.val; omega
  | ⟨2, _⟩ => show (((b.val * 4096 + n.val) * 8 + h.val) * 128 + x.val) % 1024 = 128 * h.val + x.val; omega

theorem keys (b h : Fin 8) (n : Fin 4096) (x : Fin 128) :
    (val_main_v6 (F := Ideal) P (ix4 b h n x) : EReal) = entry P b.val n.val (1024 + 128 * h.val + x.val) := by
  rw [val_main_v6_apply, val_main_v5_apply, val_main_v4_apply, val_main_v0_apply]
  unfold entry
  have := b.isLt
  have := h.isLt
  have := n.isLt
  have := x.isLt
  rw [dif_pos ⟨by omega, by omega, by omega⟩]
  refine congrArg P (funext fun a => Fin.ext ?_)
  match a with
  | ⟨0, _⟩ => show (((b.val * 4096 + n.val) * 8 + h.val) * 128 + x.val) / 4194304 = b.val; omega
  | ⟨1, _⟩ => show (((b.val * 4096 + n.val) * 8 + h.val) * 128 + x.val) / 1024 % 4096 = n.val; omega
  | ⟨2, _⟩ => show 1024 + (((b.val * 4096 + n.val) * 8 + h.val) * 128 + x.val) % 1024 = 1024 + 128 * h.val + x.val; omega

theorem values (b h : Fin 8) (n : Fin 4096) (x : Fin 128) :
    (val_main_v9 (F := Ideal) P (ix4 b h n x) : EReal) = entry P b.val n.val (2048 + 128 * h.val + x.val) := by
  rw [val_main_v9_apply, val_main_v8_apply, val_main_v7_apply, val_main_v0_apply]
  unfold entry
  have := b.isLt
  have := h.isLt
  have := n.isLt
  have := x.isLt
  rw [dif_pos ⟨by omega, by omega, by omega⟩]
  refine congrArg P (funext fun a => Fin.ext ?_)
  match a with
  | ⟨0, _⟩ => show (((b.val * 4096 + n.val) * 8 + h.val) * 128 + x.val) / 4194304 = b.val; omega
  | ⟨1, _⟩ => show (((b.val * 4096 + n.val) * 8 + h.val) * 128 + x.val) / 1024 % 4096 = n.val; omega
  | ⟨2, _⟩ => show 2048 + (((b.val * 4096 + n.val) * 8 + h.val) * 128 + x.val) % 1024 = 2048 + 128 * h.val + x.val; omega

variable (hP : Real2048 P)

/-- The score of query `n` and key `j`. -/
def score (P : (⟨3, ![8, 4096, 3072]⟩ : Shape).Idx → EReal) (b h n j : ℕ) : ℝ := dots P b h n j * sc

include hP in
theorem score_apply (b h : Fin 8) (n j : Fin 4096) : (val_main_v13 (F := Ideal) P (ix4 b h n j) : EReal) = ((score P b.val h.val n.val j.val : ℝ) : EReal) := by
  have e : (val_main_v10 (F := Ideal) P (ix4 b h n j) : EReal) = ((dots P b.val h.val n.val j.val : ℝ) : EReal) := by
    rw [val_main_v10_apply, ← dots_eq P hP _ _ _ _ h.isLt]
    refine Finset.sum_congr rfl fun x _ => ?_
    rw [show lidx_main_v10 (ix4 b h n j) x = ix4 b h n x from funext fun a => by fin_cases a <;> rfl,
      show ridx_main_v10 (ix4 b h n j) x = ix4 b h j x from funext fun a => by fin_cases a <;> rfl, queries, keys]
  rw [val_main_v13_apply, e, val_main_v12_apply, val_main_v11_apply, val_main_cst_apply]
  have h128 : Ideal.ofBits .f32 0x43000000#32 = ((128 : ℝ) : EReal) := by
    simp [Ideal.ofBits, Ideal.ieee, -EReal.coe_mul]; norm_num
  show Ideal.div _ (Ideal.sqrt (Ideal.ofBits .f32 0x43000000#32)) = _
  rw [h128, Ideal.sqrt_coe, if_neg (by norm_num), Ideal.div_coe (by positivity), ← EReal.coe_mul]
  unfold score sc
  rw [one_div]

theorem past_apply (n j : Fin 4096) (x y : EReal) : Scalar.select (val_main_v19 (F := Ideal) (ix2 n j)) x y = if j.val < n.val then x else y := by
  rw [val_main_v19_apply, val_main_v17_apply, val_main_v18_apply, val_main_v15_apply, val_main_v16_apply, val_main_v14_apply, val_main_v14_apply]
  show Scalar.select (IntOp.cmpi .slt (BitVec.ofNat 32 j.val) (BitVec.ofNat 32 n.val)) x y = _
  have := n.isLt
  have := j.isLt
  rw [WordCmp.cmpi_slt_ofNat (by omega) (by omega)]
  by_cases h : j.val < n.val <;> simp [h, Scalar.select]

/-- The logarithm of the sigmoid as the reference computes it. -/
theorem log_sigmoid (w : Ideal .f32) (z : ℝ) (hw : w = (z : EReal)) : (FloatOps.hostNegf
      (Scalar.select
        (FloatOps.cmpf CmpFPredicate.une (FloatOps.subf (FloatOps.hostNegf w) (FloatOps.ofBits FTy.f32 0#32))
          (FloatOps.subf (FloatOps.hostNegf w) (FloatOps.ofBits FTy.f32 0#32)))
        (FloatOps.addf (FloatOps.hostNegf w) (FloatOps.ofBits FTy.f32 0#32))
        (FloatOps.addf (FloatOps.maximumf (FloatOps.hostNegf w) (FloatOps.ofBits FTy.f32 0#32))
          (FloatOps.hostUnary HostUnaryOp.log1p
            (FloatOps.hostUnary HostUnaryOp.exp
              (FloatOps.hostNegf
                (FloatOps.hostAbsf (FloatOps.subf (FloatOps.hostNegf w) (FloatOps.ofBits FTy.f32 0#32)))))))) : Ideal .f32)
      = ((-sp (-z) : ℝ) : EReal) := by
  subst hw
  simp [Ideal.cmpf_def, Ideal.cmp, Ideal.absf_def, Scalar.select]
  have h := host_sp (-z)
  rwa [EReal.coe_neg, neg_neg] at h

theorem log_sigmoid_neg (i : S8x8x4096x4096.Idx) (z : ℝ) (hz : (val_main_v20 (F := Ideal) P i : EReal) = (z : EReal)) :
    (val_main_v21 (F := Ideal) P i : EReal) = ((-sp (-z) : ℝ) : EReal) := by
  simp only [val_main_v21_apply, val_main_call0_v1_apply, val_main_call0_call0_v11_apply, val_main_call0_call0_v10_apply, val_main_call0_call0_v9_apply, val_main_call0_call0_v8_apply, val_main_call0_call0_v7_apply, val_main_call0_call0_v6_apply, val_main_call0_call0_v5_apply, val_main_call0_call0_v4_apply, val_main_call0_call0_v3_apply, val_main_call0_call0_v2_apply, val_main_call0_call0_v1_apply, val_main_call0_call0_v0_apply, val_main_call0_call0_cst_apply, val_main_call0_v0_apply]
  exact log_sigmoid _ z hz

theorem log_sigmoid_pos (i : S8x8x4096x4096.Idx) (z : ℝ) (hz : (val_main_v13 (F := Ideal) P i : EReal) = (z : EReal)) :
    (val_main_v25 (F := Ideal) P i : EReal) = ((-sp (-z) : ℝ) : EReal) := by
  simp only [val_main_v25_apply, val_main_call3_v1_apply, val_main_call3_call0_v11_apply, val_main_call3_call0_v10_apply, val_main_call3_call0_v9_apply, val_main_call3_call0_v8_apply, val_main_call3_call0_v7_apply, val_main_call3_call0_v6_apply, val_main_call3_call0_v5_apply, val_main_call3_call0_v4_apply, val_main_call3_call0_v3_apply, val_main_call3_call0_v2_apply, val_main_call3_call0_v1_apply, val_main_call3_call0_v0_apply, val_main_call3_call0_cst_apply, val_main_call3_v0_apply]
  exact log_sigmoid _ z hz

/-- What the query leaves of the stick at key `j`, in logarithms. -/
theorem log_1m_apply (b h : Fin 8) (n j : Fin 4096) (z : ℕ → ℝ) (hz : (val_main_v13 (F := Ideal) P (ix4 b h n j) : EReal) = ((z j.val : ℝ) : EReal)) :
    (val_main_v22 (F := Ideal) P (ix4 b h n j) : EReal) = ((-mass z n.val j.val : ℝ) : EReal) := by
  have e : (val_main_v20 (F := Ideal) P (ix4 b h n j) : EReal) = ((-z j.val : ℝ) : EReal) := by
    rw [val_main_v20_apply, hz, EReal.coe_neg]; rfl
  rw [val_main_v22_apply, log_sigmoid_neg P _ _ e, neg_neg, val_main_call1_v1_apply,
    show idx_main_call1_v1 (ix4 b h n j) = ix2 n j from funext fun a => by fin_cases a <;> rfl, past_apply,
    val_main_call1_v2_apply, val_main_call1_v0_apply, val_main_cst_0_apply]
  unfold mass
  split
  · rfl
  · simp

/-- The keys between: what the later keys before the query leave, in logarithms. -/
theorem between_apply (b h : Fin 8) (n j : Fin 4096) (z : ℕ → ℝ) (hz : ∀ k : Fin 4096, (val_main_v13 (F := Ideal) P (ix4 b h n k) : EReal) = ((z k.val : ℝ) : EReal)) :
    (val_main_v24 (F := Ideal) P (ix4 b h n j) : EReal) = ((-tail z n.val (j.val + 1) : ℝ) : EReal) := by
  have hj := j.isLt
  have i0 : (val_main_call2_v0 (F := Ideal) (Shape.Idx.first h_S_) : EReal) = 0 := by
    rw [val_main_call2_v0_apply, val_main_call2_cst_apply]; simp
  have e : (val_main_v23 (F := Ideal) P (ix4 b h n j) : EReal) = ((-tail z n.val j.val : ℝ) : EReal) := by
    unfold val_main_v23 Host.reduceWindowAdd
    rw [Ideal.hostReduceWindowAdd_def, i0,
      cumsum_apply _ (fun k => -mass z n.val k) b h n j fun k => log_1m_apply P b h n k z (hz k)]
    unfold tail
    rw [Finset.sum_neg_distrib]
  rw [val_main_v24_apply, e, log_1m_apply P b h n j z (hz j)]
  show ((-tail z n.val j.val : ℝ) : EReal) - ((-mass z n.val j.val : ℝ) : EReal) = _
  rw [← EReal.coe_sub, EReal.coe_eq_coe_iff]
  rw [tail_split z n.val j.val (j.val + 1) (by omega) (by omega), Nat.Ico_succ_singleton, Finset.sum_singleton]
  ring

theorem weight_apply (b h : Fin 8) (n j : Fin 4096) (z : ℕ → ℝ) (hz : ∀ k : Fin 4096, (val_main_v13 (F := Ideal) P (ix4 b h n k) : EReal) = ((z k.val : ℝ) : EReal)) :
    (val_main_v28 (F := Ideal) P (ix4 b h n j) : EReal) = ((wt z n.val j.val : ℝ) : EReal) := by
  have e : (val_main_v27 (F := Ideal) P (ix4 b h n j) : EReal) = ((Real.exp (z j.val - sp (z j.val) - tail z n.val (j.val + 1)) : ℝ) : EReal) := by
    rw [val_main_v27_apply, val_main_v26_apply, log_sigmoid_pos P _ _ (hz j), between_apply P b h n j z hz]
    show Ideal.exp (((-sp (-z j.val) : ℝ) : EReal) + ((-tail z n.val (j.val + 1) : ℝ) : EReal)) = _
    rw [← EReal.coe_add, Ideal.exp_coe, sp_neg]
    congr 2
    ring
  rw [val_main_v28_apply, e, val_main_call4_v1_apply,
    show idx_main_call4_v1 (ix4 b h n j) = ix2 n j from funext fun a => by fin_cases a <;> rfl, past_apply,
    val_main_call4_v2_apply, val_main_call4_v0_apply, val_main_cst_1_apply]
  unfold wt
  split
  · rfl
  · simp

include hP in
theorem term_apply (b : Fin 8) (n : Fin 4096) (c : Fin 1024) (hc : c.val < 1024) (h : Fin 8) (k : Fin 4096) (hh : h.val = c.val / 128) (d : Fin 128) (hd : d.val = c.val % 128) :
    (val_main_v28 (F := Ideal) P (lidx_main_v29 (ix4 b h n d) k) : EReal) * (val_main_v9 (F := Ideal) P (ridx_main_v29 (ix4 b h n d) k) : EReal)
      = ((wt (fun j => score P b.val (c.val / 128) n.val j) n.val (0 + k.val) : ℝ) : EReal) * entry P b.val (0 + k.val) (2048 + c.val) := by
  have e1 : lidx_main_v29 (ix4 b h n d) k = ix4 b h n k := funext fun a => by fin_cases a <;> rfl
  have e2 : ridx_main_v29 (ix4 b h n d) k = ix4 b h k d := funext fun a => by fin_cases a <;> rfl
  rw [e1, e2, values, weight_apply P b h n k (fun j => score P b.val h.val n.val j) fun k => score_apply P hP b h n k, Nat.zero_add, hh, hd]
  rw [show 2048 + 128 * (c.val / 128) + c.val % 128 = 2048 + c.val by omega]

include hP in
/-- THE REFERENCE AT AN INDEX. -/
theorem reference_apply (b : Fin 8) (n : Fin 4096) (c : Fin 1024) :
    (val_main_v32 (F := Ideal) P (ix3 b n c) : EReal) = result P b.val n.val c.val := by
  have hb := b.isLt
  have hn := n.isLt
  have hc := c.isLt
  have e : idx_main_v30 (idx_main_v31 (ix3 b n c)) = ix4 b (⟨c.val / 128, by omega⟩ : Fin 8) n (⟨c.val % 128, by omega⟩ : Fin 128) := by
    refine funext fun a => Fin.ext ?_
    match a with
    | ⟨0, _⟩ => show ((b.val * 4096 + n.val) * 1024 + c.val) / 4194304 = b.val; omega
    | ⟨1, _⟩ => show ((b.val * 4096 + n.val) * 1024 + c.val) / 128 % 8 = c.val / 128; omega
    | ⟨2, _⟩ => show ((b.val * 4096 + n.val) * 1024 + c.val) / 1024 % 4096 = n.val; omega
    | ⟨3, _⟩ => show ((b.val * 4096 + n.val) * 1024 + c.val) % 128 = c.val % 128; omega
  rw [val_main_v32_apply, val_main_v31_apply, val_main_v30_apply, e, val_main_v29_apply]
  exact (Finset.sum_congr rfl fun k _ => term_apply P hP b n c hc _ k rfl _ rfl).trans
    (fin_sum_Ico (fun j => ((wt (fun j => score P b.val (c.val / 128) n.val j) n.val j : ℝ) : EReal) * entry P b.val j (2048 + c.val)) 0 4096)

end

end Cert.Stick

end
-- ==== Proof.StickClaims.lean ====
/-
  The claims about the attention: the precondition read off, the named constants, and the equality of the two results.
-/
module

public import proofs.«01_k».proof.Defs
public import proofs.«01_k».proof.Proof.StickGrid
public import proofs.«01_k».proof.Proof.StickRef
public import proofs.«01_k».proof.Proof.Gen.ReferenceIdeal.Run
public import proofs.«01_k».proof.Proof.Gen.Kernel.Frame
public import Idealize.ShloMosaic.Lib.ReduceAll

@[expose] public section

set_option maxRecDepth 16384

noncomputable section

namespace Cert.Stick

open Idealize.ShloMosaic Idealize.ShloMosaic.TcCoe Idealize.SL.Sem Idealize.ShloMosaic.Tactic

theorem facts_finite : Cert.Pre_finite.Facts where
  slices_S8x4096x3072_S8x4096x2048_0_0_0 := by decide
  bitsLt_bf16_f32 := by decide
  bcast_S_S8x4096x2048 := by decide
  reducesTo_S8x4096x2048_S_d0_1_2 := by decide
  h_S_ := by decide

/-- The precondition says that the queries and keys are real numbers. -/
theorem real_of_pre (P : (⟨3, ![8, 4096, 3072]⟩ : Shape).Idx → EReal)
    (h : (haveI := facts_finite; Cert.Pre_finite.fn (F := Ideal) P) = fun _ => 1#1) : Real2048 P := by
  intro b n c hc
  unfold entry
  split
  · rename_i hb
    have e := congrFun h ix0
    unfold Cert.Pre_finite.fn at e
    have e1 := Host.reduce_andi_all _ _ _ _ _ e (ix3 (⟨b, hb.1⟩ : Fin 8) (⟨n, hb.2.1⟩ : Fin 4096) (⟨c, hc⟩ : Fin 2048))
    have e2 : Ideal.cmp .olt (max (P (ix3 (⟨b, hb.1⟩ : Fin 8) (⟨n, hb.2.1⟩ : Fin 4096) (⟨c, hb.2.2⟩ : Fin 3072)))
        (-(P (ix3 (⟨b, hb.1⟩ : Fin 8) (⟨n, hb.2.1⟩ : Fin 4096) (⟨c, hb.2.2⟩ : Fin 3072))))) (Ideal.ofBits .f32 0x7F800000#32) = 1#1 := by
      rw [← e1]
      pointwise
      rfl
    have ht : Ideal.ofBits .f32 0x7F800000#32 = ⊤ := by simp [Ideal.ofBits, Ideal.ieee]
    rw [ht] at e2
    generalize P _ = p at e2 ⊢
    induction p with
    | bot => simp [Ideal.cmp] at e2
    | top => simp [Ideal.cmp] at e2
    | coe r => exact ⟨r, rfl⟩
  · exact ⟨0, rfl⟩

theorem preserves : Cert.preserves_Kernel_KernelIdeal :=
  ⟨IdealRules.named_const.statement Cert.KernelIdeal.κ "scale" .f32 0x3DB504F3#32 _ rfl,
    IdealRules.named_const.statement Cert.KernelIdeal.κ "neg_scale_log2e" .f32 0xBE0293EE#32 _ rfl,
    IdealRules.named_const.statement Cert.KernelIdeal.κ "log2e" .f32 0x3FB8AA3B#32 _ rfl⟩

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite (hPre_finite := facts_finite) := fun m ρ _ => Cert.KernelIdeal.Gen.frame m ρ
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_ri_finite : Cert.quiescent_ReferenceIdeal_pre_finite (hPre_finite := facts_finite) := fun m ρ _ => frame_ri m ρ trivial

theorem algebraic : Cert.algebraic_KernelIdeal_ReferenceIdeal_pre_finite (hPre_finite := facts_finite) := by
  intro m ρ m' ρ' hpre hagree
  have hP : ∀ c : Dev Cert.KernelIdeal.nD, Real2048 (arg m c) := fun c => real_of_pre _ (hpre c)
  refine ⟨fun c => fun i : Cert.KernelIdeal.S8x4096x1024.Idx => result (arg m c) (i 0).val (i 1).val (i 2).val, ?_, ?_⟩
  · exact (θ_run Cert.KernelIdeal.defs _ _).mono (fun _ h c => ⟨(h c).1.trans (final m c (hP c)), (h c).2⟩)
      (Cert.KernelIdeal.Value.run_blocks (F := Ideal) m ρ)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v32_eq, hagree c]
    funext i
    idx_vars i
    exact reference_apply _ (hP c) _ _ _

end Cert.Stick

end
-- ==== Proof.FfnSpec.lean ====
/-
  The mathematics of the feed-forward block, at a row and a column: the hidden units, their projection back, and the
  normalised sum added to the residual. Everything is a sum of extended reals; no entry need be a real number.
-/
module

public import Idealize.ShloMosaic.Lib.Pointwise
public import proofs.«01_k».proof.Proof.StickClaims

@[expose] public section

set_option maxRecDepth 16384

noncomputable section

namespace Cert.Ffn

open Idealize.ShloMosaic Idealize.ShloMosaic.Tactic

/-- A matrix of extended reals. -/
abbrev Mat (a b : ℕ) := (⟨2, ![a, b]⟩ : Shape).Idx → EReal

/-- The entry at a row and a column, 0 outside the matrix. -/
def entry {a b : ℕ} (A : Mat a b) (n k : ℕ) : EReal := if h : n < a ∧ k < b then A (ix2 (⟨n, h.1⟩ : Fin a) (⟨k, h.2⟩ : Fin b)) else 0

theorem entry_eq {a b : ℕ} (A : Mat a b) (n : Fin a) (k : Fin b) : entry A n.val k.val = A (ix2 n k) := dif_pos ⟨n.isLt, k.isLt⟩

/-- The product of a row of `A` with a column of `B`. -/
def dot {a d b : ℕ} (A : Mat a d) (B : Mat d b) (n f : ℕ) : EReal := ∑ k : Fin d, entry A n k.val * entry B k.val f

theorem dot_eq {a d b : ℕ} (A : Mat a d) (B : Mat d b) (n : Fin a) (f : Fin b) : dot A B n.val f.val = ∑ k : Fin d, A (ix2 n k) * B (ix2 k f) :=
  Finset.sum_congr rfl fun k _ => by rw [entry_eq, entry_eq]

/-- The gated unit: `g · σ(g) · u`. -/
def gated (g u : EReal) : EReal := g * Ideal.div 1 (1 + Ideal.exp (-g)) * u

/-- A row divided by its root mean square and multiplied by the gain, at a column. -/
def normed (y : ℕ → EReal) (gain : EReal) (d : ℕ) : EReal :=
  y d * Ideal.rsqrt (Ideal.div (∑ x : Fin 2048, y x.val * y x.val) (Ideal.ofBits FTy.f32 1157627904#32) + Ideal.ofBits FTy.f32 897988541#32) * gain

section
variable {a d h o : ℕ} (U : Mat a d) (WG WU : Mat d h) (WD : Mat h o)

/-- The hidden unit `f` of row `n`. -/
def hidden (n f : ℕ) : EReal := gated (dot U WG n f) (dot U WU n f)

/-- The feed-forward block before its normalisation. -/
def down (n x : ℕ) : EReal := ∑ f ∈ Finset.range h, hidden U WG WU n f * entry WD f x

/-- The part of it that a block of 512 hidden units gives. -/
def part (n k x : ℕ) : EReal := ∑ f : Fin 512, hidden U WG WU n (512 * k + f.val) * entry WD (512 * k + f.val) x
end

theorem sum_blocks (F : ℕ → EReal) (n : ℕ) : ∑ k ∈ Finset.range n, ∑ f : Fin 512, F (512 * k + f.val) = ∑ f ∈ Finset.range (512 * n), F f := by
  induction n with
  | zero => simp
  | succ n ih => rw [Finset.sum_range_succ, ih, Nat.mul_succ, Finset.sum_range_add, Finset.sum_range (fun f => F (512 * n + f))]

theorem sum_parts {a d o : ℕ} (U : Mat a d) (WG WU : Mat d 5632) (WD : Mat 5632 o) (n x : ℕ) :
    ∑ k ∈ Finset.range 11, part U WG WU WD n k x = down U WG WU WD n x :=
  sum_blocks (fun f => hidden U WG WU n f * entry WD f x) 11

end Cert.Ffn

end
-- ==== Proof.FfnPay.lean ====
/-
  The values the feed-forward kernel stores, at an element: the zero accumulator, one block of hidden units added to it, and
  the normalised sum added to the residual.
-/
module

public import proofs.«01_k».proof.Proof.FfnSpec
public import proofs.«01_k».proof.Proof.Gen.Kernel2Ideal.Value

@[expose] public section

set_option maxRecDepth 16384

noncomputable section

namespace Cert.Ffn

open Cert.Kernel2Ideal Cert.Kernel2Ideal.Gen Idealize.ShloMosaic Idealize.ShloMosaic.TcCoe Idealize.SL.Sem Idealize.ShloMosaic.Tactic

theorem zero_apply (r : Fin 512) (d : Fin 2048) : (k0_pay1 (F := Ideal) (ix2 r d) : EReal) = 0 := by
  pointwise [k0_pay1]

theorem step_apply (u : Vec Ideal S512x2048 .bf16) (wg wu : Vec Ideal S2048x512 .bf16) (acc : Vec Ideal S512x2048 .f32) (wd : Vec Ideal S512x2048 .bf16)
    (r : Fin 512) (d : Fin 2048) : (k0_pay2 u wg wu acc wd (ix2 r d) : EReal)
      = acc (ix2 r d) + ∑ f : Fin 512, gated (∑ k : Fin 2048, u (ix2 r k) * wg (ix2 k f)) (∑ k : Fin 2048, u (ix2 r k) * wu (ix2 k f)) * wd (ix2 f d) := by
  pointwise [k0_pay2]
  simp only [gated, zero_sub]

theorem last_apply (y h : Vec Ideal S512x2048 .f32) (g : Vec Ideal S1x2048 .f32) (r : Fin 512) (d : Fin 2048) (Y : ℕ → EReal)
    (hY : ∀ x : Fin 2048, y (ix2 r x) = Y x.val) :
    (k0_pay3 y h g (ix2 r d) : EReal) = h (ix2 r d) + normed Y (g (ix2 (0 : Fin 1) d)) d.val := by
  pointwise [k0_pay3]
  simp only [hY, normed]

end Cert.Ffn

end
-- ==== Proof.FfnRun.lean ====
/-
  What a grid point of the feed-forward kernel leaves in its accumulator and in its output block, as terms: the pieces the run
  found are read back as these values.
-/
module

public import proofs.«01_k».proof.Proof.FfnPay

@[expose] public section

set_option maxRecDepth 16384

noncomputable section

namespace Cert.Ffn

open Cert.Kernel2Ideal Cert.Kernel2Ideal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

section
variable (c : Dev nD) (i : grid0.Coords) (arg2 : Memref sig .tc .vmem S512x2048 .bf16) (h2 : arg2.IsWhole) (arg3 : Memref sig .tc .vmem S2048x512 .bf16) (h3 : arg3.IsWhole)
  (arg4 : Memref sig .tc .vmem S2048x512 .bf16) (h4 : arg4.IsWhole) (arg5 : Memref sig .tc .vmem S512x2048 .bf16) (h5 : arg5.IsWhole)
  (arg6 : Memref sig .tc .vmem S512x2048 .f32) (h6 : arg6.IsWhole) (arg7 : Memref sig .tc .vmem S1x2048 .f32) (h7 : arg7.IsWhole)
  (arg8 : Memref sig .tc .vmem S1x2048 .f32) (h8 : arg8.IsWhole) (arg9 : Memref sig .tc .vmem S512x2048 .f32) (h9 : arg9.IsWhole)
  (arg10 : Memref sig .tc .vmem S512x2048 .f32) (h10 : arg10.IsWhole)
  (x0 : Vec F S512x2048 .bf16) (x1 x2 : Vec F S2048x512 .bf16) (x3 : Vec F S512x2048 .bf16) (x4 : Vec F S512x2048 .f32) (x5 x6 : Vec F S1x2048 .f32) (xs : Vec F S512x2048 .f32)

theorem acc_A (hc0 : cond0_0 i) (hc1 : ¬cond0_1 i) :
    sout0_A_0 c i arg2 h2 arg3 h3 arg4 h4 arg5 h5 arg6 h6 arg7 h7 arg8 h8 arg9 h9 arg10 h10 hc0 hc1 x0 x1 x2 x3 x4 x5 x6 = k0_pay2 x0 x1 x2 k0_pay1 x3 := by
  unfold sout0_A_0
  rw [View.read_writes_eq_canon _ _ _ (scover0_A_0 c i arg2 h2 arg3 h3 arg4 h4 arg5 h5 arg6 h6 arg7 h7 arg8 h8 arg9 h9 arg10 h10 hc0 hc1 x0 x1 x2 x3 x4 x5 x6)]
  unfold kernelRun0_A
  dsimp only
  sl_unfold_words
  rw [View.canon_cons_unit_zero (S := S512x2048) hz, View.readCov_unit_zero (S := S512x2048) _ hz]
  simp only [View.readAt_eq_ld, h2.read_unread, h3.read_unread, h4.read_unread, h5.read_unread, View.ld_unit_zero (S := S512x2048) hz, View.ld_unit_zero (S := S2048x512) hz, shapeCast_self]

theorem acc_B (hc0 : ¬cond0_0 i) (hc1 : ¬cond0_1 i) :
    sout0_B_0 c i arg2 h2 arg3 h3 arg4 h4 arg5 h5 arg6 h6 arg7 h7 arg8 h8 arg9 h9 arg10 h10 hc0 hc1 x0 x1 x2 x3 x4 x5 x6 xs = k0_pay2 x0 x1 x2 xs x3 := by
  unfold sout0_B_0
  rw [View.read_writes_eq_canon _ _ _ (scover0_B_0 c i arg2 h2 arg3 h3 arg4 h4 arg5 h5 arg6 h6 arg7 h7 arg8 h8 arg9 h9 arg10 h10 hc0 hc1 x0 x1 x2 x3 x4 x5 x6 xs)]
  unfold kernelRun0_B
  dsimp only
  sl_unfold_words
  rw [View.canon_unit_zero (S := S512x2048) hz]
  simp only [View.readAt_eq_ld, h2.read_unread, h3.read_unread, h4.read_unread, h5.read_unread, h10.read_unread, View.ld_unit_zero (S := S512x2048) hz, View.ld_unit_zero (S := S2048x512) hz, shapeCast_self]

theorem acc_C (hc0 : ¬cond0_0 i) (hc1 : cond0_1 i) :
    sout0_C_0 c i arg2 h2 arg3 h3 arg4 h4 arg5 h5 arg6 h6 arg7 h7 arg8 h8 arg9 h9 arg10 h10 hc0 hc1 x0 x1 x2 x3 x4 x5 x6 xs = k0_pay2 x0 x1 x2 xs x3 := by
  unfold sout0_C_0
  rw [View.read_writes_eq_canon _ _ _ (scover0_C_0 c i arg2 h2 arg3 h3 arg4 h4 arg5 h5 arg6 h6 arg7 h7 arg8 h8 arg9 h9 arg10 h10 hc0 hc1 x0 x1 x2 x3 x4 x5 x6 xs)]
  unfold kernelRun0_C
  dsimp only
  sl_unfold_words
  rw [View.canon_unit_zero (S := S512x2048) hz]
  simp only [View.readAt_eq_ld, h2.read_unread, h3.read_unread, h4.read_unread, h5.read_unread, h10.read_unread, View.ld_unit_zero (S := S512x2048) hz, View.ld_unit_zero (S := S2048x512) hz, shapeCast_self]

theorem out_C (hc0 : ¬cond0_0 i) (hc1 : cond0_1 i) :
    out0_C_7 c i arg2 h2 arg3 h3 arg4 h4 arg5 h5 arg6 h6 arg7 h7 arg8 h8 arg9 h9 arg10 h10 hc0 hc1 x0 x1 x2 x3 x4 x5 x6 xs = k0_pay3 (k0_pay2 x0 x1 x2 xs x3) x4 x5 := by
  unfold out0_C_7
  rw [View.read_writes_eq_canon _ _ _ (cover0_C_7 c i arg2 h2 arg3 h3 arg4 h4 arg5 h5 arg6 h6 arg7 h7 arg8 h8 arg9 h9 arg10 h10 hc0 hc1 x0 x1 x2 x3 x4 x5 x6 xs)]
  unfold kernelRun0_C
  dsimp only
  sl_unfold_words
  rw [View.canon_unit_zero (S := S512x2048) hz, View.readCov_unit_zero (S := S512x2048) _ hz]
  simp only [View.readAt_eq_ld, h2.read_unread, h3.read_unread, h4.read_unread, h5.read_unread, h6.read_unread, h7.read_unread, h10.read_unread, View.ld_unit_zero (S := S512x2048) hz, View.ld_unit_zero (S := S2048x512) hz, View.ld_unit_zero (S := S1x2048) hz, shapeCast_self]
end

end Cert.Ffn

end
-- ==== Proof.FfnGrid.lean ====
/-
  The feed-forward kernel's result array: the accumulator holds the sum over the hidden units met so far in the point's row
  block, the last point of a row block writes its normalised sum, and those blocks cover the array.
-/
module

public import proofs.«01_k».proof.Proof.FfnRun
public import Idealize.ShloMosaic.Lib.Pipeline.ValueKit

@[expose] public section

set_option maxRecDepth 16384

noncomputable section

namespace Cert.Ffn

open Cert.Kernel2Ideal Cert.Kernel2Ideal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ) (c : Dev nD)

/-- The arguments: the rows, the three weights, the residual and the gain. -/
abbrev aU : Mat 32768 2048 := m ((c : Thread nD τ).loc main_arg0)
abbrev aG : Mat 2048 5632 := m ((c : Thread nD τ).loc main_arg1)
abbrev aV : Mat 2048 5632 := m ((c : Thread nD τ).loc main_arg2)
abbrev aD : Mat 5632 2048 := m ((c : Thread nD τ).loc main_arg3)
abbrev aH : Mat 32768 2048 := m ((c : Thread nD τ).loc main_arg4)
abbrev aN : (⟨1, ![2048]⟩ : Shape).Idx → EReal := m ((c : Thread nD τ).loc main_arg5)

theorem t_lt (t : Fin cfg0.N) : t.val < 704 := lt_of_lt_of_eq t.isLt N_0

theorem idx : ∀ t : Fin cfg0.N, win0_0.index t = ![t.val / 11, 0] ∧ win0_1.index t = ![0, t.val % 11] ∧ win0_2.index t = ![0, t.val % 11]
    ∧ win0_3.index t = ![t.val % 11, 0] ∧ win0_4.index t = ![t.val / 11, 0] ∧ win0_5.index t = ![0, 0] ∧ win0_7.index t = ![t.val / 11, 0] :=
  (by decide +kernel : ∀ t : Fin grid0.N, _)

theorem v0 : (V m c main_v0 : Mat 2048 5632) = aG m c := by
  unfold_abbrev_sides
  after_results
  rfl
theorem v1 : (V m c main_v1 : Mat 2048 5632) = aV m c := by
  unfold_abbrev_sides
  after_results
  rfl
theorem v2 : (V m c main_v2 : Mat 5632 2048) = aD m c := by
  unfold_abbrev_sides
  after_results
  rfl
theorem v3 (d : Fin 2048) : (V m c main_v3 : Mat 1 2048) (ix2 (0 : Fin 1) d) = aN m c (ix1 d) := by
  unfold_abbrev_sides
  after_results
  pointwise

theorem blk0 (t : Fin cfg0.N) (r : Fin 512) (k : Fin 2048) : (iblk m c 0 t (ix2 r k) : EReal) = entry (aU m c) (512 * (t.val / 11) + r.val) k.val := by
  have ht := t_lt t
  have hr := r.isLt
  unfold entry
  rw [dif_pos ⟨by omega, k.isLt⟩]
  blk_ext! [iblk, V, idx t]
theorem blk1 (t : Fin cfg0.N) (k : Fin 2048) (f : Fin 512) : (iblk m c 1 t (ix2 k f) : EReal) = entry (aG m c) k.val (512 * (t.val % 11) + f.val) := by
  have hf := f.isLt
  unfold entry
  rw [dif_pos ⟨k.isLt, by omega⟩, ← v0]
  blk_ext! [iblk, idx t]
theorem blk2 (t : Fin cfg0.N) (k : Fin 2048) (f : Fin 512) : (iblk m c 2 t (ix2 k f) : EReal) = entry (aV m c) k.val (512 * (t.val % 11) + f.val) := by
  have hf := f.isLt
  unfold entry
  rw [dif_pos ⟨k.isLt, by omega⟩, ← v1]
  blk_ext! [iblk, idx t]
theorem blk3 (t : Fin cfg0.N) (f : Fin 512) (d : Fin 2048) : (iblk m c 3 t (ix2 f d) : EReal) = entry (aD m c) (512 * (t.val % 11) + f.val) d.val := by
  have hf := f.isLt
  unfold entry
  rw [dif_pos ⟨by omega, d.isLt⟩, ← v2]
  blk_ext! [iblk, idx t]
theorem blk4 (t : Fin cfg0.N) (r : Fin 512) (d : Fin 2048) : (iblk m c 4 t (ix2 r d) : EReal) = entry (aH m c) (512 * (t.val / 11) + r.val) d.val := by
  have ht := t_lt t
  have hr := r.isLt
  unfold entry
  rw [dif_pos ⟨by omega, d.isLt⟩]
  blk_ext! [iblk, V, idx t]
theorem blk5 (t : Fin cfg0.N) (d : Fin 2048) : (iblk m c 5 t (ix2 (0 : Fin 1) d) : EReal) = aN m c (ix1 d) := by
  rw [← v3]
  blk_ext! [iblk, idx t]

/-- One point's addition. -/
theorem step (t : Fin cfg0.N) (acc : Vec Ideal S512x2048 .f32) (r : Fin 512) (d : Fin 2048) :
    (k0_pay2 (iblk m c 0 t) (iblk m c 1 t) (iblk m c 2 t) acc (iblk m c 3 t) (ix2 r d) : EReal)
      = acc (ix2 r d) + part (aU m c) (aG m c) (aV m c) (aD m c) (512 * (t.val / 11) + r.val) (t.val % 11) d.val := by
  rw [step_apply]
  simp only [blk0, blk1, blk2, blk3]
  rfl

/-- The accumulator after a point. -/
theorem acc_apply (t : Fin cfg0.N) (r : Fin 512) (d : Fin 2048) : ((outsAt0 m c t.val t.isLt).2 (ix2 r d) : EReal)
    = 0 + ∑ k ∈ Finset.range (t.val % 11 + 1), part (aU m c) (aG m c) (aV m c) (aD m c) (512 * (t.val / 11) + r.val) k d.val := by
  refine Pipeline.eq_sum_of_reset_step_divmod (M := EReal) (fun n h => (outsAt0 m c n h).2 (ix2 r d)) 11 0
    (fun q k => part (aU m c) (aG m c) (aV m c) (aD m c) (512 * q + r.val) k d.val) (fun t h0 => ?_) (fun t h0 => ?_) t
  · rw [outsAt0_A m c t h0 (by omega)]
    dsimp only
    rw [acc_A, step, zero_apply]
  · by_cases h1 : t.val % 11 = 10
    · rw [outsAt0_C m c t h0 h1]
      dsimp only
      rw [acc_C, step]
    · rw [outsAt0_B m c t h0 h1]
      dsimp only
      rw [acc_B, step]

/-- The result at a row and a column. -/
def result (U : Mat 32768 2048) (WG WU : Mat 2048 5632) (WD : Mat 5632 2048) (H : Mat 32768 2048) (g : (⟨1, ![2048]⟩ : Shape).Idx → EReal)
    (n : ℕ) (d : Fin 2048) : EReal := entry H n d.val + normed (down U WG WU WD n) (g (ix1 d)) d.val

theorem point_apply (t : Fin cfg0.N) (h1 : t.val % 11 = 10) (r : Fin 512) (d : Fin 2048) :
    ((outsAt0 m c t.val t.isLt).1 (ix2 r d) : EReal)
      = result (aU m c) (aG m c) (aV m c) (aD m c) (aH m c) (aN m c) (512 * (t.val / 11) + r.val) d := by
  have h0 : ¬ t.val % 11 = 0 := by omega
  have e : (outsAt0 m c t.val t.isLt).1 = k0_pay3 (outsAt0 m c t.val t.isLt).2 (iblk m c 4 t) (iblk m c 5 t) := by
    rw [outsAt0_C m c t h0 h1]
    dsimp only
    rw [acc_C, out_C]
  rw [e, last_apply _ _ _ r d (down (aU m c) (aG m c) (aV m c) (aD m c) (512 * (t.val / 11) + r.val)) fun x => by
    rw [acc_apply, h1, sum_parts, zero_add], blk4, blk5]
  rfl

/-- THE KERNEL'S RESULT ARRAY. -/
theorem final : (dats m 0 c).arrAt 7 cfg0.N
    = fun i : S32768x2048.Idx => result (aU m c) (aG m c) (aV m c) (aD m c) (aH m c) (aN m c) (i 0).val (i 1) := by
  refine (dats m 0 c).arrAt_eq_of_covers 7 _ (by decide +kernel) fun t hf y => ?_
  have h1 : t.val % 11 = 10 := (flush0_7 t).mp hf
  blk_simp [idx t]
  rw [after0_7]
  idx_vars y
  rw [point_apply m c t h1, Nat.mul_comm 512]
  refine congrArg _ (Fin.ext ?_)
  blk_simp [idx t]

end Cert.Ffn

end
-- ==== Proof.FfnRef.lean ====
/-
  The feed-forward reference read at an index.
-/
module

public import proofs.«01_k».proof.Proof.FfnGrid
public import proofs.«01_k».proof.Proof.Gen.Reference2Ideal.Read
public import Idealize.ShloMosaic.Lib.Pipeline.ValueKit.Point

@[expose] public section

set_option maxRecDepth 16384

noncomputable section

namespace Cert.Ffn

open Cert.Reference2Ideal Cert.Reference2Ideal.Gen Cert.Reference2Ideal.Read Idealize.ShloMosaic Idealize.ShloMosaic.TcCoe Idealize.SL.Sem Idealize.ShloMosaic.Tactic

variable (U : Mat 32768 2048) (WG WU : Mat 2048 5632) (WD : Mat 5632 2048) (H : Mat 32768 2048) (g : (⟨1, ![2048]⟩ : Shape).Idx → EReal)

theorem gate_apply (n : Fin 32768) (f : Fin 5632) : (val_main_v1 (F := Ideal) U WG (ix2 n f) : EReal) = dot U WG n.val f.val := by
  rw [val_main_v1_apply, dot_eq]
  refine Finset.sum_congr rfl fun k _ => ?_
  have e1 : lidx_main_v1 (ix2 n f) k = ix2 n k := funext fun a => by fin_cases a <;> rfl
  have e2 : ridx_main_v1 (ix2 n f) k = ix2 k f := funext fun a => by fin_cases a <;> rfl
  rw [e1, e2]
  rfl
theorem up_apply (n : Fin 32768) (f : Fin 5632) : (val_main_v3 (F := Ideal) U WU (ix2 n f) : EReal) = dot U WU n.val f.val := by
  rw [val_main_v3_apply, dot_eq]
  refine Finset.sum_congr rfl fun k _ => ?_
  have e1 : lidx_main_v3 (ix2 n f) k = ix2 n k := funext fun a => by fin_cases a <;> rfl
  have e2 : ridx_main_v3 (ix2 n f) k = ix2 k f := funext fun a => by fin_cases a <;> rfl
  rw [e1, e2]
  rfl
theorem hidden_apply (n : Fin 32768) (f : Fin 5632) : (val_main_v4 (F := Ideal) U WG WU (ix2 n f) : EReal) = hidden U WG WU n.val f.val := by
  rw [val_main_v4_apply, val_main_v2_apply, val_main_call0_v5_apply, val_main_call0_v4_apply, val_main_call0_v3_apply, val_main_call0_v2_apply,
    val_main_call0_v1_apply, val_main_call0_v0_apply, val_main_call0_cst_apply, val_main_call0_cst_0_apply, gate_apply, up_apply]
  change dot U WG n.val f.val * Ideal.div (Ideal.ofBits .f32 0x3F800000#32) (Ideal.ofBits .f32 0x3F800000#32 + Ideal.exp (-(dot U WG n.val f.val))) * dot U WU n.val f.val = _
  rw [Ideal.ofBits_one_f32]
  rfl
theorem down_apply (n : Fin 32768) (x : Fin 2048) : (val_main_v5 (F := Ideal) U WG WU WD (ix2 n x) : EReal) = down U WG WU WD n.val x.val := by
  rw [val_main_v5_apply]
  unfold down
  rw [Finset.sum_range]
  refine Finset.sum_congr rfl fun k _ => ?_
  have e1 : lidx_main_v5 (ix2 n x) k = ix2 n k := funext fun a => by fin_cases a <;> rfl
  have e2 : ridx_main_v5 (ix2 n x) k = ix2 k x := funext fun a => by fin_cases a <;> rfl
  rw [e1, e2, hidden_apply, entry_eq]

/-- THE REFERENCE'S RESULT at a row and a column. -/
theorem reference_apply (n : Fin 32768) (d : Fin 2048) : (val_main_v19 (F := Ideal) U WG WU WD H g (ix2 n d) : EReal) = result U WG WU WD H g n.val d := by
  rw [val_main_v19_apply, val_main_v18_apply, val_main_v15_apply, val_main_v14_apply, val_main_v13_apply, val_main_v12_apply, val_main_v11_apply, val_main_v10_apply, val_main_v9_apply, val_main_v8_apply, val_main_v7_apply, val_main_v17_apply, val_main_v16_apply, val_main_cst_apply, val_main_cst_0_apply, val_main_cst_1_apply]
  have e7 : ∀ k, idx_main_v7 (idx_main_v8 (idx_main_v14 (ix2 n d))) k = ix2 n k := fun k => funext fun a => by fin_cases a <;> rfl
  have eg : idx_main_v16 (idx_main_v17 (ix2 n d)) = ix1 d := funext fun a => by fin_cases a <;> rfl
  simp only [e7, val_main_v6_apply, down_apply, eg]
  unfold result normed
  rw [entry_eq]
  change H (ix2 n d) + down U WG WU WD n.val d.val * Ideal.rsqrt (Ideal.div (Ideal.ofBits .f32 0x00000000#32 + ∑ x : Fin 2048, down U WG WU WD n.val x.val * down U WG WU WD n.val x.val) _ + _) * g (ix1 d) = _
  rw [Ideal.ofBits_zero_f32, zero_add]
  rfl

end Cert.Ffn

end
-- ==== Proof.FfnClaims.lean ====
/-
  The claims about the feed-forward block.
-/
module

public import proofs.«01_k».proof.Defs
public import proofs.«01_k».proof.Proof.FfnRef
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read

@[expose] public section

set_option maxRecDepth 16384

noncomputable section

namespace Cert.Ffn

open Idealize.ShloMosaic Idealize.ShloMosaic.TcCoe Idealize.SL.Sem Idealize.ShloMosaic.Tactic

theorem preserves : Cert.preserves_Kernel2_Kernel2Ideal := trivial

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem algebraic : Cert.algebraic_Kernel2Ideal_Reference2Ideal := by
  intro m ρ m' ρ' _ hagree
  refine ⟨fun c => fun i : Cert.Kernel2Ideal.S32768x2048.Idx => result (aU m c) (aG m c) (aV m c) (aD m c) (aH m c) (aN m c) (i 0).val (i 1), ?_, ?_⟩
  · exact (θ_run Cert.Kernel2Ideal.defs _ _).mono (fun _ h c => ⟨(h c).1.trans (final m c), (h c).2⟩)
      (Cert.Kernel2Ideal.Value.run_blocks (F := Ideal) m ρ)
  · refine (θ_run Cert.Reference2Ideal.defs _ _).mono (fun _ h c => ⟨(h c).1.trans ?_, (h c).2⟩) (Cert.Reference2Ideal.Value.run (F := Ideal) m' ρ')
    obtain ⟨h0, h1, h2, h3, h4, h5⟩ := hagree c
    rw [Cert.Reference2Ideal.Read.val_main_v19_eq, h0, h1, h2, h3, h4, h5]
    funext i
    idx_vars i
    exact reference_apply _ _ _ _ _ _ _ _

end Cert.Ffn

end
-- ==== Proof.ProjSb.lean ====
/-
  The projection of the stick-breaking attention: each block of the result is a block of rows times a block of columns.
-/
module

public import proofs.«01_k».proof.Defs
public import proofs.«01_k».proof.Proof.FfnClaims
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pipeline.ValueKit

@[expose] public section

set_option maxRecDepth 16384

noncomputable section

namespace Cert.ProjSb

open Cert.Ffn Idealize.ShloMosaic Idealize.ShloMosaic.TcCoe Idealize.SL.Sem Idealize.ShloMosaic.Tactic
open Idealize.ShloMosaic.Pipeline (Dat)

section
open Cert.Kernel4Ideal Cert.Kernel4Ideal.Gen

theorem pay_apply (u : Vec Ideal S2048x2048 .bf16) (w : Vec Ideal S2048x512 .bf16) (r : Fin 2048) (f : Fin 512) :
    (k0_pay1 u w (ix2 r f) : EReal) = ∑ k : Fin 2048, u (ix2 r k) * w (ix2 k f) := by
  pointwise [k0_pay1]

theorem hz : (![0, 0] : Fin 2 → Nat) = fun _ => 0 := funext fun a => by fin_cases a <;> rfl

theorem out_eq (u : Vec Ideal S2048x2048 .bf16) (w : Vec Ideal S2048x512 .bf16) : out0_2 u w = k0_pay1 u w := by
  unfold out0_2
  rw [View.canon_unit_zero (S := S2048x512) hz, View.ld_unit_zero (S := S2048x2048) hz, View.ld_unit_zero (S := S2048x512) hz]

variable (m : (ℓ : Loc nD τ sig) → Buf (Elt Ideal) ℓ) (c : Dev nD)

/-- The arguments: the rows and the weights. -/
abbrev aU : Mat 32768 2048 := m ((c : Thread nD τ).loc main_arg0)
abbrev aW : Mat 2048 7184 := m ((c : Thread nD τ).loc main_arg1)

theorem t_lt (t : Fin cfg0.N) : t.val < 96 := lt_of_lt_of_eq t.isLt N_0

theorem idx : ∀ t : Fin cfg0.N, win0_0.index t = ![t.val / 6, 0] ∧ win0_1.index t = ![0, t.val % 6] ∧ win0_2.index t = ![t.val / 6, t.val % 6] :=
  (by decide +kernel : ∀ t : Fin grid0.N, _)

theorem weights (k : Fin 2048) (f : Fin 3072) : ((V m c main_v1 : Mat 2048 3072) (ix2 k f) : EReal) = entry (aW m c) k.val (f.val) := by
  have hf := f.isLt
  have e : ((V m c main_v1 : Mat 2048 3072) (ix2 k f) : EReal) = aW m c (ix2 k (⟨f.val, by omega⟩ : Fin 7184)) := by
    unfold_abbrev_sides
    after_results
    pointwise
  exact e.trans (entry_eq (aW m c) k (⟨f.val, by omega⟩ : Fin 7184)).symm
theorem blk0 (t : Fin cfg0.N) (r k : Fin 2048) : (iblk m c 0 t (ix2 r k) : EReal) = entry (aU m c) (t.val / 6 * 2048 + r.val) k.val := by
  have ht := t_lt t
  have hr := r.isLt
  unfold entry
  rw [dif_pos ⟨by omega, k.isLt⟩]
  blk_ext! [iblk, V, idx t]
theorem blk1 (t : Fin cfg0.N) (k : Fin 2048) (f : Fin 512) : (iblk m c 1 t (ix2 k f) : EReal) = entry (aW m c) k.val ((t.val % 6 * 512 + f.val)) := by
  have hf := f.isLt
  have e := weights m c k ⟨t.val % 6 * 512 + f.val, by omega⟩
  rw [← e]
  blk_ext! [iblk, idx t]

/-- THE KERNEL'S RESULT ARRAY. -/
theorem final : (dats m 0 c).arrAt 2 cfg0.N = fun i : S32768x3072.Idx => dot (aU m c) (aW m c) (i 0).val ((i 1).val) := by
  refine (dats m 0 c).arrAt_eq_of_covers 2 _ (by decide +kernel) fun t hf y => ?_
  blk_simp [idx t]
  rw [after0_2, out_eq]
  idx_vars y
  rw [pay_apply]
  simp only [blk0, blk1]
  rfl
end

section
open Cert.Reference4Ideal Cert.Reference4Ideal.Gen Cert.Reference4Ideal.Read

theorem reference_apply (U : Mat 32768 2048) (W : Mat 2048 7184) (n : Fin 32768) (f : Fin 3072) :
    (val_main_v3 (F := Ideal) U W (ix2 n f) : EReal) = dot U W n.val (f.val) := by
  have hf := f.isLt
  rw [val_main_v3_apply]
  change val_main_v2 (F := Ideal) U W (ix2 n f) = _
  rw [val_main_v2_apply]
  unfold dot
  refine Finset.sum_congr rfl fun k _ => ?_
  have e1 : lidx_main_v2 (ix2 n f) k = ix2 n k := funext fun a => by fin_cases a <;> rfl
  have e2 : idx_main_v1 (ridx_main_v2 (ix2 n f) k) = ix2 k (⟨f.val, by omega⟩ : Fin 7184) := funext fun a => by fin_cases a <;> first | rfl | exact Fin.ext (by simp [])
  rw [e1, val_main_v1_apply, e2, entry_eq U n k, ← entry_eq W k (⟨f.val, by omega⟩ : Fin 7184)]
  rfl
end

theorem preserves : Cert.preserves_Kernel4_Kernel4Ideal := trivial

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem algebraic : Cert.algebraic_Kernel4Ideal_Reference4Ideal := by
  intro m ρ m' ρ' _ hagree
  refine ⟨fun c => fun i : Cert.Kernel4Ideal.S32768x3072.Idx => dot (aU m c) (aW m c) (i 0).val ((i 1).val), ?_, ?_⟩
  · exact (θ_run Cert.Kernel4Ideal.defs _ _).mono (fun _ h c => ⟨(h c).1.trans (final m c), (h c).2⟩)
      (Cert.Kernel4Ideal.Value.run_blocks (F := Ideal) m ρ)
  · refine (θ_run Cert.Reference4Ideal.defs _ _).mono (fun _ h c => ⟨(h c).1.trans ?_, (h c).2⟩) (Cert.Reference4Ideal.Value.run (F := Ideal) m' ρ')
    obtain ⟨h0, h1⟩ := hagree c
    rw [Cert.Reference4Ideal.Read.val_main_v3_eq, h0, h1]
    funext i
    idx_vars i
    exact reference_apply _ _ _ _

end Cert.ProjSb

end
-- ==== Proof.ProjGdn.lean ====
/-
  The projection of the gated delta rule: each block of the result is a block of rows times a block of columns.
-/
module

public import proofs.«01_k».proof.Defs
public import proofs.«01_k».proof.Proof.ProjSb
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pipeline.ValueKit

@[expose] public section

set_option maxRecDepth 16384

noncomputable section

namespace Cert.ProjGdn

open Cert.Ffn Idealize.ShloMosaic Idealize.ShloMosaic.TcCoe Idealize.SL.Sem Idealize.ShloMosaic.Tactic
open Idealize.ShloMosaic.Pipeline (Dat)

section
open Cert.Kernel5Ideal Cert.Kernel5Ideal.Gen

theorem pay_apply (u : Vec Ideal S2048x2048 .bf16) (w : Vec Ideal S2048x512 .bf16) (r : Fin 2048) (f : Fin 512) :
    (k0_pay1 u w (ix2 r f) : EReal) = ∑ k : Fin 2048, u (ix2 r k) * w (ix2 k f) := by
  pointwise [k0_pay1]

theorem hz : (![0, 0] : Fin 2 → Nat) = fun _ => 0 := funext fun a => by fin_cases a <;> rfl

theorem out_eq (u : Vec Ideal S2048x2048 .bf16) (w : Vec Ideal S2048x512 .bf16) : out0_2 u w = k0_pay1 u w := by
  unfold out0_2
  rw [View.canon_unit_zero (S := S2048x512) hz, View.ld_unit_zero (S := S2048x2048) hz, View.ld_unit_zero (S := S2048x512) hz]

variable (m : (ℓ : Loc nD τ sig) → Buf (Elt Ideal) ℓ) (c : Dev nD)

/-- The arguments: the rows and the weights. -/
abbrev aU : Mat 32768 2048 := m ((c : Thread nD τ).loc main_arg0)
abbrev aW : Mat 2048 7184 := m ((c : Thread nD τ).loc main_arg1)

theorem t_lt (t : Fin cfg0.N) : t.val < 128 := lt_of_lt_of_eq t.isLt N_0

theorem idx : ∀ t : Fin cfg0.N, win0_0.index t = ![t.val / 8, 0] ∧ win0_1.index t = ![0, t.val % 8] ∧ win0_2.index t = ![t.val / 8, t.val % 8] :=
  (by decide +kernel : ∀ t : Fin grid0.N, _)

theorem weights (k : Fin 2048) (f : Fin 4096) : ((V m c main_v1 : Mat 2048 4096) (ix2 k f) : EReal) = entry (aW m c) k.val (3072 + f.val) := by
  have hf := f.isLt
  have e : ((V m c main_v1 : Mat 2048 4096) (ix2 k f) : EReal) = aW m c (ix2 k (⟨3072 + f.val, by omega⟩ : Fin 7184)) := by
    unfold_abbrev_sides
    after_results
    pointwise
  exact e.trans (entry_eq (aW m c) k (⟨3072 + f.val, by omega⟩ : Fin 7184)).symm
theorem blk0 (t : Fin cfg0.N) (r k : Fin 2048) : (iblk m c 0 t (ix2 r k) : EReal) = entry (aU m c) (t.val / 8 * 2048 + r.val) k.val := by
  have ht := t_lt t
  have hr := r.isLt
  unfold entry
  rw [dif_pos ⟨by omega, k.isLt⟩]
  blk_ext! [iblk, V, idx t]
theorem blk1 (t : Fin cfg0.N) (k : Fin 2048) (f : Fin 512) : (iblk m c 1 t (ix2 k f) : EReal) = entry (aW m c) k.val (3072 + (t.val % 8 * 512 + f.val)) := by
  have hf := f.isLt
  have e := weights m c k ⟨t.val % 8 * 512 + f.val, by omega⟩
  rw [← e]
  blk_ext! [iblk, idx t]

/-- THE KERNEL'S RESULT ARRAY. -/
theorem final : (dats m 0 c).arrAt 2 cfg0.N = fun i : S32768x4096.Idx => dot (aU m c) (aW m c) (i 0).val (3072 + (i 1).val) := by
  refine (dats m 0 c).arrAt_eq_of_covers 2 _ (by decide +kernel) fun t hf y => ?_
  blk_simp [idx t]
  rw [after0_2, out_eq]
  idx_vars y
  rw [pay_apply]
  simp only [blk0, blk1]
  rfl
end

section
open Cert.Reference5Ideal Cert.Reference5Ideal.Gen Cert.Reference5Ideal.Read

theorem reference_apply (U : Mat 32768 2048) (W : Mat 2048 7184) (n : Fin 32768) (f : Fin 4096) :
    (val_main_v2 (F := Ideal) U W (ix2 n f) : EReal) = dot U W n.val (3072 + f.val) := by
  have hf := f.isLt
  rw [val_main_v2_apply]
  unfold dot
  refine Finset.sum_congr rfl fun k _ => ?_
  have e1 : lidx_main_v2 (ix2 n f) k = ix2 n k := funext fun a => by fin_cases a <;> rfl
  have e2 : idx_main_v1 (ridx_main_v2 (ix2 n f) k) = ix2 k (⟨3072 + f.val, by omega⟩ : Fin 7184) := funext fun a => by fin_cases a <;> first | rfl | exact Fin.ext (by simp [])
  rw [e1, val_main_v1_apply, e2, entry_eq U n k, ← entry_eq W k (⟨3072 + f.val, by omega⟩ : Fin 7184)]
  rfl
end

theorem preserves : Cert.preserves_Kernel5_Kernel5Ideal := trivial

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem algebraic : Cert.algebraic_Kernel5Ideal_Reference5Ideal := by
  intro m ρ m' ρ' _ hagree
  refine ⟨fun c => fun i : Cert.Kernel5Ideal.S32768x4096.Idx => dot (aU m c) (aW m c) (i 0).val (3072 + (i 1).val), ?_, ?_⟩
  · exact (θ_run Cert.Kernel5Ideal.defs _ _).mono (fun _ h c => ⟨(h c).1.trans (final m c), (h c).2⟩)
      (Cert.Kernel5Ideal.Value.run_blocks (F := Ideal) m ρ)
  · refine (θ_run Cert.Reference5Ideal.defs _ _).mono (fun _ h c => ⟨(h c).1.trans ?_, (h c).2⟩) (Cert.Reference5Ideal.Value.run (F := Ideal) m' ρ')
    obtain ⟨h0, h1⟩ := hagree c
    rw [Cert.Reference5Ideal.Read.val_main_v2_eq, h0, h1]
    funext i
    idx_vars i
    exact reference_apply _ _ _ _

end Cert.ProjGdn

end
-- ==== Proof.ProjOdd.lean ====
/-
  The projection of the second layer: each block of the result is a block of rows times a block of columns.
-/
module

public import proofs.«01_k».proof.Defs
public import proofs.«01_k».proof.Proof.ProjGdn
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Pipeline.ValueKit

@[expose] public section

set_option maxRecDepth 16384

noncomputable section

namespace Cert.ProjOdd

open Cert.Ffn Idealize.ShloMosaic Idealize.ShloMosaic.TcCoe Idealize.SL.Sem Idealize.ShloMosaic.Tactic
open Idealize.ShloMosaic.Pipeline (Dat)

section
open Cert.Kernel6Ideal Cert.Kernel6Ideal.Gen

theorem pay_apply (u : Vec Ideal S2048x2048 .bf16) (w : Vec Ideal S2048x512 .bf16) (r : Fin 2048) (f : Fin 512) :
    (k0_pay1 u w (ix2 r f) : EReal) = ∑ k : Fin 2048, u (ix2 r k) * w (ix2 k f) := by
  pointwise [k0_pay1]

theorem hz : (![0, 0] : Fin 2 → Nat) = fun _ => 0 := funext fun a => by fin_cases a <;> rfl

theorem out_eq (u : Vec Ideal S2048x2048 .bf16) (w : Vec Ideal S2048x512 .bf16) : out0_2 u w = k0_pay1 u w := by
  unfold out0_2
  rw [View.canon_unit_zero (S := S2048x512) hz, View.ld_unit_zero (S := S2048x2048) hz, View.ld_unit_zero (S := S2048x512) hz]

variable (m : (ℓ : Loc nD τ sig) → Buf (Elt Ideal) ℓ) (c : Dev nD)

/-- The arguments: the rows and the weights. -/
abbrev aU : Mat 32768 2048 := m ((c : Thread nD τ).loc main_arg0)
abbrev aW : Mat 2048 6144 := m ((c : Thread nD τ).loc main_arg1)

theorem t_lt (t : Fin cfg0.N) : t.val < 192 := lt_of_lt_of_eq t.isLt N_0

theorem idx : ∀ t : Fin cfg0.N, win0_0.index t = ![t.val / 12, 0] ∧ win0_1.index t = ![0, t.val % 12] ∧ win0_2.index t = ![t.val / 12, t.val % 12] :=
  (by decide +kernel : ∀ t : Fin grid0.N, _)

theorem weights (k : Fin 2048) (f : Fin 6144) : ((V m c main_v0 : Mat 2048 6144) (ix2 k f) : EReal) = entry (aW m c) k.val (f.val) := by
  have hf := f.isLt
  have e : ((V m c main_v0 : Mat 2048 6144) (ix2 k f) : EReal) = aW m c (ix2 k (⟨f.val, by omega⟩ : Fin 6144)) := by
    unfold_abbrev_sides
    after_results
    rfl
  exact e.trans (entry_eq (aW m c) k (⟨f.val, by omega⟩ : Fin 6144)).symm
theorem blk0 (t : Fin cfg0.N) (r k : Fin 2048) : (iblk m c 0 t (ix2 r k) : EReal) = entry (aU m c) (t.val / 12 * 2048 + r.val) k.val := by
  have ht := t_lt t
  have hr := r.isLt
  unfold entry
  rw [dif_pos ⟨by omega, k.isLt⟩]
  blk_ext! [iblk, V, idx t]
theorem blk1 (t : Fin cfg0.N) (k : Fin 2048) (f : Fin 512) : (iblk m c 1 t (ix2 k f) : EReal) = entry (aW m c) k.val ((t.val % 12 * 512 + f.val)) := by
  have hf := f.isLt
  have e := weights m c k ⟨t.val % 12 * 512 + f.val, by omega⟩
  rw [← e]
  blk_ext! [iblk, idx t]

/-- THE KERNEL'S RESULT ARRAY. -/
theorem final : (dats m 0 c).arrAt 2 cfg0.N = fun i : S32768x6144.Idx => dot (aU m c) (aW m c) (i 0).val ((i 1).val) := by
  refine (dats m 0 c).arrAt_eq_of_covers 2 _ (by decide +kernel) fun t hf y => ?_
  blk_simp [idx t]
  rw [after0_2, out_eq]
  idx_vars y
  rw [pay_apply]
  simp only [blk0, blk1]
  rfl
end

section
open Cert.Reference6Ideal Cert.Reference6Ideal.Gen Cert.Reference6Ideal.Read

theorem reference_apply (U : Mat 32768 2048) (W : Mat 2048 6144) (n : Fin 32768) (f : Fin 6144) :
    (val_main_v1 (F := Ideal) U W (ix2 n f) : EReal) = dot U W n.val (f.val) := by
  have hf := f.isLt
  rw [val_main_v1_apply]
  unfold dot
  refine Finset.sum_congr rfl fun k _ => ?_
  have e1 : lidx_main_v1 (ix2 n f) k = ix2 n k := funext fun a => by fin_cases a <;> rfl
  have e2 : ridx_main_v1 (ix2 n f) k = ix2 k (⟨f.val, by omega⟩ : Fin 6144) := funext fun a => by fin_cases a <;> first | rfl | exact Fin.ext (by simp [])
  rw [e1,  e2, entry_eq U n k, ← entry_eq W k (⟨f.val, by omega⟩ : Fin 6144)]
  rfl
end

theorem preserves : Cert.preserves_Kernel6_Kernel6Ideal := trivial

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem algebraic : Cert.algebraic_Kernel6Ideal_Reference6Ideal := by
  intro m ρ m' ρ' _ hagree
  refine ⟨fun c => fun i : Cert.Kernel6Ideal.S32768x6144.Idx => dot (aU m c) (aW m c) (i 0).val ((i 1).val), ?_, ?_⟩
  · exact (θ_run Cert.Kernel6Ideal.defs _ _).mono (fun _ h c => ⟨(h c).1.trans (final m c), (h c).2⟩)
      (Cert.Kernel6Ideal.Value.run_blocks (F := Ideal) m ρ)
  · refine (θ_run Cert.Reference6Ideal.defs _ _).mono (fun _ h c => ⟨(h c).1.trans ?_, (h c).2⟩) (Cert.Reference6Ideal.Value.run (F := Ideal) m' ρ')
    obtain ⟨h0, h1⟩ := hagree c
    rw [Cert.Reference6Ideal.Read.val_main_v1_eq, h0, h1]
    funext i
    idx_vars i
    exact reference_apply _ _ _ _

end Cert.ProjOdd

end
-- ==== Proof.PreNorm.lean ====
/-
  The first normalisation: each row divided by its root mean square and multiplied by the gain.
-/
module

public import proofs.«01_k».proof.Defs
public import proofs.«01_k».proof.Proof.ProjOdd
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Pipeline.ValueKit

@[expose] public section

set_option maxRecDepth 16384

noncomputable section

namespace Cert.PreNorm

open Cert.Ffn Idealize.ShloMosaic Idealize.ShloMosaic.TcCoe Idealize.SL.Sem Idealize.ShloMosaic.Tactic
open Idealize.ShloMosaic.Pipeline (Dat)

/-- The rows of a matrix, normalised. -/
def rows (X : Mat 32768 2048) (g : (⟨1, ![2048]⟩ : Shape).Idx → EReal) (n : ℕ) (d : Fin 2048) : EReal := normed (entry X n) (g (ix1 d)) d.val

section
open Cert.Kernel8Ideal Cert.Kernel8Ideal.Gen

theorem pay_apply (x : Vec Ideal S512x2048 .f32) (g : Vec Ideal S1x2048 .f32) (r : Fin 512) (d : Fin 2048) (Y : ℕ → EReal)
    (hY : ∀ k : Fin 2048, x (ix2 r k) = Y k.val) : (k0_pay1 x g (ix2 r d) : EReal) = normed Y (g (ix2 (0 : Fin 1) d)) d.val := by
  pointwise [k0_pay1]
  simp only [hY, normed]

theorem hz : (![0, 0] : Fin 2 → Nat) = fun _ => 0 := funext fun a => by fin_cases a <;> rfl

theorem out_eq (x : Vec Ideal S512x2048 .f32) (g : Vec Ideal S1x2048 .f32) : out0_2 x g = k0_pay1 x g := by
  unfold out0_2
  rw [View.canon_unit_zero (S := S512x2048) hz, View.ld_unit_zero (S := S512x2048) hz, View.ld_unit_zero (S := S1x2048) hz]

variable (m : (ℓ : Loc nD τ sig) → Buf (Elt Ideal) ℓ) (c : Dev nD)

/-- The arguments: the rows and the gain. -/
abbrev aX : Mat 32768 2048 := m ((c : Thread nD τ).loc main_arg0)
abbrev aN : (⟨1, ![2048]⟩ : Shape).Idx → EReal := m ((c : Thread nD τ).loc main_arg1)

theorem t_lt (t : Fin cfg0.N) : t.val < 64 := lt_of_lt_of_eq t.isLt N_0

theorem idx : ∀ t : Fin cfg0.N, win0_0.index t = ![t.val, 0] ∧ win0_1.index t = ![0, 0] ∧ win0_2.index t = ![t.val, 0] :=
  (by decide +kernel : ∀ t : Fin grid0.N, _)

theorem gain (d : Fin 2048) : (V m c main_v0 : Mat 1 2048) (ix2 (0 : Fin 1) d) = aN m c (ix1 d) := by
  unfold_abbrev_sides
  after_results
  pointwise

theorem blk0 (t : Fin cfg0.N) (r : Fin 512) (k : Fin 2048) : (iblk m c 0 t (ix2 r k) : EReal) = entry (aX m c) (t.val * 512 + r.val) k.val := by
  have ht := t_lt t
  have hr := r.isLt
  unfold entry
  rw [dif_pos ⟨by omega, k.isLt⟩]
  blk_ext! [iblk, V, idx t]
theorem blk1 (t : Fin cfg0.N) (d : Fin 2048) : (iblk m c 1 t (ix2 (0 : Fin 1) d) : EReal) = aN m c (ix1 d) := by
  rw [← gain]
  blk_ext! [iblk, idx t]

/-- THE KERNEL'S RESULT ARRAY. -/
theorem final : (dats m 0 c).arrAt 2 cfg0.N = fun i : S32768x2048.Idx => rows (aX m c) (aN m c) (i 0).val (i 1) := by
  refine (dats m 0 c).arrAt_eq_of_covers 2 _ (by decide +kernel) fun t hf y => ?_
  blk_simp [idx t]
  rw [after0_2, out_eq]
  idx_vars y
  rw [pay_apply _ _ y0 y1 _ fun k => blk0 m c t y0 k, blk1]
  refine congrArg (rows (aX m c) (aN m c) _) (Fin.ext ?_)
  blk_simp [idx t]
end

section
open Cert.Reference8Ideal Cert.Reference8Ideal.Gen Cert.Reference8Ideal.Read

theorem reference_apply (X : Mat 32768 2048) (g : (⟨1, ![2048]⟩ : Shape).Idx → EReal) (n : Fin 32768) (d : Fin 2048) :
    (val_main_v13 (F := Ideal) X g (ix2 n d) : EReal) = rows X g n.val d := by
  rw [val_main_v13_apply, val_main_v12_apply, val_main_v9_apply, val_main_v8_apply, val_main_v7_apply, val_main_v6_apply, val_main_v5_apply, val_main_v4_apply, val_main_v3_apply, val_main_v2_apply, val_main_v1_apply, val_main_v11_apply, val_main_v10_apply, val_main_cst_apply, val_main_cst_0_apply, val_main_cst_1_apply]
  have e7 : ∀ k, idx_main_v1 (idx_main_v2 (idx_main_v8 (ix2 n d))) k = ix2 n k := fun k => funext fun a => by fin_cases a <;> rfl
  have eg : idx_main_v10 (idx_main_v11 (ix2 n d)) = ix1 d := funext fun a => by fin_cases a <;> rfl
  simp only [e7, val_main_v0_apply, eg]
  unfold rows normed
  simp only [entry_eq]
  change X (ix2 n d) * Ideal.rsqrt (Ideal.div (Ideal.ofBits .f32 0x00000000#32 + ∑ x : Fin 2048, X (ix2 n x) * X (ix2 n x)) _ + _) * g (ix1 d) = _
  rw [Ideal.ofBits_zero_f32, zero_add]
  rfl
end

theorem preserves : Cert.preserves_Kernel8_Kernel8Ideal := trivial

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem algebraic : Cert.algebraic_Kernel8Ideal_Reference8Ideal := by
  intro m ρ m' ρ' _ hagree
  refine ⟨fun c => fun i : Cert.Kernel8Ideal.S32768x2048.Idx => rows (aX m c) (aN m c) (i 0).val (i 1), ?_, ?_⟩
  · exact (θ_run Cert.Kernel8Ideal.defs _ _).mono (fun _ h c => ⟨(h c).1.trans (final m c), (h c).2⟩)
      (Cert.Kernel8Ideal.Value.run_blocks (F := Ideal) m ρ)
  · refine (θ_run Cert.Reference8Ideal.defs _ _).mono (fun _ h c => ⟨(h c).1.trans ?_, (h c).2⟩) (Cert.Reference8Ideal.Value.run (F := Ideal) m' ρ')
    obtain ⟨h0, h1⟩ := hagree c
    rw [Cert.Reference8Ideal.Read.val_main_v13_eq, h0, h1]
    funext i
    idx_vars i
    exact reference_apply _ _ _ _

end Cert.PreNorm

end
-- ==== Proof.OutProj.lean ====
/-
  The output projection with its residual and the next normalisation: the products of the two heads' groups with the halves of
  the weights add up to the product of the joined rows with the whole.
-/
module

public import proofs.«01_k».proof.Defs
public import proofs.«01_k».proof.Proof.PreNorm
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Pipeline.ValueKit

@[expose] public section

set_option maxRecDepth 16384

noncomputable section

namespace Cert.OutProj

open Cert.Ffn Idealize.ShloMosaic Idealize.ShloMosaic.TcCoe Idealize.SL.Sem Idealize.ShloMosaic.Tactic
open Idealize.ShloMosaic.Pipeline (Dat)

/-- A vector of gains. -/
abbrev Gain := (⟨1, ![2048]⟩ : Shape).Idx → EReal

/-- The gain at a column, 0 outside. -/
def gainAt (g : Gain) (d : ℕ) : EReal := if h : d < 2048 then g (ix1 (⟨d, h⟩ : Fin 2048)) else 0

theorem gainAt_eq (g : Gain) (d : Fin 2048) : gainAt g d.val = g (ix1 d) := dif_pos d.isLt

/-- The two groups of heads times the two halves of the weights. -/
def mix (A B : Mat 32768 1024) (W : Mat 2048 2048) (n x : ℕ) : EReal :=
  ∑ k : Fin 1024, entry A n k.val * entry W k.val x + ∑ k : Fin 1024, entry B n k.val * entry W (1024 + k.val) x

/-- The residual stream after a block whose output at a row is `y`. -/
def resid (H : Mat 32768 2048) (g : Gain) (y : ℕ → EReal) (n d : ℕ) : EReal := entry H n d + normed y (gainAt g d) d

/-- The normalised residual stream. -/
def next (H : Mat 32768 2048) (g g' : Gain) (y : ℕ → EReal) (n d : ℕ) : EReal := normed (resid H g y n) (gainAt g' d) d

section
open Cert.Kernel7Ideal Cert.Kernel7Ideal.Gen

theorem pay2_apply (a : Vec Ideal S512x1024 .bf16) (wa : Vec Ideal S1024x2048 .bf16) (b : Vec Ideal S512x1024 .bf16) (wb : Vec Ideal S1024x2048 .bf16)
    (h : Vec Ideal S512x2048 .f32) (g : Vec Ideal S1x2048 .f32) (r : Fin 512) (d : Fin 2048) (Y : ℕ → EReal)
    (hY : ∀ x : Fin 2048, ∑ k : Fin 1024, a (ix2 r k) * wa (ix2 k x) + ∑ k : Fin 1024, b (ix2 r k) * wb (ix2 k x) = Y x.val) :
    (k0_pay2 a wa b wb h g (ix2 r d) : EReal) = h (ix2 r d) + normed Y (g (ix2 (0 : Fin 1) d)) d.val := by
  pointwise [k0_pay2]
  simp only [hY, normed]

theorem pay1_apply (a : Vec Ideal S512x1024 .bf16) (wa : Vec Ideal S1024x2048 .bf16) (b : Vec Ideal S512x1024 .bf16) (wb : Vec Ideal S1024x2048 .bf16)
    (h : Vec Ideal S512x2048 .f32) (g g' : Vec Ideal S1x2048 .f32) (r : Fin 512) (d : Fin 2048) (Y : ℕ → EReal)
    (hY : ∀ x : Fin 2048, k0_pay2 a wa b wb h g (ix2 r x) = Y x.val) :
    (k0_pay1 (k0_pay2 a wa b wb h g) (k0_pay3 g') (k0_pay4 a wa b wb h g) (k0_pay5 (F := Ideal)) (ix2 r d) : EReal) = normed Y (g' (ix2 (0 : Fin 1) d)) d.val := by
  unfold k0_pay4
  generalize k0_pay2 a wa b wb h g = y at hY ⊢
  pointwise [k0_pay1, k0_pay3, k0_pay5]
  simp only [hY, normed]

theorem hz : (![0, 0] : Fin 2 → Nat) = fun _ => 0 := funext fun a => by fin_cases a <;> rfl

section
variable (a : Vec Ideal S512x1024 .bf16) (b : Vec Ideal S512x1024 .bf16) (wa : Vec Ideal S1024x2048 .bf16) (wb : Vec Ideal S1024x2048 .bf16)
    (h : Vec Ideal S512x2048 .f32) (g g' : Vec Ideal S1x2048 .f32)
theorem out7_eq : out0_7 a b wa wb h g g' = k0_pay2 a wa b wb h g := by
  unfold out0_7
  rw [View.canon_unit_zero (S := S512x2048) hz]
  simp only [View.ld_unit_zero (S := S512x2048) hz, View.ld_unit_zero (S := S1x2048) hz, View.ld_unit_zero (S := S512x1024) hz, View.ld_unit_zero (S := S1024x2048) hz]
theorem out8_eq : out0_8 a b wa wb h g g' = k0_pay1 (k0_pay2 a wa b wb h g) (k0_pay3 g') (k0_pay4 a wa b wb h g) (k0_pay5 (F := Ideal)) := by
  unfold out0_8
  rw [View.canon_unit_zero (S := S512x2048) hz]
  simp only [View.ld_unit_zero (S := S512x2048) hz, View.ld_unit_zero (S := S1x2048) hz, View.ld_unit_zero (S := S512x1024) hz, View.ld_unit_zero (S := S1024x2048) hz]
end

variable (m : (ℓ : Loc nD τ sig) → Buf (Elt Ideal) ℓ) (c : Dev nD)

/-- The arguments: the two groups of heads, the weights, the residual and the two gains. -/
abbrev aA : Mat 32768 1024 := m ((c : Thread nD τ).loc main_arg0)
abbrev aB : Mat 32768 1024 := m ((c : Thread nD τ).loc main_arg1)
abbrev aW : Mat 2048 2048 := m ((c : Thread nD τ).loc main_arg2)
abbrev aH : Mat 32768 2048 := m ((c : Thread nD τ).loc main_arg3)
abbrev aN : Gain := m ((c : Thread nD τ).loc main_arg4)
abbrev aM : Gain := m ((c : Thread nD τ).loc main_arg5)

theorem t_lt (t : Fin cfg0.N) : t.val < 64 := lt_of_lt_of_eq t.isLt N_0

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0] ∧ win0_7.index t = ![t.val, 0] ∧ win0_8.index t = ![t.val, 0] :=
  (by decide +kernel : ∀ t : Fin grid0.N, _)

theorem v1 (k : Fin 1024) (x : Fin 2048) : ((V m c main_v1 : Mat 1024 2048) (ix2 k x) : EReal) = entry (aW m c) k.val x.val := by
  have hk := k.isLt
  have e : ((V m c main_v1 : Mat 1024 2048) (ix2 k x) : EReal) = aW m c (ix2 (⟨k.val, by omega⟩ : Fin 2048) x) := by
    unfold_abbrev_sides
    after_results
    pointwise
  exact e.trans (entry_eq (aW m c) (⟨k.val, by omega⟩ : Fin 2048) x).symm
theorem v2 (k : Fin 1024) (x : Fin 2048) : ((V m c main_v2 : Mat 1024 2048) (ix2 k x) : EReal) = entry (aW m c) (1024 + k.val) x.val := by
  have hk := k.isLt
  have e : ((V m c main_v2 : Mat 1024 2048) (ix2 k x) : EReal) = aW m c (ix2 (⟨1024 + k.val, by omega⟩ : Fin 2048) x) := by
    unfold_abbrev_sides
    after_results
    pointwise
  exact e.trans (entry_eq (aW m c) (⟨1024 + k.val, by omega⟩ : Fin 2048) x).symm
theorem v3 (d : Fin 2048) : (V m c main_v3 : Mat 1 2048) (ix2 (0 : Fin 1) d) = aN m c (ix1 d) := by
  unfold_abbrev_sides
  after_results
  pointwise
theorem v4 (d : Fin 2048) : (V m c main_v4 : Mat 1 2048) (ix2 (0 : Fin 1) d) = aM m c (ix1 d) := by
  unfold_abbrev_sides
  after_results
  pointwise

theorem blk0 (t : Fin cfg0.N) (r : Fin 512) (k : Fin 1024) : (iblk m c 0 t (ix2 r k) : EReal) = entry (aA m c) (t.val * 512 + r.val) k.val := by
  have ht := t_lt t
  have hr := r.isLt
  unfold entry
  rw [dif_pos ⟨by omega, k.isLt⟩]
  blk_ext! [iblk, V, idx t]
theorem blk1 (t : Fin cfg0.N) (r : Fin 512) (k : Fin 1024) : (iblk m c 1 t (ix2 r k) : EReal) = entry (aB m c) (t.val * 512 + r.val) k.val := by
  have ht := t_lt t
  have hr := r.isLt
  unfold entry
  rw [dif_pos ⟨by omega, k.isLt⟩]
  blk_ext! [iblk, V, idx t]
theorem blk2 (t : Fin cfg0.N) (k : Fin 1024) (x : Fin 2048) : (iblk m c 2 t (ix2 k x) : EReal) = entry (aW m c) k.val x.val := by
  rw [← v1]
  blk_ext! [iblk, idx t]
theorem blk3 (t : Fin cfg0.N) (k : Fin 1024) (x : Fin 2048) : (iblk m c 3 t (ix2 k x) : EReal) = entry (aW m c) (1024 + k.val) x.val := by
  rw [← v2]
  blk_ext! [iblk, idx t]
theorem blk4 (t : Fin cfg0.N) (r : Fin 512) (d : Fin 2048) : (iblk m c 4 t (ix2 r d) : EReal) = entry (aH m c) (t.val * 512 + r.val) d.val := by
  have ht := t_lt t
  have hr := r.isLt
  unfold entry
  rw [dif_pos ⟨by omega, d.isLt⟩]
  blk_ext! [iblk, V, idx t]
theorem blk5 (t : Fin cfg0.N) (d : Fin 2048) : (iblk m c 5 t (ix2 (0 : Fin 1) d) : EReal) = gainAt (aN m c) d.val := by
  rw [gainAt_eq, ← v3]
  blk_ext! [iblk, idx t]
theorem blk6 (t : Fin cfg0.N) (d : Fin 2048) : (iblk m c 6 t (ix2 (0 : Fin 1) d) : EReal) = gainAt (aM m c) d.val := by
  rw [gainAt_eq, ← v4]
  blk_ext! [iblk, idx t]

theorem point_apply (t : Fin cfg0.N) (r : Fin 512) (d : Fin 2048) :
    (k0_pay2 (iblk m c 0 t) (iblk m c 2 t) (iblk m c 1 t) (iblk m c 3 t) (iblk m c 4 t) (iblk m c 5 t) (ix2 r d) : EReal)
      = resid (aH m c) (aN m c) (mix (aA m c) (aB m c) (aW m c) (t.val * 512 + r.val)) (t.val * 512 + r.val) d.val := by
  rw [pay2_apply _ _ _ _ _ _ r d (mix (aA m c) (aB m c) (aW m c) (t.val * 512 + r.val)) fun x => by
    simp only [blk0, blk1, blk2, blk3]
    rfl, blk4, blk5]
  rfl

/-- THE KERNEL'S RESULT ARRAYS. -/
theorem final7 : (dats m 0 c).arrAt 7 cfg0.N
    = fun i : S32768x2048.Idx => resid (aH m c) (aN m c) (mix (aA m c) (aB m c) (aW m c) (i 0).val) (i 0).val (i 1).val := by
  refine (dats m 0 c).arrAt_eq_of_covers 7 _ (by decide +kernel) fun t hf y => ?_
  blk_simp [idx t]
  rw [after0_7, out7_eq]
  idx_vars y
  rw [point_apply]
theorem final8 : (dats m 0 c).arrAt 8 cfg0.N
    = fun i : S32768x2048.Idx => next (aH m c) (aN m c) (aM m c) (mix (aA m c) (aB m c) (aW m c) (i 0).val) (i 0).val (i 1).val := by
  refine (dats m 0 c).arrAt_eq_of_covers 8 _ (by decide +kernel) fun t hf y => ?_
  blk_simp [idx t]
  rw [after0_8, out8_eq]
  idx_vars y
  rw [pay1_apply _ _ _ _ _ _ _ y0 y1 _ fun x => point_apply m c t y0 x, blk6]
  rfl
end

section
open Cert.Reference7Ideal Cert.Reference7Ideal.Gen Cert.Reference7Ideal.Read
variable (A B : Mat 32768 1024) (W : Mat 2048 2048) (H : Mat 32768 2048) (g g' : Gain)

theorem left_apply (n : Fin 32768) (k : Fin 2048) (hk : k.val < 1024) : (val_main_v0 (F := Ideal) A B (ix2 n k) : EReal) = A (ix2 n (⟨k.val, hk⟩ : Fin 1024)) := by
  unfold val_main_v0
  pointwise
  rw [dif_pos hk]
theorem right_apply (n : Fin 32768) (k : Fin 2048) (hk : ¬ k.val < 1024) : (val_main_v0 (F := Ideal) A B (ix2 n k) : EReal) = B (ix2 n (⟨k.val - 1024, by have := k.isLt; omega⟩ : Fin 1024)) := by
  unfold val_main_v0
  pointwise
  rw [dif_neg hk]

theorem mix_apply (n : Fin 32768) (x : Fin 2048) : (val_main_v2 (F := Ideal) A B W (ix2 n x) : EReal) = mix A B W n.val x.val := by
  rw [val_main_v2_apply]
  have e1 : ∀ k, lidx_main_v2 (ix2 n x) k = ix2 n k := fun k => funext fun a => by fin_cases a <;> rfl
  have e2 : ∀ k, ridx_main_v2 (ix2 n x) k = ix2 k x := fun k => funext fun a => by fin_cases a <;> rfl
  simp only [e1, e2]
  change ∑ k : Fin (1024 + 1024), val_main_v0 (F := Ideal) A B (ix2 n k) * W (ix2 k x) = _
  rw [Fin.sum_univ_add]
  unfold mix
  congr 1
  · refine Finset.sum_congr rfl fun k _ => ?_
    have hk := k.isLt
    rw [left_apply A B n (Fin.castAdd 1024 k) (by simp), entry_eq A n k, ← entry_eq W (Fin.castAdd 1024 k) x]
    rfl
  · refine Finset.sum_congr rfl fun k _ => ?_
    have hk := k.isLt
    rw [right_apply A B n (Fin.natAdd 1024 k) (by simp), ← entry_eq W (Fin.natAdd 1024 k) x, entry_eq B n k]
    refine congrArg₂ (· * ·) (congrArg (fun q => B (ix2 n q)) (Fin.ext ?_)) rfl
    simp

theorem resid_apply (n : Fin 32768) (d : Fin 2048) : (val_main_v16 (F := Ideal) A B W H g (ix2 n d) : EReal) = resid H g (mix A B W n.val) n.val d.val := by
  rw [val_main_v16_apply, val_main_v15_apply, val_main_v12_apply, val_main_v11_apply, val_main_v10_apply, val_main_v9_apply, val_main_v8_apply, val_main_v7_apply, val_main_v6_apply, val_main_v5_apply, val_main_v4_apply, val_main_v14_apply, val_main_v13_apply, val_main_cst_apply, val_main_cst_0_apply, val_main_cst_1_apply]
  have e7 : ∀ k, idx_main_v4 (idx_main_v5 (idx_main_v11 (ix2 n d))) k = ix2 n k := fun k => funext fun a => by fin_cases a <;> rfl
  have eg : idx_main_v13 (idx_main_v14 (ix2 n d)) = ix1 d := funext fun a => by fin_cases a <;> rfl
  simp only [e7, val_main_v3_apply, mix_apply, eg]
  unfold resid normed
  rw [entry_eq, gainAt_eq]
  change H (ix2 n d) + mix A B W n.val d.val * Ideal.rsqrt (Ideal.div (Ideal.ofBits .f32 0x00000000#32 + ∑ x : Fin 2048, mix A B W n.val x.val * mix A B W n.val x.val) _ + _) * g (ix1 d) = _
  rw [Ideal.ofBits_zero_f32, zero_add]
  rfl

theorem next_apply (n : Fin 32768) (d : Fin 2048) : (val_main_v30 (F := Ideal) A B W H g g' (ix2 n d) : EReal) = next H g g' (mix A B W n.val) n.val d.val := by
  rw [val_main_v30_apply, val_main_v29_apply, val_main_v26_apply, val_main_v25_apply, val_main_v24_apply, val_main_v23_apply, val_main_v22_apply, val_main_v21_apply, val_main_v20_apply, val_main_v19_apply, val_main_v18_apply, val_main_v28_apply, val_main_v27_apply, val_main_cst_2_apply, val_main_cst_3_apply, val_main_cst_4_apply]
  have e7 : ∀ k, idx_main_v18 (idx_main_v19 (idx_main_v25 (ix2 n d))) k = ix2 n k := fun k => funext fun a => by fin_cases a <;> rfl
  have eg : idx_main_v27 (idx_main_v28 (ix2 n d)) = ix1 d := funext fun a => by fin_cases a <;> rfl
  simp only [e7, val_main_v17_apply, resid_apply, eg]
  unfold next normed
  rw [gainAt_eq]
  change resid H g (mix A B W n.val) n.val d.val * Ideal.rsqrt (Ideal.div (Ideal.ofBits .f32 0x00000000#32 + ∑ x : Fin 2048, resid H g (mix A B W n.val) n.val x.val * resid H g (mix A B W n.val) n.val x.val) _ + _) * g' (ix1 d) = _
  rw [Ideal.ofBits_zero_f32, zero_add]
  rfl
end

theorem preserves : Cert.preserves_Kernel7_Kernel7Ideal := trivial

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2.2, Idealize.ShloMosaic.sem_eq_zero_of_no_sems (by decide) r.2⟩)
    (Cert.Reference7Ideal.Value.run (F := Ideal) m ρ)

theorem algebraic : Cert.algebraic_Kernel7Ideal_Reference7Ideal := by
  intro m ρ m' ρ' _ hagree
  refine ⟨fun c => fun i : Cert.Kernel7Ideal.S32768x2048.Idx => resid (aH m c) (aN m c) (mix (aA m c) (aB m c) (aW m c) (i 0).val) (i 0).val (i 1).val,
    fun c => fun i : Cert.Kernel7Ideal.S32768x2048.Idx => next (aH m c) (aN m c) (aM m c) (mix (aA m c) (aB m c) (aW m c) (i 0).val) (i 0).val (i 1).val, ?_, ?_⟩
  · exact (θ_run Cert.Kernel7Ideal.defs _ _).mono (fun _ h c => ⟨(h c).1.trans (final7 m c), (h c).2.1.trans (final8 m c), (h c).2.2⟩)
      (Cert.Kernel7Ideal.Value.run_blocks (F := Ideal) m ρ)
  · refine (θ_run Cert.Reference7Ideal.defs _ _).mono (fun _ h c => ⟨(h c).1.trans ?_, (h c).2.1.trans ?_, (h c).2.2⟩) (Cert.Reference7Ideal.Value.run (F := Ideal) m' ρ')
    · obtain ⟨h0, h1, h2, h3, h4, h5⟩ := hagree c
      rw [Cert.Reference7Ideal.Read.val_main_v16_eq, h0, h1, h2, h3, h4]
      funext i
      idx_vars i
      exact resid_apply _ _ _ _ _ _ _
    · obtain ⟨h0, h1, h2, h3, h4, h5⟩ := hagree c
      rw [Cert.Reference7Ideal.Read.val_main_v30_eq, h0, h1, h2, h3, h4, h5]
      funext i
      idx_vars i
      exact next_apply _ _ _ _ _ _ _ _

end Cert.OutProj

end
-- ==== Proof.FfnNextRun.lean ====
/-
  The next-normalising feed-forward kernel: its payloads at an index and what a point leaves in the accumulator and in the two
  outputs.
-/
module

public import proofs.«01_k».proof.Defs
public import proofs.«01_k».proof.Proof.OutProj
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pipeline.ValueKit

@[expose] public section

set_option maxRecDepth 16384

noncomputable section

namespace Cert.FfnNext

open Cert.Ffn Cert.OutProj Idealize.ShloMosaic Idealize.ShloMosaic.TcCoe Idealize.SL.Sem Idealize.ShloMosaic.Tactic
open Idealize.ShloMosaic.Pipeline (Dat)
open Cert.Kernel3Ideal Cert.Kernel3Ideal.Gen

theorem zero_apply (r : Fin 512) (d : Fin 2048) : (k0_pay1 (F := Ideal) (ix2 r d) : EReal) = 0 := by
  pointwise [k0_pay1]

theorem step_apply (u : Vec Ideal S512x2048 .bf16) (wg wu : Vec Ideal S2048x512 .bf16) (acc : Vec Ideal S512x2048 .f32) (wd : Vec Ideal S512x2048 .bf16)
    (r : Fin 512) (d : Fin 2048) : (k0_pay2 u wg wu acc wd (ix2 r d) : EReal)
      = acc (ix2 r d) + ∑ f : Fin 512, gated (∑ k : Fin 2048, u (ix2 r k) * wg (ix2 k f)) (∑ k : Fin 2048, u (ix2 r k) * wu (ix2 k f)) * wd (ix2 f d) := by
  pointwise [k0_pay2]
  simp only [gated, zero_sub]

theorem last_apply (y h : Vec Ideal S512x2048 .f32) (g : Vec Ideal S1x2048 .f32) (r : Fin 512) (d : Fin 2048) (Y : ℕ → EReal)
    (hY : ∀ x : Fin 2048, y (ix2 r x) = Y x.val) :
    (k0_pay3 y h g (ix2 r d) : EReal) = h (ix2 r d) + normed Y (g (ix2 (0 : Fin 1) d)) d.val := by
  pointwise [k0_pay3]
  simp only [hY, normed]

theorem next_apply (y h : Vec Ideal S512x2048 .f32) (g g' : Vec Ideal S1x2048 .f32) (r : Fin 512) (d : Fin 2048) (Y : ℕ → EReal)
    (hY : ∀ x : Fin 2048, k0_pay3 y h g (ix2 r x) = Y x.val) :
    (k0_pay4 y h g g' (ix2 r d) : EReal) = normed Y (g' (ix2 (0 : Fin 1) d)) d.val := by
  unfold k0_pay4
  generalize k0_pay3 y h g = z at hY ⊢
  pointwise
  simp only [hY, normed]

variable {F : FTy → Type} [FloatOps F]

theorem hz : (![0, 0] : Fin 2 → Nat) = fun _ => 0 := funext fun a => by fin_cases a <;> rfl

section
variable (c : Dev nD) (i : grid0.Coords) (arg2 : Memref sig .tc .vmem S512x2048 .bf16) (h2 : arg2.IsWhole) (arg3 : Memref sig .tc .vmem S2048x512 .bf16) (h3 : arg3.IsWhole)
  (arg4 : Memref sig .tc .vmem S2048x512 .bf16) (h4 : arg4.IsWhole) (arg5 : Memref sig .tc .vmem S512x2048 .bf16) (h5 : arg5.IsWhole)
  (arg6 : Memref sig .tc .vmem S512x2048 .f32) (h6 : arg6.IsWhole) (arg7 : Memref sig .tc .vmem S1x2048 .f32) (h7 : arg7.IsWhole)
  (arg8 : Memref sig .tc .vmem S1x2048 .f32) (h8 : arg8.IsWhole) (arg9 : Memref sig .tc .vmem S512x2048 .f32) (h9 : arg9.IsWhole)
  (arg10 : Memref sig .tc .vmem S512x2048 .bf16) (h10 : arg10.IsWhole) (arg11 : Memref sig .tc .vmem S512x2048 .f32) (h11 : arg11.IsWhole)
  (x0 : Vec F S512x2048 .bf16) (x1 x2 : Vec F S2048x512 .bf16) (x3 : Vec F S512x2048 .bf16) (x4 : Vec F S512x2048 .f32) (x5 x6 : Vec F S1x2048 .f32) (xs : Vec F S512x2048 .f32)

theorem acc_A (hc0 : cond0_0 i) (hc1 : ¬cond0_1 i) :
    sout0_A_0 c i arg2 h2 arg3 h3 arg4 h4 arg5 h5 arg6 h6 arg7 h7 arg8 h8 arg9 h9 arg10 h10 arg11 h11 hc0 hc1 x0 x1 x2 x3 x4 x5 x6 = k0_pay2 x0 x1 x2 k0_pay1 x3 := by
  unfold sout0_A_0
  rw [View.read_writes_eq_canon _ _ _ (scover0_A_0 c i arg2 h2 arg3 h3 arg4 h4 arg5 h5 arg6 h6 arg7 h7 arg8 h8 arg9 h9 arg10 h10 arg11 h11 hc0 hc1 x0 x1 x2 x3 x4 x5 x6)]
  unfold kernelRun0_A
  dsimp only
  sl_unfold_words
  rw [View.canon_cons_unit_zero (S := S512x2048) hz, View.readCov_unit_zero (S := S512x2048) _ hz]
  simp only [View.readAt_eq_ld, h2.read_unread, h3.read_unread, h4.read_unread, h5.read_unread, View.ld_unit_zero (S := S512x2048) hz, View.ld_unit_zero (S := S2048x512) hz, shapeCast_self]

theorem acc_B (hc0 : ¬cond0_0 i) (hc1 : ¬cond0_1 i) :
    sout0_B_0 c i arg2 h2 arg3 h3 arg4 h4 arg5 h5 arg6 h6 arg7 h7 arg8 h8 arg9 h9 arg10 h10 arg11 h11 hc0 hc1 x0 x1 x2 x3 x4 x5 x6 xs = k0_pay2 x0 x1 x2 xs x3 := by
  unfold sout0_B_0
  rw [View.read_writes_eq_canon _ _ _ (scover0_B_0 c i arg2 h2 arg3 h3 arg4 h4 arg5 h5 arg6 h6 arg7 h7 arg8 h8 arg9 h9 arg10 h10 arg11 h11 hc0 hc1 x0 x1 x2 x3 x4 x5 x6 xs)]
  unfold kernelRun0_B
  dsimp only
  sl_unfold_words
  rw [View.canon_unit_zero (S := S512x2048) hz]
  simp only [View.readAt_eq_ld, h2.read_unread, h3.read_unread, h4.read_unread, h5.read_unread, h11.read_unread, View.ld_unit_zero (S := S512x2048) hz, View.ld_unit_zero (S := S2048x512) hz, shapeCast_self]

theorem acc_C (hc0 : ¬cond0_0 i) (hc1 : cond0_1 i) :
    sout0_C_0 c i arg2 h2 arg3 h3 arg4 h4 arg5 h5 arg6 h6 arg7 h7 arg8 h8 arg9 h9 arg10 h10 arg11 h11 hc0 hc1 x0 x1 x2 x3 x4 x5 x6 xs = k0_pay2 x0 x1 x2 xs x3 := by
  unfold sout0_C_0
  rw [View.read_writes_eq_canon _ _ _ (scover0_C_0 c i arg2 h2 arg3 h3 arg4 h4 arg5 h5 arg6 h6 arg7 h7 arg8 h8 arg9 h9 arg10 h10 arg11 h11 hc0 hc1 x0 x1 x2 x3 x4 x5 x6 xs)]
  unfold kernelRun0_C
  dsimp only
  sl_unfold_words
  rw [View.canon_unit_zero (S := S512x2048) hz]
  simp only [View.readAt_eq_ld, h2.read_unread, h3.read_unread, h4.read_unread, h5.read_unread, h11.read_unread, View.ld_unit_zero (S := S512x2048) hz, View.ld_unit_zero (S := S2048x512) hz, shapeCast_self]

theorem out_C (hc0 : ¬cond0_0 i) (hc1 : cond0_1 i) :
    out0_C_7 c i arg2 h2 arg3 h3 arg4 h4 arg5 h5 arg6 h6 arg7 h7 arg8 h8 arg9 h9 arg10 h10 arg11 h11 hc0 hc1 x0 x1 x2 x3 x4 x5 x6 xs = k0_pay3 (k0_pay2 x0 x1 x2 xs x3) x4 x5 := by
  unfold out0_C_7
  rw [View.read_writes_eq_canon _ _ _ (cover0_C_7 c i arg2 h2 arg3 h3 arg4 h4 arg5 h5 arg6 h6 arg7 h7 arg8 h8 arg9 h9 arg10 h10 arg11 h11 hc0 hc1 x0 x1 x2 x3 x4 x5 x6 xs)]
  unfold kernelRun0_C
  dsimp only
  sl_unfold_words
  rw [View.canon_unit_zero (S := S512x2048) hz, View.readCov_unit_zero (S := S512x2048) _ hz]
  simp only [View.readAt_eq_ld, h2.read_unread, h3.read_unread, h4.read_unread, h5.read_unread, h6.read_unread, h7.read_unread, h11.read_unread, View.ld_unit_zero (S := S512x2048) hz, View.ld_unit_zero (S := S2048x512) hz, View.ld_unit_zero (S := S1x2048) hz, shapeCast_self]
theorem out8_C (hc0 : ¬cond0_0 i) (hc1 : cond0_1 i) :
    out0_C_8 c i arg2 h2 arg3 h3 arg4 h4 arg5 h5 arg6 h6 arg7 h7 arg8 h8 arg9 h9 arg10 h10 arg11 h11 hc0 hc1 x0 x1 x2 x3 x4 x5 x6 xs = k0_pay4 (k0_pay2 x0 x1 x2 xs x3) x4 x5 x6 := by
  unfold out0_C_8
  rw [View.read_writes_eq_canon _ _ _ (cover0_C_8 c i arg2 h2 arg3 h3 arg4 h4 arg5 h5 arg6 h6 arg7 h7 arg8 h8 arg9 h9 arg10 h10 arg11 h11 hc0 hc1 x0 x1 x2 x3 x4 x5 x6 xs)]
  unfold kernelRun0_C
  dsimp only
  sl_unfold_words
  rw [View.canon_unit_zero (S := S512x2048) hz, View.readCov_unit_zero (S := S512x2048) _ hz]
  simp only [View.readAt_eq_ld, h2.read_unread, h3.read_unread, h4.read_unread, h5.read_unread, h6.read_unread, h7.read_unread, h8.read_unread, h11.read_unread, View.ld_unit_zero (S := S512x2048) hz, View.ld_unit_zero (S := S2048x512) hz, View.ld_unit_zero (S := S1x2048) hz, shapeCast_self]
end

end Cert.FfnNext

end
-- ==== Proof.FfnNextGrid.lean ====
/-
  The next-normalising feed-forward kernel's result arrays.
-/
module

public import proofs.«01_k».proof.Proof.FfnNextRun

@[expose] public section

set_option maxRecDepth 16384

noncomputable section

namespace Cert.FfnNext

open Cert.Ffn Cert.OutProj Idealize.ShloMosaic Idealize.ShloMosaic.TcCoe Idealize.SL.Sem Idealize.ShloMosaic.Tactic
open Idealize.ShloMosaic.Pipeline (Dat)
open Cert.Kernel3Ideal Cert.Kernel3Ideal.Gen

variable (m : (ℓ : Loc nD τ sig) → Buf (Elt Ideal) ℓ) (c : Dev nD)

/-- The arguments: the rows, the three weights, the residual and the two gains. -/
abbrev aU : Mat 32768 2048 := m ((c : Thread nD τ).loc main_arg0)
abbrev aG : Mat 2048 5632 := m ((c : Thread nD τ).loc main_arg1)
abbrev aV : Mat 2048 5632 := m ((c : Thread nD τ).loc main_arg2)
abbrev aD : Mat 5632 2048 := m ((c : Thread nD τ).loc main_arg3)
abbrev aH : Mat 32768 2048 := m ((c : Thread nD τ).loc main_arg4)
abbrev aN : Gain := m ((c : Thread nD τ).loc main_arg5)
abbrev aM : Gain := m ((c : Thread nD τ).loc main_arg6)

theorem t_lt (t : Fin cfg0.N) : t.val < 704 := lt_of_lt_of_eq t.isLt N_0

theorem idx : ∀ t : Fin cfg0.N, win0_0.index t = ![t.val / 11, 0] ∧ win0_1.index t = ![0, t.val % 11] ∧ win0_2.index t = ![0, t.val % 11]
    ∧ win0_3.index t = ![t.val % 11, 0] ∧ win0_4.index t = ![t.val / 11, 0] ∧ win0_5.index t = ![0, 0] ∧ win0_6.index t = ![0, 0] ∧ win0_7.index t = ![t.val / 11, 0] ∧ win0_8.index t = ![t.val / 11, 0] :=
  (by decide +kernel : ∀ t : Fin grid0.N, _)

theorem v0 : (V m c main_v0 : Mat 2048 5632) = aG m c := by
  unfold_abbrev_sides
  after_results
  rfl
theorem v1 : (V m c main_v1 : Mat 2048 5632) = aV m c := by
  unfold_abbrev_sides
  after_results
  rfl
theorem v2 : (V m c main_v2 : Mat 5632 2048) = aD m c := by
  unfold_abbrev_sides
  after_results
  rfl
theorem v3 (d : Fin 2048) : (V m c main_v3 : Mat 1 2048) (ix2 (0 : Fin 1) d) = aN m c (ix1 d) := by
  unfold_abbrev_sides
  after_results
  pointwise

theorem v4 (d : Fin 2048) : (V m c main_v4 : Mat 1 2048) (ix2 (0 : Fin 1) d) = aM m c (ix1 d) := by
  unfold_abbrev_sides
  after_results
  pointwise

theorem blk0 (t : Fin cfg0.N) (r : Fin 512) (k : Fin 2048) : (iblk m c 0 t (ix2 r k) : EReal) = entry (aU m c) (512 * (t.val / 11) + r.val) k.val := by
  have ht := t_lt t
  have hr := r.isLt
  unfold entry
  rw [dif_pos ⟨by omega, k.isLt⟩]
  blk_ext! [iblk, V, idx t]
theorem blk1 (t : Fin cfg0.N) (k : Fin 2048) (f : Fin 512) : (iblk m c 1 t (ix2 k f) : EReal) = entry (aG m c) k.val (512 * (t.val % 11) + f.val) := by
  have hf := f.isLt
  unfold entry
  rw [dif_pos ⟨k.isLt, by omega⟩, ← v0]
  blk_ext! [iblk, idx t]
theorem blk2 (t : Fin cfg0.N) (k : Fin 2048) (f : Fin 512) : (iblk m c 2 t (ix2 k f) : EReal) = entry (aV m c) k.val (512 * (t.val % 11) + f.val) := by
  have hf := f.isLt
  unfold entry
  rw [dif_pos ⟨k.isLt, by omega⟩, ← v1]
  blk_ext! [iblk, idx t]
theorem blk3 (t : Fin cfg0.N) (f : Fin 512) (d : Fin 2048) : (iblk m c 3 t (ix2 f d) : EReal) = entry (aD m c) (512 * (t.val % 11) + f.val) d.val := by
  have hf := f.isLt
  unfold entry
  rw [dif_pos ⟨by omega, d.isLt⟩, ← v2]
  blk_ext! [iblk, idx t]
theorem blk4 (t : Fin cfg0.N) (r : Fin 512) (d : Fin 2048) : (iblk m c 4 t (ix2 r d) : EReal) = entry (aH m c) (512 * (t.val / 11) + r.val) d.val := by
  have ht := t_lt t
  have hr := r.isLt
  unfold entry
  rw [dif_pos ⟨by omega, d.isLt⟩]
  blk_ext! [iblk, V, idx t]
theorem blk5 (t : Fin cfg0.N) (d : Fin 2048) : (iblk m c 5 t (ix2 (0 : Fin 1) d) : EReal) = gainAt (aN m c) d.val := by
  rw [gainAt_eq, ← v3]
  blk_ext! [iblk, idx t]
theorem blk6 (t : Fin cfg0.N) (d : Fin 2048) : (iblk m c 6 t (ix2 (0 : Fin 1) d) : EReal) = gainAt (aM m c) d.val := by
  rw [gainAt_eq, ← v4]
  blk_ext! [iblk, idx t]

/-- One point's addition. -/
theorem step (t : Fin cfg0.N) (acc : Vec Ideal S512x2048 .f32) (r : Fin 512) (d : Fin 2048) :
    (k0_pay2 (iblk m c 0 t) (iblk m c 1 t) (iblk m c 2 t) acc (iblk m c 3 t) (ix2 r d) : EReal)
      = acc (ix2 r d) + part (aU m c) (aG m c) (aV m c) (aD m c) (512 * (t.val / 11) + r.val) (t.val % 11) d.val := by
  rw [step_apply]
  simp only [blk0, blk1, blk2, blk3]
  rfl

/-- The accumulator after a point. -/
theorem acc_apply (t : Fin cfg0.N) (r : Fin 512) (d : Fin 2048) : ((outsAt0 m c t.val t.isLt).2.2 (ix2 r d) : EReal)
    = 0 + ∑ k ∈ Finset.range (t.val % 11 + 1), part (aU m c) (aG m c) (aV m c) (aD m c) (512 * (t.val / 11) + r.val) k d.val := by
  refine Pipeline.eq_sum_of_reset_step_divmod (M := EReal) (fun n h => (outsAt0 m c n h).2.2 (ix2 r d)) 11 0
    (fun q k => part (aU m c) (aG m c) (aV m c) (aD m c) (512 * q + r.val) k d.val) (fun t h0 => ?_) (fun t h0 => ?_) t
  · rw [outsAt0_A m c t h0 (by omega)]
    dsimp only
    rw [acc_A, step, zero_apply]
  · by_cases h1 : t.val % 11 = 10
    · rw [outsAt0_C m c t h0 h1]
      dsimp only
      rw [acc_C, step]
    · rw [outsAt0_B m c t h0 h1]
      dsimp only
      rw [acc_B, step]

/-- The block's output at a row. -/
abbrev y (n : ℕ) : ℕ → EReal := down (aU m c) (aG m c) (aV m c) (aD m c) n

theorem resid_point (t : Fin cfg0.N) (h1 : t.val % 11 = 10) (r : Fin 512) (d : Fin 2048) :
    (k0_pay3 (outsAt0 m c t.val t.isLt).2.2 (iblk m c 4 t) (iblk m c 5 t) (ix2 r d) : EReal)
      = resid (aH m c) (aN m c) (y m c (512 * (t.val / 11) + r.val)) (512 * (t.val / 11) + r.val) d.val := by
  rw [last_apply _ _ _ r d (y m c (512 * (t.val / 11) + r.val)) fun x => by
    rw [acc_apply, h1, sum_parts, zero_add], blk4, blk5]
  rfl

theorem point7 (t : Fin cfg0.N) (h1 : t.val % 11 = 10) :
    (outsAt0 m c t.val t.isLt).1 = k0_pay3 (outsAt0 m c t.val t.isLt).2.2 (iblk m c 4 t) (iblk m c 5 t) := by
  rw [outsAt0_C m c t (by omega) h1]
  dsimp only
  rw [acc_C, out_C]
theorem point8 (t : Fin cfg0.N) (h1 : t.val % 11 = 10) :
    (outsAt0 m c t.val t.isLt).2.1 = k0_pay4 (outsAt0 m c t.val t.isLt).2.2 (iblk m c 4 t) (iblk m c 5 t) (iblk m c 6 t) := by
  rw [outsAt0_C m c t (by omega) h1]
  dsimp only
  rw [acc_C, out8_C]

/-- THE KERNEL'S RESULT ARRAYS. -/
theorem final7 : (dats m 0 c).arrAt 7 cfg0.N
    = fun i : S32768x2048.Idx => resid (aH m c) (aN m c) (y m c (i 0).val) (i 0).val (i 1).val := by
  refine (dats m 0 c).arrAt_eq_of_covers 7 _ (by decide +kernel) fun t hf y => ?_
  have h1 : t.val % 11 = 10 := (flush0_7 t).mp hf
  blk_simp [idx t]
  rw [after0_7, point7 m c t h1]
  idx_vars y
  rw [resid_point m c t h1, Nat.mul_comm 512]
theorem final8 : (dats m 0 c).arrAt 8 cfg0.N
    = fun i : S32768x2048.Idx => next (aH m c) (aN m c) (aM m c) (y m c (i 0).val) (i 0).val (i 1).val := by
  refine (dats m 0 c).arrAt_eq_of_covers 8 _ (by decide +kernel) fun t hf y => ?_
  have h1 : t.val % 11 = 10 := (flush0_8 t).mp hf
  blk_simp [idx t]
  rw [after0_8, point8 m c t h1]
  idx_vars y
  rw [next_apply _ _ _ _ y0 y1 _ fun x => resid_point m c t h1 y0 x, blk6, Nat.mul_comm 512]
  rfl

end Cert.FfnNext

end
-- ==== Proof.FfnNextClaims.lean ====
/-
  The next-normalising feed-forward reference read at an index, and the claims.
-/
module

public import proofs.«01_k».proof.Proof.FfnNextGrid

@[expose] public section

set_option maxRecDepth 16384

noncomputable section

namespace Cert.FfnNext

open Cert.Ffn Cert.OutProj Idealize.ShloMosaic Idealize.ShloMosaic.TcCoe Idealize.SL.Sem Idealize.ShloMosaic.Tactic
open Idealize.ShloMosaic.Pipeline (Dat)

section
open Cert.Reference3Ideal Cert.Reference3Ideal.Gen Cert.Reference3Ideal.Read
variable (U : Mat 32768 2048) (WG WU : Mat 2048 5632) (WD : Mat 5632 2048) (H : Mat 32768 2048) (g g' : Gain)

theorem gate_apply (n : Fin 32768) (f : Fin 5632) : (val_main_v1 (F := Ideal) U WG (ix2 n f) : EReal) = dot U WG n.val f.val := by
  rw [val_main_v1_apply, dot_eq]
  refine Finset.sum_congr rfl fun k _ => ?_
  have e1 : lidx_main_v1 (ix2 n f) k = ix2 n k := funext fun a => by fin_cases a <;> rfl
  have e2 : ridx_main_v1 (ix2 n f) k = ix2 k f := funext fun a => by fin_cases a <;> rfl
  rw [e1, e2]
  rfl
theorem up_apply (n : Fin 32768) (f : Fin 5632) : (val_main_v3 (F := Ideal) U WU (ix2 n f) : EReal) = dot U WU n.val f.val := by
  rw [val_main_v3_apply, dot_eq]
  refine Finset.sum_congr rfl fun k _ => ?_
  have e1 : lidx_main_v3 (ix2 n f) k = ix2 n k := funext fun a => by fin_cases a <;> rfl
  have e2 : ridx_main_v3 (ix2 n f) k = ix2 k f := funext fun a => by fin_cases a <;> rfl
  rw [e1, e2]
  rfl
theorem hidden_apply (n : Fin 32768) (f : Fin 5632) : (val_main_v4 (F := Ideal) U WG WU (ix2 n f) : EReal) = hidden U WG WU n.val f.val := by
  rw [val_main_v4_apply, val_main_v2_apply, val_main_call0_v5_apply, val_main_call0_v4_apply, val_main_call0_v3_apply, val_main_call0_v2_apply,
    val_main_call0_v1_apply, val_main_call0_v0_apply, val_main_call0_cst_apply, val_main_call0_cst_0_apply, gate_apply, up_apply]
  change dot U WG n.val f.val * Ideal.div (Ideal.ofBits .f32 0x3F800000#32) (Ideal.ofBits .f32 0x3F800000#32 + Ideal.exp (-(dot U WG n.val f.val))) * dot U WU n.val f.val = _
  rw [Ideal.ofBits_one_f32]
  rfl
theorem down_apply (n : Fin 32768) (x : Fin 2048) : (val_main_v5 (F := Ideal) U WG WU WD (ix2 n x) : EReal) = down U WG WU WD n.val x.val := by
  rw [val_main_v5_apply]
  unfold down
  rw [Finset.sum_range]
  refine Finset.sum_congr rfl fun k _ => ?_
  have e1 : lidx_main_v5 (ix2 n x) k = ix2 n k := funext fun a => by fin_cases a <;> rfl
  have e2 : ridx_main_v5 (ix2 n x) k = ix2 k x := funext fun a => by fin_cases a <;> rfl
  rw [e1, e2, hidden_apply, entry_eq]

theorem ref_resid (n : Fin 32768) (d : Fin 2048) : (val_main_v19 (F := Ideal) U WG WU WD H g (ix2 n d) : EReal) = resid H g (down U WG WU WD n.val) n.val d.val := by
  rw [val_main_v19_apply, val_main_v18_apply, val_main_v15_apply, val_main_v14_apply, val_main_v13_apply, val_main_v12_apply, val_main_v11_apply, val_main_v10_apply, val_main_v9_apply, val_main_v8_apply, val_main_v7_apply, val_main_v17_apply, val_main_v16_apply, val_main_cst_apply, val_main_cst_0_apply, val_main_cst_1_apply]
  have e7 : ∀ k, idx_main_v7 (idx_main_v8 (idx_main_v14 (ix2 n d))) k = ix2 n k := fun k => funext fun a => by fin_cases a <;> rfl
  have eg : idx_main_v16 (idx_main_v17 (ix2 n d)) = ix1 d := funext fun a => by fin_cases a <;> rfl
  simp only [e7, val_main_v6_apply, down_apply, eg]
  unfold resid normed
  rw [entry_eq, gainAt_eq]
  change H (ix2 n d) + down U WG WU WD n.val d.val * Ideal.rsqrt (Ideal.div (Ideal.ofBits .f32 0x00000000#32 + ∑ x : Fin 2048, down U WG WU WD n.val x.val * down U WG WU WD n.val x.val) _ + _) * g (ix1 d) = _
  rw [Ideal.ofBits_zero_f32, zero_add]
  rfl

theorem ref_next (n : Fin 32768) (d : Fin 2048) : (val_main_v33 (F := Ideal) U WG WU WD H g g' (ix2 n d) : EReal) = next H g g' (down U WG WU WD n.val) n.val d.val := by
  rw [val_main_v33_apply, val_main_v32_apply, val_main_v29_apply, val_main_v28_apply, val_main_v27_apply, val_main_v26_apply, val_main_v25_apply, val_main_v24_apply, val_main_v23_apply, val_main_v22_apply, val_main_v21_apply, val_main_v31_apply, val_main_v30_apply, val_main_cst_2_apply, val_main_cst_3_apply, val_main_cst_4_apply]
  have e7 : ∀ k, idx_main_v21 (idx_main_v22 (idx_main_v28 (ix2 n d))) k = ix2 n k := fun k => funext fun a => by fin_cases a <;> rfl
  have eg : idx_main_v30 (idx_main_v31 (ix2 n d)) = ix1 d := funext fun a => by fin_cases a <;> rfl
  simp only [e7, val_main_v20_apply, ref_resid, eg]
  unfold next normed
  rw [gainAt_eq]
  change resid H g (down U WG WU WD n.val) n.val d.val * Ideal.rsqrt (Ideal.div (Ideal.ofBits .f32 0x00000000#32 + ∑ x : Fin 2048, resid H g (down U WG WU WD n.val) n.val x.val * resid H g (down U WG WU WD n.val) n.val x.val) _ + _) * g' (ix1 d) = _
  rw [Ideal.ofBits_zero_f32, zero_add]
  rfl
end

theorem preserves : Cert.preserves_Kernel3_Kernel3Ideal := trivial

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨fun c => fun i : Cert.Kernel3Ideal.S32768x2048.Idx => resid (aH m c) (aN m c) (y m c (i 0).val) (i 0).val (i 1).val,
    fun c => fun i : Cert.Kernel3Ideal.S32768x2048.Idx => next (aH m c) (aN m c) (aM m c) (y m c (i 0).val) (i 0).val (i 1).val, ?_, ?_⟩
  · exact (θ_run Cert.Kernel3Ideal.defs _ _).mono (fun _ h c => ⟨(h c).1.trans (final7 m c), (h c).2.1.trans (final8 m c), (h c).2.2⟩)
      (Cert.Kernel3Ideal.Value.run_blocks (F := Ideal) m ρ)
  · refine (θ_run Cert.Reference3Ideal.defs _ _).mono (fun _ h c => ⟨(h c).1.trans ?_, (h c).2.1.trans ?_, (h c).2.2⟩) (Cert.Reference3Ideal.Value.run (F := Ideal) m' ρ')
    · obtain ⟨h0, h1, h2, h3, h4, h5, h6⟩ := hagree c
      rw [Cert.Reference3Ideal.Read.val_main_v19_eq, h0, h1, h2, h3, h4, h5]
      funext i
      idx_vars i
      exact ref_resid _ _ _ _ _ _ _ _
    · obtain ⟨h0, h1, h2, h3, h4, h5, h6⟩ := hagree c
      rw [Cert.Reference3Ideal.Read.val_main_v33_eq, h0, h1, h2, h3, h4, h5, h6]
      funext i
      idx_vars i
      exact ref_next _ _ _ _ _ _ _ _ _

end Cert.FfnNext

end
-- ==== Proof.ProjAb.lean ====
/-
  The projection of the decay and gate columns, padded to whole lanes: each block of the result is a block of rows times a block of columns.
-/
module

public import proofs.«01_k».proof.Defs
public import proofs.«01_k».proof.Proof.FfnNextClaims
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pipeline.ValueKit
public import Idealize.ShloMosaic.Lib.KernelVsHost

@[expose] public section

set_option maxRecDepth 16384

noncomputable section

namespace Cert.ProjAb

open Cert.Ffn Idealize.ShloMosaic Idealize.ShloMosaic.TcCoe Idealize.SL.Sem Idealize.ShloMosaic.Tactic
open Idealize.ShloMosaic.Pipeline (Dat)

section
open Cert.Kernel9Ideal Cert.Kernel9Ideal.Gen

theorem pay_apply (u : Vec Ideal S2048x2048 .bf16) (w : Vec Ideal S2048x128 .bf16) (r : Fin 2048) (f : Fin 128) :
    (k0_pay1 u w (ix2 r f) : EReal) = ∑ k : Fin 2048, u (ix2 r k) * w (ix2 k f) := by
  pointwise [k0_pay1]

theorem hz : (![0, 0] : Fin 2 → Nat) = fun _ => 0 := funext fun a => by fin_cases a <;> rfl

theorem out_eq (u : Vec Ideal S2048x2048 .bf16) (w : Vec Ideal S2048x128 .bf16) : out0_2 u w = k0_pay1 u w := by
  unfold out0_2
  rw [View.canon_unit_zero (S := S2048x128) hz, View.ld_unit_zero (S := S2048x2048) hz, View.ld_unit_zero (S := S2048x128) hz]

variable (m : (ℓ : Loc nD τ sig) → Buf (Elt Ideal) ℓ) (c : Dev nD)

/-- The arguments: the rows and the weights. -/
abbrev aU : Mat 32768 2048 := m ((c : Thread nD τ).loc main_arg0)
abbrev aW : Mat 2048 7184 := m ((c : Thread nD τ).loc main_arg1)

theorem t_lt (t : Fin cfg0.N) : t.val < 16 := lt_of_lt_of_eq t.isLt N_0

theorem idx : ∀ t : Fin cfg0.N, win0_0.index t = ![t.val / 1, 0] ∧ win0_1.index t = ![0, t.val % 1] ∧ win0_2.index t = ![t.val / 1, t.val % 1] :=
  (by decide +kernel : ∀ t : Fin grid0.N, _)

theorem entry_out (W : Mat 2048 7184) (k : ℕ) (f : ℕ) (hf : ¬f < 16) : entry W k (7168 + f) = 0 :=
  dif_neg fun h => hf (by omega)

theorem zero_word : (FloatOps.sitofp (F := Ideal) .f32 (0#32) : EReal) = 0 := sitofp_zero

theorem weights (k : Fin 2048) (f : Fin 128) : ((V m c main_v2 : Mat 2048 128) (ix2 k f) : EReal) = entry (aW m c) k.val (7168 + f.val) := by
  by_cases hf : f.val < 16
  · have e : ((V m c main_v2 : Mat 2048 128) (ix2 k f) : EReal) = aW m c (ix2 k (⟨7168 + f.val, by omega⟩ : Fin 7184)) := by
      unfold_abbrev_sides
      simp only [List.flatten_cons, List.flatten_nil, List.append_nil, List.cons_append, List.nil_append]
      after_results
      change (pad S2048x128 ![0, 0] ![0, 112] ![0, 0] (extractStridedSlice S2048x16 ![0, 7168] (aW m c) slices_S2048x7184_S2048x16_0_7168)
        (sitofp (F := Ideal) .f32 (constantI S_ 32 0#32)) pads_S2048x16_S2048x128_000_01120 h_S_ (ix2 k f) : EReal) = _
      pointwise [hf]
    exact e.trans (entry_eq (aW m c) k (⟨7168 + f.val, by omega⟩ : Fin 7184)).symm
  · rw [entry_out _ _ _ hf]
    have e : ((V m c main_v2 : Mat 2048 128) (ix2 k f) : EReal) = (0 : EReal) := by
      unfold_abbrev_sides
      simp only [List.flatten_cons, List.flatten_nil, List.append_nil, List.cons_append, List.nil_append]
      after_results
      change (pad S2048x128 ![0, 0] ![0, 112] ![0, 0] (extractStridedSlice S2048x16 ![0, 7168] (aW m c) slices_S2048x7184_S2048x16_0_7168)
        (sitofp (F := Ideal) .f32 (constantI S_ 32 0#32)) pads_S2048x16_S2048x128_000_01120 h_S_ (ix2 k f) : EReal) = _
      pointwise [hf]
      exact zero_word
    exact e
theorem blk0 (t : Fin cfg0.N) (r k : Fin 2048) : (iblk m c 0 t (ix2 r k) : EReal) = entry (aU m c) (t.val / 1 * 2048 + r.val) k.val := by
  have ht := t_lt t
  have hr := r.isLt
  unfold entry
  rw [dif_pos ⟨by omega, k.isLt⟩]
  blk_ext! [iblk, V, idx t]
theorem blk1 (t : Fin cfg0.N) (k : Fin 2048) (f : Fin 128) : (iblk m c 1 t (ix2 k f) : EReal) = entry (aW m c) k.val (7168 + (t.val % 1 * 128 + f.val)) := by
  have hf := f.isLt
  have e := weights m c k ⟨t.val % 1 * 128 + f.val, by omega⟩
  rw [← e]
  blk_ext! [iblk, idx t]

/-- THE KERNEL'S RESULT ARRAY. -/
theorem final : (dats m 0 c).arrAt 2 cfg0.N = fun i : S32768x128.Idx => dot (aU m c) (aW m c) (i 0).val (7168 + (i 1).val) := by
  refine (dats m 0 c).arrAt_eq_of_covers 2 _ (by decide +kernel) fun t hf y => ?_
  blk_simp [idx t]
  rw [after0_2, out_eq]
  idx_vars y
  rw [pay_apply]
  simp only [blk0, blk1]
  rfl
end

section
open Cert.Reference9Ideal Cert.Reference9Ideal.Gen Cert.Reference9Ideal.Read

theorem reference_apply (U : Mat 32768 2048) (W : Mat 2048 7184) (n : Fin 32768) (f : Fin 128) :
    (val_main_v3 (F := Ideal) U W (ix2 n f) : EReal) = dot U W n.val (7168 + f.val) := by
  unfold val_main_v3
  by_cases hf : f.val < 16
  · have e : (pad S32768x128 ![0, 0] ![0, 112] ![0, 0] (val_main_v2 (F := Ideal) U W) (val_main_call0_v0 (F := Ideal)) pads_S32768x16_S32768x128_000_01120 h_S_ (ix2 n f) : EReal)
        = val_main_v2 (F := Ideal) U W (ix2 n (⟨f.val, hf⟩ : Fin 16)) := by
      pointwise [hf]
    rw [e, val_main_v2_apply]
    unfold dot
    refine Finset.sum_congr rfl fun k _ => ?_
    have e1 : lidx_main_v2 (ix2 n (⟨f.val, hf⟩ : Fin 16)) k = ix2 n k := funext fun a => by fin_cases a <;> rfl
    have e2 : idx_main_v1 (ridx_main_v2 (ix2 n (⟨f.val, hf⟩ : Fin 16)) k) = ix2 k (⟨7168 + f.val, by omega⟩ : Fin 7184) := funext fun a => by fin_cases a <;> rfl
    rw [e1, val_main_v1_apply, e2, entry_eq U n k, ← entry_eq W k (⟨7168 + f.val, by omega⟩ : Fin 7184)]
    rfl
  · have e : (pad S32768x128 ![0, 0] ![0, 112] ![0, 0] (val_main_v2 (F := Ideal) U W) (val_main_call0_v0 (F := Ideal)) pads_S32768x16_S32768x128_000_01120 h_S_ (ix2 n f) : EReal)
        = (0 : EReal) := by
      pointwise [hf, val_main_call0_v0, val_main_c]
      exact zero_word
    rw [e]
    unfold dot
    exact (Finset.sum_eq_zero fun k _ => by rw [entry_out _ _ _ hf, mul_zero]).symm
end

theorem preserves : Cert.preserves_Kernel9_Kernel9Ideal := trivial

theorem frame_p : Cert.quiescent_Kernel9 := fun m ρ _ => Cert.Kernel9.Gen.frame m ρ
theorem frame_pi : Cert.quiescent_Kernel9Ideal := fun m ρ _ => Cert.Kernel9Ideal.Gen.frame m ρ
theorem frame_ri : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem algebraic : Cert.algebraic_Kernel9Ideal_Reference9Ideal := by
  intro m ρ m' ρ' _ hagree
  refine ⟨fun c => fun i : Cert.Kernel9Ideal.S32768x128.Idx => dot (aU m c) (aW m c) (i 0).val (7168 + (i 1).val), ?_, ?_⟩
  · exact (θ_run Cert.Kernel9Ideal.defs _ _).mono (fun _ h c => ⟨(h c).1.trans (final m c), (h c).2⟩)
      (Cert.Kernel9Ideal.Value.run_blocks (F := Ideal) m ρ)
  · refine (θ_run Cert.Reference9Ideal.defs _ _).mono (fun _ h c => ⟨(h c).1.trans ?_, (h c).2⟩) (Cert.Reference9Ideal.Value.run (F := Ideal) m' ρ')
    obtain ⟨h0, h1⟩ := hagree c
    rw [Cert.Reference9Ideal.Read.val_main_v3_eq, h0, h1]
    funext i
    idx_vars i
    exact reference_apply _ _ _ _

end Cert.ProjAb

end
-- ==== Proof.MobaIdealRun.lean ====
/-
  The block-sparse attention runs: its body at any grid point, from blocks and scratch arrays held whole, to the same held
  whole, whichever of its branches the point takes.
-/
module

public import Idealize.ShloMosaic.Lib.Pipeline.FrameBody
public import Idealize.ShloMosaic.Lib.Pipeline.Frame

public import proofs.«01_k».proof.Proof.Gen.Kernel10Ideal.Loops
public import proofs.«01_k».proof.Proof.Gen.Kernel10Ideal.Points

@[expose] public section

set_option maxRecDepth 16384

noncomputable section

namespace Cert.Kernel10Ideal.Moba

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel10Ideal Cert.Kernel10Ideal.Gen

variable {F : FTy → Type} [FloatOps F] [Named F]

local notation "𝕄" => MT nD τ sig Unit (Elt F) ℕ (UR sig nD τ) ℕ

/-- The four positions along the last grid axis. -/
theorem coord (i : grid0.Coords) : (i 2).val = 0 ∨ (i 2).val = 1 ∨ (i 2).val = 2 ∨ (i 2).val = 3 := by
  have h : (i 2).val < 4 := (i 2).isLt
  omega

theorem off6_eq (i : grid0.Coords) : k0_off6 i = ![2048 * ((i 2).val / 2), 0] := by
  obtain h | h | h | h := coord i <;> unfold k0_off6 <;> rw [h] <;> decide +kernel

theorem off7_eq (i : grid0.Coords) : k0_off7 i = ![0, 2048 * ((i 2).val / 2)] := by
  obtain h | h | h | h := coord i <;> unfold k0_off7 <;> rw [h] <;> decide +kernel

theorem off13_eq (i : grid0.Coords) : k0_off13 i = ![0, 2048 * ((i 2).val / 2)] := by
  obtain h | h | h | h := coord i <;> unfold k0_off13 <;> rw [h] <;> decide +kernel

theorem off14_eq (i : grid0.Coords) : k0_off14 i = ![2048 * ((i 2).val / 2), 0] := by
  obtain h | h | h | h := coord i <;> unfold k0_off14 <;> rw [h] <;> decide +kernel

instance (i : grid0.Coords) : ClosedOff (k0_off6 i) := ⟨_, off6_eq i⟩
instance (i : grid0.Coords) : ClosedOff (k0_off7 i) := ⟨_, off7_eq i⟩
instance (i : grid0.Coords) : ClosedOff (k0_off13 i) := ⟨_, off13_eq i⟩
instance (i : grid0.Coords) : ClosedOff (k0_off14 i) := ⟨_, off14_eq i⟩

set_option maxHeartbeats 4000000 in
/-- A grid point leaves its three argument blocks as they were, and the result block and the scratch arrays at some contents. -/
theorem run (c : Dev nD) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole)
    (x0 x1 x2 : Vec F S1x4096x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_moba_attn i arg3 harg3 arg4 harg4 arg5 harg5 arg6 harg6 arg7 harg7 arg8 harg8 arg9 harg9 arg10 harg10 arg11 harg11 arg12 harg12 arg13 harg13) K := by
    simp only [cc0_moba_attn_eq_skeleton]; unfold cc0_moba_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
    obtain rfl := harg3.eq_unread hf0; obtain rfl := harg4.eq_unread hf1; obtain rfl := harg5.eq_unread hf2
    by_cases hc1 : (Scalar.cmpi .ne (Scalar.extui (Scalar.cmpi .eq (Scalar.muli 4#32 (BitVec.ofNat 32 (i 2).val)) 0#32) : BitVec 32) 0#32) = 1#1 <;> by_cases hc2 : k0_cond2 i = 1#1 <;> by_cases hc3 : k0_cond3 i = 1#1
    all_goals
    sl_exec (disch := first | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.Kernel10Ideal.Moba
-- ==== Proof.MobaIdealFrame.lean ====
/-
  The frame of the block-sparse attention: the body's run at every grid point, with the result block forgotten, and the
  launch around it.
-/
module

public import proofs.«01_k».proof.Proof.MobaIdealRun
public import proofs.«01_k».proof.Proof.Gen.Kernel10Ideal.Frame
public import Idealize.ShloMosaic.Lib.Claim

@[expose] public section

set_option maxRecDepth 16384

noncomputable section

namespace Cert.Kernel10Ideal.Moba

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.Kernel10Ideal Cert.Kernel10Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch arrays and the random register, each at some contents. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- The arrays as they are launched; every point leaves the argument's blocks as they were. -/
def loose (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q w := Pipeline.shareOf spec0 w
  owed _ := 0

theorem loose_A (c : Dev nD) (w : Fin cfg0.W) : (loose m 0 c).A w = V m c (Pipeline.arrRef spec0 w) := by
  dsimp only [loose]

theorem loose_after0 (c : Dev nD) (t : Fin cfg0.N) : (loose m 0 c).after 0 t = iblk m c 0 t := by dsimp only [loose]
theorem loose_after1 (c : Dev nD) (t : Fin cfg0.N) : (loose m 0 c).after 1 t = iblk m c 1 t := by dsimp only [loose]
theorem loose_after2 (c : Dev nD) (t : Fin cfg0.N) : (loose m 0 c).after 2 t = iblk m c 2 t := by dsimp only [loose]

theorem loose_before0 (c : Dev nD) (t : Fin cfg0.N) (d) : (loose m 0 c).before 0 t d = iblk m c 0 t :=
  before0_0_of m (loose m 0 c) (loose_A m c 0) (loose_after0 m c) t d
theorem loose_before1 (c : Dev nD) (t : Fin cfg0.N) (d) : (loose m 0 c).before 1 t d = iblk m c 1 t :=
  before0_1_of m (loose m 0 c) (loose_A m c 1) (loose_after1 m c) t d
theorem loose_before2 (c : Dev nD) (t : Fin cfg0.N) (d) : (loose m 0 c).before 2 t d = iblk m c 2 t :=
  before0_2_of m (loose m 0 c) (loose_A m c 2) (loose_after2 m c) t d

/-- The result's block is forgotten, the argument's blocks are not. -/
def forgotten : Fin cfg0.W → Bool := fun w => w.val == 3

/-- A grid point, stated on the blocks the launch hands it. -/
theorem loose_point (c : Dev nD) (t : Fin cfg0.N) :
    iprop(Pipeline.ΦA spec0 c ∗ (loose m 0 c).owesAt () t.castSucc
      ∗ (∃ d, owns (c : Thread nD τ) (st0_0 t) fullShare ((loose m 0 c).before 0 t d))
      ∗ (∃ d, owns (c : Thread nD τ) (st0_1 t) fullShare ((loose m 0 c).before 1 t d))
      ∗ (∃ d, owns (c : Thread nD τ) (st0_2 t) fullShare ((loose m 0 c).before 2 t d))
      ∗ (∃ X, owns (c : Thread nD τ) (st0_3 t) fullShare X))
    ⊢ wp frame (wpE (defs₀ (F := F)) Variants.none c none) Set.univ (bodyAt0 t) (fun _ =>
      iprop(Pipeline.ΦA spec0 c ∗ (loose m 0 c).owesAt () t.castSucc
      ∗ owns (c : Thread nD τ) (st0_0 t) fullShare ((loose m 0 c).after 0 t)
      ∗ owns (c : Thread nD τ) (st0_1 t) fullShare ((loose m 0 c).after 1 t)
      ∗ owns (c : Thread nD τ) (st0_2 t) fullShare ((loose m 0 c).after 2 t)
      ∗ (∃ X, owns (c : Thread nD τ) (st0_3 t) fullShare X))) := by
  unfold bodyAt0
  simp only [loose_before0, loose_before1, loose_before2]
  rw [loose_after0, loose_after1, loose_after2, scratch_eq]
  iintro ⟨⟨⟨HS0, HS1, HS2, HS3, HS4, HS5, HS6⟩, Hg⟩, Ho, ⟨%d0, H0⟩, ⟨%d1, H1⟩, ⟨%d2, H2⟩, H3⟩
  iapply run c (grid0.coords t) _ _ _ _ _ _ _ _ _ _ _ _ _ _ _ _ _ _ _ _ _ _ (iblk m c 0 t) (iblk m c 1 t) (iblk m c 2 t)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, HS0, HS1, HS2, HS3, HS4, HS5, HS6⟩
  isplitl [HS0 HS1 HS2 HS3 HS4 HS5 HS6 Hg]
  · isplitl [HS0 HS1 HS2 HS3 HS4 HS5 HS6]
    ·
      isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  iexact H3

theorem body_row (t : Fin cfg0.N) :
    defs₀ (F := F) .tc cfg0.body (cfg0.bodyArgs t (cfg0.slots t)) = bodyAt0 t := by
  unfold defs₀; rw [Defs.onTc_tc]

theorem loose_body (c : Dev nD) : BodyObligationLoose (loose (F := F) m 0 c) (defs₀ (F := F)) Variants.none () Set.univ forgotten := fun t => by
  rw [bigSep_W0, bigSep_W0, body_row]
  exact triple_restated (loose_point m c t) rfl .rfl fun _ => .rfl

set_option backward.isDefEq.respectTransparency.types false in
/-- The launch, with the result forgotten. -/
theorem loose_run : θ_run defs (onTc (τ := τ) (main (F := F))) (s₀ m ρ) (fun r =>
    Pipeline.RDat.FramePost cfg0 (fun c => (loose m 0 c).toRForget forgotten) (V m) r ∧ r.2.sem = fun _ => 0) :=
  Pipeline.θ_run_frame_track_forget_shared (Q' := _) cfgs (loose m) (0 : Fin 1) launch₀0 defs₀ Variants.none forgotten m ρ main
    (hbody := loose_body m) (hq := fun _ _ _ => rfl)
    (howed := fun _ _ => rfl) (V := V m) (hmain := hmain m Variants.none) (hA := loose_A m) (hin := fun _ => .rfl) (hout := fun _ => .rfl)

/-- The argument ends unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => Pipeline.RDat.FramePost.arr_in h.1 c 2 rfl, h.2⟩) (loose_run m ρ)

end Cert.Kernel10Ideal.Moba

end
-- ==== Proof.MobaRank.lean ====
/-
  Picking three blocks in three rounds picks the blocks that fewer than three others beat.
-/
module

public import Idealize.ShloMosaic.Lib.Pointwise

@[expose] public section

noncomputable section

namespace Cert.Moba

variable (g : Fin 16 → EReal)

/-- Block `m` comes before block `n`: a larger gate, or the same gate and an earlier block. -/
def Beats (m n : Fin 16) : Prop := g n < g m ∨ (g m = g n ∧ m < n)

/-- How many blocks come before block `n`. -/
def rank (n : Fin 16) : ℕ := by
  classical
  exact (Finset.univ.filter fun m => Beats g m n).card

/-- Block `n` is the first of the blocks with a gate. -/
def Hit (n : Fin 16) : Prop := ⊥ < g n ∧ (∀ m, g m ≤ g n) ∧ ∀ m, g m = g n → n ≤ m

/-- The gates without the first block's. -/
def drop (n : Fin 16) : EReal := by
  classical
  exact if Hit g n then ⊥ else g n

theorem drop_of (n : Fin 16) (h : Hit g n) : drop g n = ⊥ := if_pos h
theorem drop_else (n : Fin 16) (h : ¬ Hit g n) : drop g n = g n := if_neg h

theorem hit_iff (n : Fin 16) (hn : ⊥ < g n) : Hit g n ↔ rank g n = 0 := by
  classical
  unfold rank
  rw [Finset.card_eq_zero, Finset.filter_eq_empty_iff]
  unfold Hit Beats
  constructor
  · rintro ⟨_, h1, h2⟩ m _ (h | ⟨h, hl⟩)
    · exact absurd (h1 m) (not_le.mpr h)
    · exact absurd (h2 m h) (not_le.mpr hl)
  · intro h
    refine ⟨hn, fun m => ?_, fun m hm => ?_⟩
    · by_contra hc
      exact h (Finset.mem_univ m) (Or.inl (not_le.mp hc))
    · by_contra hc
      exact h (Finset.mem_univ m) (Or.inr ⟨hm, not_le.mp hc⟩)

theorem hit_unique (a b : Fin 16) (ha : Hit g a) (hb : Hit g b) : a = b := by
  have e : g a = g b := le_antisymm (hb.2.1 a) (ha.2.1 b)
  exact le_antisymm (ha.2.2 b e.symm) (hb.2.2 a e)

theorem exists_hit (n : Fin 16) (hn : ⊥ < g n) : ∃ a, Hit g a := by
  classical
  obtain ⟨a, _, ha⟩ := Finset.exists_max_image Finset.univ g ⟨n, Finset.mem_univ n⟩
  have hs : (Finset.univ.filter fun m => g m = g a).Nonempty := ⟨a, by simp⟩
  refine ⟨(Finset.univ.filter fun m => g m = g a).min' hs, ?_⟩
  have hm := Finset.min'_mem _ hs
  have e : g ((Finset.univ.filter fun m => g m = g a).min' hs) = g a := (Finset.mem_filter.mp hm).2
  refine ⟨?_, fun m => ?_, fun m h => ?_⟩
  · rw [e]
    exact lt_of_lt_of_le hn (ha n (Finset.mem_univ n))
  · rw [e]
    exact ha m (Finset.mem_univ m)
  · exact Finset.min'_le _ _ (Finset.mem_filter.mpr ⟨Finset.mem_univ m, h.trans e⟩)

theorem hit_beats (a n : Fin 16) (ha : Hit g a) (hne : a ≠ n) : Beats g a n := by
  rcases lt_or_eq_of_le (ha.2.1 n) with h | h
  · exact Or.inl h
  · exact Or.inr ⟨h.symm, lt_of_le_of_ne (ha.2.2 n h) hne⟩

theorem rank_drop (n : Fin 16) (hn : ⊥ < g n) (hh : ¬ Hit g n) : rank g n = rank (drop g) n + 1 := by
  classical
  obtain ⟨a, ha⟩ := exists_hit g n hn
  have hne : a ≠ n := fun e => hh (e ▸ ha)
  have e : (Finset.univ.filter fun m => Beats (drop g) m n) = (Finset.univ.filter fun m => Beats g m n).erase a := by
    ext m
    rw [Finset.mem_erase, Finset.mem_filter, Finset.mem_filter]
    unfold Beats
    rw [drop_else g n hh]
    by_cases hm : Hit g m
    · rw [drop_of g m hm, hit_unique g m a hm ha]
      constructor
      · rintro ⟨_, h | ⟨h, _⟩⟩
        · exact absurd h not_lt_bot
        · exact absurd h hn.ne
      · rintro ⟨h, _⟩
        exact absurd rfl h
    · rw [drop_else g m hm]
      exact ⟨fun h => ⟨fun e => hm (e ▸ ha), h⟩, fun h => h.2⟩
  unfold rank
  rw [e, Finset.card_erase_add_one (Finset.mem_filter.mpr ⟨Finset.mem_univ a, hit_beats g a n ha hne⟩)]

/-- Three rounds pick exactly the blocks with a gate that fewer than three others beat. -/
theorem picked_iff (n : Fin 16) : (Hit g n ∨ Hit (drop g) n ∨ Hit (drop (drop g)) n) ↔ ⊥ < g n ∧ rank g n < 3 := by
  by_cases hn : ⊥ < g n
  · by_cases h1 : Hit g n
    · have := (hit_iff g n hn).mp h1
      exact ⟨fun _ => ⟨hn, by omega⟩, fun _ => Or.inl h1⟩
    · have r1 := rank_drop g n hn h1
      have e1 := drop_else g n h1
      have hn1 : ⊥ < drop g n := by rw [e1]; exact hn
      by_cases h2 : Hit (drop g) n
      · have := (hit_iff (drop g) n hn1).mp h2
        exact ⟨fun _ => ⟨hn, by omega⟩, fun _ => Or.inr (Or.inl h2)⟩
      · have r2 := rank_drop (drop g) n hn1 h2
        have hn2 : ⊥ < drop (drop g) n := by rw [drop_else (drop g) n h2]; exact hn1
        have h3 := hit_iff (drop (drop g)) n hn2
        constructor
        · rintro (h | h | h)
          · exact absurd h h1
          · exact absurd h h2
          · have := h3.mp h
            exact ⟨hn, by omega⟩
        · rintro ⟨_, h⟩
          exact Or.inr (Or.inr (h3.mpr (by omega)))
  · have e : g n = ⊥ := not_bot_lt_iff.mp hn
    have d1 : drop g n = ⊥ := by rw [drop_else g n fun h => hn h.1, e]
    have d2 : drop (drop g) n = ⊥ := by rw [drop_else (drop g) n fun h => (lt_irrefl _ (d1 ▸ h.1)), d1]
    constructor
    · rintro (h | h | h)
      · exact absurd h.1 hn
      · exact absurd (d1 ▸ h.1) (lt_irrefl _)
      · exact absurd (d2 ▸ h.1) (lt_irrefl _)
    · rintro ⟨h, _⟩
      exact absurd h hn

end Cert.Moba

end
-- ==== Proof.MobaSpec.lean ====
/-
  The block-sparse attention of one head as real numbers: which keys a query sees, their scores and weights, and the
  weighted mean of the values.
-/
module

public import proofs.«01_k».proof.Proof.MobaRank
public import proofs.«01_k».proof.Proof.StickMath

@[expose] public section

noncomputable section

namespace Cert.Moba

open Idealize.ShloMosaic
open Cert.Stick (sc sc_pos coe_sum exp2_log2e)

variable (q k : ℕ → ℕ → ℝ)

/-- The product of query `n` and key `j`. -/
def dots (n j : ℕ) : ℝ := ∑ x : Fin 128, q n x.val * k j x.val

/-- The mean of key block `m`. -/
def mean (m x : ℕ) : ℝ := (∑ y : Fin 256, k (256 * m + y.val) x) / 256

/-- The gate of block `m` for query `n`: only earlier blocks have one. -/
def gate (n : ℕ) (m : Fin 16) : EReal :=
  if m.val < n / 256 then ((∑ x : Fin 128, q n x.val * mean k m.val x.val : ℝ) : EReal) else ⊥

/-- Query `n` may look into block `m`: its own, or one of the three earlier ones with the largest gates. -/
def Allowed (n m : ℕ) : Prop := m = n / 256 ∨ ∃ h : m < 16, m < n / 256 ∧ rank (gate q k n) ⟨m, h⟩ < 3

/-- Query `n` sees key `j`. -/
def Seen (n j : ℕ) : Prop := Allowed q k n (j / 256) ∧ j ≤ n

def score (n j : ℕ) : EReal := by
  classical
  exact if Seen q k n j then (dots q k n j : EReal) else ⊥

theorem score_of (n j : ℕ) (h : Seen q k n j) : score q k n j = (dots q k n j : EReal) := if_pos h
theorem score_else (n j : ℕ) (h : ¬ Seen q k n j) : score q k n j = ⊥ := if_neg h

/-- The largest product of query `n` and a key it sees. -/
def mu (n : ℕ) : ℝ := ((Finset.range 4096).sup (score q k n)).toReal

def wt (n j : ℕ) : ℝ := by
  classical
  exact if Seen q k n j then Real.exp ((dots q k n j - mu q k n) * sc) else 0

theorem wt_of (n j : ℕ) (h : Seen q k n j) : wt q k n j = Real.exp ((dots q k n j - mu q k n) * sc) := if_pos h
theorem wt_else (n j : ℕ) (h : ¬ Seen q k n j) : wt q k n j = 0 := if_neg h

theorem own_seen (n : ℕ) : Seen q k n n := ⟨Or.inl rfl, le_rfl⟩

theorem attained (n : ℕ) (hn : n < 4096) : ∃ j, j < 4096 ∧ Seen q k n j ∧ (Finset.range 4096).sup (score q k n) = (dots q k n j : EReal) := by
  obtain ⟨j, hj', hj⟩ := Finset.exists_mem_eq_sup (Finset.range 4096) ⟨n, Finset.mem_range.mpr hn⟩ (score q k n)
  have hge : score q k n n ≤ (Finset.range 4096).sup (score q k n) := Finset.le_sup (f := score q k n) (Finset.mem_range.mpr hn)
  rw [score_of q k n n (own_seen q k n), hj] at hge
  by_cases h : Seen q k n j
  · exact ⟨j, Finset.mem_range.mp hj', h, by rw [hj, score_of q k n j h]⟩
  · rw [score_else q k n j h] at hge
    exact absurd (le_bot_iff.mp hge) (EReal.coe_ne_bot _)

theorem sup_eq (n : ℕ) (hn : n < 4096) : (Finset.range 4096).sup (score q k n) = (mu q k n : EReal) := by
  obtain ⟨j, _, _, hj⟩ := attained q k n hn
  unfold mu
  rw [hj, EReal.toReal_coe]

theorem mu_attained (n : ℕ) (hn : n < 4096) : ∃ j, j < 4096 ∧ Seen q k n j ∧ dots q k n j = mu q k n := by
  obtain ⟨j, h1, h2, hj⟩ := attained q k n hn
  rw [sup_eq q k n hn] at hj
  exact ⟨j, h1, h2, (EReal.coe_eq_coe_iff.mp hj).symm⟩

theorem le_mu (n : ℕ) (hn : n < 4096) (j : ℕ) (hj : j < 4096) (h : Seen q k n j) : dots q k n j ≤ mu q k n := by
  have e : score q k n j ≤ (Finset.range 4096).sup (score q k n) := Finset.le_sup (f := score q k n) (Finset.mem_range.mpr hj)
  rw [sup_eq q k n hn, score_of q k n j h] at e
  exact EReal.coe_le_coe_iff.mp e

theorem wt_nonneg (n j : ℕ) : 0 ≤ wt q k n j := by
  by_cases h : Seen q k n j
  · rw [wt_of q k n j h]; positivity
  · rw [wt_else q k n j h]

/-- The total weight. -/
def mass (n : ℕ) : ℝ := ∑ j ∈ Finset.range 4096, wt q k n j

theorem mass_pos (n : ℕ) (hn : n < 4096) : 0 < mass q k n := by
  unfold mass
  refine Finset.sum_pos' (fun j _ => wt_nonneg q k n j) ⟨n, Finset.mem_range.mpr hn, ?_⟩
  rw [wt_of q k n n (own_seen q k n)]
  positivity

/-- The weighted mean of the values `v`. -/
def out (v : ℕ → EReal) (n : ℕ) : EReal := (∑ j ∈ Finset.range 4096, (wt q k n j : EReal) * v j) * ((1 / mass q k n : ℝ) : EReal)

theorem mul_out (v : ℕ → EReal) (c : ℝ) (hc : 0 ≤ c) (s : Finset ℕ) (w : ℕ → ℝ) :
    ∑ j ∈ s, ((w j * c : ℝ) : EReal) * v j = (∑ j ∈ s, (w j : EReal) * v j) * (c : EReal) := by
  classical
  induction s using Finset.induction_on with
  | empty => simp
  | insert a s ha ih =>
    rw [Finset.sum_insert ha, Finset.sum_insert ha, ih, EReal.right_distrib_of_nonneg_of_ne_top (by exact_mod_cast hc) (EReal.coe_ne_top c),
      EReal.coe_mul, mul_right_comm]

end Cert.Moba

end
-- ==== Proof.MobaEntry.lean ====
/-
  What both programs compute, as one function of the argument's entries.
-/
module

public import proofs.«01_k».proof.Proof.MobaSpec
public import Idealize.ShloMosaic.Lib.Pointwise

@[expose] public section

noncomputable section

namespace Cert.Moba

open Idealize.ShloMosaic Idealize.ShloMosaic.Tactic

/-- The entry of an array of 8 × 4096 × 6144 at three numbers, zero outside. -/
def entry (P : (⟨3, ![8, 4096, 6144]⟩ : Shape).Idx → EReal) (b n c : ℕ) : EReal :=
  if h : b < 8 ∧ n < 4096 ∧ c < 6144 then P (ix3 (⟨b, h.1⟩ : Fin 8) (⟨n, h.2.1⟩ : Fin 4096) (⟨c, h.2.2⟩ : Fin 6144)) else 0

/-- Queries and keys are real numbers. -/
def Real2048 (P : (⟨3, ![8, 4096, 6144]⟩ : Shape).Idx → EReal) : Prop :=
  ∀ b n c, c < 2048 → ∃ r : ℝ, entry P b n c = (r : EReal)

/-- The queries and the keys of head `h` of batch `b`. -/
def queryR (P : (⟨3, ![8, 4096, 6144]⟩ : Shape).Idx → EReal) (b h n x : ℕ) : ℝ := (entry P b n (128 * h + x)).toReal
def keyR (P : (⟨3, ![8, 4096, 6144]⟩ : Shape).Idx → EReal) (b h n x : ℕ) : ℝ := (entry P b n (1024 + 128 * h + x)).toReal

theorem entry_query (P : (⟨3, ![8, 4096, 6144]⟩ : Shape).Idx → EReal) (hP : Real2048 P) (b h n x : ℕ) (hh : h < 8) (hx : x < 128) :
    entry P b n (128 * h + x) = ((queryR P b h n x : ℝ) : EReal) := by
  obtain ⟨r, hr⟩ := hP b n (128 * h + x) (by omega)
  unfold queryR
  rw [hr, EReal.toReal_coe]

theorem entry_key (P : (⟨3, ![8, 4096, 6144]⟩ : Shape).Idx → EReal) (hP : Real2048 P) (b h n x : ℕ) (hh : h < 8) (hx : x < 128) :
    entry P b n (1024 + 128 * h + x) = ((keyR P b h n x : ℝ) : EReal) := by
  obtain ⟨r, hr⟩ := hP b n (1024 + 128 * h + x) (by omega)
  unfold keyR
  rw [hr, EReal.toReal_coe]

/-- The result at batch `b`, position `n` and column `c` (head `c / 128`). -/
def result (P : (⟨3, ![8, 4096, 6144]⟩ : Shape).Idx → EReal) (b n c : ℕ) : EReal :=
  out (queryR P b (c / 128)) (keyR P b (c / 128)) (fun j => entry P b j (2048 + c)) n

end Cert.Moba

end
-- ==== Proof.MobaPoint.lean ====
/-
  One point of the block attention as terms: the largest score per lane group over the earlier key blocks, the scores kept
  in scratch, then the masses and the weighted values block after block. The pieces of the loops are read back as these
  terms; no arithmetic is done here.
-/
module

public import proofs.«01_k».proof.Proof.Gen.Kernel10Ideal.Loops
public import proofs.«01_k».proof.Proof.Gen.Kernel10Ideal.Points
public import Idealize.ShloMosaic.Lib.Pipeline.ValueKit
public import Idealize.ShloMosaic.Lib.VecWindow
public import Idealize.ShloMosaic.Lib.LoopRemainder

@[expose] public section

set_option maxRecDepth 16384
set_option maxHeartbeats 1000000

noncomputable section

namespace Cert.Kernel10Ideal.Moba

open Cert.Kernel10Ideal Cert.Kernel10Ideal.Gen Idealize.ShloMosaic Idealize.ShloMosaic.TcCoe Idealize.SL.Sem Idealize.ShloMosaic.Tactic

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The maxima per lane and the scores kept. -/
abbrev MaxSt (F : FTy → Type) := Vec F S1024x128 .f32 × Vec F S1024x4096 .f32
/-- The masses per lane and the weighted values. -/
abbrev SumSt (F : FTy → Type) := Vec F S1024x128 .f32 × Vec F S1024x128 .f32

/-- The eight key blocks a wide trip of the first loop reads. -/
def wideKeys (i : grid0.Coords) (A : Vec F S4096x256 .bf16) (k : Fin (k0_t1_loop i).trips) : Vec F S2048x256 .bf16 :=
  View.ld A (Rect.unit (s := S4096x256) (k0_off2 i k) S2048x256.size (k0_off2_inb i k))

/-- A wide trip of the first loop. -/
def maxStep (i : grid0.Coords) (q : Vec F S1024x256 .bf16) (A : Vec F S4096x256 .bf16) (k : Fin (k0_t1_loop i).trips) (p : MaxSt F) : MaxSt F :=
  (k0_pay63 q (wideKeys i A k) p.1, VecWindow.put p.2 (k0_off3 i k) S1024x2048.size (k0_pay62 q (wideKeys i A k)))

def maxLoop (i : grid0.Coords) (q : Vec F S1024x256 .bf16) (A : Vec F S4096x256 .bf16) (p : MaxSt F) : ℕ → MaxSt F
  | 0 => p
  | k + 1 => if h : k < (k0_t1_loop i).trips then maxStep i q A ⟨k, h⟩ (maxLoop i q A p k) else maxLoop i q A p k

/-- The sixteen weights per lane that a wide trip of the second loop works with. -/
def wideWeights (m : Vec F S1024x128 .f32) (w : Vec F S1024x2048 .f32) : FVec F S1024x2048 .f32 :=
  concatenate S1024x2048 1 [⟨S1024x128, k0_pay81 w m⟩, ⟨S1024x128, k0_pay82 w m⟩, ⟨S1024x128, k0_pay83 w m⟩, ⟨S1024x128, k0_pay84 w m⟩, ⟨S1024x128, k0_pay85 w m⟩, ⟨S1024x128, k0_pay86 w m⟩, ⟨S1024x128, k0_pay88 (k0_pay87 w m) (Named.named κ "scale_log2e" 0x3E0293EE#32)⟩, ⟨S1024x128, k0_pay89 m (k0_pay72 w)⟩, ⟨S1024x128, k0_pay90 m (k0_pay73 w)⟩, ⟨S1024x128, k0_pay91 m (k0_pay74 w)⟩, ⟨S1024x128, k0_pay92 m (k0_pay75 w)⟩, ⟨S1024x128, k0_pay93 m (k0_pay76 w)⟩, ⟨S1024x128, k0_pay94 m (k0_pay77 w)⟩, ⟨S1024x128, k0_pay95 m (k0_pay78 w)⟩, ⟨S1024x128, k0_pay96 m (k0_pay79 w)⟩, ⟨S1024x128, k0_pay97 m (k0_pay80 w)⟩] concatenates_S1024x128_S1024x128_S1024x128_S1024x128_S1024x128_S1024x128_S1024x128_S1024x128_S1024x128_S1024x128_S1024x128_S1024x128_S1024x128_S1024x128_S1024x128_S1024x128_S1024x2048_d1

/-- The scores and the values a wide trip of the second loop reads. -/
def wideScores (i : grid0.Coords) (s : Vec F S1024x4096 .f32) (k : Fin (k0_t3_loop i).trips) : Vec F S1024x2048 .f32 :=
  View.ld s (Rect.unit (s := S1024x4096) (k0_off9 i k) S1024x2048.size (k0_off9_inb i k))
def wideVals (i : grid0.Coords) (B : Vec F S4096x128 .bf16) (k : Fin (k0_t3_loop i).trips) : Vec F S2048x128 .bf16 :=
  View.ld B (Rect.unit (s := S4096x128) (k0_off10 i k) S2048x128.size (k0_off10_inb i k))

/-- The masses after a wide trip of the second loop. -/
def wideMass (m : Vec F S1024x128 .f32) (w : Vec F S1024x2048 .f32) (l : Vec F S1024x128 .f32) : Vec F S1024x128 .f32 :=
  k0_pay153 (k0_pay95 m (k0_pay78 w)) (k0_pay96 m (k0_pay79 w)) (k0_pay97 m (k0_pay80 w))
    (k0_pay98 m (k0_pay72 w) (k0_pay73 w) (k0_pay74 w) (k0_pay75 w) (k0_pay76 w) (k0_pay77 w) (k0_pay81 w m) (k0_pay82 w m) (k0_pay83 w m) (k0_pay84 w m) (k0_pay85 w m) (k0_pay86 w m) (k0_pay87 w m) (Named.named κ "scale_log2e" 0x3E0293EE#32)) l

def sumStep (i : grid0.Coords) (B : Vec F S4096x128 .bf16) (m : Vec F S1024x128 .f32) (s : Vec F S1024x4096 .f32) (k : Fin (k0_t3_loop i).trips) (p : SumSt F) : SumSt F :=
  (wideMass m (wideScores i s k) p.1, k0_pay154 (wideWeights m (wideScores i s k)) (wideVals i B k) p.2)

def sumLoop (i : grid0.Coords) (B : Vec F S4096x128 .bf16) (m : Vec F S1024x128 .f32) (s : Vec F S1024x4096 .f32) (p : SumSt F) : ℕ → SumSt F
  | 0 => p
  | k + 1 => if h : k < (k0_t3_loop i).trips then sumStep i B m s ⟨k, h⟩ (sumLoop i B m s p k) else sumLoop i B m s p k

/-- The point's own four key blocks: the masses and the weighted values. -/
def ownSt (q kown : Vec F S1024x256 .bf16) (vown : Vec F S1024x128 .bf16) (m : Vec F S1024x128 .f32) : SumSt F :=
  let t := k0_pay135 q kown
  (k0_pay151 m (k0_pay139 t) (k0_pay140 t) (k0_pay141 t) (k0_pay142 t m) (k0_pay143 t m) (k0_pay144 t m) (k0_pay145 t m) (k0_pay146 t m),
    k0_pay152 m (k0_pay139 t) (k0_pay140 t) (k0_pay141 t) (k0_pay142 t m) (k0_pay143 t m) (k0_pay144 t m) (k0_pay145 t m) (k0_pay146 t m) vown)

/-- Four further key blocks: the maxima and scores, then the masses and weighted values. -/
def tailMax (q kt : Vec F S1024x256 .bf16) (off : Fin 2 → ℕ) (p : MaxSt F) : MaxSt F :=
  (k0_pay137 (k0_pay69 q kt) (k0_pay70 q kt) (k0_pay71 q kt p.1), VecWindow.put p.2 off S1024x1024.size (k0_pay68 q kt))

def tailSum (vt : Vec F S1024x128 .bf16) (m : Vec F S1024x128 .f32) (w : Vec F S1024x1024 .f32) (p : SumSt F) : SumSt F :=
  (k0_pay6 m (k0_pay126 w) (k0_pay127 w) (k0_pay128 w) (k0_pay129 w) (k0_pay130 w m) (k0_pay131 w m) (k0_pay132 w m) (k0_pay133 w m) (Named.named κ "scale_log2e" 0x3E0293EE#32) p.1,
    k0_pay7 m (k0_pay126 w) (k0_pay127 w) (k0_pay128 w) (k0_pay129 w) (k0_pay130 w m) (k0_pay131 w m) (k0_pay132 w m) (k0_pay133 w m) (Named.named κ "scale_log2e" 0x3E0293EE#32) vt p.2)

/-- Two columns blocks side by side, and a column block beside four row blocks. -/
def sideBySide (a b : Vec F S4096x128 .bf16) : Vec F S4096x256 .bf16 := fun y =>
  if h : (y (1 : Fin 2)).val < 128 then a (ix2 (y (0 : Fin 2)) ⟨(y (1 : Fin 2)).val, h⟩)
  else b (ix2 (y (0 : Fin 2)) ⟨(y (1 : Fin 2)).val - 128, by have : (y (1 : Fin 2)).val < 256 := (y (1 : Fin 2)).isLt; omega⟩)

def stacked (t0 t1 t2 t3 : Vec F S1024x128 .bf16) : Vec F S4096x128 .bf16 := fun y =>
  have h : (y (0 : Fin 2)).val < 4096 := (y (0 : Fin 2)).isLt
  if h0 : (y (0 : Fin 2)).val < 1024 then t0 (ix2 ⟨(y (0 : Fin 2)).val, h0⟩ (y (1 : Fin 2)))
  else if h1 : (y (0 : Fin 2)).val < 2048 then t1 (ix2 ⟨(y (0 : Fin 2)).val - 1024, by omega⟩ (y (1 : Fin 2)))
  else if h2 : (y (0 : Fin 2)).val < 3072 then t2 (ix2 ⟨(y (0 : Fin 2)).val - 2048, by omega⟩ (y (1 : Fin 2)))
  else t3 (ix2 ⟨(y (0 : Fin 2)).val - 3072, by omega⟩ (y (1 : Fin 2)))

theorem read_keys (m : Memref sig .tc .vmem S4096x256 .bf16) (f : BufTy.Contents (Elt F) m.view.ty) (a b : Vec F S4096x128 .bf16) :
    m.view.read (Elt F) (m.view.writes (Elt F) f [⟨Rect.unit ![0, 128] S4096x128.size inb_S4096x256_S4096x128_0_128, b⟩, ⟨Rect.unit ![0, 0] S4096x128.size inb_S4096x256_S4096x128_0_0, a⟩])
      = sideBySide a b := by
  funext y
  have hy : (y (1 : Fin 2)).val < 256 := (y (1 : Fin 2)).isLt
  unfold sideBySide
  split
  · rename_i h
    rw [View.read_writes_cons_unit_of_not_mem _ _ _ _ _ _ rfl (1 : Fin 2) (Or.inl h)]
    exact View.read_writes_cons_unit_of_mem _ _ _ _ _ _ _ rfl (Fin.forall_fin_two.mpr ⟨(Nat.zero_add _).symm, (Nat.zero_add _).symm⟩)
  · rename_i h
    exact View.read_writes_cons_unit_of_mem _ _ _ _ _ _ _ rfl (Fin.forall_fin_two.mpr ⟨(Nat.zero_add _).symm, by show (y (1 : Fin 2)).val = 128 + ((y (1 : Fin 2)).val - 128); omega⟩)

theorem read_queries (m : Memref sig .tc .vmem S4096x256 .bf16) (f : BufTy.Contents (Elt F) m.view.ty) (a : Vec F S4096x128 .bf16) (t0 t1 t2 t3 : Vec F S1024x128 .bf16) :
    m.view.read (Elt F) (m.view.writes (Elt F) f [⟨Rect.unit ![3072, 128] S1024x128.size inb_S4096x256_S1024x128_3072_128, t3⟩, ⟨Rect.unit ![2048, 128] S1024x128.size inb_S4096x256_S1024x128_2048_128, t2⟩,
        ⟨Rect.unit ![1024, 128] S1024x128.size inb_S4096x256_S1024x128_1024_128, t1⟩, ⟨Rect.unit ![0, 128] S1024x128.size inb_S4096x256_S1024x128_0_128, t0⟩,
        ⟨Rect.unit ![0, 0] S4096x128.size inb_S4096x256_S4096x128_0_0, a⟩])
      = sideBySide a (stacked t0 t1 t2 t3) := by
  funext y
  have hy : (y (1 : Fin 2)).val < 256 := (y (1 : Fin 2)).isLt
  have hy0 : (y (0 : Fin 2)).val < 4096 := (y (0 : Fin 2)).isLt
  unfold sideBySide
  split
  · rename_i h
    rw [View.read_writes_cons_unit_of_not_mem _ _ _ _ _ _ rfl (1 : Fin 2) (Or.inl h), View.read_writes_cons_unit_of_not_mem _ _ _ _ _ _ rfl (1 : Fin 2) (Or.inl h),
      View.read_writes_cons_unit_of_not_mem _ _ _ _ _ _ rfl (1 : Fin 2) (Or.inl h), View.read_writes_cons_unit_of_not_mem _ _ _ _ _ _ rfl (1 : Fin 2) (Or.inl h)]
    exact View.read_writes_cons_unit_of_mem _ _ _ _ _ _ _ rfl (Fin.forall_fin_two.mpr ⟨(Nat.zero_add _).symm, (Nat.zero_add _).symm⟩)
  · rename_i h
    unfold stacked
    dsimp only
    split
    · rename_i h0
      have h0 : (y (0 : Fin 2)).val < 1024 := h0
      rw [View.read_writes_cons_unit_of_not_mem _ _ _ _ _ _ rfl (0 : Fin 2) (Or.inl (by show (y (0 : Fin 2)).val < 3072; omega)),
        View.read_writes_cons_unit_of_not_mem _ _ _ _ _ _ rfl (0 : Fin 2) (Or.inl (by show (y (0 : Fin 2)).val < 2048; omega)),
        View.read_writes_cons_unit_of_not_mem _ _ _ _ _ _ rfl (0 : Fin 2) (Or.inl (by show (y (0 : Fin 2)).val < 1024; omega))]
      exact View.read_writes_cons_unit_of_mem _ _ _ _ _ _ _ rfl (Fin.forall_fin_two.mpr ⟨(Nat.zero_add _).symm, by show (y (1 : Fin 2)).val = 128 + ((y (1 : Fin 2)).val - 128); omega⟩)
    · split
      · rename_i h0 h1
        have h0 : ¬ (y (0 : Fin 2)).val < 1024 := h0
        have h1 : (y (0 : Fin 2)).val < 2048 := h1
        rw [View.read_writes_cons_unit_of_not_mem _ _ _ _ _ _ rfl (0 : Fin 2) (Or.inl (by show (y (0 : Fin 2)).val < 3072; omega)),
          View.read_writes_cons_unit_of_not_mem _ _ _ _ _ _ rfl (0 : Fin 2) (Or.inl (by show (y (0 : Fin 2)).val < 2048; omega))]
        exact View.read_writes_cons_unit_of_mem _ _ _ _ _ _ _ rfl (Fin.forall_fin_two.mpr ⟨by show (y (0 : Fin 2)).val = 1024 + ((y (0 : Fin 2)).val - 1024); omega, by show (y (1 : Fin 2)).val = 128 + ((y (1 : Fin 2)).val - 128); omega⟩)
      · split
        · rename_i h0 h1 h2
          have h1 : ¬ (y (0 : Fin 2)).val < 2048 := h1
          have h2 : (y (0 : Fin 2)).val < 3072 := h2
          rw [View.read_writes_cons_unit_of_not_mem _ _ _ _ _ _ rfl (0 : Fin 2) (Or.inl (by show (y (0 : Fin 2)).val < 3072; omega))]
          exact View.read_writes_cons_unit_of_mem _ _ _ _ _ _ _ rfl (Fin.forall_fin_two.mpr ⟨by show (y (0 : Fin 2)).val = 2048 + ((y (0 : Fin 2)).val - 2048); omega, by show (y (1 : Fin 2)).val = 128 + ((y (1 : Fin 2)).val - 128); omega⟩)
        · rename_i h0 h1 h2
          have h2 : ¬ (y (0 : Fin 2)).val < 3072 := h2
          exact View.read_writes_cons_unit_of_mem _ _ _ _ _ _ _ rfl (Fin.forall_fin_two.mpr ⟨by show (y (0 : Fin 2)).val = 3072 + ((y (0 : Fin 2)).val - 3072); omega, by show (y (1 : Fin 2)).val = 128 + ((y (1 : Fin 2)).val - 128); omega⟩)

/-- One trip's pieces of the first loop. -/
theorem trip1_eq (𝒱 : Variants) (c : Dev nD) (bd : Option 𝒱.V) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole)
    (w0 : BitVec 32) (q : Vec F S1024x256 .bf16) (w1 w2 w3 w4 : BitVec 32) (X7 : BufTy.Contents (Elt F) arg7.view.ty)
    (k : Fin (k0_t1_loop i).trips) (f10 : BufTy.Contents (Elt F) arg10.view.ty) (f13 : BufTy.Contents (Elt F) arg13.view.ty) :
    tripL_k0_t1 (F := F) 𝒱 c bd i arg3 harg3 arg4 harg4 arg5 harg5 arg6 harg6 arg7 harg7 arg8 harg8 arg9 harg9 arg10 harg10 arg11 harg11 arg12 harg12 arg13 harg13 w0 q w1 w2 w3 w4 X7 k f10 f13
      = ([⟨Rect.unit ![0, 0] S1024x128.size inb_S1024x128_S1024x128_0_0, k0_pay63 q (wideKeys i (arg7.view.read (Elt F) X7) k) (arg10.view.read (Elt F) f10)⟩],
         [⟨Rect.unit (s := S1024x4096) (k0_off3 i k) S1024x2048.size (k0_off3_inb i k), k0_pay62 q (wideKeys i (arg7.view.read (Elt F) X7) k)⟩]) := by
  unfold tripL_k0_t1 trip_k0_t1
  dsimp only
  sl_unfold_words
  rw [View.readAt_full (s := S1024x128) arg10.view f10 inb_S1024x128_S1024x128_0_0]
  rfl

/-- The first loop's pieces read back. -/
theorem loop1_read (𝒱 : Variants) (c : Dev nD) (bd : Option 𝒱.V) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole)
    (w0 : BitVec 32) (q : Vec F S1024x256 .bf16) (w1 w2 w3 w4 : BitVec 32) (X7 : BufTy.Contents (Elt F) arg7.view.ty)
    (G10 : BufTy.Contents (Elt F) arg10.view.ty) (G13 : BufTy.Contents (Elt F) arg13.view.ty) (k : ℕ) (hk : k ≤ (k0_t1_loop i).trips) :
    (arg10.view.read (Elt F) (arg10.view.writes (Elt F) G10 (pb_k0_t1 (F := F) 𝒱 c bd i arg3 harg3 arg4 harg4 arg5 harg5 arg6 harg6 arg7 harg7 arg8 harg8 arg9 harg9 arg10 harg10 arg11 harg11 arg12 harg12 arg13 harg13 w0 q w1 w2 w3 w4 X7 G10 G13 k).1),
      arg13.view.read (Elt F) (arg13.view.writes (Elt F) G13 (pb_k0_t1 (F := F) 𝒱 c bd i arg3 harg3 arg4 harg4 arg5 harg5 arg6 harg6 arg7 harg7 arg8 harg8 arg9 harg9 arg10 harg10 arg11 harg11 arg12 harg12 arg13 harg13 w0 q w1 w2 w3 w4 X7 G10 G13 k).2))
      = maxLoop i q (arg7.view.read (Elt F) X7) (arg10.view.read (Elt F) G10, arg13.view.read (Elt F) G13) k := by
  induction k with
  | zero => rfl
  | succ k ih =>
    have hk' : k < (k0_t1_loop i).trips := hk
    rw [maxLoop, dif_pos hk', ← ih hk'.le]
    rw [pb_k0_t1_succ 𝒱 c bd i arg3 harg3 arg4 harg4 arg5 harg5 arg6 harg6 arg7 harg7 arg8 harg8 arg9 harg9 arg10 harg10 arg11 harg11 arg12 harg12 arg13 harg13 w0 q w1 w2 w3 w4 X7 G10 G13 ⟨k, hk'⟩]
    rw [trip1_eq]
    dsimp only
    rw [List.singleton_append, List.singleton_append, View.read_writes_full, View.read_writes_cons_put _ _ _ _ _ rfl]
    rfl

/-- One trip's pieces of the second loop. -/
theorem trip3_eq (𝒱 : Variants) (c : Dev nD) (bd : Option 𝒱.V) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole)
    (w0 w1 w2 w3 w4 w5 : BitVec 32) (X8 : BufTy.Contents (Elt F) arg8.view.ty) (X10 : BufTy.Contents (Elt F) arg10.view.ty) (X13 : BufTy.Contents (Elt F) arg13.view.ty)
    (k : Fin (k0_t3_loop i).trips) (f11 : BufTy.Contents (Elt F) arg11.view.ty) (f12 : BufTy.Contents (Elt F) arg12.view.ty) :
    tripL_k0_t3 (F := F) 𝒱 c bd i arg3 harg3 arg4 harg4 arg5 harg5 arg6 harg6 arg7 harg7 arg8 harg8 arg9 harg9 arg10 harg10 arg11 harg11 arg12 harg12 arg13 harg13 w0 w1 w2 w3 w4 w5 X8 X10 X13 k f11 f12
      = ([⟨Rect.unit ![0, 0] S1024x128.size inb_S1024x128_S1024x128_0_0, (sumStep i (arg8.view.read (Elt F) X8) (arg10.view.read (Elt F) X10) (arg13.view.read (Elt F) X13) k (arg11.view.read (Elt F) f11, arg12.view.read (Elt F) f12)).1⟩],
         [⟨Rect.unit ![0, 0] S1024x128.size inb_S1024x128_S1024x128_0_0, (sumStep i (arg8.view.read (Elt F) X8) (arg10.view.read (Elt F) X10) (arg13.view.read (Elt F) X13) k (arg11.view.read (Elt F) f11, arg12.view.read (Elt F) f12)).2⟩]) := by
  unfold tripL_k0_t3 trip_k0_t3
  dsimp only
  sl_unfold_words
  unfold sumStep wideMass wideWeights wideScores wideVals
  dsimp only
  rw [View.readAt_full (s := S1024x128) arg10.view X10 inb_S1024x128_S1024x128_0_0, View.readAt_full (s := S1024x128) arg11.view f11 inb_S1024x128_S1024x128_0_0,
    View.readAt_full (s := S1024x128) arg12.view f12 inb_S1024x128_S1024x128_0_0]
  rfl

/-- The second loop's pieces read back. -/
theorem loop3_read (𝒱 : Variants) (c : Dev nD) (bd : Option 𝒱.V) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole)
    (w0 w1 w2 w3 w4 w5 : BitVec 32) (X8 : BufTy.Contents (Elt F) arg8.view.ty) (X10 : BufTy.Contents (Elt F) arg10.view.ty) (X13 : BufTy.Contents (Elt F) arg13.view.ty)
    (G11 : BufTy.Contents (Elt F) arg11.view.ty) (G12 : BufTy.Contents (Elt F) arg12.view.ty) (k : ℕ) (hk : k ≤ (k0_t3_loop i).trips) :
    (arg11.view.read (Elt F) (arg11.view.writes (Elt F) G11 (pb_k0_t3 (F := F) 𝒱 c bd i arg3 harg3 arg4 harg4 arg5 harg5 arg6 harg6 arg7 harg7 arg8 harg8 arg9 harg9 arg10 harg10 arg11 harg11 arg12 harg12 arg13 harg13 w0 w1 w2 w3 w4 w5 X8 X10 X13 G11 G12 k).1),
      arg12.view.read (Elt F) (arg12.view.writes (Elt F) G12 (pb_k0_t3 (F := F) 𝒱 c bd i arg3 harg3 arg4 harg4 arg5 harg5 arg6 harg6 arg7 harg7 arg8 harg8 arg9 harg9 arg10 harg10 arg11 harg11 arg12 harg12 arg13 harg13 w0 w1 w2 w3 w4 w5 X8 X10 X13 G11 G12 k).2))
      = sumLoop i (arg8.view.read (Elt F) X8) (arg10.view.read (Elt F) X10) (arg13.view.read (Elt F) X13) (arg11.view.read (Elt F) G11, arg12.view.read (Elt F) G12) k := by
  induction k with
  | zero => rfl
  | succ k ih =>
    have hk' : k < (k0_t3_loop i).trips := hk
    rw [sumLoop, dif_pos hk', ← ih hk'.le]
    rw [pb_k0_t3_succ 𝒱 c bd i arg3 harg3 arg4 harg4 arg5 harg5 arg6 harg6 arg7 harg7 arg8 harg8 arg9 harg9 arg10 harg10 arg11 harg11 arg12 harg12 arg13 harg13 w0 w1 w2 w3 w4 w5 X8 X10 X13 G11 G12 ⟨k, hk'⟩]
    rw [trip3_eq]
    dsimp only
    rw [List.singleton_append, List.singleton_append, View.read_writes_full, View.read_writes_full]

/-- The first loop's pieces over those stored before, as a load reads them. -/
theorem tail1 (𝒱 : Variants) (c : Dev nD) (bd : Option 𝒱.V) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole)
    (w0 : BitVec 32) (q : Vec F S1024x256 .bf16) (w1 w2 w3 w4 : BitVec 32) (X7 : BufTy.Contents (Elt F) arg7.view.ty) (L : List (View.Piece (Elt F) S1024x128 .f32))
    (G13 : BufTy.Contents (Elt F) arg13.view.ty) :
    arg10.view.readCov ((pb_k0_t1 (F := F) 𝒱 c bd i arg3 harg3 arg4 harg4 arg5 harg5 arg6 harg6 arg7 harg7 arg8 harg8 arg9 harg9 arg10 harg10 arg11 harg11 arg12 harg12 arg13 harg13 w0 q w1 w2 w3 w4 X7 (arg10.view.writes (Elt F) arg10.view.junk L) G13 (Scf.trips (k0_t1_loop i).lb (k0_t1_loop i).ub (k0_t1_loop i).st)).1 ++ L)
        (Rect.unit ![0, 0] S1024x128.size inb_S1024x128_S1024x128_0_0).toLoadRect
      = (maxLoop i q (arg7.view.read (Elt F) X7) (arg10.view.read (Elt F) (arg10.view.writes (Elt F) arg10.view.junk L), arg13.view.read (Elt F) G13) (k0_t1_loop i).trips).1 := by
  unfold View.readCov
  rw [View.readAt_full, View.writes_append]
  exact congrArg Prod.fst (loop1_read 𝒱 c bd i arg3 harg3 arg4 harg4 arg5 harg5 arg6 harg6 arg7 harg7 arg8 harg8 arg9 harg9 arg10 harg10 arg11 harg11 arg12 harg12 arg13 harg13 w0 q w1 w2 w3 w4 X7 _ G13 _ le_rfl)

theorem kept1 (𝒱 : Variants) (c : Dev nD) (bd : Option 𝒱.V) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole)
    (w0 : BitVec 32) (q : Vec F S1024x256 .bf16) (w1 w2 w3 w4 : BitVec 32) (X7 : BufTy.Contents (Elt F) arg7.view.ty) (G10 : BufTy.Contents (Elt F) arg10.view.ty)
    (G13 : BufTy.Contents (Elt F) arg13.view.ty) :
    arg13.view.read (Elt F) (arg13.view.writes (Elt F) G13 (pb_k0_t1 (F := F) 𝒱 c bd i arg3 harg3 arg4 harg4 arg5 harg5 arg6 harg6 arg7 harg7 arg8 harg8 arg9 harg9 arg10 harg10 arg11 harg11 arg12 harg12 arg13 harg13 w0 q w1 w2 w3 w4 X7 G10 G13 (Scf.trips (k0_t1_loop i).lb (k0_t1_loop i).ub (k0_t1_loop i).st)).2)
      = (maxLoop i q (arg7.view.read (Elt F) X7) (arg10.view.read (Elt F) G10, arg13.view.read (Elt F) G13) (k0_t1_loop i).trips).2 :=
  congrArg Prod.snd (loop1_read 𝒱 c bd i arg3 harg3 arg4 harg4 arg5 harg5 arg6 harg6 arg7 harg7 arg8 harg8 arg9 harg9 arg10 harg10 arg11 harg11 arg12 harg12 arg13 harg13 w0 q w1 w2 w3 w4 X7 G10 G13 _ le_rfl)

/-- The second loop's pieces over those stored before, as a load reads them. -/
theorem tail3 (𝒱 : Variants) (c : Dev nD) (bd : Option 𝒱.V) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole)
    (w0 w1 w2 w3 w4 w5 : BitVec 32) (X8 : BufTy.Contents (Elt F) arg8.view.ty) (X10 : BufTy.Contents (Elt F) arg10.view.ty) (X13 : BufTy.Contents (Elt F) arg13.view.ty)
    (L11 L12 : List (View.Piece (Elt F) S1024x128 .f32)) :
    (arg11.view.readCov ((pb_k0_t3 (F := F) 𝒱 c bd i arg3 harg3 arg4 harg4 arg5 harg5 arg6 harg6 arg7 harg7 arg8 harg8 arg9 harg9 arg10 harg10 arg11 harg11 arg12 harg12 arg13 harg13 w0 w1 w2 w3 w4 w5 X8 X10 X13 (arg11.view.writes (Elt F) arg11.view.junk L11) (arg12.view.writes (Elt F) arg12.view.junk L12) (Scf.trips (k0_t3_loop i).lb (k0_t3_loop i).ub (k0_t3_loop i).st)).1 ++ L11)
        (Rect.unit ![0, 0] S1024x128.size inb_S1024x128_S1024x128_0_0).toLoadRect
      = (sumLoop i (arg8.view.read (Elt F) X8) (arg10.view.read (Elt F) X10) (arg13.view.read (Elt F) X13) (arg11.view.read (Elt F) (arg11.view.writes (Elt F) arg11.view.junk L11), arg12.view.read (Elt F) (arg12.view.writes (Elt F) arg12.view.junk L12)) (k0_t3_loop i).trips).1)
    ∧ arg12.view.readCov ((pb_k0_t3 (F := F) 𝒱 c bd i arg3 harg3 arg4 harg4 arg5 harg5 arg6 harg6 arg7 harg7 arg8 harg8 arg9 harg9 arg10 harg10 arg11 harg11 arg12 harg12 arg13 harg13 w0 w1 w2 w3 w4 w5 X8 X10 X13 (arg11.view.writes (Elt F) arg11.view.junk L11) (arg12.view.writes (Elt F) arg12.view.junk L12) (Scf.trips (k0_t3_loop i).lb (k0_t3_loop i).ub (k0_t3_loop i).st)).2 ++ L12)
        (Rect.unit ![0, 0] S1024x128.size inb_S1024x128_S1024x128_0_0).toLoadRect
      = (sumLoop i (arg8.view.read (Elt F) X8) (arg10.view.read (Elt F) X10) (arg13.view.read (Elt F) X13) (arg11.view.read (Elt F) (arg11.view.writes (Elt F) arg11.view.junk L11), arg12.view.read (Elt F) (arg12.view.writes (Elt F) arg12.view.junk L12)) (k0_t3_loop i).trips).2 := by
  constructor
  · unfold View.readCov
    rw [View.readAt_full, View.writes_append]
    exact congrArg Prod.fst (loop3_read 𝒱 c bd i arg3 harg3 arg4 harg4 arg5 harg5 arg6 harg6 arg7 harg7 arg8 harg8 arg9 harg9 arg10 harg10 arg11 harg11 arg12 harg12 arg13 harg13 w0 w1 w2 w3 w4 w5 X8 X10 X13 _ _ _ le_rfl)
  · unfold View.readCov
    rw [View.readAt_full, View.writes_append]
    exact congrArg Prod.snd (loop3_read 𝒱 c bd i arg3 harg3 arg4 harg4 arg5 harg5 arg6 harg6 arg7 harg7 arg8 harg8 arg9 harg9 arg10 harg10 arg11 harg11 arg12 harg12 arg13 harg13 w0 w1 w2 w3 w4 w5 X8 X10 X13 _ _ _ le_rfl)

end Cert.Kernel10Ideal.Moba
-- ==== Proof.MobaCases.lean ====
/-
  What a grid point of the block attention leaves, found by running it: a first point of a head (it prepares keys, values
  and queries), an even later point and an odd one.
-/
module

public import Idealize.ShloMosaic.Lib.Pipeline.FrameBody
public import Idealize.ShloMosaic.Lib.Pipeline.Frame

public import proofs.«01_k».proof.Proof.MobaPoint
public import proofs.«01_k».proof.Proof.MobaIdealRun
public import proofs.«01_k».proof.Proof.Gen.Kernel10Ideal.Points

@[expose] public section

set_option maxRecDepth 16384

noncomputable section

namespace Cert.Kernel10Ideal.Moba

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel10Ideal Cert.Kernel10Ideal.Gen

variable {F : FTy → Type} [FloatOps F] [Named F]

local notation "𝕄" => MT nD τ sig Unit (Elt F) ℕ (UR sig nD τ) ℕ

set_option maxHeartbeats 4000000 in
/-- An odd point: four key blocks remain after the wide trips. -/
def runOdd (c : Dev nD) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole)
    (x0 x1 x2 : Vec F S1x4096x128 .f32) (A : Vec F S4096x256 .bf16) (B : Vec F S4096x128 .bf16) (C : Vec F S4096x256 .bf16) (S0 : Vec F S1024x4096 .f32) (hc1 : ¬ (Scalar.cmpi .ne (Scalar.extui (Scalar.cmpi .eq (Scalar.muli 4#32 (BitVec.ofNat 32 (i 2).val)) 0#32) : BitVec 32) 0#32) = 1#1) (hc2 : k0_cond2 i = 1#1) (hc3 : k0_cond3 i = 1#1) :
    { R : Vec F S1x1024x128 .bf16 // ∀ (E : Set ℕ) (K : PUnit → sProp 𝕄),
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare A ∗ owns (c : Thread nD τ) arg8 fullShare B ∗ owns (c : Thread nD τ) arg9 fullShare C ∗ (∃ d, owns (c : Thread nD τ) arg10 fullShare d) ∗ (∃ d, owns (c : Thread nD τ) arg11 fullShare d) ∗ (∃ d, owns (c : Thread nD τ) arg12 fullShare d) ∗ owns (c : Thread nD τ) arg13 fullShare S0
        ∗ (iprop(owns (c : Thread nD τ) arg3 fullShare x0 ∗ owns (c : Thread nD τ) arg4 fullShare x1 ∗ owns (c : Thread nD τ) arg5 fullShare x2 ∗ owns (c : Thread nD τ) arg6 fullShare R ∗ owns (c : Thread nD τ) arg7 fullShare A ∗ owns (c : Thread nD τ) arg8 fullShare B ∗ owns (c : Thread nD τ) arg9 fullShare C ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_moba_attn i arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_moba_attn_eq_skeleton]; unfold cc0_moba_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, Hk⟩
    obtain rfl := harg3.eq_unread hf0; obtain rfl := harg4.eq_unread hf1; obtain rfl := harg5.eq_unread hf2; obtain rfl := harg7.eq_unread hf4; obtain rfl := harg8.eq_unread hf5; obtain rfl := harg9.eq_unread hf6; obtain rfl := harg13.eq_unread hf10
    sl_exec (disch := first | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro; exact View.read_writes_full _ _ _ _ _
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

set_option maxHeartbeats 4000000 in
/-- An even point other than the first. -/
def runEven (c : Dev nD) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole)
    (x0 x1 x2 : Vec F S1x4096x128 .f32) (A : Vec F S4096x256 .bf16) (B : Vec F S4096x128 .bf16) (C : Vec F S4096x256 .bf16) (S0 : Vec F S1024x4096 .f32) (hc1 : ¬ (Scalar.cmpi .ne (Scalar.extui (Scalar.cmpi .eq (Scalar.muli 4#32 (BitVec.ofNat 32 (i 2).val)) 0#32) : BitVec 32) 0#32) = 1#1) (hc2 : ¬ k0_cond2 i = 1#1) (hc3 : ¬ k0_cond3 i = 1#1) :
    { R : Vec F S1x1024x128 .bf16 // ∀ (E : Set ℕ) (K : PUnit → sProp 𝕄),
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare A ∗ owns (c : Thread nD τ) arg8 fullShare B ∗ owns (c : Thread nD τ) arg9 fullShare C ∗ (∃ d, owns (c : Thread nD τ) arg10 fullShare d) ∗ (∃ d, owns (c : Thread nD τ) arg11 fullShare d) ∗ (∃ d, owns (c : Thread nD τ) arg12 fullShare d) ∗ owns (c : Thread nD τ) arg13 fullShare S0
        ∗ (iprop(owns (c : Thread nD τ) arg3 fullShare x0 ∗ owns (c : Thread nD τ) arg4 fullShare x1 ∗ owns (c : Thread nD τ) arg5 fullShare x2 ∗ owns (c : Thread nD τ) arg6 fullShare R ∗ owns (c : Thread nD τ) arg7 fullShare A ∗ owns (c : Thread nD τ) arg8 fullShare B ∗ owns (c : Thread nD τ) arg9 fullShare C ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_moba_attn i arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_moba_attn_eq_skeleton]; unfold cc0_moba_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, Hk⟩
    obtain rfl := harg3.eq_unread hf0; obtain rfl := harg4.eq_unread hf1; obtain rfl := harg5.eq_unread hf2; obtain rfl := harg7.eq_unread hf4; obtain rfl := harg8.eq_unread hf5; obtain rfl := harg9.eq_unread hf6; obtain rfl := harg13.eq_unread hf10
    sl_exec (disch := first | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro; exact View.read_writes_full _ _ _ _ _
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

set_option maxHeartbeats 4000000 in
/-- The first point of a head. -/
def runInit (c : Dev nD) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole)
    (x0 x1 x2 : Vec F S1x4096x128 .f32) (S0 : Vec F S1024x4096 .f32) (hc1 : (Scalar.cmpi .ne (Scalar.extui (Scalar.cmpi .eq (Scalar.muli 4#32 (BitVec.ofNat 32 (i 2).val)) 0#32) : BitVec 32) 0#32) = 1#1) (hc2 : ¬ k0_cond2 i = 1#1) (hc3 : ¬ k0_cond3 i = 1#1) :
    { R : Vec F S1x1024x128 .bf16 × Vec F S4096x256 .bf16 × Vec F S4096x128 .bf16 × Vec F S4096x256 .bf16 // ∀ (E : Set ℕ) (K : PUnit → sProp 𝕄),
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare S0
        ∗ (iprop(owns (c : Thread nD τ) arg3 fullShare x0 ∗ owns (c : Thread nD τ) arg4 fullShare x1 ∗ owns (c : Thread nD τ) arg5 fullShare x2 ∗ owns (c : Thread nD τ) arg6 fullShare R.1 ∗ owns (c : Thread nD τ) arg7 fullShare R.2.1 ∗ owns (c : Thread nD τ) arg8 fullShare R.2.2.1 ∗ owns (c : Thread nD τ) arg9 fullShare R.2.2.2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_moba_attn i arg3 harg3 arg4 harg4 arg5 harg5 arg6 harg6 arg7 harg7 arg8 harg8 arg9 harg9 arg10 harg10 arg11 harg11 arg12 harg12 arg13 harg13) K } := by
  refine ⟨⟨?_, ?_, ?_, ?_⟩, fun E K => ?run⟩
  case run =>
    simp only [cc0_moba_attn_eq_skeleton]; unfold cc0_moba_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%f10, %hf10, H10⟩, Hk⟩
    obtain rfl := harg3.eq_unread hf0; obtain rfl := harg4.eq_unread hf1; obtain rfl := harg5.eq_unread hf2; obtain rfl := harg13.eq_unread hf10
    sl_exec (disch := first | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro; exact View.read_writes_full _ _ _ _ _
    isplitl [H4]
    · iexists _; isplitr; swap; · iexact H4
      ipureintro; exact read_keys (F := F) _ _ _ _
    isplitl [H5]
    · iexists _; isplitr; swap; · iexact H5
      ipureintro; exact View.read_writes_full _ _ _ _ _
    isplitl [H6]
    · iexists _; isplitr; swap; · iexact H6
      ipureintro; exact read_queries (F := F) _ _ _ _ _ _ _
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.Kernel10Ideal.Moba
-- ==== Proof.MobaOut.lean ====
/-
  The terms the runs leave: the masses and weighted values of a point's own key blocks, then of the earlier ones.
-/
module

public import proofs.«01_k».proof.Proof.MobaCases

@[expose] public section

set_option maxRecDepth 16384
set_option maxHeartbeats 2000000

noncomputable section

namespace Cert.Kernel10Ideal.Moba

open Cert.Kernel10Ideal Cert.Kernel10Ideal.Gen Idealize.ShloMosaic Idealize.ShloMosaic.TcCoe Idealize.SL.Sem Idealize.ShloMosaic.Tactic

variable {F : FTy → Type} [FloatOps F] [Named F]

/-- The point's queries, its own keys and its own values. -/
def ownQ (i : grid0.Coords) (C : Vec F S4096x256 .bf16) : Vec F S1024x256 .bf16 :=
  View.ld C (Rect.unit (s := S4096x256) (k0_off1 i) S1024x256.size (k0_off1_inb i))
def ownV (i : grid0.Coords) (B : Vec F S4096x128 .bf16) : Vec F S1024x128 .bf16 :=
  View.ld B (Rect.unit (s := S4096x128) (k0_off8 i) S1024x128.size (k0_off8_inb i))

/-- The maxima and scores after the wide trips. -/
def wideMax (i : grid0.Coords) (A C : Vec F S4096x256 .bf16) (S0 : Vec F S1024x4096 .f32) : MaxSt F :=
  maxLoop i (ownQ i C) A (k0_pay136 (ownQ i C) (ownQ i A), S0) (k0_t1_loop i).trips

/-- The sums after the wide trips, the row maxima and the scores being given. -/
def wideSum (i : grid0.Coords) (A : Vec F S4096x256 .bf16) (B : Vec F S4096x128 .bf16) (C : Vec F S4096x256 .bf16) (m : Vec F S1024x128 .f32) (s : Vec F S1024x4096 .f32) : SumSt F :=
  sumLoop i B m s (ownSt (ownQ i C) (ownQ i A) (ownV i B) m) (k0_t3_loop i).trips

/-- What an even point leaves in its output block. -/
def evenOut (i : grid0.Coords) (A : Vec F S4096x256 .bf16) (B : Vec F S4096x128 .bf16) (C : Vec F S4096x256 .bf16) (S0 : Vec F S1024x4096 .f32) : Vec F S1x1024x128 .bf16 :=
  let p := wideMax i A C S0
  let r := wideSum i A B C (k0_pay138 p.1) p.2
  k0_pay8 r.2 r.1

/-- What an odd point leaves in its output block. -/
def oddOut (i : grid0.Coords) (hc2 : k0_cond2 i = 1#1) (hc3 : k0_cond3 i = 1#1) (A : Vec F S4096x256 .bf16) (B : Vec F S4096x128 .bf16) (C : Vec F S4096x256 .bf16) (S0 : Vec F S1024x4096 .f32) : Vec F S1x1024x128 .bf16 :=
  let p := tailMax (ownQ i C) (View.ld A (Rect.unit (s := S4096x256) (k0_off6 i) S1024x256.size (k0_off6_inb i hc2))) (k0_off7 i) (wideMax i A C S0)
  let r := tailSum (View.ld B (Rect.unit (s := S4096x128) (k0_off14 i) S1024x128.size (k0_off14_inb i hc3))) (k0_pay138 p.1)
    (View.ld p.2 (Rect.unit (s := S1024x4096) (k0_off13 i) S1024x1024.size (k0_off13_inb i hc3))) (wideSum i A B C (k0_pay138 p.1) p.2)
  k0_pay8 r.2 r.1

theorem out_odd (c : Dev nD) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole)
    (x0 x1 x2 : Vec F S1x4096x128 .f32) (A : Vec F S4096x256 .bf16) (B : Vec F S4096x128 .bf16) (C : Vec F S4096x256 .bf16) (S0 : Vec F S1024x4096 .f32) (hc1 : ¬ (Scalar.cmpi .ne (Scalar.extui (Scalar.cmpi .eq (Scalar.muli 4#32 (BitVec.ofNat 32 (i 2).val)) 0#32) : BitVec 32) 0#32) = 1#1) (hc2 : k0_cond2 i = 1#1) (hc3 : k0_cond3 i = 1#1) :
    (runOdd c i arg3 harg3 arg4 harg4 arg5 harg5 arg6 harg6 arg7 harg7 arg8 harg8 arg9 harg9 arg10 harg10 arg11 harg11 arg12 harg12 arg13 harg13 x0 x1 x2 A B C S0 hc1 hc2 hc3).1 = oddOut i hc2 hc3 A B C S0 := by
  unfold runOdd
  dsimp only
  unfold oddOut tailSum
  dsimp only
  have h0 : arg10.view.read (Elt F) (arg10.view.writes (Elt F) arg10.view.junk (runOdd.sl.H7_1 c i arg7 harg7 arg9 harg9 A C)) = k0_pay136 (ownQ i C) (ownQ i A) := by
    unfold runOdd.sl.H7_1
    rw [View.read_writes_full, View.readAt_eq_ld, View.readAt_eq_ld, harg7.read_unread, harg9.read_unread]
    rfl
  have hq : runOdd.sl.r c i arg9 harg9 C = ownQ i C := by
    unfold runOdd.sl.r
    rw [View.readAt_eq_ld, harg9.read_unread]
    rfl
  have h246 : runOdd.sl.v246 c i arg3 harg3 arg4 harg4 arg5 harg5 arg6 harg6 arg7 harg7 arg8 harg8 arg9 harg9 arg10 harg10 arg11 harg11 arg12 harg12 arg13 harg13 A C S0 = (wideMax i A C S0).1 := by
    unfold runOdd.sl.v246
    refine (tail1 _ _ _ _ _ _ _ _ _ _ _ _ _ _ _ _ _ _ _ _ _ _ _ _ _ _ _ _ _ _ _ _ _ _ _).trans ?_
    rw [h0, hq, harg7.read_unread, harg13.read_unread]
    rfl
  have hk : (View.readAt (Elt F) arg7.view (Rect.unit (s := S4096x256) (k0_off6 i) S1024x256.size (k0_off6_inb i hc2)).toLoadRect (harg7.unread A)) = (View.ld A (Rect.unit (s := S4096x256) (k0_off6 i) S1024x256.size (k0_off6_inb i hc2))) := by
    rw [View.readAt_eq_ld, harg7.read_unread]
  have hM : runOdd.sl.v88 c i arg3 harg3 arg4 harg4 arg5 harg5 arg6 harg6 arg7 harg7 arg8 harg8 arg9 harg9 arg10 harg10 arg11 harg11 arg12 harg12 arg13 harg13 A C S0 hc2 = (tailMax (ownQ i C) (View.ld A (Rect.unit (s := S4096x256) (k0_off6 i) S1024x256.size (k0_off6_inb i hc2))) (k0_off7 i) (wideMax i A C S0)).1 := by
    unfold runOdd.sl.v88 runOdd.sl.H7_1_1
    rw [View.readCov_full]
    simp only [runOdd.sl.v260, runOdd.sl.v259, runOdd.sl.v258, runOdd.sl.v257, runOdd.sl.v256, runOdd.sl.v255, runOdd.sl.v254, runOdd.sl.v253, runOdd.sl.v252, runOdd.sl.v251, runOdd.sl.v250, runOdd.sl.v249, runOdd.sl.v248, runOdd.sl.v247, runOdd.sl.v239]
    rw [h246, hq, hk]
    rfl
  have hM' : runOdd.sl.v96 c i arg3 harg3 arg4 harg4 arg5 harg5 arg6 harg6 arg7 harg7 arg8 harg8 arg9 harg9 arg10 harg10 arg11 harg11 arg12 harg12 arg13 harg13 A C S0 hc2 = k0_pay138 (tailMax (ownQ i C) (View.ld A (Rect.unit (s := S4096x256) (k0_off6 i) S1024x256.size (k0_off6_inb i hc2))) (k0_off7 i) (wideMax i A C S0)).1 := by
    unfold runOdd.sl.v96 runOdd.sl.H7_2
    rw [View.readCov_full, hM]
  have hS : arg13.view.read (Elt F) (arg13.view.writes (Elt F) (harg13.unread S0) (⟨Rect.unit (s := S1024x4096) (k0_off7 i) S1024x1024.size (k0_off7_inb i hc2), runOdd.sl.v245 c i arg7 harg7 arg9 harg9 A C hc2⟩ :: (pb_k0_t1 (F := F) Variants.none c none i arg3 harg3 arg4 harg4 arg5 harg5 arg6 harg6 arg7 harg7 arg8 harg8 arg9 harg9 arg10 harg10 arg11 harg11 arg12 harg12 arg13 harg13 (runOdd.sl.v0 i) (runOdd.sl.r c i arg9 harg9 C) 8#32 (runOdd.sl.v36 i) (runOdd.sl.v38 i) (runOdd.sl.v40 i) (harg7.unread A) (arg10.view.writes (Elt F) arg10.view.junk (runOdd.sl.H7_1 c i arg7 harg7 arg9 harg9 A C)) (harg13.unread S0) (Scf.trips (k0_t1_loop i).lb (k0_t1_loop i).ub (k0_t1_loop i).st)).2)) = (tailMax (ownQ i C) (View.ld A (Rect.unit (s := S4096x256) (k0_off6 i) S1024x256.size (k0_off6_inb i hc2))) (k0_off7 i) (wideMax i A C S0)).2 := by
    rw [View.read_writes_cons_put _ _ _ _ _ rfl, kept1, h0, hq, harg7.read_unread, harg13.read_unread]
    refine congrArg (VecWindow.put _ _ _) ?_
    unfold runOdd.sl.v245 runOdd.sl.v239
    rw [hq, hk]
    rfl
  have hr1 : runOdd.sl.r_1 c i arg7 harg7 arg9 harg9 A C = k0_pay135 (ownQ i C) (ownQ i A) := by
    unfold runOdd.sl.r_1
    rw [View.readAt_eq_ld, View.readAt_eq_ld, harg7.read_unread, harg9.read_unread]
    rfl
  have hv : View.readAt (Elt F) arg8.view (Rect.unit (s := S4096x128) (k0_off8 i) S1024x128.size (k0_off8_inb i)).toLoadRect (harg8.unread B) = ownV i B := by
    rw [View.readAt_eq_ld, harg8.read_unread]
    rfl
  have h10 : arg10.view.read (Elt F) (arg10.view.writes (Elt F) arg10.view.junk (runOdd.sl.H7_2 c i arg3 harg3 arg4 harg4 arg5 harg5 arg6 harg6 arg7 harg7 arg8 harg8 arg9 harg9 arg10 harg10 arg11 harg11 arg12 harg12 arg13 harg13 A C S0 hc2)) = k0_pay138 (tailMax (ownQ i C) (View.ld A (Rect.unit (s := S4096x256) (k0_off6 i) S1024x256.size (k0_off6_inb i hc2))) (k0_off7 i) (wideMax i A C S0)).1 := by
    unfold runOdd.sl.H7_2
    rw [View.read_writes_full, hM]
  have h11 : arg11.view.read (Elt F) (arg11.view.writes (Elt F) arg11.view.junk (runOdd.sl.H8_1 c i arg3 harg3 arg4 harg4 arg5 harg5 arg6 harg6 arg7 harg7 arg8 harg8 arg9 harg9 arg10 harg10 arg11 harg11 arg12 harg12 arg13 harg13 A C S0 hc2)) = (ownSt (ownQ i C) (ownQ i A) (ownV i B) (k0_pay138 (tailMax (ownQ i C) (View.ld A (Rect.unit (s := S4096x256) (k0_off6 i) S1024x256.size (k0_off6_inb i hc2))) (k0_off7 i) (wideMax i A C S0)).1)).1 := by
    unfold runOdd.sl.H8_1
    rw [View.read_writes_full]
    unfold runOdd.sl.r_2 runOdd.sl.r_3 runOdd.sl.r_4 runOdd.sl.r_5 runOdd.sl.r_6 runOdd.sl.r_7 runOdd.sl.r_8 runOdd.sl.r_9
    rw [hr1, hM']
    rfl
  have h12 : arg12.view.read (Elt F) (arg12.view.writes (Elt F) arg12.view.junk (runOdd.sl.H9_1 c i arg3 harg3 arg4 harg4 arg5 harg5 arg6 harg6 arg7 harg7 arg8 harg8 arg9 harg9 arg10 harg10 arg11 harg11 arg12 harg12 arg13 harg13 A B C S0 hc2)) = (ownSt (ownQ i C) (ownQ i A) (ownV i B) (k0_pay138 (tailMax (ownQ i C) (View.ld A (Rect.unit (s := S4096x256) (k0_off6 i) S1024x256.size (k0_off6_inb i hc2))) (k0_off7 i) (wideMax i A C S0)).1)).2 := by
    unfold runOdd.sl.H9_1
    rw [View.read_writes_full]
    unfold runOdd.sl.r_2 runOdd.sl.r_3 runOdd.sl.r_4 runOdd.sl.r_5 runOdd.sl.r_6 runOdd.sl.r_7 runOdd.sl.r_8 runOdd.sl.r_9
    rw [hr1, hM', hv]
    rfl
  have h292 : runOdd.sl.v292 c i arg3 harg3 arg4 harg4 arg5 harg5 arg6 harg6 arg7 harg7 arg8 harg8 arg9 harg9 arg10 harg10 arg11 harg11 arg12 harg12 arg13 harg13 A B C S0 hc2 = (wideSum i A B C (k0_pay138 (tailMax (ownQ i C) (View.ld A (Rect.unit (s := S4096x256) (k0_off6 i) S1024x256.size (k0_off6_inb i hc2))) (k0_off7 i) (wideMax i A C S0)).1) (tailMax (ownQ i C) (View.ld A (Rect.unit (s := S4096x256) (k0_off6 i) S1024x256.size (k0_off6_inb i hc2))) (k0_off7 i) (wideMax i A C S0)).2).1 := by
    unfold runOdd.sl.v292
    refine (tail3 _ _ _ _ _ _ _ _ _ _ _ _ _ _ _ _ _ _ _ _ _ _ _ _ _ _ _ _ _ _ _ _ _ _ _ _ _).1.trans ?_
    rw [h10, h11, h12, hS, harg8.read_unread]
    rfl
  have h297 : runOdd.sl.v297 c i arg3 harg3 arg4 harg4 arg5 harg5 arg6 harg6 arg7 harg7 arg8 harg8 arg9 harg9 arg10 harg10 arg11 harg11 arg12 harg12 arg13 harg13 A B C S0 hc2 = (wideSum i A B C (k0_pay138 (tailMax (ownQ i C) (View.ld A (Rect.unit (s := S4096x256) (k0_off6 i) S1024x256.size (k0_off6_inb i hc2))) (k0_off7 i) (wideMax i A C S0)).1) (tailMax (ownQ i C) (View.ld A (Rect.unit (s := S4096x256) (k0_off6 i) S1024x256.size (k0_off6_inb i hc2))) (k0_off7 i) (wideMax i A C S0)).2).2 := by
    unfold runOdd.sl.v297
    refine (tail3 _ _ _ _ _ _ _ _ _ _ _ _ _ _ _ _ _ _ _ _ _ _ _ _ _ _ _ _ _ _ _ _ _ _ _ _ _).2.trans ?_
    rw [h10, h11, h12, hS, harg8.read_unread]
    rfl
  have ho : k0_off7 i = k0_off13 i := (off7_eq i).trans (off13_eq i).symm
  have h238 : runOdd.sl.v238 c i arg3 harg3 arg4 harg4 arg5 harg5 arg6 harg6 arg7 harg7 arg8 harg8 arg9 harg9 arg10 harg10 arg11 harg11 arg12 harg12 arg13 harg13 A C S0 hc2 hc3 = View.ld (tailMax (ownQ i C) (View.ld A (Rect.unit (s := S4096x256) (k0_off6 i) S1024x256.size (k0_off6_inb i hc2))) (k0_off7 i) (wideMax i A C S0)).2 (Rect.unit (s := S1024x4096) (k0_off13 i) S1024x1024.size (k0_off13_inb i hc3)) := by
    unfold runOdd.sl.v238 View.readCov
    rw [View.readAt_eq_ld, View.read_writes_cons_put _ _ _ _ _ ho]
    refine (VecWindow.window_put_same _ _ _ _ _).trans ?_
    unfold tailMax
    dsimp only
    rw [ho]
    refine Eq.trans ?_ (VecWindow.window_put_same _ _ _ _ _).symm
    unfold runOdd.sl.v245 runOdd.sl.v239
    rw [hq, hk]
    rfl
  have h239 : runOdd.sl.v239_1 c i arg3 harg3 arg4 harg4 arg5 harg5 arg6 harg6 arg7 harg7 arg8 harg8 arg9 harg9 arg10 harg10 arg11 harg11 arg12 harg12 arg13 harg13 A C S0 hc2 = k0_pay138 (tailMax (ownQ i C) (View.ld A (Rect.unit (s := S4096x256) (k0_off6 i) S1024x256.size (k0_off6_inb i hc2))) (k0_off7 i) (wideMax i A C S0)).1 := by
    unfold runOdd.sl.v239_1 runOdd.sl.H7_2
    rw [View.readCov_full, hM]
  refine congrArg₂ k0_pay8 ?_ ?_
  · unfold runOdd.sl.v207 runOdd.sl.H9_1_1
    rw [View.readCov_full]
    unfold runOdd.sl.r_10 runOdd.sl.r_11 runOdd.sl.r_12 runOdd.sl.r_13 runOdd.sl.r_14 runOdd.sl.r_15 runOdd.sl.r_16 runOdd.sl.r_17 runOdd.sl.cst_101
    rw [h238, h239, h297, View.readAt_eq_ld, harg8.read_unread]
  · unfold runOdd.sl.v208 runOdd.sl.H8_1_1
    rw [View.readCov_full]
    unfold runOdd.sl.r_10 runOdd.sl.r_11 runOdd.sl.r_12 runOdd.sl.r_13 runOdd.sl.r_14 runOdd.sl.r_15 runOdd.sl.r_16 runOdd.sl.r_17 runOdd.sl.cst_101
    rw [h238, h239, h292]

theorem out_even (c : Dev nD) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole)
    (x0 x1 x2 : Vec F S1x4096x128 .f32) (A : Vec F S4096x256 .bf16) (B : Vec F S4096x128 .bf16) (C : Vec F S4096x256 .bf16) (S0 : Vec F S1024x4096 .f32) (hc1 : ¬ (Scalar.cmpi .ne (Scalar.extui (Scalar.cmpi .eq (Scalar.muli 4#32 (BitVec.ofNat 32 (i 2).val)) 0#32) : BitVec 32) 0#32) = 1#1) (hc2 : ¬ k0_cond2 i = 1#1) (hc3 : ¬ k0_cond3 i = 1#1) :
    (runEven c i arg3 harg3 arg4 harg4 arg5 harg5 arg6 harg6 arg7 harg7 arg8 harg8 arg9 harg9 arg10 harg10 arg11 harg11 arg12 harg12 arg13 harg13 x0 x1 x2 A B C S0 hc1 hc2 hc3).1 = evenOut i A B C S0 := by
  unfold runEven
  dsimp only
  unfold evenOut
  dsimp only
  have h0 : arg10.view.read (Elt F) (arg10.view.writes (Elt F) arg10.view.junk (runEven.sl.H7_1 c i arg7 harg7 arg9 harg9 A C)) = k0_pay136 (ownQ i C) (ownQ i A) := by
    unfold runEven.sl.H7_1
    rw [View.read_writes_full, View.readAt_eq_ld, View.readAt_eq_ld, harg7.read_unread, harg9.read_unread]
    rfl
  have hq : runEven.sl.r c i arg9 harg9 C = ownQ i C := by
    unfold runEven.sl.r
    rw [View.readAt_eq_ld, harg9.read_unread]
    rfl
  have h246 : runEven.sl.v88 c i arg3 harg3 arg4 harg4 arg5 harg5 arg6 harg6 arg7 harg7 arg8 harg8 arg9 harg9 arg10 harg10 arg11 harg11 arg12 harg12 arg13 harg13 A C S0 = (wideMax i A C S0).1 := by
    unfold runEven.sl.v88
    refine (tail1 _ _ _ _ _ _ _ _ _ _ _ _ _ _ _ _ _ _ _ _ _ _ _ _ _ _ _ _ _ _ _ _ _ _ _).trans ?_
    rw [h0, hq, harg7.read_unread, harg13.read_unread]
    rfl
  have hM' : runEven.sl.v96 c i arg3 harg3 arg4 harg4 arg5 harg5 arg6 harg6 arg7 harg7 arg8 harg8 arg9 harg9 arg10 harg10 arg11 harg11 arg12 harg12 arg13 harg13 A C S0 = k0_pay138 (wideMax i A C S0).1 := by
    unfold runEven.sl.v96 runEven.sl.H7_1_1
    rw [View.readCov_full, h246]
  have hS : arg13.view.read (Elt F) (arg13.view.writes (Elt F) (harg13.unread S0) (pb_k0_t1 (F := F) Variants.none c none i arg3 harg3 arg4 harg4 arg5 harg5 arg6 harg6 arg7 harg7 arg8 harg8 arg9 harg9 arg10 harg10 arg11 harg11 arg12 harg12 arg13 harg13 (runEven.sl.v0 i) (runEven.sl.r c i arg9 harg9 C) 8#32 (runEven.sl.v36 i) (runEven.sl.v38 i) (runEven.sl.v40 i) (harg7.unread A) (arg10.view.writes (Elt F) arg10.view.junk (runEven.sl.H7_1 c i arg7 harg7 arg9 harg9 A C)) (harg13.unread S0) (Scf.trips (k0_t1_loop i).lb (k0_t1_loop i).ub (k0_t1_loop i).st)).2) = (wideMax i A C S0).2 := by
    rw [kept1, h0, hq, harg7.read_unread, harg13.read_unread]
    rfl
  have hr1 : runEven.sl.r_1 c i arg7 harg7 arg9 harg9 A C = k0_pay135 (ownQ i C) (ownQ i A) := by
    unfold runEven.sl.r_1
    rw [View.readAt_eq_ld, View.readAt_eq_ld, harg7.read_unread, harg9.read_unread]
    rfl
  have hv : View.readAt (Elt F) arg8.view (Rect.unit (s := S4096x128) (k0_off8 i) S1024x128.size (k0_off8_inb i)).toLoadRect (harg8.unread B) = ownV i B := by
    rw [View.readAt_eq_ld, harg8.read_unread]
    rfl
  have h10 : arg10.view.read (Elt F) (arg10.view.writes (Elt F) arg10.view.junk (runEven.sl.H7_1_1 c i arg3 harg3 arg4 harg4 arg5 harg5 arg6 harg6 arg7 harg7 arg8 harg8 arg9 harg9 arg10 harg10 arg11 harg11 arg12 harg12 arg13 harg13 A C S0)) = k0_pay138 (wideMax i A C S0).1 := by
    unfold runEven.sl.H7_1_1
    rw [View.read_writes_full, h246]
  have h11 : arg11.view.read (Elt F) (arg11.view.writes (Elt F) arg11.view.junk (runEven.sl.H8_1 c i arg3 harg3 arg4 harg4 arg5 harg5 arg6 harg6 arg7 harg7 arg8 harg8 arg9 harg9 arg10 harg10 arg11 harg11 arg12 harg12 arg13 harg13 A C S0)) = (ownSt (ownQ i C) (ownQ i A) (ownV i B) (k0_pay138 (wideMax i A C S0).1)).1 := by
    unfold runEven.sl.H8_1
    rw [View.read_writes_full]
    unfold runEven.sl.r_2 runEven.sl.r_3 runEven.sl.r_4 runEven.sl.r_5 runEven.sl.r_6 runEven.sl.r_7 runEven.sl.r_8 runEven.sl.r_9
    rw [hr1, hM']
    rfl
  have h12 : arg12.view.read (Elt F) (arg12.view.writes (Elt F) arg12.view.junk (runEven.sl.H9_1 c i arg3 harg3 arg4 harg4 arg5 harg5 arg6 harg6 arg7 harg7 arg8 harg8 arg9 harg9 arg10 harg10 arg11 harg11 arg12 harg12 arg13 harg13 A B C S0)) = (ownSt (ownQ i C) (ownQ i A) (ownV i B) (k0_pay138 (wideMax i A C S0).1)).2 := by
    unfold runEven.sl.H9_1
    rw [View.read_writes_full]
    unfold runEven.sl.r_2 runEven.sl.r_3 runEven.sl.r_4 runEven.sl.r_5 runEven.sl.r_6 runEven.sl.r_7 runEven.sl.r_8 runEven.sl.r_9
    rw [hr1, hM', hv]
    rfl
  refine congrArg₂ k0_pay8 ?_ ?_
  · unfold runEven.sl.v207
    refine (tail3 _ _ _ _ _ _ _ _ _ _ _ _ _ _ _ _ _ _ _ _ _ _ _ _ _ _ _ _ _ _ _ _ _ _ _ _ _).2.trans ?_
    rw [h10, h11, h12, hS, harg8.read_unread]
    rfl
  · unfold runEven.sl.v208
    refine (tail3 _ _ _ _ _ _ _ _ _ _ _ _ _ _ _ _ _ _ _ _ _ _ _ _ _ _ _ _ _ _ _ _ _ _ _ _ _).1.trans ?_
    rw [h10, h11, h12, hS, harg8.read_unread]
    rfl

end Cert.Kernel10Ideal.Moba
-- ==== Proof.MobaInit.lean ====
/-
  The first point of a group: the keys, values and queries it lays out in scratch, and its output term.
-/
module

public import proofs.«01_k».proof.Proof.MobaOut

@[expose] public section

set_option maxRecDepth 16384
set_option maxHeartbeats 2000000

noncomputable section

namespace Cert.Kernel10Ideal.Moba

open Cert.Kernel10Ideal Cert.Kernel10Ideal.Gen Idealize.ShloMosaic Idealize.ShloMosaic.TcCoe Idealize.SL.Sem Idealize.ShloMosaic.Tactic

variable {F : FTy → Type} [FloatOps F] [Named F]

/-- The index of the key block in each row, and the index of the query's own block in each column of a tile. -/
noncomputable def blkRow : IVec S16x1024 32 := iota .tc S16x1024 32 [0] iota_S16x1024_d0_w32
noncomputable def ownBlk (b : BitVec 32) : IVec S16x1024 32 := addi (broadcast S16x1024 b) runInit.sl.v342

/-- The means of the key blocks. -/
def kmeanV (x1 : Vec F S1x4096x128 .f32) : FVec F S128x128 .f32 :=
  k0_pay19 k0_pay13 k0_pay14 (k0_pay15 (k0_pay9 x1)) (k0_pay17 (k0_pay9 x1)) (k0_pay18 (k0_pay9 x1)) (constant S128x128 .f32 0x00000000#32)

/-- Where the largest gate of each column stands. -/
def hitV (g : FVec F S16x1024 .f32) : IVec S16x1024 1 :=
  have top : FVec F S1x1024 .f32 := shapeCast S1x1024 (multiReduction .maximumf [0] S1024 g 0xFF800000#32 reduces_S16x1024_S1024 (.inl rfl) rfl) shapeCasts_S1024_S1x1024
  have at_top : IVec S16x1024 1 := andi (cmpf .oeq g (broadcastTo S16x1024 top broadcasts_S1x1024_S16x1024))
    (broadcastTo S16x1024 (cmpf .ogt top (broadcast S1x1024 (Scalar.ofBits .f32 0xFF800000#32))) broadcasts_S1x1024_S16x1024)
  have ix : FVec F S16x1024 .f32 := select at_top k0_pay21 (broadcast S16x1024 (Scalar.ofBits .f32 0x41800000#32))
  cmpf .oeq k0_pay21 (broadcastTo S16x1024 (shapeCast S1x1024 (multiReduction .minimumf [0] S1024 ix 0x7F800000#32 reduces_S16x1024_S1024 (.inl rfl) rfl) shapeCasts_S1024_S1x1024) broadcasts_S1x1024_S16x1024)

/-- The gate with its largest entry taken out. -/
def dropV (g : FVec F S16x1024 .f32) : FVec F S16x1024 .f32 := select (hitV g) (broadcast S16x1024 (Scalar.ofBits .f32 0xFF800000#32)) g

/-- The blocks picked in three rounds. -/
def pickedV (g : FVec F S16x1024 .f32) : FVec F S16x1024 .f32 :=
  select (hitV (dropV (dropV g))) (broadcast S16x1024 (Scalar.ofBits .f32 0x3F800000#32))
    (select (hitV (dropV g)) (broadcast S16x1024 (Scalar.ofBits .f32 0x3F800000#32))
      (select (hitV g) (broadcast S16x1024 (Scalar.ofBits .f32 0x3F800000#32)) (broadcast S16x1024 (Scalar.ofBits .f32 0x00000000#32))))

/-- The picked blocks and the own one as the extra columns of the queries. -/
def colsV (own : IVec S16x1024 32) (p : FVec F S16x1024 .f32) : FVec F S1024x128 .bf16 :=
  shapeCast S1024x128 (truncf .bf16 (subf (transpose S1024x128 [1, 0]
    (concatenate S128x1024 0 [⟨S16x1024, select (cmpi .eq blkRow own) (broadcast S16x1024 (Scalar.ofBits .f32 0x3F800000#32)) p⟩,
      ⟨S112x1024, broadcast S112x1024 (Scalar.ofBits .f32 0x00000000#32)⟩] concatenates_S16x1024_S112x1024_S128x1024_d0)
    transposes_S128x1024_p1_0_S1024x128) (broadcast S1024x128 (Scalar.ofBits .f32 0x3F800000#32))) bitsLt_bf16_f32) shapeCasts_S1024x128_S1024x128

def tileV (km : FVec F S128x128 .f32) (own : IVec S16x1024 32) (q : Vec F S1x1024x128 .f32) : FVec F S1024x128 .bf16 :=
  colsV own (pickedV (k0_pay23 km blkRow own q))

/-- The keys with their block's marker, and the queries with their allowed blocks. -/
def keysOf (x1 : Vec F S1x4096x128 .f32) : Vec F S4096x256 .bf16 := sideBySide (k0_pay10 x1) k0_pay11
def queriesOf (x0 x1 : Vec F S1x4096x128 .f32) : Vec F S4096x256 .bf16 :=
  sideBySide (k0_pay20 x0) (stacked
    (tileV (kmeanV x1) (ownBlk 0#32) (View.ld x0 (Rect.unit (s := S1x4096x128) ![0, 0, 0] S1x1024x128.size inb_S1x4096x128_S1x1024x128_0_0_0)))
    (tileV (kmeanV x1) (ownBlk 4#32) (View.ld x0 (Rect.unit (s := S1x4096x128) ![0, 1024, 0] S1x1024x128.size inb_S1x4096x128_S1x1024x128_0_1024_0)))
    (tileV (kmeanV x1) (ownBlk 8#32) (View.ld x0 (Rect.unit (s := S1x4096x128) ![0, 2048, 0] S1x1024x128.size inb_S1x4096x128_S1x1024x128_0_2048_0)))
    (tileV (kmeanV x1) (ownBlk 12#32) (View.ld x0 (Rect.unit (s := S1x4096x128) ![0, 3072, 0] S1x1024x128.size inb_S1x4096x128_S1x1024x128_0_3072_0))))

section

variable (c : Dev nD) (arg3 : Memref sig .tc .vmem S1x4096x128 .f32) (harg3 : arg3.IsWhole) (arg4 : Memref sig .tc .vmem S1x4096x128 .f32) (harg4 : arg4.IsWhole)
  (x0 x1 : Vec F S1x4096x128 .f32)

theorem mean_word : runInit.sl.v309 c arg4 harg4 x1 = kmeanV x1 := by
  have h : kmeanV x1 = kmeanV (View.readAt (Elt F) arg4.view (Rect.unit (s := S1x4096x128) ![0, 0, 0] S1x4096x128.size inb_S1x4096x128_S1x4096x128_0_0_0).toLoadRect (harg4.unread x1)) := by
    rw [View.readAt_full, harg4.read_unread]
  rw [h]
  rfl

theorem tile_word0 : runInit.sl.v428 c arg3 harg3 arg4 harg4 x0 x1 =
    tileV (kmeanV x1) (ownBlk 0#32) (View.ld x0 (Rect.unit (s := S1x4096x128) ![0, 0, 0] S1x1024x128.size inb_S1x4096x128_S1x1024x128_0_0_0)) := by
  rw [← mean_word c arg4 harg4 x1]
  have h : View.ld x0 (Rect.unit (s := S1x4096x128) ![0, 0, 0] S1x1024x128.size inb_S1x4096x128_S1x1024x128_0_0_0) =
      View.readAt (Elt F) arg3.view (Rect.unit (s := S1x4096x128) ![0, 0, 0] S1x1024x128.size inb_S1x4096x128_S1x1024x128_0_0_0).toLoadRect (harg3.unread x0) := by
    rw [View.readAt_eq_ld, harg3.read_unread]
  rw [h]
  rfl

theorem tile_word1 : runInit.sl.v539 c arg3 harg3 arg4 harg4 x0 x1 =
    tileV (kmeanV x1) (ownBlk 4#32) (View.ld x0 (Rect.unit (s := S1x4096x128) ![0, 1024, 0] S1x1024x128.size inb_S1x4096x128_S1x1024x128_0_1024_0)) := by
  rw [← mean_word c arg4 harg4 x1]
  have h : View.ld x0 (Rect.unit (s := S1x4096x128) ![0, 1024, 0] S1x1024x128.size inb_S1x4096x128_S1x1024x128_0_1024_0) =
      View.readAt (Elt F) arg3.view (Rect.unit (s := S1x4096x128) ![0, 1024, 0] S1x1024x128.size inb_S1x4096x128_S1x1024x128_0_1024_0).toLoadRect (harg3.unread x0) := by
    rw [View.readAt_eq_ld, harg3.read_unread]
  rw [h]
  rfl

theorem tile_word2 : runInit.sl.v650 c arg3 harg3 arg4 harg4 x0 x1 =
    tileV (kmeanV x1) (ownBlk 8#32) (View.ld x0 (Rect.unit (s := S1x4096x128) ![0, 2048, 0] S1x1024x128.size inb_S1x4096x128_S1x1024x128_0_2048_0)) := by
  rw [← mean_word c arg4 harg4 x1]
  have h : View.ld x0 (Rect.unit (s := S1x4096x128) ![0, 2048, 0] S1x1024x128.size inb_S1x4096x128_S1x1024x128_0_2048_0) =
      View.readAt (Elt F) arg3.view (Rect.unit (s := S1x4096x128) ![0, 2048, 0] S1x1024x128.size inb_S1x4096x128_S1x1024x128_0_2048_0).toLoadRect (harg3.unread x0) := by
    rw [View.readAt_eq_ld, harg3.read_unread]
  rw [h]
  rfl

theorem tile_word3 : k0_pay134 runInit.sl.v316 runInit.sl.v317 (addi runInit.sl.v676 runInit.sl.v342) (runInit.sl.v731 c arg3 harg3 arg4 harg4 x0 x1) (runInit.sl.v743 c arg3 harg3 arg4 harg4 x0 x1) =
    tileV (kmeanV x1) (ownBlk 12#32) (View.ld x0 (Rect.unit (s := S1x4096x128) ![0, 3072, 0] S1x1024x128.size inb_S1x4096x128_S1x1024x128_0_3072_0)) := by
  rw [← mean_word c arg4 harg4 x1]
  have h : View.ld x0 (Rect.unit (s := S1x4096x128) ![0, 3072, 0] S1x1024x128.size inb_S1x4096x128_S1x1024x128_0_3072_0) =
      View.readAt (Elt F) arg3.view (Rect.unit (s := S1x4096x128) ![0, 3072, 0] S1x1024x128.size inb_S1x4096x128_S1x1024x128_0_3072_0).toLoadRect (harg3.unread x0) := by
    rw [View.readAt_eq_ld, harg3.read_unread]
  rw [h]
  rfl

theorem keys_word (m : Memref sig .tc .vmem S4096x256 .bf16) : m.view.read (Elt F) (m.view.writes (Elt F) m.view.junk (runInit.sl.H4_2 c arg4 harg4 x1)) = keysOf x1 := by
  unfold runInit.sl.H4_2 keysOf
  rw [read_keys, View.readAt_full, harg4.read_unread]

theorem vals_word (arg5 : Memref sig .tc .vmem S1x4096x128 .f32) (harg5 : arg5.IsWhole) (x2 : Vec F S1x4096x128 .f32) (m : Memref sig .tc .vmem S4096x128 .bf16) :
    m.view.read (Elt F) (m.view.writes (Elt F) m.view.junk (runInit.sl.H5_1 c arg5 harg5 x2)) = k0_pay12 x2 := by
  unfold runInit.sl.H5_1
  have h : k0_pay12 x2 = k0_pay12 (View.readAt (Elt F) arg5.view (Rect.unit (s := S1x4096x128) ![0, 0, 0] S1x4096x128.size inb_S1x4096x128_S1x4096x128_0_0_0).toLoadRect (harg5.unread x2)) := by
    rw [View.readAt_full, harg5.read_unread]
  rw [View.read_writes_full, h]
  rfl

theorem queries_word (m : Memref sig .tc .vmem S4096x256 .bf16) : m.view.read (Elt F) (m.view.writes (Elt F) m.view.junk (runInit.sl.H6_5 c arg3 harg3 arg4 harg4 x0 x1)) = queriesOf x0 x1 := by
  have h : k0_pay20 x0 = k0_pay20 (View.readAt (Elt F) arg3.view (Rect.unit (s := S1x4096x128) ![0, 0, 0] S1x4096x128.size inb_S1x4096x128_S1x4096x128_0_0_0).toLoadRect (harg3.unread x0)) := by
    rw [View.readAt_full, harg3.read_unread]
  have h' : runInit.sl.v315 c arg3 harg3 x0 = k0_pay20 x0 := by rw [h]; rfl
  unfold runInit.sl.H6_5 queriesOf
  rw [read_queries, tile_word0, tile_word1, tile_word2, tile_word3, h']

end

theorem out_init (c : Dev nD) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole)
    (x0 x1 x2 : Vec F S1x4096x128 .f32) (S0 : Vec F S1024x4096 .f32) (hc1 : (Scalar.cmpi .ne (Scalar.extui (Scalar.cmpi .eq (Scalar.muli 4#32 (BitVec.ofNat 32 (i 2).val)) 0#32) : BitVec 32) 0#32) = 1#1) (hc2 : ¬ k0_cond2 i = 1#1) (hc3 : ¬ k0_cond3 i = 1#1) :
    (runInit c i arg3 harg3 arg4 harg4 arg5 harg5 arg6 harg6 arg7 harg7 arg8 harg8 arg9 harg9 arg10 harg10 arg11 harg11 arg12 harg12 arg13 harg13 x0 x1 x2 S0 hc1 hc2 hc3).1.1 = evenOut i (keysOf x1) (k0_pay12 x2) (queriesOf x0 x1) S0 := by
  unfold runInit
  dsimp only
  unfold evenOut
  dsimp only
  have hK : arg7.view.read (Elt F) (arg7.view.writes (Elt F) arg7.view.junk (runInit.sl.H4_2 c arg4 harg4 x1)) = keysOf x1 := keys_word c arg4 harg4 x1 arg7
  have hB : arg8.view.read (Elt F) (arg8.view.writes (Elt F) arg8.view.junk (runInit.sl.H5_1 c arg5 harg5 x2)) = k0_pay12 x2 := vals_word c arg5 harg5 x2 arg8
  have hC : arg9.view.read (Elt F) (arg9.view.writes (Elt F) arg9.view.junk (runInit.sl.H6_5 c arg3 harg3 arg4 harg4 x0 x1)) = queriesOf x0 x1 := queries_word c arg3 harg3 arg4 harg4 x0 x1 arg9
  have hq : runInit.sl.v7 c i arg3 harg3 arg4 harg4 arg9 x0 x1 = ownQ i (queriesOf x0 x1) := by
    unfold runInit.sl.v7
    rw [View.readAt_eq_ld, hC]
    rfl
  have h0 : arg10.view.read (Elt F) (arg10.view.writes (Elt F) arg10.view.junk (runInit.sl.H7_1 c i arg3 harg3 arg4 harg4 arg7 arg9 x0 x1)) = k0_pay136 (ownQ i (queriesOf x0 x1)) (ownQ i (keysOf x1)) := by
    unfold runInit.sl.H7_1
    rw [View.read_writes_full, hq, View.readAt_eq_ld, hK]
    rfl
  have h246 : runInit.sl.v88 c i arg3 harg3 arg4 harg4 arg5 harg5 arg6 harg6 arg7 harg7 arg8 harg8 arg9 harg9 arg10 harg10 arg11 harg11 arg12 harg12 arg13 harg13 x0 x1 S0 = (wideMax i (keysOf x1) (queriesOf x0 x1) S0).1 := by
    unfold runInit.sl.v88
    refine (tail1 _ _ _ _ _ _ _ _ _ _ _ _ _ _ _ _ _ _ _ _ _ _ _ _ _ _ _ _ _ _ _ _ _ _ _).trans ?_
    rw [h0, hq, hK, harg13.read_unread]
    rfl
  have hM' : runInit.sl.v96 c i arg3 harg3 arg4 harg4 arg5 harg5 arg6 harg6 arg7 harg7 arg8 harg8 arg9 harg9 arg10 harg10 arg11 harg11 arg12 harg12 arg13 harg13 x0 x1 S0 = k0_pay138 (wideMax i (keysOf x1) (queriesOf x0 x1) S0).1 := by
    unfold runInit.sl.v96 runInit.sl.H7_1_1
    rw [View.readCov_full, h246]
  have hS : arg13.view.read (Elt F) (arg13.view.writes (Elt F) (harg13.unread S0) (pb_k0_t1 (F := F) Variants.none c none i arg3 harg3 arg4 harg4 arg5 harg5 arg6 harg6 arg7 harg7 arg8 harg8 arg9 harg9 arg10 harg10 arg11 harg11 arg12 harg12 arg13 harg13 (runInit.sl.v0 i) (runInit.sl.v7 c i arg3 harg3 arg4 harg4 arg9 x0 x1) 8#32 (runInit.sl.v36 i) (runInit.sl.v38 i) (runInit.sl.v40 i) (arg7.view.writes (Elt F) arg7.view.junk (runInit.sl.H4_2 c arg4 harg4 x1)) (arg10.view.writes (Elt F) arg10.view.junk (runInit.sl.H7_1 c i arg3 harg3 arg4 harg4 arg7 arg9 x0 x1)) (harg13.unread S0) (Scf.trips (k0_t1_loop i).lb (k0_t1_loop i).ub (k0_t1_loop i).st)).2) = (wideMax i (keysOf x1) (queriesOf x0 x1) S0).2 := by
    rw [kept1, h0, hq, hK, harg13.read_unread]
    rfl
  have hr1 : runInit.sl.r_1 c i arg3 harg3 arg4 harg4 arg7 arg9 x0 x1 = k0_pay135 (ownQ i (queriesOf x0 x1)) (ownQ i (keysOf x1)) := by
    unfold runInit.sl.r_1
    rw [hq, View.readAt_eq_ld, hK]
    rfl
  have hv : View.readAt (Elt F) arg8.view (Rect.unit (s := S4096x128) (k0_off8 i) S1024x128.size (k0_off8_inb i)).toLoadRect (arg8.view.writes (Elt F) arg8.view.junk (runInit.sl.H5_1 c arg5 harg5 x2)) = ownV i (k0_pay12 x2) := by
    rw [View.readAt_eq_ld, hB]
    rfl
  have h10 : arg10.view.read (Elt F) (arg10.view.writes (Elt F) arg10.view.junk (runInit.sl.H7_1_1 c i arg3 harg3 arg4 harg4 arg5 harg5 arg6 harg6 arg7 harg7 arg8 harg8 arg9 harg9 arg10 harg10 arg11 harg11 arg12 harg12 arg13 harg13 x0 x1 S0)) = k0_pay138 (wideMax i (keysOf x1) (queriesOf x0 x1) S0).1 := by
    unfold runInit.sl.H7_1_1
    rw [View.read_writes_full, h246]
  have h11 : arg11.view.read (Elt F) (arg11.view.writes (Elt F) arg11.view.junk (runInit.sl.H8_1 c i arg3 harg3 arg4 harg4 arg5 harg5 arg6 harg6 arg7 harg7 arg8 harg8 arg9 harg9 arg10 harg10 arg11 harg11 arg12 harg12 arg13 harg13 x0 x1 S0)) = (ownSt (ownQ i (queriesOf x0 x1)) (ownQ i (keysOf x1)) (ownV i (k0_pay12 x2)) (k0_pay138 (wideMax i (keysOf x1) (queriesOf x0 x1) S0).1)).1 := by
    unfold runInit.sl.H8_1
    rw [View.read_writes_full]
    unfold runInit.sl.r_2 runInit.sl.r_3 runInit.sl.r_4 runInit.sl.r_5 runInit.sl.r_6 runInit.sl.r_7 runInit.sl.r_8 runInit.sl.r_9
    rw [hr1, hM']
    rfl
  have h12 : arg12.view.read (Elt F) (arg12.view.writes (Elt F) arg12.view.junk (runInit.sl.H9_1 c i arg3 harg3 arg4 harg4 arg5 harg5 arg6 harg6 arg7 harg7 arg8 harg8 arg9 harg9 arg10 harg10 arg11 harg11 arg12 harg12 arg13 harg13 x0 x1 x2 S0)) = (ownSt (ownQ i (queriesOf x0 x1)) (ownQ i (keysOf x1)) (ownV i (k0_pay12 x2)) (k0_pay138 (wideMax i (keysOf x1) (queriesOf x0 x1) S0).1)).2 := by
    unfold runInit.sl.H9_1
    rw [View.read_writes_full]
    unfold runInit.sl.r_2 runInit.sl.r_3 runInit.sl.r_4 runInit.sl.r_5 runInit.sl.r_6 runInit.sl.r_7 runInit.sl.r_8 runInit.sl.r_9
    rw [hr1, hM', hv]
    rfl
  refine congrArg₂ k0_pay8 ?_ ?_
  · unfold runInit.sl.v207
    refine (tail3 _ _ _ _ _ _ _ _ _ _ _ _ _ _ _ _ _ _ _ _ _ _ _ _ _ _ _ _ _ _ _ _ _ _ _ _ _).2.trans ?_
    rw [h10, h11, h12, hS, hB]
    rfl
  · unfold runInit.sl.v208
    refine (tail3 _ _ _ _ _ _ _ _ _ _ _ _ _ _ _ _ _ _ _ _ _ _ _ _ _ _ _ _ _ _ _ _ _ _ _ _ _).1.trans ?_
    rw [h10, h11, h12, hS, hB]
    rfl

theorem init_keys (c : Dev nD) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole) (x0 x1 x2 : Vec F S1x4096x128 .f32) (S0 : Vec F S1024x4096 .f32) (hc1 : (Scalar.cmpi .ne (Scalar.extui (Scalar.cmpi .eq (Scalar.muli 4#32 (BitVec.ofNat 32 (i 2).val)) 0#32) : BitVec 32) 0#32) = 1#1) (hc2 : ¬ k0_cond2 i = 1#1) (hc3 : ¬ k0_cond3 i = 1#1) :
    (runInit c i arg3 harg3 arg4 harg4 arg5 harg5 arg6 harg6 arg7 harg7 arg8 harg8 arg9 harg9 arg10 harg10 arg11 harg11 arg12 harg12 arg13 harg13 x0 x1 x2 S0 hc1 hc2 hc3).1.2.1 = keysOf x1 := by
  unfold runInit
  dsimp only
  rw [View.readAt_full, harg4.read_unread]
  rfl

theorem init_vals (c : Dev nD) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole) (x0 x1 x2 : Vec F S1x4096x128 .f32) (S0 : Vec F S1024x4096 .f32) (hc1 : (Scalar.cmpi .ne (Scalar.extui (Scalar.cmpi .eq (Scalar.muli 4#32 (BitVec.ofNat 32 (i 2).val)) 0#32) : BitVec 32) 0#32) = 1#1) (hc2 : ¬ k0_cond2 i = 1#1) (hc3 : ¬ k0_cond3 i = 1#1) :
    (runInit c i arg3 harg3 arg4 harg4 arg5 harg5 arg6 harg6 arg7 harg7 arg8 harg8 arg9 harg9 arg10 harg10 arg11 harg11 arg12 harg12 arg13 harg13 x0 x1 x2 S0 hc1 hc2 hc3).1.2.2.1 = k0_pay12 x2 := by
  have h : k0_pay12 x2 = k0_pay12 (View.readAt (Elt F) arg5.view (Rect.unit (s := S1x4096x128) ![0, 0, 0] S1x4096x128.size inb_S1x4096x128_S1x4096x128_0_0_0).toLoadRect (harg5.unread x2)) := by
    rw [View.readAt_full, harg5.read_unread]
  unfold runInit
  dsimp only
  rw [h]
  rfl

theorem init_queries (c : Dev nD) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole) (x0 x1 x2 : Vec F S1x4096x128 .f32) (S0 : Vec F S1024x4096 .f32) (hc1 : (Scalar.cmpi .ne (Scalar.extui (Scalar.cmpi .eq (Scalar.muli 4#32 (BitVec.ofNat 32 (i 2).val)) 0#32) : BitVec 32) 0#32) = 1#1) (hc2 : ¬ k0_cond2 i = 1#1) (hc3 : ¬ k0_cond3 i = 1#1) :
    (runInit c i arg3 harg3 arg4 harg4 arg5 harg5 arg6 harg6 arg7 harg7 arg8 harg8 arg9 harg9 arg10 harg10 arg11 harg11 arg12 harg12 arg13 harg13 x0 x1 x2 S0 hc1 hc2 hc3).1.2.2.2 = queriesOf x0 x1 := by
  have h : k0_pay20 x0 = k0_pay20 (View.readAt (Elt F) arg3.view (Rect.unit (s := S1x4096x128) ![0, 0, 0] S1x4096x128.size inb_S1x4096x128_S1x4096x128_0_0_0).toLoadRect (harg3.unread x0)) := by
    rw [View.readAt_full, harg3.read_unread]
  have h' : runInit.sl.v315 c arg3 harg3 x0 = k0_pay20 x0 := by rw [h]; rfl
  unfold runInit
  dsimp only
  unfold queriesOf
  rw [tile_word0, tile_word1, tile_word2, tile_word3, h']

end Cert.Kernel10Ideal.Moba
-- ==== Proof.MobaSem.lean ====
/-
  The payloads of the block attention over the extended reals: scores, maxima, masses and weighted values, row by row.
-/
module

public import proofs.«01_k».proof.Proof.MobaInit
public import Idealize.ShloMosaic.Lib.Pointwise

@[expose] public section

set_option maxRecDepth 16384
set_option maxHeartbeats 2000000

noncomputable section

namespace Cert.Kernel10Ideal.Moba

open Cert.Kernel10Ideal Cert.Kernel10Ideal.Gen Idealize.ShloMosaic Idealize.ShloMosaic.TcCoe Idealize.SL.Sem Idealize.ShloMosaic.Tactic

/-- The weight of a score `z` in a row whose largest score is `M`. -/
def wg (M z : EReal) : EReal := (FloatOps.exp2 ((z - M) * (Named.named κ "scale_log2e" 0x3E0293EE#32 : Ideal .f32) : Ideal .f32) : Ideal .f32)

theorem sum_lanes (n : ℕ) (f : ℕ → EReal) : ∑ j : Fin (128 * n), f j.val = ∑ l : Fin 128, ∑ g ∈ Finset.range n, f (128 * g + l.val) := by
  induction n with
  | zero => simp
  | succ n ih =>
    rw [Fin.sum_univ_eq_sum_range, Nat.mul_succ, Finset.sum_range_add, ← Fin.sum_univ_eq_sum_range, ih, ← Fin.sum_univ_eq_sum_range (fun x => f (128 * n + x)), ← Finset.sum_add_distrib]
    exact Finset.sum_congr rfl fun l _ => by rw [Finset.sum_range_succ]

/-- Pieces of 128 columns that read a row of `f`, from `o` on. -/
def Reads (r : Fin 1024) (f : ℕ → EReal) : List (FVec Ideal S1024x128 .f32) → ℕ → Prop
  | [], _ => True
  | a :: L, o => (∀ l : Fin 128, (a (ix2 r l) : EReal) = f (o + l.val)) ∧ Reads r f L (o + 128)

theorem pieces (n : ℕ) (r : Fin 1024) (j : (⟨2, ![1024, n]⟩ : Shape).Idx) (hj : j (0 : Fin 2) = r) (f : ℕ → EReal) :
    ∀ (L : List (FVec Ideal S1024x128 .f32)) (o : ℕ) (_ : Reads r f L o) (c : ℕ) (hs) (hc),
      (concatenateAt (⟨2, ![1024, n]⟩ : Shape) (1 : Fin 2) j (L.map fun a => ⟨S1024x128, a⟩) hs c hc : EReal) = f (o + c)
  | [], _, _, _, _, hc => absurd hc (Nat.not_lt_zero _)
  | [a], o, h, c, hs, hc => by
    have hc' : c < 128 := by simpa [axisSizes] using hc
    refine Eq.trans ?_ (h.1 ⟨c, hc'⟩)
    refine (concatenateAt_singleton _ _ _ _ _ _).trans ?_
    rw [Shape.Idx.norm_def]
    refine congrArg a (funext fun b => ?_)
    fin_cases b
    · exact Fin.ext (congrArg Fin.val hj)
    · rfl
  | a :: b :: L, o, h, c, hs, hc => by
    refine (concatenateAt_cons _ _ _ _ _ _ _ _).trans ?_
    split
    · rename_i hlt
      refine Eq.trans ?_ (h.1 ⟨c, hlt⟩)
      rw [Shape.Idx.norm_def]
      refine congrArg a (funext fun b => ?_)
      fin_cases b
      · exact Fin.ext (congrArg Fin.val hj)
      · rfl
    · rename_i hlt
      have hlt : ¬ c < 128 := hlt
      refine (pieces n r j hj f (b :: L) (o + 128) h.2 (c - 128) _ _).trans (congrArg f ?_)
      omega

theorem whole (n : ℕ) (r : Fin 1024) (j : (⟨2, ![1024, n]⟩ : Shape).Idx) (hj : j (0 : Fin 2) = r) (f : ℕ → EReal)
    (L : List (FVec Ideal S1024x128 .f32)) (hL : Reads r f L 0) (h) :
    (concatenate (⟨2, ![1024, n]⟩ : Shape) (1 : Fin 2) (L.map fun a => ⟨S1024x128, a⟩) h j : EReal) = f (j (1 : Fin 2)).val :=
  (concatenate_apply _ _ _ _ _).trans ((pieces n r j hj f L 0 hL _ _ _).trans (congrArg f (Nat.zero_add _)))

theorem sum8 (f : Fin 1024 → EReal) : ∑ j, f j = ∑ l : Fin 128, (f ⟨l.val, by have := l.isLt; omega⟩ + f ⟨128 + l.val, by have := l.isLt; omega⟩ + f ⟨256 + l.val, by have := l.isLt; omega⟩ + f ⟨384 + l.val, by have := l.isLt; omega⟩ + f ⟨512 + l.val, by have := l.isLt; omega⟩ + f ⟨640 + l.val, by have := l.isLt; omega⟩ + f ⟨768 + l.val, by have := l.isLt; omega⟩ + f ⟨896 + l.val, by have := l.isLt; omega⟩) := by
  have h := sum_lanes 8 (fun j => if h : j < 1024 then f ⟨j, h⟩ else 0)
  rw [show (∑ j, f j) = ∑ j : Fin (128 * 8), (fun j => if h : j < 1024 then f ⟨j, h⟩ else 0) j.val from
    Finset.sum_congr rfl fun j _ => by show f j = dite _ _ _; rw [dif_pos j.isLt], h]
  refine Finset.sum_congr rfl fun l _ => ?_
  have hl := l.isLt
  simp only [Finset.sum_range_succ, Finset.sum_range_zero, zero_add]
  norm_num
  repeat rw [dif_pos (by omega)]

theorem sum16 (f : Fin 2048 → EReal) : ∑ j, f j = ∑ l : Fin 128, (f ⟨l.val, by have := l.isLt; omega⟩ + f ⟨128 + l.val, by have := l.isLt; omega⟩ + f ⟨256 + l.val, by have := l.isLt; omega⟩ + f ⟨384 + l.val, by have := l.isLt; omega⟩ + f ⟨512 + l.val, by have := l.isLt; omega⟩ + f ⟨640 + l.val, by have := l.isLt; omega⟩ + f ⟨768 + l.val, by have := l.isLt; omega⟩ + f ⟨896 + l.val, by have := l.isLt; omega⟩ + f ⟨1024 + l.val, by have := l.isLt; omega⟩ + f ⟨1152 + l.val, by have := l.isLt; omega⟩ + f ⟨1280 + l.val, by have := l.isLt; omega⟩ + f ⟨1408 + l.val, by have := l.isLt; omega⟩ + f ⟨1536 + l.val, by have := l.isLt; omega⟩ + f ⟨1664 + l.val, by have := l.isLt; omega⟩ + f ⟨1792 + l.val, by have := l.isLt; omega⟩ + f ⟨1920 + l.val, by have := l.isLt; omega⟩) := by
  have h := sum_lanes 16 (fun j => if h : j < 2048 then f ⟨j, h⟩ else 0)
  rw [show (∑ j, f j) = ∑ j : Fin (128 * 16), (fun j => if h : j < 2048 then f ⟨j, h⟩ else 0) j.val from
    Finset.sum_congr rfl fun j _ => by show f j = dite _ _ _; rw [dif_pos j.isLt], h]
  refine Finset.sum_congr rfl fun l _ => ?_
  have hl := l.isLt
  simp only [Finset.sum_range_succ, Finset.sum_range_zero, zero_add]
  norm_num
  repeat rw [dif_pos (by omega)]

theorem conc8 (a0 a1 a2 a3 a4 a5 a6 a7 : FVec Ideal S1024x128 .f32) (r : Fin 1024) (x : Fin 1024) (f : ℕ → EReal) (h0 : ∀ l : Fin 128, a0 (ix2 r l) = f l.val) (h1 : ∀ l : Fin 128, a1 (ix2 r l) = f (128 + l.val)) (h2 : ∀ l : Fin 128, a2 (ix2 r l) = f (256 + l.val)) (h3 : ∀ l : Fin 128, a3 (ix2 r l) = f (384 + l.val)) (h4 : ∀ l : Fin 128, a4 (ix2 r l) = f (512 + l.val)) (h5 : ∀ l : Fin 128, a5 (ix2 r l) = f (640 + l.val)) (h6 : ∀ l : Fin 128, a6 (ix2 r l) = f (768 + l.val)) (h7 : ∀ l : Fin 128, a7 (ix2 r l) = f (896 + l.val)) :
    (concatenate S1024x1024 1 [⟨S1024x128, a0⟩, ⟨S1024x128, a1⟩, ⟨S1024x128, a2⟩, ⟨S1024x128, a3⟩, ⟨S1024x128, a4⟩, ⟨S1024x128, a5⟩, ⟨S1024x128, a6⟩, ⟨S1024x128, a7⟩] concatenates_S1024x128_S1024x128_S1024x128_S1024x128_S1024x128_S1024x128_S1024x128_S1024x128_S1024x1024_d1 (ix2 r x) : EReal) = f x.val := by
  exact whole 1024 r (ix2 r x) rfl f [a0, a1, a2, a3, a4, a5, a6, a7] ⟨fun l => (h0 l).trans (by rw [Nat.zero_add]), h1, h2, h3, h4, h5, h6, h7, trivial⟩ concatenates_S1024x128_S1024x128_S1024x128_S1024x128_S1024x128_S1024x128_S1024x128_S1024x128_S1024x1024_d1

theorem conc16 (a0 a1 a2 a3 a4 a5 a6 a7 a8 a9 a10 a11 a12 a13 a14 a15 : FVec Ideal S1024x128 .f32) (r : Fin 1024) (x : Fin 2048) (f : ℕ → EReal) (h0 : ∀ l : Fin 128, a0 (ix2 r l) = f l.val) (h1 : ∀ l : Fin 128, a1 (ix2 r l) = f (128 + l.val)) (h2 : ∀ l : Fin 128, a2 (ix2 r l) = f (256 + l.val)) (h3 : ∀ l : Fin 128, a3 (ix2 r l) = f (384 + l.val)) (h4 : ∀ l : Fin 128, a4 (ix2 r l) = f (512 + l.val)) (h5 : ∀ l : Fin 128, a5 (ix2 r l) = f (640 + l.val)) (h6 : ∀ l : Fin 128, a6 (ix2 r l) = f (768 + l.val)) (h7 : ∀ l : Fin 128, a7 (ix2 r l) = f (896 + l.val)) (h8 : ∀ l : Fin 128, a8 (ix2 r l) = f (1024 + l.val)) (h9 : ∀ l : Fin 128, a9 (ix2 r l) = f (1152 + l.val)) (h10 : ∀ l : Fin 128, a10 (ix2 r l) = f (1280 + l.val)) (h11 : ∀ l : Fin 128, a11 (ix2 r l) = f (1408 + l.val)) (h12 : ∀ l : Fin 128, a12 (ix2 r l) = f (1536 + l.val)) (h13 : ∀ l : Fin 128, a13 (ix2 r l) = f (1664 + l.val)) (h14 : ∀ l : Fin 128, a14 (ix2 r l) = f (1792 + l.val)) (h15 : ∀ l : Fin 128, a15 (ix2 r l) = f (1920 + l.val)) :
    (concatenate S1024x2048 1 [⟨S1024x128, a0⟩, ⟨S1024x128, a1⟩, ⟨S1024x128, a2⟩, ⟨S1024x128, a3⟩, ⟨S1024x128, a4⟩, ⟨S1024x128, a5⟩, ⟨S1024x128, a6⟩, ⟨S1024x128, a7⟩, ⟨S1024x128, a8⟩, ⟨S1024x128, a9⟩, ⟨S1024x128, a10⟩, ⟨S1024x128, a11⟩, ⟨S1024x128, a12⟩, ⟨S1024x128, a13⟩, ⟨S1024x128, a14⟩, ⟨S1024x128, a15⟩] concatenates_S1024x128_S1024x128_S1024x128_S1024x128_S1024x128_S1024x128_S1024x128_S1024x128_S1024x128_S1024x128_S1024x128_S1024x128_S1024x128_S1024x128_S1024x128_S1024x128_S1024x2048_d1 (ix2 r x) : EReal) = f x.val := by
  exact whole 2048 r (ix2 r x) rfl f [a0, a1, a2, a3, a4, a5, a6, a7, a8, a9, a10, a11, a12, a13, a14, a15] ⟨fun l => (h0 l).trans (by rw [Nat.zero_add]), h1, h2, h3, h4, h5, h6, h7, h8, h9, h10, h11, h12, h13, h14, h15, trivial⟩ concatenates_S1024x128_S1024x128_S1024x128_S1024x128_S1024x128_S1024x128_S1024x128_S1024x128_S1024x128_S1024x128_S1024x128_S1024x128_S1024x128_S1024x128_S1024x128_S1024x128_S1024x2048_d1

/-- A row of scores, by number. -/
def row {n : ℕ} (w : FVec Ideal ⟨2, ![1024, n]⟩ .f32) (r : Fin 1024) (j : ℕ) : EReal := if h : j < n then w (ix2 r ⟨j, h⟩) else 0
theorem row_eq {n : ℕ} (w : FVec Ideal ⟨2, ![1024, n]⟩ .f32) (r : Fin 1024) (j : ℕ) (h : j < n) : (w (ix2 r ⟨j, h⟩) : EReal) = row w r j := by
  unfold row
  rw [dif_pos h]

end Cert.Kernel10Ideal.Moba
-- ==== Proof.MobaMax.lean ====
/-
  The scores and the largest score of each row.
-/
module

public import proofs.«01_k».proof.Proof.MobaSem
public import Idealize.ShloMosaic.Lib.Pointwise
public import Idealize.ShloMosaic.Lib.WordCmp

@[expose] public section

set_option maxRecDepth 16384
set_option maxHeartbeats 2000000

noncomputable section

namespace Cert.Kernel10Ideal.Moba

open Cert.Kernel10Ideal Cert.Kernel10Ideal.Gen Idealize.ShloMosaic Idealize.ShloMosaic.TcCoe Idealize.SL.Sem Idealize.ShloMosaic.Tactic

theorem all8 (f : Fin 1024 → EReal) (x : EReal) : (∀ j, f j ≤ x) ↔ ∀ l : Fin 128, f ⟨l.val, by have := l.isLt; omega⟩ ≤ x ∧ f ⟨128 + l.val, by have := l.isLt; omega⟩ ≤ x ∧ f ⟨256 + l.val, by have := l.isLt; omega⟩ ≤ x ∧ f ⟨384 + l.val, by have := l.isLt; omega⟩ ≤ x ∧ f ⟨512 + l.val, by have := l.isLt; omega⟩ ≤ x ∧ f ⟨640 + l.val, by have := l.isLt; omega⟩ ≤ x ∧ f ⟨768 + l.val, by have := l.isLt; omega⟩ ≤ x ∧ f ⟨896 + l.val, by have := l.isLt; omega⟩ ≤ x := by
  refine ⟨fun h l => ⟨h _, h _, h _, h _, h _, h _, h _, h _⟩, fun h j => ?_⟩
  have hl : j.val % 128 < 128 := Nat.mod_lt _ (by norm_num)
  obtain ⟨h0, h1, h2, h3, h4, h5, h6, h7⟩ := h ⟨j.val % 128, hl⟩
  have e := Nat.div_add_mod j.val 128
  have hg : j.val / 128 < 8 := by have := j.isLt; omega
  generalize j.val / 128 = g at e hg
  interval_cases g
  exacts [le_of_eq_of_le (congrArg f (Fin.ext (by show j.val = j.val % 128; omega))) h0, le_of_eq_of_le (congrArg f (Fin.ext (by show j.val = 128 + j.val % 128; omega))) h1, le_of_eq_of_le (congrArg f (Fin.ext (by show j.val = 256 + j.val % 128; omega))) h2, le_of_eq_of_le (congrArg f (Fin.ext (by show j.val = 384 + j.val % 128; omega))) h3, le_of_eq_of_le (congrArg f (Fin.ext (by show j.val = 512 + j.val % 128; omega))) h4, le_of_eq_of_le (congrArg f (Fin.ext (by show j.val = 640 + j.val % 128; omega))) h5, le_of_eq_of_le (congrArg f (Fin.ext (by show j.val = 768 + j.val % 128; omega))) h6, le_of_eq_of_le (congrArg f (Fin.ext (by show j.val = 896 + j.val % 128; omega))) h7]

theorem all16 (f : Fin 2048 → EReal) (x : EReal) : (∀ j, f j ≤ x) ↔ ∀ l : Fin 128, f ⟨l.val, by have := l.isLt; omega⟩ ≤ x ∧ f ⟨128 + l.val, by have := l.isLt; omega⟩ ≤ x ∧ f ⟨256 + l.val, by have := l.isLt; omega⟩ ≤ x ∧ f ⟨384 + l.val, by have := l.isLt; omega⟩ ≤ x ∧ f ⟨512 + l.val, by have := l.isLt; omega⟩ ≤ x ∧ f ⟨640 + l.val, by have := l.isLt; omega⟩ ≤ x ∧ f ⟨768 + l.val, by have := l.isLt; omega⟩ ≤ x ∧ f ⟨896 + l.val, by have := l.isLt; omega⟩ ≤ x ∧ f ⟨1024 + l.val, by have := l.isLt; omega⟩ ≤ x ∧ f ⟨1152 + l.val, by have := l.isLt; omega⟩ ≤ x ∧ f ⟨1280 + l.val, by have := l.isLt; omega⟩ ≤ x ∧ f ⟨1408 + l.val, by have := l.isLt; omega⟩ ≤ x ∧ f ⟨1536 + l.val, by have := l.isLt; omega⟩ ≤ x ∧ f ⟨1664 + l.val, by have := l.isLt; omega⟩ ≤ x ∧ f ⟨1792 + l.val, by have := l.isLt; omega⟩ ≤ x ∧ f ⟨1920 + l.val, by have := l.isLt; omega⟩ ≤ x := by
  refine ⟨fun h l => ⟨h _, h _, h _, h _, h _, h _, h _, h _, h _, h _, h _, h _, h _, h _, h _, h _⟩, fun h j => ?_⟩
  have hl : j.val % 128 < 128 := Nat.mod_lt _ (by norm_num)
  obtain ⟨h0, h1, h2, h3, h4, h5, h6, h7, h8, h9, h10, h11, h12, h13, h14, h15⟩ := h ⟨j.val % 128, hl⟩
  have e := Nat.div_add_mod j.val 128
  have hg : j.val / 128 < 16 := by have := j.isLt; omega
  generalize j.val / 128 = g at e hg
  interval_cases g
  exacts [le_of_eq_of_le (congrArg f (Fin.ext (by show j.val = j.val % 128; omega))) h0, le_of_eq_of_le (congrArg f (Fin.ext (by show j.val = 128 + j.val % 128; omega))) h1, le_of_eq_of_le (congrArg f (Fin.ext (by show j.val = 256 + j.val % 128; omega))) h2, le_of_eq_of_le (congrArg f (Fin.ext (by show j.val = 384 + j.val % 128; omega))) h3, le_of_eq_of_le (congrArg f (Fin.ext (by show j.val = 512 + j.val % 128; omega))) h4, le_of_eq_of_le (congrArg f (Fin.ext (by show j.val = 640 + j.val % 128; omega))) h5, le_of_eq_of_le (congrArg f (Fin.ext (by show j.val = 768 + j.val % 128; omega))) h6, le_of_eq_of_le (congrArg f (Fin.ext (by show j.val = 896 + j.val % 128; omega))) h7, le_of_eq_of_le (congrArg f (Fin.ext (by show j.val = 1024 + j.val % 128; omega))) h8, le_of_eq_of_le (congrArg f (Fin.ext (by show j.val = 1152 + j.val % 128; omega))) h9, le_of_eq_of_le (congrArg f (Fin.ext (by show j.val = 1280 + j.val % 128; omega))) h10, le_of_eq_of_le (congrArg f (Fin.ext (by show j.val = 1408 + j.val % 128; omega))) h11, le_of_eq_of_le (congrArg f (Fin.ext (by show j.val = 1536 + j.val % 128; omega))) h12, le_of_eq_of_le (congrArg f (Fin.ext (by show j.val = 1664 + j.val % 128; omega))) h13, le_of_eq_of_le (congrArg f (Fin.ext (by show j.val = 1792 + j.val % 128; omega))) h14, le_of_eq_of_le (congrArg f (Fin.ext (by show j.val = 1920 + j.val % 128; omega))) h15]

theorem own_max (q k : Vec Ideal S1024x256 .bf16) (r : Fin 1024) (x : EReal) :
    (∀ l, (k0_pay136 q k (ix2 r l) : EReal) ≤ x) ↔ ∀ j, (k0_pay135 q k (ix2 r j) : EReal) ≤ x := by
  rw [all8]
  refine forall_congr' fun l => ?_
  pointwise [k0_pay136]
  simp only [max_le_iff, and_assoc]

theorem top_le (p : Vec Ideal S1024x128 .f32) (r : Fin 1024) (l : Fin 128) (x : EReal) :
    (k0_pay138 p (ix2 r l) : EReal) ≤ x ↔ ∀ l, (p (ix2 r l) : EReal) ≤ x := by
  pointwise [k0_pay138]
  rw [Finset.fold_max_le]
  have hb : Ideal.ofBits .f32 0xFF800000#32 = ⊥ := by simp [Ideal.ofBits, Ideal.ieee]
  rw [hb]
  exact ⟨fun h l => h.2 l (Finset.mem_univ l), fun h => ⟨bot_le, fun l _ => h l⟩⟩

theorem wide_score (q : Vec Ideal S1024x256 .bf16) (k : Vec Ideal S2048x256 .bf16) (r : Fin 1024) (j : Fin 2048) :
    (k0_pay62 q k (ix2 r j) : EReal) = ∑ x : Fin 256, q (ix2 r x) * k (ix2 j x) := by
  pointwise [k0_pay61, k0_pay62]

theorem tail_score (q : Vec Ideal S1024x256 .bf16) (k : Vec Ideal S1024x256 .bf16) (r : Fin 1024) (j : Fin 1024) :
    (k0_pay68 q k (ix2 r j) : EReal) = ∑ x : Fin 256, q (ix2 r x) * k (ix2 j x) := by
  pointwise [k0_pay67, k0_pay68]

theorem own_score (q k : Vec Ideal S1024x256 .bf16) (r j : Fin 1024) :
    (k0_pay135 q k (ix2 r j) : EReal) = if j.val ≤ r.val then ∑ x : Fin 256, q (ix2 r x) * k (ix2 j x) else ⊥ := by
  have hn : (Named.named κ "neg_mask" 0xF149F2CA#32 : Ideal .f32) = (⊥ : EReal) := IdealRules.named_const.ideal_named_scalar _ _ _ _ rfl
  have hj := j.isLt
  have hr := r.isLt
  pointwise [k0_pay135]
  rw [hn, WordCmp.cmpi_sle_ofNat (by norm_num; omega) (by norm_num; omega)]
  by_cases h : j.val ≤ r.val
  · rw [if_pos h]
    simp [h, Scalar.select]
  · rw [if_neg h]
    simp [h, Scalar.select]

theorem out_apply (a l : Vec Ideal S1024x128 .f32) (z : Fin 1) (r : Fin 1024) (d : Fin 128) :
    (k0_pay8 a l (ix3 z r d) : EReal) = Ideal.div (a (ix2 r d)) (∑ x : Fin 128, l (ix2 r x)) := by
  pointwise [k0_pay8]

theorem wide_max (q : Vec Ideal S1024x256 .bf16) (k : Vec Ideal S2048x256 .bf16) (p : Vec Ideal S1024x128 .f32) (r : Fin 1024) (x : EReal) :
    (∀ l, (k0_pay63 q k p (ix2 r l) : EReal) ≤ x) ↔ (∀ l, (p (ix2 r l) : EReal) ≤ x) ∧ ∀ j : Fin 2048, (∑ x : Fin 256, q (ix2 r x) * k (ix2 j x) : EReal) ≤ x := by
  rw [all16, ← forall_and]
  refine forall_congr' fun l => ?_
  pointwise [k0_pay61, k0_pay63, k0_pay62]
  simp only [max_le_iff, and_assoc]

theorem tail_max (q k : Vec Ideal S1024x256 .bf16) (off : Fin 2 → ℕ) (p : MaxSt Ideal) (r : Fin 1024) (x : EReal) :
    (∀ l, ((tailMax q k off p).1 (ix2 r l) : EReal) ≤ x) ↔ (∀ l, (p.1 (ix2 r l) : EReal) ≤ x) ∧ ∀ j : Fin 1024, (∑ x : Fin 256, q (ix2 r x) * k (ix2 j x) : EReal) ≤ x := by
  rw [all8, ← forall_and]
  refine forall_congr' fun l => ?_
  unfold tailMax
  dsimp only
  pointwise [k0_pay137, k0_pay64, k0_pay65, k0_pay66, k0_pay67, k0_pay68, k0_pay69, k0_pay70, k0_pay71]
  simp only [max_le_iff, and_assoc]

end Cert.Kernel10Ideal.Moba
-- ==== Proof.MobaMassA.lean ====
/-
  The masses and the weighted values of a point, row by row: its own key blocks.
-/
module

public import proofs.«01_k».proof.Proof.MobaSem
public import Idealize.ShloMosaic.Lib.Pointwise

@[expose] public section

set_option maxRecDepth 16384
set_option maxHeartbeats 2000000

noncomputable section

namespace Cert.Kernel10Ideal.Moba

open Cert.Kernel10Ideal Cert.Kernel10Ideal.Gen Idealize.ShloMosaic Idealize.ShloMosaic.TcCoe Idealize.SL.Sem Idealize.ShloMosaic.Tactic

theorem own_mass (q k : Vec Ideal S1024x256 .bf16) (v : Vec Ideal S1024x128 .bf16) (m : Vec Ideal S1024x128 .f32) (r : Fin 1024) (M : EReal)
    (hM : ∀ l, m (ix2 r l) = M) : (∑ l : Fin 128, (ownSt q k v m).1 (ix2 r l) : EReal) = ∑ j : Fin 1024, wg M (k0_pay135 q k (ix2 r j)) := by
  unfold ownSt
  dsimp only
  generalize k0_pay135 q k = t
  rw [sum8]
  refine Finset.sum_congr rfl fun l _ => ?_
  pointwise [k0_pay139, k0_pay140, k0_pay141, k0_pay142, k0_pay143, k0_pay144, k0_pay145, k0_pay146, k0_pay147, k0_pay148, k0_pay149, k0_pay150, k0_pay151]
  simp only [hM]
  rfl

theorem mm8 (w : FVec Ideal S1024x1024 .f32) (v : Vec Ideal S1024x128 .bf16) (r : Fin 1024) (d : Fin 128) :
    (shapeCast S1024x128 (matmul (φ₂ := .bf16) dot_S1024x1024_S1024x128_S1024x128_1_0_0_1_n_n none (truncf .bf16 w bitsLt_bf16_f32) v (constant S1024x128 .f32 0x00000000#32)) shapeCasts_S1024x128_S1024x128 (ix2 r d) : EReal)
      = ∑ j : Fin 1024, w (ix2 r j) * v (ix2 j d) := by
  pointwise

theorem own_acc (q k : Vec Ideal S1024x256 .bf16) (v : Vec Ideal S1024x128 .bf16) (m : Vec Ideal S1024x128 .f32) (r : Fin 1024) (M : EReal)
    (hM : ∀ l, m (ix2 r l) = M) (d : Fin 128) : ((ownSt q k v m).2 (ix2 r d) : EReal) = ∑ j : Fin 1024, wg M (k0_pay135 q k (ix2 r j)) * v (ix2 j d) := by
  unfold ownSt
  dsimp only
  generalize k0_pay135 q k = t
  unfold k0_pay152
  refine (mm8 _ v r d).trans ?_
  refine Finset.sum_congr rfl fun j _ => congrArg (· * v (ix2 j d)) ?_
  rw [row_eq t r j.val j.isLt]
  exact conc8 _ _ _ _ _ _ _ _ r j (fun j => wg M (row t r j))
    (fun l => by have hl := l.isLt; refine Eq.trans ?_ (congrArg (wg M) (row_eq t r l.val (by omega))); pointwise [k0_pay139, k0_pay140, k0_pay141, k0_pay142, k0_pay143, k0_pay144, k0_pay145, k0_pay146, k0_pay147, k0_pay148, k0_pay149, k0_pay150]; simp only [hM]; first | rfl | (simp only [Nat.zero_add]; rfl))
    (fun l => by have hl := l.isLt; refine Eq.trans ?_ (congrArg (wg M) (row_eq t r (128 + l.val) (by omega))); pointwise [k0_pay139, k0_pay140, k0_pay141, k0_pay142, k0_pay143, k0_pay144, k0_pay145, k0_pay146, k0_pay147, k0_pay148, k0_pay149, k0_pay150]; simp only [hM]; rfl)
    (fun l => by have hl := l.isLt; refine Eq.trans ?_ (congrArg (wg M) (row_eq t r (256 + l.val) (by omega))); pointwise [k0_pay139, k0_pay140, k0_pay141, k0_pay142, k0_pay143, k0_pay144, k0_pay145, k0_pay146, k0_pay147, k0_pay148, k0_pay149, k0_pay150]; simp only [hM]; rfl)
    (fun l => by have hl := l.isLt; refine Eq.trans ?_ (congrArg (wg M) (row_eq t r (384 + l.val) (by omega))); pointwise [k0_pay139, k0_pay140, k0_pay141, k0_pay142, k0_pay143, k0_pay144, k0_pay145, k0_pay146, k0_pay147, k0_pay148, k0_pay149, k0_pay150]; simp only [hM]; rfl)
    (fun l => by have hl := l.isLt; refine Eq.trans ?_ (congrArg (wg M) (row_eq t r (512 + l.val) (by omega))); pointwise [k0_pay139, k0_pay140, k0_pay141, k0_pay142, k0_pay143, k0_pay144, k0_pay145, k0_pay146, k0_pay147, k0_pay148, k0_pay149, k0_pay150]; simp only [hM]; rfl)
    (fun l => by have hl := l.isLt; refine Eq.trans ?_ (congrArg (wg M) (row_eq t r (640 + l.val) (by omega))); pointwise [k0_pay139, k0_pay140, k0_pay141, k0_pay142, k0_pay143, k0_pay144, k0_pay145, k0_pay146, k0_pay147, k0_pay148, k0_pay149, k0_pay150]; simp only [hM]; rfl)
    (fun l => by have hl := l.isLt; refine Eq.trans ?_ (congrArg (wg M) (row_eq t r (768 + l.val) (by omega))); pointwise [k0_pay139, k0_pay140, k0_pay141, k0_pay142, k0_pay143, k0_pay144, k0_pay145, k0_pay146, k0_pay147, k0_pay148, k0_pay149, k0_pay150]; simp only [hM]; rfl)
    (fun l => by have hl := l.isLt; refine Eq.trans ?_ (congrArg (wg M) (row_eq t r (896 + l.val) (by omega))); pointwise [k0_pay139, k0_pay140, k0_pay141, k0_pay142, k0_pay143, k0_pay144, k0_pay145, k0_pay146, k0_pay147, k0_pay148, k0_pay149, k0_pay150]; simp only [hM]; rfl)

end Cert.Kernel10Ideal.Moba
-- ==== Proof.MobaMassB.lean ====
/-
  The masses and the weighted values of a point, row by row: the earlier key blocks.
-/
module

public import proofs.«01_k».proof.Proof.MobaSem
public import Idealize.ShloMosaic.Lib.Pointwise

@[expose] public section

set_option maxRecDepth 16384
set_option maxHeartbeats 2000000

noncomputable section

namespace Cert.Kernel10Ideal.Moba

open Cert.Kernel10Ideal Cert.Kernel10Ideal.Gen Idealize.ShloMosaic Idealize.ShloMosaic.TcCoe Idealize.SL.Sem Idealize.ShloMosaic.Tactic

theorem wide_mass (m : Vec Ideal S1024x128 .f32) (w : Vec Ideal S1024x2048 .f32) (p : Vec Ideal S1024x128 .f32) (r : Fin 1024) (M : EReal)
    (hM : ∀ l, m (ix2 r l) = M) : (∑ l : Fin 128, wideMass m w p (ix2 r l) : EReal) = ∑ l : Fin 128, p (ix2 r l) + ∑ j : Fin 2048, wg M (w (ix2 r j)) := by
  rw [sum16, ← Finset.sum_add_distrib]
  refine Finset.sum_congr rfl fun l _ => ?_
  unfold wideMass
  pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay153]
  simp only [hM]
  rfl

theorem mm16 (w : FVec Ideal S1024x2048 .f32) (v : Vec Ideal S2048x128 .bf16) (p : Vec Ideal S1024x128 .f32) (r : Fin 1024) (d : Fin 128) :
    (k0_pay154 w v p (ix2 r d) : EReal) = p (ix2 r d) + ∑ j : Fin 2048, w (ix2 r j) * v (ix2 j d) := by
  pointwise [k0_pay154]

theorem wide_acc (m : Vec Ideal S1024x128 .f32) (w : Vec Ideal S1024x2048 .f32) (v : Vec Ideal S2048x128 .bf16) (p : Vec Ideal S1024x128 .f32) (r : Fin 1024) (M : EReal)
    (hM : ∀ l, m (ix2 r l) = M) (d : Fin 128) : (k0_pay154 (wideWeights m w) v p (ix2 r d) : EReal) = p (ix2 r d) + ∑ j : Fin 2048, wg M (w (ix2 r j)) * v (ix2 j d) := by
  refine (mm16 _ v p r d).trans (congrArg (p (ix2 r d) + ·) ?_)
  refine Finset.sum_congr rfl fun j _ => congrArg (· * v (ix2 j d)) ?_
  rw [row_eq w r j.val j.isLt]
  unfold wideWeights
  exact conc16 _ _ _ _ _ _ _ _ _ _ _ _ _ _ _ _ r j (fun j => wg M (row w r j))
    (fun l => by have hl := l.isLt; refine Eq.trans ?_ (congrArg (wg M) (row_eq w r l.val (by omega))); pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]; simp only [hM]; first | rfl | (simp only [Nat.zero_add]; rfl))
    (fun l => by have hl := l.isLt; refine Eq.trans ?_ (congrArg (wg M) (row_eq w r (128 + l.val) (by omega))); pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]; simp only [hM]; rfl)
    (fun l => by have hl := l.isLt; refine Eq.trans ?_ (congrArg (wg M) (row_eq w r (256 + l.val) (by omega))); pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]; simp only [hM]; rfl)
    (fun l => by have hl := l.isLt; refine Eq.trans ?_ (congrArg (wg M) (row_eq w r (384 + l.val) (by omega))); pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]; simp only [hM]; rfl)
    (fun l => by have hl := l.isLt; refine Eq.trans ?_ (congrArg (wg M) (row_eq w r (512 + l.val) (by omega))); pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]; simp only [hM]; rfl)
    (fun l => by have hl := l.isLt; refine Eq.trans ?_ (congrArg (wg M) (row_eq w r (640 + l.val) (by omega))); pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]; simp only [hM]; rfl)
    (fun l => by have hl := l.isLt; refine Eq.trans ?_ (congrArg (wg M) (row_eq w r (768 + l.val) (by omega))); pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]; simp only [hM]; rfl)
    (fun l => by have hl := l.isLt; refine Eq.trans ?_ (congrArg (wg M) (row_eq w r (896 + l.val) (by omega))); pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]; simp only [hM]; rfl)
    (fun l => by have hl := l.isLt; refine Eq.trans ?_ (congrArg (wg M) (row_eq w r (1024 + l.val) (by omega))); pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]; simp only [hM]; rfl)
    (fun l => by have hl := l.isLt; refine Eq.trans ?_ (congrArg (wg M) (row_eq w r (1152 + l.val) (by omega))); pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]; simp only [hM]; rfl)
    (fun l => by have hl := l.isLt; refine Eq.trans ?_ (congrArg (wg M) (row_eq w r (1280 + l.val) (by omega))); pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]; simp only [hM]; rfl)
    (fun l => by have hl := l.isLt; refine Eq.trans ?_ (congrArg (wg M) (row_eq w r (1408 + l.val) (by omega))); pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]; simp only [hM]; rfl)
    (fun l => by have hl := l.isLt; refine Eq.trans ?_ (congrArg (wg M) (row_eq w r (1536 + l.val) (by omega))); pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]; simp only [hM]; rfl)
    (fun l => by have hl := l.isLt; refine Eq.trans ?_ (congrArg (wg M) (row_eq w r (1664 + l.val) (by omega))); pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]; simp only [hM]; rfl)
    (fun l => by have hl := l.isLt; refine Eq.trans ?_ (congrArg (wg M) (row_eq w r (1792 + l.val) (by omega))); pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]; simp only [hM]; rfl)
    (fun l => by have hl := l.isLt; refine Eq.trans ?_ (congrArg (wg M) (row_eq w r (1920 + l.val) (by omega))); pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]; simp only [hM]; rfl)

theorem tail_mass (vt : Vec Ideal S1024x128 .bf16) (m : Vec Ideal S1024x128 .f32) (w : Vec Ideal S1024x1024 .f32) (p : SumSt Ideal) (r : Fin 1024) (M : EReal)
    (hM : ∀ l, m (ix2 r l) = M) : (∑ l : Fin 128, (tailSum vt m w p).1 (ix2 r l) : EReal) = ∑ l : Fin 128, p.1 (ix2 r l) + ∑ j : Fin 1024, wg M (w (ix2 r j)) := by
  rw [sum8, ← Finset.sum_add_distrib]
  refine Finset.sum_congr rfl fun l _ => ?_
  unfold tailSum
  dsimp only
  pointwise [k0_pay126, k0_pay127, k0_pay128, k0_pay129, k0_pay130, k0_pay131, k0_pay132, k0_pay133, k0_pay1, k0_pay2, k0_pay3, k0_pay4, k0_pay5, k0_pay6]
  simp only [hM]
  rfl

theorem mm8' (w : FVec Ideal S1024x1024 .f32) (v : Vec Ideal S1024x128 .bf16) (p : FVec Ideal S1024x128 .f32) (r : Fin 1024) (d : Fin 128) :
    (shapeCast S1024x128 (addf p (matmul (φ₂ := .bf16) dot_S1024x1024_S1024x128_S1024x128_1_0_0_1_n_n none (truncf .bf16 w bitsLt_bf16_f32) v (constant S1024x128 .f32 0x00000000#32))) shapeCasts_S1024x128_S1024x128 (ix2 r d) : EReal)
      = p (ix2 r d) + ∑ j : Fin 1024, w (ix2 r j) * v (ix2 j d) := by
  pointwise

theorem tail_acc (vt : Vec Ideal S1024x128 .bf16) (m : Vec Ideal S1024x128 .f32) (w : Vec Ideal S1024x1024 .f32) (p : SumSt Ideal) (r : Fin 1024) (M : EReal)
    (hM : ∀ l, m (ix2 r l) = M) (d : Fin 128) : ((tailSum vt m w p).2 (ix2 r d) : EReal) = p.2 (ix2 r d) + ∑ j : Fin 1024, wg M (w (ix2 r j)) * vt (ix2 j d) := by
  unfold tailSum
  dsimp only
  unfold k0_pay7
  refine (mm8' _ vt p.2 r d).trans (congrArg (p.2 (ix2 r d) + ·) ?_)
  refine Finset.sum_congr rfl fun j _ => congrArg (· * vt (ix2 j d)) ?_
  rw [row_eq w r j.val j.isLt]
  exact conc8 _ _ _ _ _ _ _ _ r j (fun j => wg M (row w r j))
    (fun l => by have hl := l.isLt; refine Eq.trans ?_ (congrArg (wg M) (row_eq w r l.val (by omega))); pointwise [k0_pay1, k0_pay2, k0_pay3, k0_pay4, k0_pay5, k0_pay126, k0_pay127, k0_pay128, k0_pay129, k0_pay130, k0_pay131, k0_pay132, k0_pay133]; simp only [hM]; first | rfl | (simp only [Nat.zero_add]; rfl))
    (fun l => by have hl := l.isLt; refine Eq.trans ?_ (congrArg (wg M) (row_eq w r (128 + l.val) (by omega))); pointwise [k0_pay1, k0_pay2, k0_pay3, k0_pay4, k0_pay5, k0_pay126, k0_pay127, k0_pay128, k0_pay129, k0_pay130, k0_pay131, k0_pay132, k0_pay133]; simp only [hM]; rfl)
    (fun l => by have hl := l.isLt; refine Eq.trans ?_ (congrArg (wg M) (row_eq w r (256 + l.val) (by omega))); pointwise [k0_pay1, k0_pay2, k0_pay3, k0_pay4, k0_pay5, k0_pay126, k0_pay127, k0_pay128, k0_pay129, k0_pay130, k0_pay131, k0_pay132, k0_pay133]; simp only [hM]; rfl)
    (fun l => by have hl := l.isLt; refine Eq.trans ?_ (congrArg (wg M) (row_eq w r (384 + l.val) (by omega))); pointwise [k0_pay1, k0_pay2, k0_pay3, k0_pay4, k0_pay5, k0_pay126, k0_pay127, k0_pay128, k0_pay129, k0_pay130, k0_pay131, k0_pay132, k0_pay133]; simp only [hM]; rfl)
    (fun l => by have hl := l.isLt; refine Eq.trans ?_ (congrArg (wg M) (row_eq w r (512 + l.val) (by omega))); pointwise [k0_pay1, k0_pay2, k0_pay3, k0_pay4, k0_pay5, k0_pay126, k0_pay127, k0_pay128, k0_pay129, k0_pay130, k0_pay131, k0_pay132, k0_pay133]; simp only [hM]; rfl)
    (fun l => by have hl := l.isLt; refine Eq.trans ?_ (congrArg (wg M) (row_eq w r (640 + l.val) (by omega))); pointwise [k0_pay1, k0_pay2, k0_pay3, k0_pay4, k0_pay5, k0_pay126, k0_pay127, k0_pay128, k0_pay129, k0_pay130, k0_pay131, k0_pay132, k0_pay133]; simp only [hM]; rfl)
    (fun l => by have hl := l.isLt; refine Eq.trans ?_ (congrArg (wg M) (row_eq w r (768 + l.val) (by omega))); pointwise [k0_pay1, k0_pay2, k0_pay3, k0_pay4, k0_pay5, k0_pay126, k0_pay127, k0_pay128, k0_pay129, k0_pay130, k0_pay131, k0_pay132, k0_pay133]; simp only [hM]; rfl)
    (fun l => by have hl := l.isLt; refine Eq.trans ?_ (congrArg (wg M) (row_eq w r (896 + l.val) (by omega))); pointwise [k0_pay1, k0_pay2, k0_pay3, k0_pay4, k0_pay5, k0_pay126, k0_pay127, k0_pay128, k0_pay129, k0_pay130, k0_pay131, k0_pay132, k0_pay133]; simp only [hM]; rfl)

end Cert.Kernel10Ideal.Moba
-- ==== Proof.MobaRow.lean ====
/-
  A point's result row by row: the values weighted over the keys up to the end of the point's own blocks.
-/
module

public import proofs.«01_k».proof.Proof.MobaMassA
public import proofs.«01_k».proof.Proof.MobaMassB
public import proofs.«01_k».proof.Proof.MobaMax
public import Idealize.ShloMosaic.Lib.Pointwise
public import Idealize.ShloMosaic.Lib.WordCmp

@[expose] public section

set_option maxRecDepth 16384
set_option maxHeartbeats 2000000

noncomputable section

namespace Cert.Kernel10Ideal.Moba

open Cert.Kernel10Ideal Cert.Kernel10Ideal.Gen Idealize.ShloMosaic Idealize.ShloMosaic.TcCoe Idealize.SL.Sem Idealize.ShloMosaic.Tactic

/-- The score of query `n` and key `j`: keys after the query do not count. -/
def causal (D : ℕ → ℕ → EReal) (n j : ℕ) : EReal := if j ≤ n then D n j else ⊥

/-- The largest of the first `k` scores. -/
def top (Z : ℕ → EReal) (k : ℕ) : EReal := (Finset.range k).sup Z

/-- The weighted values of the first `k` keys. -/
def res (Z : ℕ → EReal) (k : ℕ) (v : ℕ → EReal) : EReal :=
  Ideal.div (∑ j ∈ Finset.range k, wg (top Z k) (Z j) * v j) (∑ j ∈ Finset.range k, wg (top Z k) (Z j))

theorem ld_q (x : Vec Ideal S4096x256 .bf16) (off : Fin 2 → ℕ) (o : ℕ) (h : off = ![o, 0]) (inb) (j : Fin 1024) (c : Fin 256) (hj : o + j.val < 4096) :
    View.ld x (Rect.unit (s := S4096x256) off S1024x256.size inb) (ix2 j c) = x (ix2 ⟨o + j.val, hj⟩ c) := by
  subst h
  refine congrArg x (funext fun a => ?_)
  fin_cases a
  · exact Fin.ext (by show o + 1 * j.val = o + j.val; omega)
  · exact Fin.ext (by show 0 + 1 * c.val = c.val; omega)

theorem ld_w (x : Vec Ideal S4096x256 .bf16) (off : Fin 2 → ℕ) (o : ℕ) (h : off = ![o, 0]) (inb) (j : Fin 2048) (c : Fin 256) (hj : o + j.val < 4096) :
    View.ld x (Rect.unit (s := S4096x256) off S2048x256.size inb) (ix2 j c) = x (ix2 ⟨o + j.val, hj⟩ c) := by
  subst h
  refine congrArg x (funext fun a => ?_)
  fin_cases a
  · exact Fin.ext (by show o + 1 * j.val = o + j.val; omega)
  · exact Fin.ext (by show 0 + 1 * c.val = c.val; omega)

theorem ld_v (x : Vec Ideal S4096x128 .bf16) (off : Fin 2 → ℕ) (o : ℕ) (h : off = ![o, 0]) (inb) (j : Fin 1024) (c : Fin 128) (hj : o + j.val < 4096) :
    View.ld x (Rect.unit (s := S4096x128) off S1024x128.size inb) (ix2 j c) = x (ix2 ⟨o + j.val, hj⟩ c) := by
  subst h
  refine congrArg x (funext fun a => ?_)
  fin_cases a
  · exact Fin.ext (by show o + 1 * j.val = o + j.val; omega)
  · exact Fin.ext (by show 0 + 1 * c.val = c.val; omega)

theorem ld_u (x : Vec Ideal S4096x128 .bf16) (off : Fin 2 → ℕ) (o : ℕ) (h : off = ![o, 0]) (inb) (j : Fin 2048) (c : Fin 128) (hj : o + j.val < 4096) :
    View.ld x (Rect.unit (s := S4096x128) off S2048x128.size inb) (ix2 j c) = x (ix2 ⟨o + j.val, hj⟩ c) := by
  subst h
  refine congrArg x (funext fun a => ?_)
  fin_cases a
  · exact Fin.ext (by show o + 1 * j.val = o + j.val; omega)
  · exact Fin.ext (by show 0 + 1 * c.val = c.val; omega)

theorem trips1 (i : grid0.Coords) : (k0_t1_loop i).trips = (i 2).val / 2 := by
  obtain h | h | h | h := coord i <;> unfold k0_t1_loop <;> rw [h] <;> decide +kernel
theorem trips3 (i : grid0.Coords) : (k0_t3_loop i).trips = (i 2).val / 2 := by
  obtain h | h | h | h := coord i <;> unfold k0_t3_loop <;> rw [h] <;> decide +kernel

theorem off2_eq (i : grid0.Coords) (k : Fin (k0_t1_loop i).trips) : k0_off2 i k = ![0, 0] := by
  have hk : k.val = 0 := by have := k.isLt; have := (k0_t1_abs i).2.1; omega
  unfold k0_off2; rw [hk]; decide +kernel
theorem off3_eq (i : grid0.Coords) (k : Fin (k0_t1_loop i).trips) : k0_off3 i k = ![0, 0] := by
  have hk : k.val = 0 := by have := k.isLt; have := (k0_t1_abs i).2.1; omega
  unfold k0_off3; rw [hk]; decide +kernel
theorem off9_eq (i : grid0.Coords) (k : Fin (k0_t3_loop i).trips) : k0_off9 i k = ![0, 0] := by
  have hk : k.val = 0 := by have := k.isLt; have := (k0_t3_abs i).2.1; omega
  unfold k0_off9; rw [hk]; decide +kernel
theorem off10_eq (i : grid0.Coords) (k : Fin (k0_t3_loop i).trips) : k0_off10 i k = ![0, 0] := by
  have hk : k.val = 0 := by have := k.isLt; have := (k0_t3_abs i).2.1; omega
  unfold k0_off10; rw [hk]; decide +kernel

/-- A window read back from the put it was stored by. -/
theorem ld_put {n : ℕ} (x : Vec Ideal S1024x4096 .f32) (off off' : Fin 2 → ℕ) (h : off' = off) (w : Vec Ideal ⟨2, ![1024, n]⟩ .f32) (inb) :
    View.ld (VecWindow.put x off ![1024, n] w) (Rect.unit (s := S1024x4096) off' ![1024, n] inb) = w := by
  subst h
  exact VecWindow.window_put_same _ _ _ _ _

theorem ld_put_later {n k : ℕ} (x : Vec Ideal S1024x4096 .f32) (off off' : Fin 2 → ℕ) (w : Vec Ideal ⟨2, ![1024, k]⟩ .f32) (inb) (h : off' 1 + n ≤ off 1) :
    View.ld (VecWindow.put x off ![1024, k] w) (Rect.unit (s := S1024x4096) off' ![1024, n] inb) = View.ld x (Rect.unit (s := S1024x4096) off' ![1024, n] inb) :=
  VecWindow.window_put_of_disjoint _ _ _ _ _ _ _ 1 (Or.inl h)

section

variable (i : grid0.Coords) (A : Vec Ideal S4096x256 .bf16) (B : Vec Ideal S4096x128 .bf16) (C : Vec Ideal S4096x256 .bf16) (S0 : Vec Ideal S1024x4096 .f32)
  (D : ℕ → ℕ → EReal) (b : ℕ → ℕ → EReal)

theorem max_none (h : (i 2).val / 2 = 0) : wideMax i A C S0 = (k0_pay136 (ownQ i C) (ownQ i A), S0) := by
  unfold wideMax
  rw [trips1, h]
  rfl

theorem max_one (h : (i 2).val / 2 = 1) : ∃ hk : 0 < (k0_t1_loop i).trips,
    wideMax i A C S0 = maxStep i (ownQ i C) A ⟨0, hk⟩ (k0_pay136 (ownQ i C) (ownQ i A), S0) := by
  have hk : 0 < (k0_t1_loop i).trips := by rw [trips1, h]; exact Nat.one_pos
  refine ⟨hk, ?_⟩
  unfold wideMax
  refine (congrArg (maxLoop i _ _ _) (show (k0_t1_loop i).trips = 0 + 1 by rw [trips1, h])).trans ?_
  rw [maxLoop, dif_pos hk, maxLoop]

theorem sum_none (m : Vec Ideal S1024x128 .f32) (s : Vec Ideal S1024x4096 .f32) (h : (i 2).val / 2 = 0) :
    wideSum i A B C m s = ownSt (ownQ i C) (ownQ i A) (ownV i B) m := by
  unfold wideSum
  rw [trips3, h]
  rfl

theorem sum_one (m : Vec Ideal S1024x128 .f32) (s : Vec Ideal S1024x4096 .f32) (h : (i 2).val / 2 = 1) : ∃ hk : 0 < (k0_t3_loop i).trips,
    wideSum i A B C m s = sumStep i B m s ⟨0, hk⟩ (ownSt (ownQ i C) (ownQ i A) (ownV i B) m) := by
  have hk : 0 < (k0_t3_loop i).trips := by rw [trips3, h]; exact Nat.one_pos
  refine ⟨hk, ?_⟩
  unfold wideSum
  refine (congrArg (sumLoop i _ _ _ _) (show (k0_t3_loop i).trips = 0 + 1 by rw [trips3, h])).trans ?_
  rw [sumLoop, dif_pos hk, sumLoop]

theorem row_lt (r : Fin 1024) : 1024 * (i 2).val + r.val < 4096 := by
  have h : (i 2).val < 4 := (i 2).isLt
  have := r.isLt
  omega

theorem ownQ_apply (X : Vec Ideal S4096x256 .bf16) (r : Fin 1024) (x : Fin 256) : ownQ i X (ix2 r x) = X (ix2 ⟨1024 * (i 2).val + r.val, row_lt i r⟩ x) :=
  ld_q X _ _ (k0_off1_eq i) _ r x (row_lt i r)
theorem ownV_apply (r : Fin 1024) (x : Fin 128) : ownV i B (ix2 r x) = B (ix2 ⟨1024 * (i 2).val + r.val, row_lt i r⟩ x) :=
  ld_v B _ _ (k0_off8_eq i) _ r x (row_lt i r)

variable (hD : ∀ n j : Fin 4096, (∑ x : Fin 256, C (ix2 n x) * A (ix2 j x) : EReal) = D n.val j.val)
  (hB : ∀ (j : Fin 4096) (d : Fin 128), (B (ix2 j d) : EReal) = b j.val d.val)

include hD in
theorem own_sc (r j : Fin 1024) : (k0_pay135 (ownQ i C) (ownQ i A) (ix2 r j) : EReal) = causal D (1024 * (i 2).val + r.val) (1024 * (i 2).val + j.val) := by
  rw [own_score]
  unfold causal
  by_cases h : j.val ≤ r.val
  · rw [if_pos h, if_pos (by omega)]
    refine Eq.trans (Finset.sum_congr rfl fun x _ => ?_) (hD ⟨1024 * (i 2).val + r.val, row_lt i r⟩ ⟨1024 * (i 2).val + j.val, row_lt i j⟩)
    rw [ownQ_apply, ownQ_apply]
  · rw [if_neg h, if_neg (by omega)]

include hD in
theorem wide_sc (h : (i 2).val / 2 = 1) (k) (r : Fin 1024) (j : Fin 2048) :
    (∑ x : Fin 256, ownQ i C (ix2 r x) * wideKeys i A k (ix2 j x) : EReal) = causal D (1024 * (i 2).val + r.val) j.val := by
  have hj := j.isLt
  unfold causal
  rw [if_pos (by omega)]
  refine Eq.trans (Finset.sum_congr rfl fun x _ => ?_) (hD ⟨1024 * (i 2).val + r.val, row_lt i r⟩ ⟨j.val, by omega⟩)
  rw [ownQ_apply, show wideKeys i A k (ix2 j x) = A (ix2 ⟨0 + j.val, by omega⟩ x) from ld_w A _ _ (off2_eq i k) _ j x (by omega)]
  refine congrArg (_ * ·) (congrArg A ?_)
  exact congrArg (fun n => ix2 n x) (Fin.ext (Nat.zero_add _))

include hD in
theorem tail_sc (h : (i 2).val % 2 = 1) (inb) (r j : Fin 1024) :
    (∑ x : Fin 256, ownQ i C (ix2 r x) * View.ld A (Rect.unit (s := S4096x256) (k0_off6 i) S1024x256.size inb) (ix2 j x) : EReal)
      = causal D (1024 * (i 2).val + r.val) (2048 * ((i 2).val / 2) + j.val) := by
  have hj := j.isLt
  have h4 : (i 2).val < 4 := (i 2).isLt
  unfold causal
  rw [if_pos (by omega)]
  refine Eq.trans (Finset.sum_congr rfl fun x _ => ?_) (hD ⟨1024 * (i 2).val + r.val, row_lt i r⟩ ⟨2048 * ((i 2).val / 2) + j.val, by omega⟩)
  rw [ownQ_apply, ld_q A _ _ (off6_eq i) _ j x (by omega)]

/-- The largest score of a row, from the maxima of its lanes. -/
theorem top_eq (p : Vec Ideal S1024x128 .f32) (Z : ℕ → EReal) (k : ℕ) (r : Fin 1024) (h : ∀ x : EReal, (∀ l, (p (ix2 r l) : EReal) ≤ x) ↔ ∀ j < k, Z j ≤ x) (l : Fin 128) :
    (k0_pay138 p (ix2 r l) : EReal) = top Z k := by
  refine eq_of_forall_ge_iff fun x => ((top_le p r l x).trans (h x)).trans ?_
  unfold top
  rw [Finset.sup_le_iff]
  exact ⟨fun h j hj => h j (Finset.mem_range.mp hj), fun h j hj => h j (Finset.mem_range.mpr hj)⟩

theorem sum_shift (n o : ℕ) (f : ℕ → EReal) : ∑ j : Fin n, f (o + j.val) = ∑ j ∈ Finset.range n, f (o + j) := Fin.sum_univ_eq_sum_range (fun j => f (o + j)) n

theorem all_shift (n o : ℕ) (Z : ℕ → EReal) (x : EReal) : (∀ j : Fin n, Z (o + j.val) ≤ x) ↔ ∀ j, o ≤ j → j < o + n → Z j ≤ x := by
  refine ⟨fun h j h1 h2 => ?_, fun h j => h _ (by omega) (by have := j.isLt; omega)⟩
  have e := h ⟨j - o, by omega⟩
  rwa [show o + (j - o) = j by omega] at e

include hD in
theorem own_top (r : Fin 1024) (x : EReal) : (∀ l, (k0_pay136 (ownQ i C) (ownQ i A) (ix2 r l) : EReal) ≤ x) ↔
    ∀ j, 1024 * (i 2).val ≤ j → j < 1024 * (i 2).val + 1024 → causal D (1024 * (i 2).val + r.val) j ≤ x := by
  rw [own_max, ← all_shift 1024 _ (causal D (1024 * (i 2).val + r.val))]
  exact forall_congr' fun j => by rw [own_sc i A C D hD]

include hD in
theorem wide_top (h : (i 2).val / 2 = 1) (r : Fin 1024) (x : EReal) : (∀ l, ((wideMax i A C S0).1 (ix2 r l) : EReal) ≤ x) ↔
    (∀ j, 1024 * (i 2).val ≤ j → j < 1024 * (i 2).val + 1024 → causal D (1024 * (i 2).val + r.val) j ≤ x) ∧ ∀ j, 0 ≤ j → j < 0 + 2048 → causal D (1024 * (i 2).val + r.val) j ≤ x := by
  obtain ⟨hk, e⟩ := max_one i A C S0 h
  rw [e]
  unfold maxStep
  dsimp only
  rw [wide_max, own_top i A C D hD, ← all_shift 2048 0 (causal D (1024 * (i 2).val + r.val))]
  refine and_congr_right' (forall_congr' fun j => ?_)
  rw [wide_sc i A C D hD h, Nat.zero_add]

include hD hB in
theorem own_mass_row (m : Vec Ideal S1024x128 .f32) (r : Fin 1024) (M : EReal) (hM : ∀ l, m (ix2 r l) = M) :
    (∑ l : Fin 128, (ownSt (ownQ i C) (ownQ i A) (ownV i B) m).1 (ix2 r l) : EReal) = ∑ j ∈ Finset.range 1024, wg M (causal D (1024 * (i 2).val + r.val) (1024 * (i 2).val + j)) := by
  rw [own_mass _ _ _ _ r M hM, ← sum_shift 1024 _ (fun j => wg M (causal D (1024 * (i 2).val + r.val) j))]
  exact Finset.sum_congr rfl fun j _ => by rw [own_sc i A C D hD]

include hD hB in
theorem own_acc_row (m : Vec Ideal S1024x128 .f32) (r : Fin 1024) (M : EReal) (hM : ∀ l, m (ix2 r l) = M) (d : Fin 128) :
    ((ownSt (ownQ i C) (ownQ i A) (ownV i B) m).2 (ix2 r d) : EReal)
      = ∑ j ∈ Finset.range 1024, wg M (causal D (1024 * (i 2).val + r.val) (1024 * (i 2).val + j)) * b (1024 * (i 2).val + j) d.val := by
  rw [own_acc _ _ _ _ r M hM, ← sum_shift 1024 _ (fun j => wg M (causal D (1024 * (i 2).val + r.val) j) * b j d.val)]
  exact Finset.sum_congr rfl fun j _ => by rw [own_sc i A C D hD, ownV_apply, hB]

include hD hB in
/-- The sums after a wide trip. -/
theorem wide_row (h : (i 2).val / 2 = 1) (m : Vec Ideal S1024x128 .f32) (s : Vec Ideal S1024x4096 .f32) (r : Fin 1024) (M : EReal) (hM : ∀ l, m (ix2 r l) = M)
    (hs : ∀ k (j : Fin 2048), (wideScores i s k (ix2 r j) : EReal) = causal D (1024 * (i 2).val + r.val) j.val) (d : Fin 128) :
    (∑ l : Fin 128, (wideSum i A B C m s).1 (ix2 r l) : EReal) = ∑ j ∈ Finset.range 1024, wg M (causal D (1024 * (i 2).val + r.val) (1024 * (i 2).val + j))
        + ∑ j ∈ Finset.range 2048, wg M (causal D (1024 * (i 2).val + r.val) j)
      ∧ ((wideSum i A B C m s).2 (ix2 r d) : EReal) = ∑ j ∈ Finset.range 1024, wg M (causal D (1024 * (i 2).val + r.val) (1024 * (i 2).val + j)) * b (1024 * (i 2).val + j) d.val
        + ∑ j ∈ Finset.range 2048, wg M (causal D (1024 * (i 2).val + r.val) j) * b j d.val := by
  obtain ⟨hk, e⟩ := sum_one i A B C m s h
  rw [e]
  unfold sumStep
  dsimp only
  refine ⟨?_, ?_⟩
  · rw [wide_mass _ _ _ r M hM, own_mass_row i A B C D b hD hB _ r M hM, ← Fin.sum_univ_eq_sum_range (fun j => wg M (causal D (1024 * (i 2).val + r.val) j)) 2048]
    exact congrArg (_ + ·) (Finset.sum_congr rfl fun j _ => by rw [hs])
  · rw [wide_acc _ _ _ _ r M hM, own_acc_row i A B C D b hD hB _ r M hM, ← Fin.sum_univ_eq_sum_range (fun j => wg M (causal D (1024 * (i 2).val + r.val) j) * b j d.val) 2048]
    refine congrArg (_ + ·) (Finset.sum_congr rfl fun j _ => ?_)
    have hj := j.isLt
    rw [hs, show wideVals i B ⟨0, hk⟩ (ix2 j d) = B (ix2 ⟨0 + j.val, by omega⟩ d) from ld_u B _ _ (off10_eq i _) _ j d (by omega), hB]
    show _ * b (0 + j.val) d.val = _
    rw [Nat.zero_add]

include hD hB in
/-- The sums of the last four earlier blocks. -/
theorem tail_row (h : (i 2).val % 2 = 1) (inb) (m : Vec Ideal S1024x128 .f32) (w : Vec Ideal S1024x1024 .f32) (p : SumSt Ideal) (r : Fin 1024) (M : EReal) (hM : ∀ l, m (ix2 r l) = M)
    (hw : ∀ j : Fin 1024, (w (ix2 r j) : EReal) = causal D (1024 * (i 2).val + r.val) (2048 * ((i 2).val / 2) + j.val)) (d : Fin 128) :
    (∑ l : Fin 128, (tailSum (View.ld B (Rect.unit (s := S4096x128) (k0_off14 i) S1024x128.size inb)) m w p).1 (ix2 r l) : EReal)
      = ∑ l : Fin 128, p.1 (ix2 r l) + ∑ j ∈ Finset.range 1024, wg M (causal D (1024 * (i 2).val + r.val) (2048 * ((i 2).val / 2) + j))
    ∧ ((tailSum (View.ld B (Rect.unit (s := S4096x128) (k0_off14 i) S1024x128.size inb)) m w p).2 (ix2 r d) : EReal)
      = p.2 (ix2 r d) + ∑ j ∈ Finset.range 1024, wg M (causal D (1024 * (i 2).val + r.val) (2048 * ((i 2).val / 2) + j)) * b (2048 * ((i 2).val / 2) + j) d.val := by
  have h4 : (i 2).val < 4 := (i 2).isLt
  refine ⟨?_, ?_⟩
  · rw [tail_mass _ _ _ _ r M hM, ← sum_shift 1024 _ (fun j => wg M (causal D (1024 * (i 2).val + r.val) j))]
    exact congrArg (_ + ·) (Finset.sum_congr rfl fun j _ => by rw [hw])
  · rw [tail_acc _ _ _ _ r M hM, ← sum_shift 1024 _ (fun j => wg M (causal D (1024 * (i 2).val + r.val) j) * b j d.val)]
    refine congrArg (_ + ·) (Finset.sum_congr rfl fun j _ => ?_)
    have hj := j.isLt
    rw [hw, ld_v B _ _ (off14_eq i) _ j d (by omega), hB]

include hD hB in
/-- The result of an even point. -/
theorem even_row (h : (i 2).val % 2 = 0) (z : Fin 1) (r : Fin 1024) (d : Fin 128) :
    (evenOut i A B C S0 (ix3 z r d) : EReal) = res (causal D (1024 * (i 2).val + r.val)) (1024 * (i 2).val + 1024) (fun j => b j d.val) := by
  have h4 : (i 2).val < 4 := (i 2).isLt
  unfold evenOut
  dsimp only
  rw [out_apply]
  obtain h0 | h2 : (i 2).val = 0 ∨ (i 2).val = 2 := by omega
  · have hh : (i 2).val / 2 = 0 := by omega
    have hM : ∀ l, (k0_pay138 (wideMax i A C S0).1 (ix2 r l) : EReal) = top (causal D (1024 * (i 2).val + r.val)) (1024 * (i 2).val + 1024) := by
      refine top_eq _ _ _ r fun x => ?_
      rw [max_none i A C S0 hh]
      dsimp only
      rw [own_top i A C D hD]
      exact ⟨fun H j hj => H j (by omega) hj, fun H j _ hj => H j hj⟩
    rw [sum_none i A B C _ _ hh, own_mass_row i A B C D b hD hB _ r _ hM, own_acc_row i A B C D b hD hB _ r _ hM]
    unfold res
    rw [h0]
    simp only [Nat.mul_zero, Nat.zero_add]
  · have hh : (i 2).val / 2 = 1 := by omega
    have hM : ∀ l, (k0_pay138 (wideMax i A C S0).1 (ix2 r l) : EReal) = top (causal D (1024 * (i 2).val + r.val)) (1024 * (i 2).val + 1024) := by
      refine top_eq _ _ _ r fun x => ?_
      rw [wide_top i A C S0 D hD hh]
      refine ⟨fun H j hj => ?_, fun H => ⟨fun j _ hj => H j hj, fun j _ hj => H j (by omega)⟩⟩
      by_cases hlt : j < 2048
      · exact H.2 j (Nat.zero_le _) (by omega)
      · exact H.1 j (by omega) hj
    obtain ⟨e1, e2⟩ := wide_row i A B C D b hD hB hh (k0_pay138 (wideMax i A C S0).1) (wideMax i A C S0).2 r _ hM (fun k j => by
      obtain ⟨hk, e⟩ := max_one i A C S0 hh
      rw [e]
      unfold wideScores maxStep
      dsimp only
      refine (congrFun (ld_put (n := 2048) S0 (k0_off3 i ⟨0, hk⟩) (k0_off9 i k) ((off9_eq i k).trans (off3_eq i _).symm) _ _) _).trans ?_
      rw [wide_score, wide_sc i A C D hD hh]) d
    rw [e1, e2]
    unfold res
    rw [show 1024 * (i 2).val + 1024 = 2048 + 1024 by omega, Finset.sum_range_add, Finset.sum_range_add, show 1024 * (i 2).val = 2048 by omega]
    rw [add_comm (∑ j ∈ Finset.range 2048, _), add_comm (∑ j ∈ Finset.range 2048, _)]

include hD hB in
/-- The result of an odd point. -/
theorem odd_row (h : (i 2).val % 2 = 1) (hc2 : k0_cond2 i = 1#1) (hc3 : k0_cond3 i = 1#1) (z : Fin 1) (r : Fin 1024) (d : Fin 128) :
    (oddOut i hc2 hc3 A B C S0 (ix3 z r d) : EReal) = res (causal D (1024 * (i 2).val + r.val)) (1024 * (i 2).val + 1024) (fun j => b j d.val) := by
  have h4 : (i 2).val < 4 := (i 2).isLt
  unfold oddOut
  dsimp only
  rw [out_apply]
  generalize hp : tailMax (ownQ i C) (View.ld A (Rect.unit (s := S4096x256) (k0_off6 i) S1024x256.size (k0_off6_inb i hc2))) (k0_off7 i) (wideMax i A C S0) = p
  have hp2 : p.2 = VecWindow.put (wideMax i A C S0).2 (k0_off7 i) ![1024, 1024] (k0_pay68 (ownQ i C) (View.ld A (Rect.unit (s := S4096x256) (k0_off6 i) S1024x256.size (k0_off6_inb i hc2)))) := by
    rw [← hp]; rfl
  have hw : ∀ j : Fin 1024, (View.ld p.2 (Rect.unit (s := S1024x4096) (k0_off13 i) S1024x1024.size (k0_off13_inb i hc3)) (ix2 r j) : EReal)
      = causal D (1024 * (i 2).val + r.val) (2048 * ((i 2).val / 2) + j.val) := fun j => by
    rw [hp2]
    refine (congrFun (ld_put (n := 1024) _ (k0_off7 i) (k0_off13 i) ((off13_eq i).trans (off7_eq i).symm) _ _) _).trans ?_
    rw [tail_score, tail_sc i A C D hD h]
  have hmax : ∀ x : EReal, (∀ l, (p.1 (ix2 r l) : EReal) ≤ x) ↔ (∀ l, ((wideMax i A C S0).1 (ix2 r l) : EReal) ≤ x)
      ∧ ∀ j, 2048 * ((i 2).val / 2) ≤ j → j < 2048 * ((i 2).val / 2) + 1024 → causal D (1024 * (i 2).val + r.val) j ≤ x := fun x => by
    rw [← hp, tail_max, ← all_shift 1024 _ (causal D (1024 * (i 2).val + r.val))]
    exact and_congr_right' (forall_congr' fun j => by rw [tail_sc i A C D hD h])
  obtain h1 | h3 : (i 2).val = 1 ∨ (i 2).val = 3 := by omega
  · have hh : (i 2).val / 2 = 0 := by omega
    have hM : ∀ l, (k0_pay138 p.1 (ix2 r l) : EReal) = top (causal D (1024 * (i 2).val + r.val)) (1024 * (i 2).val + 1024) := by
      refine top_eq _ _ _ r fun x => ?_
      rw [hmax, max_none i A C S0 hh]
      dsimp only
      rw [own_top i A C D hD]
      refine ⟨fun H j hj => ?_, fun H => ⟨fun j _ hj => H j hj, fun j _ hj => H j (by omega)⟩⟩
      by_cases hlt : j < 1024
      · exact H.2 j (by omega) (by omega)
      · exact H.1 j (by omega) hj
    obtain ⟨e1, e2⟩ := tail_row i A B C D b hD hB h (k0_off14_inb i hc3) (k0_pay138 p.1) _ (wideSum i A B C (k0_pay138 p.1) p.2) r _ hM hw d
    rw [e1, e2, sum_none i A B C _ _ hh, own_mass_row i A B C D b hD hB _ r _ hM, own_acc_row i A B C D b hD hB _ r _ hM]
    unfold res
    rw [hh, show 1024 * (i 2).val + 1024 = 1024 + 1024 by omega, Finset.sum_range_add, Finset.sum_range_add, show 1024 * (i 2).val = 1024 by omega]
    simp only [Nat.mul_zero, Nat.zero_add]
    rw [add_comm (∑ j ∈ Finset.range 1024, wg _ (causal D _ (1024 + j)) * _), add_comm (∑ j ∈ Finset.range 1024, wg _ (causal D _ (1024 + j)))]
  · have hh : (i 2).val / 2 = 1 := by omega
    have hM : ∀ l, (k0_pay138 p.1 (ix2 r l) : EReal) = top (causal D (1024 * (i 2).val + r.val)) (1024 * (i 2).val + 1024) := by
      refine top_eq _ _ _ r fun x => ?_
      rw [hmax, wide_top i A C S0 D hD hh]
      refine ⟨fun H j hj => ?_, fun H => ⟨⟨fun j _ hj => H j hj, fun j _ hj => H j (by omega)⟩, fun j _ hj => H j (by omega)⟩⟩
      by_cases hlt : j < 2048
      · exact H.1.2 j (Nat.zero_le _) (by omega)
      · by_cases hlt' : j < 3072
        · exact H.2 j (by omega) (by omega)
        · exact H.1.1 j (by omega) hj
    obtain ⟨e1, e2⟩ := tail_row i A B C D b hD hB h (k0_off14_inb i hc3) (k0_pay138 p.1) _ (wideSum i A B C (k0_pay138 p.1) p.2) r _ hM hw d
    obtain ⟨e3, e4⟩ := wide_row i A B C D b hD hB hh (k0_pay138 p.1) p.2 r _ hM (fun k j => by
      rw [hp2]
      unfold wideScores
      refine (congrFun (ld_put_later (n := 2048) (k := 1024) _ (k0_off7 i) (k0_off9 i k) _ _ (by rw [off7_eq, off9_eq, hh]; decide)) _).trans ?_
      obtain ⟨hk, e⟩ := max_one i A C S0 hh
      rw [e]
      unfold maxStep
      dsimp only
      refine (congrFun (ld_put (n := 2048) S0 (k0_off3 i ⟨0, hk⟩) (k0_off9 i k) ((off9_eq i k).trans (off3_eq i _).symm) _ _) _).trans ?_
      rw [wide_score, wide_sc i A C D hD hh]) d
    rw [e1, e2, e3, e4]
    unfold res
    rw [hh, show 1024 * (i 2).val + 1024 = 2048 + 1024 + 1024 by omega, Finset.sum_range_add _ (2048 + 1024), Finset.sum_range_add _ (2048 + 1024), Finset.sum_range_add _ 2048, Finset.sum_range_add _ 2048, show 1024 * (i 2).val = 2048 + 1024 by omega]
    simp only [Nat.mul_one]
    refine congrArg₂ Ideal.div ?_ ?_
    · rw [add_comm (∑ j ∈ Finset.range 1024, wg _ (causal D _ (2048 + 1024 + j)) * _), add_assoc, add_comm (∑ j ∈ Finset.range 1024, wg _ (causal D _ (2048 + 1024 + j)) * _), ← add_assoc]
    · rw [add_comm (∑ j ∈ Finset.range 1024, wg _ (causal D _ (2048 + 1024 + j))), add_assoc, add_comm (∑ j ∈ Finset.range 1024, wg _ (causal D _ (2048 + 1024 + j))), ← add_assoc]

end

end Cert.Kernel10Ideal.Moba
-- ==== Proof.MobaGrid.lean ====
/-
  The launch of the block-sparse attention with its values: what a point writes depends on the group's keys, values and
  queries only, the group's later points find those in scratch, and the points' blocks cover the result.
-/
module

public import proofs.«01_k».proof.Proof.MobaRow
public import proofs.«01_k».proof.Proof.MobaIdealFrame
public import Idealize.ShloMosaic.Lib.Pipeline.ValueKit

@[expose] public section

set_option maxRecDepth 16384

noncomputable section

namespace Cert.Kernel10Ideal.Moba

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.Kernel10Ideal Cert.Kernel10Ideal.Gen

local notation "𝕄" => MT nD τ sig Unit (Elt Ideal) ℕ (UR sig nD τ) ℕ

/-- The products of queries and keys, and the values, by number. -/
def prods (A C : Vec Ideal S4096x256 .bf16) (n j : ℕ) : EReal :=
  if h : n < 4096 ∧ j < 4096 then ∑ x : Fin 256, C (ix2 (⟨n, h.1⟩ : Fin 4096) x) * A (ix2 (⟨j, h.2⟩ : Fin 4096) x) else 0
def valAt (B : Vec Ideal S4096x128 .bf16) (j d : ℕ) : EReal :=
  if h : j < 4096 ∧ d < 128 then B (ix2 (⟨j, h.1⟩ : Fin 4096) (⟨d, h.2⟩ : Fin 128)) else 0

/-- What a point writes. -/
def pointRes (i : grid0.Coords) (A : Vec Ideal S4096x256 .bf16) (B : Vec Ideal S4096x128 .bf16) (C : Vec Ideal S4096x256 .bf16) : Vec Ideal S1x1024x128 .bf16 := fun y =>
  res (causal (prods A C) (1024 * (i 2).val + (y (1 : Fin 3)).val)) (1024 * (i 2).val + 1024) (fun j => valAt B j (y (2 : Fin 3)).val)

theorem prods_eq (A C : Vec Ideal S4096x256 .bf16) (n j : Fin 4096) : (∑ x : Fin 256, C (ix2 n x) * A (ix2 j x) : EReal) = prods A C n.val j.val := by
  unfold prods
  rw [dif_pos ⟨n.isLt, j.isLt⟩]
theorem valAt_eq (B : Vec Ideal S4096x128 .bf16) (j : Fin 4096) (d : Fin 128) : (B (ix2 j d) : EReal) = valAt B j.val d.val := by
  unfold valAt
  rw [dif_pos ⟨j.isLt, d.isLt⟩]

theorem even_eq (i : grid0.Coords) (A : Vec Ideal S4096x256 .bf16) (B : Vec Ideal S4096x128 .bf16) (C : Vec Ideal S4096x256 .bf16) (S0 : Vec Ideal S1024x4096 .f32)
    (h : (i 2).val % 2 = 0) : evenOut i A B C S0 = pointRes i A B C := by
  funext y
  idx_vars y
  exact even_row i A B C S0 (prods A C) (valAt B) (prods_eq A C) (valAt_eq B) h _ _ _

theorem odd_eq (i : grid0.Coords) (hc2 : k0_cond2 i = 1#1) (hc3 : k0_cond3 i = 1#1) (A : Vec Ideal S4096x256 .bf16) (B : Vec Ideal S4096x128 .bf16) (C : Vec Ideal S4096x256 .bf16) (S0 : Vec Ideal S1024x4096 .f32)
    (h : (i 2).val % 2 = 1) : oddOut i hc2 hc3 A B C S0 = pointRes i A B C := by
  funext y
  idx_vars y
  exact odd_row i A B C S0 (prods A C) (valAt B) (prods_eq A C) (valAt_eq B) h hc2 hc3 _ _ _

theorem cond1 (i : grid0.Coords) : ((Scalar.cmpi .ne (Scalar.extui (Scalar.cmpi .eq (Scalar.muli 4#32 (BitVec.ofNat 32 (i 2).val)) 0#32) : BitVec 32) 0#32) = 1#1) ↔ (i 2).val = 0 := by
  obtain h | h | h | h := coord i <;> rw [h] <;> decide +kernel
theorem cond2 (i : grid0.Coords) : k0_cond2 i = 1#1 ↔ (i 2).val % 2 = 1 := by
  obtain h | h | h | h := coord i <;> unfold k0_cond2 <;> rw [h] <;> decide +kernel
theorem cond3 (i : grid0.Coords) : k0_cond3 i = 1#1 ↔ (i 2).val % 2 = 1 := by
  obtain h | h | h | h := coord i <;> unfold k0_cond3 <;> rw [h] <;> decide +kernel

/-- A later odd point. -/
theorem later_odd (c : Dev nD) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole)
    (x0 x1 x2 : Vec Ideal S1x4096x128 .f32) (A : Vec Ideal S4096x256 .bf16) (B : Vec Ideal S4096x128 .bf16) (C : Vec Ideal S4096x256 .bf16) (S0 : Vec Ideal S1024x4096 .f32) (h0 : ¬ (i 2).val = 0) (h : (i 2).val % 2 = 1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare A ∗ owns (c : Thread nD τ) arg8 fullShare B ∗ owns (c : Thread nD τ) arg9 fullShare C ∗ (∃ d, owns (c : Thread nD τ) arg10 fullShare d) ∗ (∃ d, owns (c : Thread nD τ) arg11 fullShare d) ∗ (∃ d, owns (c : Thread nD τ) arg12 fullShare d) ∗ owns (c : Thread nD τ) arg13 fullShare S0
        ∗ (iprop(owns (c : Thread nD τ) arg3 fullShare x0 ∗ owns (c : Thread nD τ) arg4 fullShare x1 ∗ owns (c : Thread nD τ) arg5 fullShare x2 ∗ owns (c : Thread nD τ) arg6 fullShare (pointRes i A B C) ∗ owns (c : Thread nD τ) arg7 fullShare A ∗ owns (c : Thread nD τ) arg8 fullShare B ∗ owns (c : Thread nD τ) arg9 fullShare C ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp Idealize.ShloMosaic.frame (wpE (defs₀ (F := Ideal)) Variants.none c none) E (cc0_moba_attn i arg3 harg3 arg4 harg4 arg5 harg5 arg6 harg6 arg7 harg7 arg8 harg8 arg9 harg9 arg10 harg10 arg11 harg11 arg12 harg12 arg13 harg13) K := by
  have e := ((runOdd (F := Ideal) c i arg3 harg3 arg4 harg4 arg5 harg5 arg6 harg6 arg7 harg7 arg8 harg8 arg9 harg9 arg10 harg10 arg11 harg11 arg12 harg12 arg13 harg13 x0 x1 x2 A B C S0 (fun h => h0 ((cond1 i).mp h)) ((cond2 i).mpr h) ((cond3 i).mpr h)).2 E K)
  rw [out_odd, odd_eq i ((cond2 i).mpr h) ((cond3 i).mpr h) A B C S0 h] at e
  exact e

/-- A later even point. -/
theorem later_even (c : Dev nD) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole)
    (x0 x1 x2 : Vec Ideal S1x4096x128 .f32) (A : Vec Ideal S4096x256 .bf16) (B : Vec Ideal S4096x128 .bf16) (C : Vec Ideal S4096x256 .bf16) (S0 : Vec Ideal S1024x4096 .f32) (h0 : ¬ (i 2).val = 0) (h : (i 2).val % 2 = 0) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare A ∗ owns (c : Thread nD τ) arg8 fullShare B ∗ owns (c : Thread nD τ) arg9 fullShare C ∗ (∃ d, owns (c : Thread nD τ) arg10 fullShare d) ∗ (∃ d, owns (c : Thread nD τ) arg11 fullShare d) ∗ (∃ d, owns (c : Thread nD τ) arg12 fullShare d) ∗ owns (c : Thread nD τ) arg13 fullShare S0
        ∗ (iprop(owns (c : Thread nD τ) arg3 fullShare x0 ∗ owns (c : Thread nD τ) arg4 fullShare x1 ∗ owns (c : Thread nD τ) arg5 fullShare x2 ∗ owns (c : Thread nD τ) arg6 fullShare (pointRes i A B C) ∗ owns (c : Thread nD τ) arg7 fullShare A ∗ owns (c : Thread nD τ) arg8 fullShare B ∗ owns (c : Thread nD τ) arg9 fullShare C ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp Idealize.ShloMosaic.frame (wpE (defs₀ (F := Ideal)) Variants.none c none) E (cc0_moba_attn i arg3 harg3 arg4 harg4 arg5 harg5 arg6 harg6 arg7 harg7 arg8 harg8 arg9 harg9 arg10 harg10 arg11 harg11 arg12 harg12 arg13 harg13) K := by
  have e := ((runEven (F := Ideal) c i arg3 harg3 arg4 harg4 arg5 harg5 arg6 harg6 arg7 harg7 arg8 harg8 arg9 harg9 arg10 harg10 arg11 harg11 arg12 harg12 arg13 harg13 x0 x1 x2 A B C S0 (fun h => h0 ((cond1 i).mp h)) (fun h' => by have := (cond2 i).mp h'; omega) (fun h' => by have := (cond3 i).mp h'; omega)).2 E K)
  rw [out_even, even_eq i A B C S0 h] at e
  exact e

/-- A group's first point. -/
theorem first (c : Dev nD) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1024x128 .bf16) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x4096 .f32) (harg13 : arg13.IsWhole)
    (x0 x1 x2 : Vec Ideal S1x4096x128 .f32) (S0 : Vec Ideal S1024x4096 .f32) (h0 : (i 2).val = 0) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare S0
        ∗ (iprop(owns (c : Thread nD τ) arg3 fullShare x0 ∗ owns (c : Thread nD τ) arg4 fullShare x1 ∗ owns (c : Thread nD τ) arg5 fullShare x2 ∗ owns (c : Thread nD τ) arg6 fullShare (pointRes i (keysOf x1) (k0_pay12 x2) (queriesOf x0 x1)) ∗ owns (c : Thread nD τ) arg7 fullShare (keysOf x1) ∗ owns (c : Thread nD τ) arg8 fullShare (k0_pay12 x2) ∗ owns (c : Thread nD τ) arg9 fullShare (queriesOf x0 x1) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp Idealize.ShloMosaic.frame (wpE (defs₀ (F := Ideal)) Variants.none c none) E (cc0_moba_attn i arg3 harg3 arg4 harg4 arg5 harg5 arg6 harg6 arg7 harg7 arg8 harg8 arg9 harg9 arg10 harg10 arg11 harg11 arg12 harg12 arg13 harg13) K := by
  have e := ((runInit (F := Ideal) c i arg3 harg3 arg4 harg4 arg5 harg5 arg6 harg6 arg7 harg7 arg8 harg8 arg9 harg9 arg10 harg10 arg11 harg11 arg12 harg12 arg13 harg13 x0 x1 x2 S0 ((cond1 i).mpr h0) (fun h' => by have := (cond2 i).mp h'; omega) (fun h' => by have := (cond3 i).mp h'; omega)).2 E K)
  rw [out_init, init_keys, init_vals, init_queries, even_eq i _ _ _ S0 (by omega)] at e
  exact e

section

variable (m : (ℓ : Loc nD τ sig) → Buf (Elt Ideal) ℓ) (ρ : Dev nD → PrngReg)

theorem t_lt (t : Fin cfg0.N) : t.val < 256 := lt_of_lt_of_eq t.isLt N_0

/-- The first point of point `n`'s group, and the group's keys, values and queries. -/
def grp (n : ℕ) : Fin cfg0.N := ⟨4 * (n / 4) % 256, lt_of_lt_of_eq (Nat.mod_lt _ (by norm_num)) N_0.symm⟩
def keysAt (c : Dev nD) (n : ℕ) : Vec Ideal S4096x256 .bf16 := keysOf (iblk m c 1 (grp n))
def valsAt (c : Dev nD) (n : ℕ) : Vec Ideal S4096x128 .bf16 := k0_pay12 (iblk m c 2 (grp n))
def queriesAt (c : Dev nD) (n : ℕ) : Vec Ideal S4096x256 .bf16 := queriesOf (iblk m c 0 (grp n)) (iblk m c 1 (grp n))

theorem grp_self (t : Fin cfg0.N) (h : t.val % 4 = 0) : grp t.val = t := by
  have := t_lt t
  exact Fin.ext (by show 4 * (t.val / 4) % 256 = t.val; omega)
theorem grp_succ (n : ℕ) (h : ¬ (n + 1) % 4 = 0) : grp (n + 1) = grp n := by
  exact Fin.ext (by show 4 * ((n + 1) / 4) % 256 = 4 * (n / 4) % 256; omega)

/-- Within a group the first three scratch arrays hold the group's keys, values and queries. -/
def held (c : Dev nD) (n : ℕ) : sProp 𝕄 :=
  iprop(iprop(owns (c : Thread nD τ) (Memref.whole cc0_scratch0) fullShare (keysAt m c n) ∗ owns (c : Thread nD τ) (Memref.whole cc0_scratch1) fullShare (valsAt m c n) ∗ owns (c : Thread nD τ) (Memref.whole cc0_scratch2) fullShare (queriesAt m c n) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r))

def between (c : Dev nD) (n : ℕ) : sProp 𝕄 := if n % 4 = 0 then Pipeline.ΦA spec0 c else held m c n

/-- What point `t` writes. -/
def written (c : Dev nD) (t : Fin cfg0.N) : Vec Ideal S1x1024x128 .bf16 :=
  pointRes (grid0.coords t) (keysAt m c t.val) (valsAt m c t.val) (queriesAt m c t.val)

def valued (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => written m c t
  Φ t := between m c t.val
  q w := Pipeline.shareOf spec0 w
  owed _ := 0

theorem valued_A (c : Dev nD) (w : Fin cfg0.W) : (valued m 0 c).A w = V m c (Pipeline.arrRef spec0 w) := by dsimp only [valued]
theorem valued_Phi (c : Dev nD) (t : Fin (cfg0.N + 1)) : (valued m 0 c).Φ t = between m c t.val := by dsimp only [valued]
theorem valued_after0 (c : Dev nD) (t : Fin cfg0.N) : (valued m 0 c).after 0 t = iblk m c 0 t := by dsimp only [valued]
theorem valued_after1 (c : Dev nD) (t : Fin cfg0.N) : (valued m 0 c).after 1 t = iblk m c 1 t := by dsimp only [valued]
theorem valued_after2 (c : Dev nD) (t : Fin cfg0.N) : (valued m 0 c).after 2 t = iblk m c 2 t := by dsimp only [valued]
theorem valued_after3 (c : Dev nD) (t : Fin cfg0.N) : (valued m 0 c).after 3 t = written m c t := by dsimp only [valued]
theorem valued_before0 (c : Dev nD) (t : Fin cfg0.N) (d) : (valued m 0 c).before 0 t d = iblk m c 0 t :=
  before0_0_of m (valued m 0 c) (valued_A m c 0) (valued_after0 m c) t d
theorem valued_before1 (c : Dev nD) (t : Fin cfg0.N) (d) : (valued m 0 c).before 1 t d = iblk m c 1 t :=
  before0_1_of m (valued m 0 c) (valued_A m c 1) (valued_after1 m c) t d
theorem valued_before2 (c : Dev nD) (t : Fin cfg0.N) (d) : (valued m 0 c).before 2 t d = iblk m c 2 t :=
  before0_2_of m (valued m 0 c) (valued_A m c 2) (valued_after2 m c) t d

theorem third (t : Fin cfg0.N) : ((grid0.coords t) 2).val = t.val % 4 := (by decide +kernel : ∀ t : Fin grid0.N, ((grid0.coords t) 2).val = t.val % 4) t

theorem held_loose (c : Dev nD) (n : ℕ) : held m c n ⊢ (Pipeline.ΦA spec0 c : sProp 𝕄) := by
  unfold held
  rw [scratch_eq]
  iintro ⟨⟨HS0, HS1, HS2, HS3, HS4, HS5, HS6⟩, Hg⟩
  isplitl [HS0 HS1 HS2 HS3 HS4 HS5 HS6]
  · isplitl [HS0]; · iexists _; iexact HS0
    isplitl [HS1]; · iexists _; iexact HS1
    isplitl [HS2]; · iexists _; iexact HS2
    isplitl [HS3]; · iexact HS3
    isplitl [HS4]; · iexact HS4
    isplitl [HS5]; · iexact HS5
    iexact HS6
  iexact Hg

theorem held_next (c : Dev nD) (t : Fin cfg0.N) : held m c t.val ⊢ between m c (t.val + 1) := by
  unfold between
  by_cases h : (t.val + 1) % 4 = 0
  · rw [if_pos h]
    exact held_loose m c _
  · rw [if_neg h]
    unfold held keysAt valsAt queriesAt
    rw [grp_succ t.val h]

/-- A grid point with its values. -/
theorem valued_point (c : Dev nD) (t : Fin cfg0.N) :
    iprop(between m c t.val ∗ (valued m 0 c).owesAt () t.castSucc
      ∗ (∃ d, owns (c : Thread nD τ) (st0_0 t) fullShare ((valued m 0 c).before 0 t d))
      ∗ (∃ d, owns (c : Thread nD τ) (st0_1 t) fullShare ((valued m 0 c).before 1 t d))
      ∗ (∃ d, owns (c : Thread nD τ) (st0_2 t) fullShare ((valued m 0 c).before 2 t d))
      ∗ (∃ d, owns (c : Thread nD τ) (st0_3 t) fullShare ((valued m 0 c).before 3 t d)))
    ⊢ wp Idealize.ShloMosaic.frame (wpE (defs₀ (F := Ideal)) Variants.none c none) Set.univ (bodyAt0 t) (fun _ =>
      iprop(between m c (t.val + 1) ∗ (valued m 0 c).owesAt () t.castSucc
      ∗ owns (c : Thread nD τ) (st0_0 t) fullShare ((valued m 0 c).after 0 t)
      ∗ owns (c : Thread nD τ) (st0_1 t) fullShare ((valued m 0 c).after 1 t)
      ∗ owns (c : Thread nD τ) (st0_2 t) fullShare ((valued m 0 c).after 2 t)
      ∗ owns (c : Thread nD τ) (st0_3 t) fullShare ((valued m 0 c).after 3 t))) := by
  unfold bodyAt0
  simp only [valued_before0, valued_before1, valued_before2]
  rw [valued_after0, valued_after1, valued_after2, valued_after3]
  have h3 := third t
  by_cases h0 : t.val % 4 = 0
  · rw [show between m c t.val = Pipeline.ΦA spec0 c from if_pos h0, scratch_eq]
    iintro ⟨⟨⟨HS0, HS1, HS2, HS3, HS4, HS5, ⟨%S0, HS6⟩⟩, Hg⟩, Ho, ⟨%d0, H0⟩, ⟨%d1, H1⟩, ⟨%d2, H2⟩, ⟨%d3, H3⟩⟩
    iapply first c (grid0.coords t) _ _ _ _ _ _ _ _ _ _ _ _ _ _ _ _ _ _ _ _ _ _ (iblk m c 0 t) (iblk m c 1 t) (iblk m c 2 t) S0 (by omega)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, HS0, HS1, HS2, HS3, HS4, HS5, HS6⟩
    have eK : keysOf (iblk m c 1 t) = keysAt m c t.val := by unfold keysAt; rw [grp_self t h0]
    have eV : k0_pay12 (iblk m c 2 t) = valsAt m c t.val := by unfold valsAt; rw [grp_self t h0]
    have eQ : queriesOf (iblk m c 0 t) (iblk m c 1 t) = queriesAt m c t.val := by unfold queriesAt; rw [grp_self t h0]
    rw [eK, eV, eQ]
    isplitl [HS0 HS1 HS2 HS3 HS4 HS5 HS6 Hg]
    · iapply held_next m c t
      unfold held
      isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    iexact H3
  · by_cases h1 : t.val % 2 = 1
    · rw [show between m c t.val = held m c t.val from if_neg h0]
      unfold held
      iintro ⟨⟨⟨HS0, HS1, HS2, HS3, HS4, HS5, ⟨%S0, HS6⟩⟩, Hg⟩, Ho, ⟨%d0, H0⟩, ⟨%d1, H1⟩, ⟨%d2, H2⟩, ⟨%d3, H3⟩⟩
      iapply later_odd c (grid0.coords t) _ _ _ _ _ _ _ _ _ _ _ _ _ _ _ _ _ _ _ _ _ _ (iblk m c 0 t) (iblk m c 1 t) (iblk m c 2 t) (keysAt m c t.val) (valsAt m c t.val) (queriesAt m c t.val) S0 (by omega) (by omega)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, HS0, HS1, HS2, HS3, HS4, HS5, HS6⟩
      isplitl [HS0 HS1 HS2 HS3 HS4 HS5 HS6 Hg]
      · iapply held_next m c t
        unfold held
        isplitl [HS0 HS1 HS2 HS3 HS4 HS5 HS6]
        · isplitl [HS0]; · iexact HS0
          isplitl [HS1]; · iexact HS1
          isplitl [HS2]; · iexact HS2
          isplitl [HS3]; · iexact HS3
          isplitl [HS4]; · iexact HS4
          isplitl [HS5]; · iexact HS5
          iexact HS6
        iexact Hg
      isplitl [Ho]; · iexact Ho
      isplitl [H0]; · iexact H0
      isplitl [H1]; · iexact H1
      isplitl [H2]; · iexact H2
      iexact H3
    · rw [show between m c t.val = held m c t.val from if_neg h0]
      unfold held
      iintro ⟨⟨⟨HS0, HS1, HS2, HS3, HS4, HS5, ⟨%S0, HS6⟩⟩, Hg⟩, Ho, ⟨%d0, H0⟩, ⟨%d1, H1⟩, ⟨%d2, H2⟩, ⟨%d3, H3⟩⟩
      iapply later_even c (grid0.coords t) _ _ _ _ _ _ _ _ _ _ _ _ _ _ _ _ _ _ _ _ _ _ (iblk m c 0 t) (iblk m c 1 t) (iblk m c 2 t) (keysAt m c t.val) (valsAt m c t.val) (queriesAt m c t.val) S0 (by omega) (by omega)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, HS0, HS1, HS2, HS3, HS4, HS5, HS6⟩
      isplitl [HS0 HS1 HS2 HS3 HS4 HS5 HS6 Hg]
      · iapply held_next m c t
        unfold held
        isplitl [HS0 HS1 HS2 HS3 HS4 HS5 HS6]
        · isplitl [HS0]; · iexact HS0
          isplitl [HS1]; · iexact HS1
          isplitl [HS2]; · iexact HS2
          isplitl [HS3]; · iexact HS3
          isplitl [HS4]; · iexact HS4
          isplitl [HS5]; · iexact HS5
          iexact HS6
        iexact Hg
      isplitl [Ho]; · iexact Ho
      isplitl [H0]; · iexact H0
      isplitl [H1]; · iexact H1
      isplitl [H2]; · iexact H2
      iexact H3

theorem valued_body (c : Dev nD) : Pipeline.BodyObligation (valued m 0 c) (defs₀ (F := Ideal)) Variants.none () Set.univ := fun t => by
  rw [bigSep_W0, bigSep_W0, body_row]
  exact triple_restated (valued_point m c t) rfl .rfl fun _ => .rfl

theorem valued_in (c : Dev nD) : Pipeline.ΦA spec0 c ⊢ (valued m 0 c).Φ 0 := by
  rw [valued_Phi, show between m c ((0 : Fin (cfg0.N + 1)).val) = Pipeline.ΦA spec0 c from if_pos (by simp)]

theorem valued_out (c : Dev nD) : (valued m 0 c).Φ (Fin.last cfg0.N) ⊢ Pipeline.ΦA spec0 c := by
  rw [valued_Phi, show between m c ((Fin.last cfg0.N).val) = Pipeline.ΦA spec0 c from if_pos (by rw [Fin.val_last, show cfg0.N = 256 from N_0])]

set_option backward.isDefEq.respectTransparency.types false in
/-- The launch with its values. -/
theorem valued_run : θ_run defs (onTc (τ := τ) (main (F := Ideal))) (s₀ m ρ) (fun r => (Pipeline.FramePost cfgs (valued m) 0 (V m)) r ∧ r.2.sem = fun _ => 0) :=
  Pipeline.θ_run_frame_track_shared (Q' := _) cfgs (valued m) (0 : Fin 1) launch₀0 defs₀ Variants.none m ρ main
    (hbody := fun c => (valued_body m c).loose) (hq := fun _ _ _ => rfl)
    (howed := fun _ _ => rfl) (V := V m) (hmain := hmain m Variants.none) (hA := valued_A m) (hin := valued_in m) (hout := valued_out m)

theorem result_run : θ_run defs (onTc (τ := τ) (main (F := Ideal))) ⟨m, fun _ => 0, ρ⟩ (fun r => ∀ c : Dev nD,
      r.2.mem ((c.tc : Thread nD τ).loc main_v0) = (valued m 0 c).arrAt 3 cfg0.N
      ∧ r.2.mem ((c.tc : Thread nD τ).loc main_arg0) = m ((c.tc : Thread nD τ).loc main_arg0)) :=
  (θ_run defs _ _).mono (fun _ h c => ⟨(h.1 c).1 3,
    ((h.1 c).1 2).trans (((valued m 0 c).arrAt_in 2 rfl _).trans ((valued_A m c 2).trans (V_main_arg0 m c)))⟩) (valued_run m ρ)

theorem idx : ∀ t : Fin cfg0.N, win0_0.index t = ![t.val / 32, 0, t.val / 4 % 8] ∧ win0_1.index t = ![t.val / 32, 0, 8 + t.val / 4 % 8]
    ∧ win0_2.index t = ![t.val / 32, 0, 16 + t.val / 4 % 8] ∧ win0_3.index t = ![t.val / 32, t.val % 4, t.val / 4 % 8] ∧ ((grid0.coords t) 2).val = t.val % 4 :=
  (by decide +kernel : ∀ t : Fin grid0.N, _)

end

end Cert.Kernel10Ideal.Moba
-- ==== Proof.MobaGate.lean ====
/-
  The markers, the block means, the gates and the rounds of picking at an index: the product of an extended query and an
  extended key is the plain product where the query may look into the key's block, and minus infinity elsewhere.
-/
module

public import proofs.«01_k».proof.Proof.MobaSpec
public import proofs.«01_k».proof.Proof.MobaMax
public import proofs.«01_k».proof.Proof.MobaGrid
public import Idealize.ShloMosaic.Lib.WordCmp

@[expose] public section

set_option maxRecDepth 16384

noncomputable section

namespace Cert.Kernel10Ideal.Moba

open Cert.Kernel10Ideal Cert.Kernel10Ideal.Gen Idealize.ShloMosaic Idealize.ShloMosaic.TcCoe Idealize.SL.Sem Idealize.ShloMosaic.Tactic
open Cert.Stick (sc sc_pos coe_sum exp2_log2e)
open Cert.Moba (Beats rank Hit drop picked_iff dots mean gate Allowed Seen score score_of score_else mu wt wt_of wt_else sup_eq mass mass_pos out)

/-- A word divided by 256, rounded down, as the kernel writes it. -/
def blockWord (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 256#32 0#32)) (Scalar.extui (Scalar.cmpi CmpIPredicate.slt 256#32 0#32))))
      (IntOp.cmpi CmpIPredicate.ne (IntOp.remsi ArithUnit.vector w 256#32) 0#32))
    (IntOp.subi (IntOp.divsi ArithUnit.vector w 256#32) 1#32)
    (IntOp.divsi ArithUnit.vector w 256#32)

theorem blockWord_eq (j : Fin 4096) : blockWord (BitVec.ofNat 32 j.val) = BitVec.ofNat 32 (j.val / 256) := by
  revert j
  decide +kernel

/-- The same with the divisor's sign worked out. -/
def blockWord' (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32))) 1#32)
      (IntOp.cmpi CmpIPredicate.ne (IntOp.remsi ArithUnit.vector w 256#32) 0#32))
    (IntOp.subi (IntOp.divsi ArithUnit.vector w 256#32) 1#32)
    (IntOp.divsi ArithUnit.vector w 256#32)

theorem blockWord'_eq (j : Fin 4096) : blockWord' (BitVec.ofNat 32 j.val) = BitVec.ofNat 32 (j.val / 256) := by
  revert j
  decide +kernel

theorem mask_top : (Named.named κ "mask" 0x7149F2CA#32 : Ideal .f32) = ⊤ := IdealRules.named_const.ideal_named_scalar _ _ _ _ rfl

theorem marker (j : Fin 4096) (e : Fin 128) : (k0_pay11 (F := Ideal) (ix2 j e) : EReal) = if e.val = j.val / 256 then ⊤ else 0 := by
  have := j.isLt
  have := e.isLt
  pointwise [k0_pay11]
  change Scalar.select (IntOp.cmpi .eq (blockWord (BitVec.ofNat 32 j.val)) (BitVec.ofNat 32 e.val)) (Named.named κ "mask" 0x7149F2CA#32 : Ideal .f32) (0 : EReal) = _
  rw [blockWord_eq, WordCmp.cmpi_eq_ofNat (by norm_num; omega) (by norm_num; omega), mask_top]
  by_cases h : j.val / 256 = e.val
  · rw [if_pos h.symm]; simp [h, Scalar.select]
  · rw [if_neg fun h' => h h'.symm]; simp [h, Scalar.select]

theorem member (j : Fin 4096) (e : Fin 128) : (k0_pay13 (F := Ideal) (ix2 e j) : EReal) = if e.val = j.val / 256 then 1 else 0 := by
  have := j.isLt
  have := e.isLt
  pointwise [k0_pay13]
  change Scalar.select (IntOp.cmpi .eq (blockWord (BitVec.ofNat 32 j.val)) (BitVec.ofNat 32 e.val)) (1 : EReal) (0 : EReal) = _
  rw [blockWord_eq, WordCmp.cmpi_eq_ofNat (by norm_num; omega) (by norm_num; omega)]
  by_cases h : j.val / 256 = e.val
  · rw [if_pos h.symm]; simp [h, Scalar.select]
  · rw [if_neg fun h' => h h'.symm]; simp [h, Scalar.select]

theorem sum_block (f : ℕ → ℝ) (e : ℕ) (he : e < 16) :
    ∑ x : Fin 4096, (if e = x.val / 256 then f x.val else 0) = ∑ y : Fin 256, f (256 * e + y.val) := by
  rw [Fin.sum_univ_eq_sum_range (fun x => if e = x / 256 then f x else 0) 4096, Fin.sum_univ_eq_sum_range (fun y => f (256 * e + y)) 256, ← Finset.sum_filter]
  refine Finset.sum_nbij' (fun x => x - 256 * e) (fun y => 256 * e + y) ?_ ?_ ?_ ?_ ?_
  · intro x hx
    simp only [Finset.mem_filter, Finset.mem_range] at hx ⊢
    omega
  · intro y hy
    simp only [Finset.mem_filter, Finset.mem_range] at hy ⊢
    omega
  · intro x hx
    simp only [Finset.mem_filter, Finset.mem_range] at hx
    omega
  · intro y hy
    omega
  · intro x hx
    simp only [Finset.mem_filter, Finset.mem_range] at hx
    exact congrArg f (by omega)

theorem recip256 : Ideal.ofBits .f32 0x3B800000#32 = ((1 / 256 : ℝ) : EReal) := by
  simp [Ideal.ofBits, Ideal.ieee, -EReal.coe_mul]; norm_num

section

variable (q k : ℕ → ℕ → ℝ) (x0 x1 : Vec Ideal S1x4096x128 .f32)
    (hq : ∀ (n : Fin 4096) (x : Fin 128), (x0 (ix3 (0 : Fin 1) n x) : EReal) = ((q n.val x.val : ℝ) : EReal))
    (hk : ∀ (n : Fin 4096) (x : Fin 128), (x1 (ix3 (0 : Fin 1) n x) : EReal) = ((k n.val x.val : ℝ) : EReal))

include hk in
theorem kmean_apply (m : Fin 128) (hm : m.val < 16) (x : Fin 128) : (kmeanV x1 (ix2 m x) : EReal) = ((mean k m.val x.val : ℝ) : EReal) := by
  unfold kmeanV
  pointwise [k0_pay19, k0_pay14, k0_pay15, k0_pay9, k0_pay17, k0_pay18, k0_pay16]
  simp only [hk, member]
  have e0 : ∀ j : Fin 4096, (((k j.val x.val : ℝ) : EReal) - ((k j.val x.val : ℝ) : EReal)) = 0 := fun j => by
    rw [← EReal.coe_sub, sub_self, EReal.coe_zero]
  have e1 : ∀ j : Fin 4096, (if m.val = j.val / 256 then (1 : EReal) else 0) * ((k j.val x.val : ℝ) : EReal)
      = (((if m.val = j.val / 256 then k j.val x.val else 0 : ℝ)) : EReal) := fun j => by
    split
    · rw [one_mul]
    · rw [zero_mul, EReal.coe_zero]
  simp only [e0, e1, mul_zero, sub_self, sub_zero, Finset.sum_const_zero, add_zero]
  rw [coe_sum, sum_block (fun j => k j x.val) m.val hm, recip256, ← EReal.coe_mul]
  unfold mean
  rw [mul_one_div]

theorem num (n : Fin 16) : (FloatOps.sitofp .f32 (BitVec.ofNat 32 n.val) : Ideal .f32) = ((n.val : ℝ) : EReal) := by
  have e : (BitVec.ofNat 32 n.val).toInt = (n.val : ℤ) := by revert n; decide
  show (((((BitVec.ofNat 32 n.val).toInt : ℤ) : ℝ)) : EReal) = _
  rw [e, Int.cast_natCast]

theorem sixteen : Ideal.ofBits .f32 0x41800000#32 = ((16 : ℝ) : EReal) := by
  simp [Ideal.ofBits, Ideal.ieee, -EReal.coe_mul]; norm_num
theorem low : Ideal.ofBits .f32 0xFF800000#32 = ⊥ := by simp [Ideal.ofBits, Ideal.ieee]
theorem high : Ideal.ofBits .f32 0x7F800000#32 = ⊤ := by simp [Ideal.ofBits, Ideal.ieee]

theorem hit_apply (g : FVec Ideal S16x1024 .f32) (r : Fin 1024) (n : Fin 16) :
    ∀ x y : EReal, Scalar.select (hitV g (ix2 n r)) x y = (by classical exact if Hit (fun m => (g (ix2 m r) : EReal)) n then x else y) := by
  classical
  intro x y
  unfold hitV
  pointwise [k0_pay21]
  simp only [num, sixteen, low, high]
  set G : Fin 16 → EReal := fun m => (g (ix2 m r) : EReal) with hG
  set T : EReal := Finset.fold max ⊥ (fun x => (g (ix2 x r) : EReal)) Finset.univ with hT
  have hTle : ∀ c, T ≤ c ↔ ∀ m, G m ≤ c := fun c => by
    rw [hT, Finset.fold_max_le]
    exact ⟨fun h m => h.2 m (Finset.mem_univ m), fun h => ⟨bot_le, fun m _ => h m⟩⟩
  have hsel : ∀ m : Fin 16, Scalar.select (IntOp.andi (BitVec.ofBool (decide ((g (ix2 m r) : EReal) = T))) (BitVec.ofBool (decide (⊥ < T)))) ((m.val : ℝ) : EReal) ((16 : ℝ) : EReal)
      = if G m = T ∧ ⊥ < T then ((m.val : ℝ) : EReal) else ((16 : ℝ) : EReal) := fun m => by
    by_cases h1 : G m = T <;> by_cases h2 : ⊥ < T
    · rw [if_pos ⟨h1, h2⟩]; simp [Scalar.select, IntOp.andi, show (g (ix2 m r) : EReal) = T from h1, h2]
    · rw [if_neg fun h => h2 h.2]; simp [Scalar.select, IntOp.andi, show (g (ix2 m r) : EReal) = T from h1, h2]
    · rw [if_neg fun h => h1 h.1]; simp [Scalar.select, IntOp.andi, show ¬ (g (ix2 m r) : EReal) = T from h1, h2]
    · rw [if_neg fun h => h1 h.1]; simp [Scalar.select, IntOp.andi, show ¬ (g (ix2 m r) : EReal) = T from h1, h2]
  simp only [hsel]
  set I : EReal := Finset.fold min ⊤ (fun m => if G m = T ∧ ⊥ < T then ((m.val : ℝ) : EReal) else ((16 : ℝ) : EReal)) Finset.univ with hI
  have key : ((n.val : ℝ) : EReal) = I ↔ Hit G n := by
    constructor
    · intro h
      have h1 : ∀ m, ((n.val : ℝ) : EReal) ≤ if G m = T ∧ ⊥ < T then ((m.val : ℝ) : EReal) else ((16 : ℝ) : EReal) := fun m =>
        ((Finset.le_fold_min _).mp (le_of_eq h)).2 m (Finset.mem_univ m)
      have h2 := (Finset.fold_min_le _).mp (le_of_eq h.symm)
      rcases h2 with h2 | ⟨m, _, h2⟩
      · exact absurd (top_le_iff.mp h2) (EReal.coe_ne_top _)
      · have hn := n.isLt
        by_cases hm : G m = T ∧ ⊥ < T
        · have h3 := h1 m
          rw [if_pos hm] at h2 h3
          have h4 : (m.val : ℝ) ≤ n.val := EReal.coe_le_coe_iff.mp h2
          have h5 : (n.val : ℝ) ≤ m.val := EReal.coe_le_coe_iff.mp h3
          have e : m = n := Fin.ext (le_antisymm (by exact_mod_cast h4) (by exact_mod_cast h5))
          rw [e] at hm
          refine ⟨by rw [hm.1]; exact hm.2, fun m' => ?_, fun m' h' => ?_⟩
          · rw [hm.1]
            exact (hTle T).mp le_rfl m'
          · have h6 := h1 m'
            rw [if_pos ⟨h'.trans hm.1, hm.2⟩] at h6
            have h7 : (n.val : ℝ) ≤ m'.val := EReal.coe_le_coe_iff.mp h6
            exact Fin.mk_le_mk.mpr (by exact_mod_cast h7)
        · rw [if_neg hm] at h2
          have h4 : (16 : ℝ) ≤ n.val := EReal.coe_le_coe_iff.mp h2
          have h5 : 16 ≤ n.val := by exact_mod_cast h4
          omega
    · rintro ⟨ha, hb, hc⟩
      have e : G n = T := le_antisymm ((hTle T).mp le_rfl n) ((hTle _).mpr hb)
      have ht : ⊥ < T := by rw [← e]; exact ha
      refine le_antisymm ((Finset.le_fold_min _).mpr ⟨le_top, fun m _ => ?_⟩) ((Finset.fold_min_le _).mpr (Or.inr ⟨n, Finset.mem_univ n, ?_⟩))
      · split
        · rename_i hm
          have h6 : n.val ≤ m.val := hc m (hm.1.trans e.symm)
          exact EReal.coe_le_coe_iff.mpr (by exact_mod_cast h6)
        · have hn := n.isLt
          exact EReal.coe_le_coe_iff.mpr (by exact_mod_cast hn.le)
      · rw [if_pos ⟨e, ht⟩]
  by_cases h : Hit G n
  · rw [if_pos h]
    exact if_pos (key.mpr h)
  · rw [if_neg h]
    exact if_neg fun e => h (key.mp e)

theorem drop_apply (g : FVec Ideal S16x1024 .f32) (r : Fin 1024) (n : Fin 16) : (dropV g (ix2 n r) : EReal) = drop (fun m => (g (ix2 m r) : EReal)) n := by
  classical
  unfold dropV drop
  show Scalar.select (hitV g (ix2 n r)) (Ideal.ofBits .f32 0xFF800000#32) (g (ix2 n r) : EReal) = _
  rw [hit_apply, low]

theorem picked_apply (g : FVec Ideal S16x1024 .f32) (r : Fin 1024) (n : Fin 16) : (pickedV g (ix2 n r) : EReal)
    = (by classical exact if ⊥ < (g (ix2 n r) : EReal) ∧ rank (fun m => (g (ix2 m r) : EReal)) n < 3 then 1 else 0) := by
  classical
  have h1 : Ideal.ofBits .f32 0x3F800000#32 = 1 := by
    rw [show (1 : EReal) = ((1 : ℝ) : EReal) from rfl]
    simp [Ideal.ofBits, Ideal.ieee, -EReal.coe_mul]; norm_num
  have h0 : Ideal.ofBits .f32 0x00000000#32 = 0 := by simp
  unfold pickedV
  show Scalar.select (hitV (dropV (dropV g)) (ix2 n r)) (Ideal.ofBits .f32 0x3F800000#32)
    (Scalar.select (hitV (dropV g) (ix2 n r)) (Ideal.ofBits .f32 0x3F800000#32)
      (Scalar.select (hitV g (ix2 n r)) (Ideal.ofBits .f32 0x3F800000#32) (Ideal.ofBits .f32 0x00000000#32))) = _
  rw [hit_apply, hit_apply, hit_apply, h1, h0]
  have e1 : (fun m => (dropV g (ix2 m r) : EReal)) = drop (fun m => (g (ix2 m r) : EReal)) := funext fun m => drop_apply g r m
  have e2 : (fun m => (dropV (dropV g) (ix2 m r) : EReal)) = drop (drop (fun m => (g (ix2 m r) : EReal))) := by
    funext m
    rw [drop_apply, e1]
  rw [e1, e2]
  have hp := picked_iff (fun m => (g (ix2 m r) : EReal)) n
  by_cases a : Hit (drop (drop (fun m => (g (ix2 m r) : EReal)))) n
  · rw [if_pos a, if_pos (hp.mp (Or.inr (Or.inr a)))]
  · rw [if_neg a]
    by_cases b : Hit (drop (fun m => (g (ix2 m r) : EReal))) n
    · rw [if_pos b, if_pos (hp.mp (Or.inr (Or.inl b)))]
    · rw [if_neg b]
      by_cases c : Hit (fun m => (g (ix2 m r) : EReal)) n
      · rw [if_pos c, if_pos (hp.mp (Or.inl c))]
      · rw [if_neg c, if_neg fun h => (hp.mpr h).elim c fun h => h.elim b a]

theorem rowWord (r : Fin 1024) (n : Fin 16) : runInit.sl.v342 (ix2 n r) = BitVec.ofNat 32 (r.val / 256) := by
  have e : runInit.sl.v342 (ix2 n r) = blockWord' (BitVec.ofNat 32 r.val) := by
    unfold runInit.sl.v342 runInit.sl.v341 runInit.sl.v338 runInit.sl.v334 runInit.sl.v333 runInit.sl.v326 runInit.sl.v323 runInit.sl.v321 runInit.sl.v319 runInit.sl.v318
    pointwise
    rfl
  rw [e]
  exact blockWord'_eq ⟨r.val, by have := r.isLt; omega⟩

theorem own_apply (t : Fin 4) (r : Fin 1024) (n : Fin 16) : ownBlk (BitVec.ofNat 32 (4 * t.val)) (ix2 n r) = BitVec.ofNat 32 ((1024 * t.val + r.val) / 256) := by
  unfold ownBlk
  show IntOp.addi (BitVec.ofNat 32 (4 * t.val)) (runInit.sl.v342 (ix2 n r)) = _
  rw [rowWord]
  show BitVec.ofNat 32 (4 * t.val) + BitVec.ofNat 32 (r.val / 256) = _
  rw [← BitVec.ofNat_add]
  congr 1
  omega

theorem blkRow_apply (n : Fin 16) (r : Fin 1024) : blkRow (ix2 n r) = BitVec.ofNat 32 n.val := by
  unfold blkRow
  pointwise

include hk in
theorem gate_apply (t : Fin 4) (r : Fin 1024) (n : Fin 16) (qt : Vec Ideal S1x1024x128 .f32)
    (hqt : ∀ x : Fin 128, (qt (ix3 (0 : Fin 1) r x) : EReal) = ((q (1024 * t.val + r.val) x.val : ℝ) : EReal)) :
    (k0_pay23 (kmeanV x1) blkRow (ownBlk (BitVec.ofNat 32 (4 * t.val))) qt (ix2 n r) : EReal) = gate q k (1024 * t.val + r.val) n := by
  have hr := r.isLt
  have ht := t.isLt
  have hn := n.isLt
  pointwise [k0_pay23]
  rw [blkRow_apply, own_apply, WordCmp.cmpi_slt_ofNat (by norm_num; omega) (by norm_num; omega), low]
  simp only [hqt]
  have e : ∀ x : Fin 128, (kmeanV x1 (ix2 (⟨n.val, by omega⟩ : Fin 128) x) : EReal) = ((mean k n.val x.val : ℝ) : EReal) := fun x =>
    kmean_apply k x1 hk ⟨n.val, by omega⟩ hn x
  simp only [e]
  simp only [← EReal.coe_sub, sub_self, EReal.coe_zero, mul_zero, zero_mul, Finset.sum_const_zero, add_zero, ← EReal.coe_mul]
  rw [coe_sum]
  unfold gate
  by_cases h : n.val < (1024 * t.val + r.val) / 256
  · rw [if_pos h]
    simp only [h, decide_true, BitVec.ofBool_true, Scalar.select]
    simp only [mul_comm]
    simp
  · rw [if_neg h]
    simp [h, Scalar.select]

theorem gate_pos (n : ℕ) (m : Fin 16) : ⊥ < gate q k n m ↔ m.val < n / 256 := by
  unfold gate
  split
  · rename_i h
    exact ⟨fun _ => h, fun _ => EReal.bot_lt_coe _⟩
  · rename_i h
    exact ⟨fun h' => absurd h' (lt_irrefl _), fun h' => absurd h' h⟩

include hk in
theorem tile_apply (t : Fin 4) (r : Fin 1024) (e : Fin 128) (he : e.val < 16) (qt : Vec Ideal S1x1024x128 .f32)
    (hqt : ∀ x : Fin 128, (qt (ix3 (0 : Fin 1) r x) : EReal) = ((q (1024 * t.val + r.val) x.val : ℝ) : EReal)) :
    (tileV (kmeanV x1) (ownBlk (BitVec.ofNat 32 (4 * t.val))) qt (ix2 r e) : EReal)
      = (by classical exact if Allowed q k (1024 * t.val + r.val) e.val then 0 else -1) := by
  classical
  have hr := r.isLt
  have ht := t.isLt
  unfold tileV colsV
  pointwise
  rw [dif_pos he, blkRow_apply, own_apply, WordCmp.cmpi_eq_ofNat (by norm_num; omega) (by norm_num; omega), picked_apply]
  have eg : (fun m : Fin 16 => (k0_pay23 (kmeanV x1) blkRow (ownBlk (BitVec.ofNat 32 (4 * t.val))) qt (ix2 m r) : EReal)) = gate q k (1024 * t.val + r.val) :=
    funext fun m => gate_apply q k x1 hk t r m qt hqt
  rw [eg, gate_apply q k x1 hk t r _ qt hqt]
  have one_sub : (1 : EReal) - 1 = 0 := by
    rw [show (1 : EReal) = ((1 : ℝ) : EReal) from rfl, ← EReal.coe_sub, sub_self, EReal.coe_zero]
  have zero_sub_one : (0 : EReal) - 1 = -1 := zero_sub 1
  by_cases a : e.val = (1024 * t.val + r.val) / 256
  · rw [if_pos (show Allowed q k (1024 * t.val + r.val) e.val from Or.inl a)]
    simp only [a, decide_true, BitVec.ofBool_true, Scalar.select]
    simp [one_sub]
  · have hs : ∀ y z : EReal, Scalar.select (BitVec.ofBool (decide (e.val = (1024 * t.val + r.val) / 256))) y z = z := fun y z => by
      simp [a, Scalar.select]
    refine (congrArg (fun z : EReal => z - 1) (hs _ _)).trans ?_
    by_cases b : e.val < (1024 * t.val + r.val) / 256 ∧ rank (gate q k (1024 * t.val + r.val)) ⟨e.val, he⟩ < 3
    · rw [if_pos ⟨(gate_pos q k _ _).mpr b.1, b.2⟩, if_pos (show Allowed q k (1024 * t.val + r.val) e.val from Or.inr ⟨he, b⟩), one_sub]
    · rw [if_neg (fun h => b ⟨(gate_pos q k _ _).mp h.1, h.2⟩), if_neg (show ¬ Allowed q k (1024 * t.val + r.val) e.val from fun h => h.elim a fun h => b h.2), zero_sub_one]

theorem ld_tile (x : Vec Ideal S1x4096x128 .f32) (o : ℕ) (inb) (r : Fin 1024) (c : Fin 128) (hj : o + r.val < 4096) :
    View.ld x (Rect.unit (s := S1x4096x128) ![0, o, 0] S1x1024x128.size inb) (ix3 (0 : Fin 1) r c) = x (ix3 (0 : Fin 1) ⟨o + r.val, hj⟩ c) := by
  refine congrArg x (funext fun a => Fin.ext ?_)
  match a with
  | ⟨0, _⟩ => rfl
  | ⟨1, _⟩ => show o + 1 * r.val = o + r.val; omega
  | ⟨2, _⟩ => show 0 + 1 * c.val = c.val; omega

include hq hk in
theorem tile_at (t : Fin 4) (r : Fin 1024) (n : Fin 4096) (hn : n.val = 1024 * t.val + r.val) (o : ℕ) (ho : o = 1024 * t.val) (inb) (e : Fin 128) (he : e.val < 16) :
    (tileV (kmeanV x1) (ownBlk (BitVec.ofNat 32 (4 * t.val))) (View.ld x0 (Rect.unit (s := S1x4096x128) ![0, o, 0] S1x1024x128.size inb)) (ix2 r e) : EReal)
      = (by classical exact if Allowed q k n.val e.val then 0 else -1) := by
  have hlt := n.isLt
  rw [hn]
  refine tile_apply q k x1 hk t r e he _ fun x => ?_
  rw [ld_tile x0 o inb r x (by omega), hq]
  subst ho
  rfl

include hq hk in
/-- The extra columns of the queries. -/
theorem extra_apply (n : Fin 4096) (e : Fin 128) (he : e.val < 16) :
    (queriesOf x0 x1 (ix2 n (⟨128 + e.val, by omega⟩ : Fin 256)) : EReal) = (by classical exact if Allowed q k n.val e.val then 0 else -1) := by
  have hn := n.isLt
  have h1 : ¬ 128 + e.val < 128 := by omega
  have ee : (⟨128 + e.val - 128, by omega⟩ : Fin 128) = e := Fin.ext (by show 128 + e.val - 128 = e.val; omega)
  unfold queriesOf
  refine (dif_neg h1).trans ?_
  have st : ∀ t0 t1 t2 t3 : Vec Ideal S1024x128 .bf16, (stacked t0 t1 t2 t3 (ix2 n (⟨128 + e.val - 128, by omega⟩ : Fin 128)) : EReal) = stacked t0 t1 t2 t3 (ix2 n e) :=
    fun t0 t1 t2 t3 => by rw [ee]
  refine (st _ _ _ _).trans ?_
  by_cases a : n.val < 1024
  · refine (dif_pos a).trans ?_
    exact tile_at q k x0 x1 hq hk 0 ⟨n.val, a⟩ n (by show n.val = 1024 * 0 + n.val; omega) 0 rfl _ e he
  refine (dif_neg a).trans ?_
  by_cases b : n.val < 2048
  · refine (dif_pos b).trans ?_
    exact tile_at q k x0 x1 hq hk 1 ⟨n.val - 1024, by omega⟩ n (by show n.val = 1024 * 1 + (n.val - 1024); omega) 1024 rfl _ e he
  refine (dif_neg b).trans ?_
  by_cases c : n.val < 3072
  · refine (dif_pos c).trans ?_
    exact tile_at q k x0 x1 hq hk 2 ⟨n.val - 2048, by omega⟩ n (by show n.val = 1024 * 2 + (n.val - 2048); omega) 2048 rfl _ e he
  refine (dif_neg c).trans ?_
  exact tile_at q k x0 x1 hq hk 3 ⟨n.val - 3072, by omega⟩ n (by show n.val = 1024 * 3 + (n.val - 3072); omega) 3072 rfl _ e he

include hq in
theorem plain_query (n : Fin 4096) (x : Fin 128) : (queriesOf x0 x1 (ix2 n (⟨x.val, by omega⟩ : Fin 256)) : EReal) = ((q n.val x.val : ℝ) : EReal) := by
  unfold queriesOf
  refine (dif_pos (show x.val < 128 from x.isLt)).trans ?_
  rw [← hq]
  pointwise [k0_pay20]

include hk in
theorem plain_key (n : Fin 4096) (x : Fin 128) : (keysOf x1 (ix2 n (⟨x.val, by omega⟩ : Fin 256)) : EReal) = ((k n.val x.val : ℝ) : EReal) := by
  unfold keysOf
  refine (dif_pos (show x.val < 128 from x.isLt)).trans ?_
  rw [← hk]
  pointwise [k0_pay10, k0_pay9]

theorem extra_key (j : Fin 4096) (e : Fin 128) : (keysOf x1 (ix2 j (⟨128 + e.val, by omega⟩ : Fin 256)) : EReal) = if e.val = j.val / 256 then ⊤ else 0 := by
  have h1 : ¬ 128 + e.val < 128 := by omega
  have ee : (⟨128 + e.val - 128, by omega⟩ : Fin 128) = e := Fin.ext (by show 128 + e.val - 128 = e.val; omega)
  unfold keysOf
  refine (dif_neg h1).trans ?_
  refine (congrArg (fun d : Fin 128 => ((k0_pay11 (F := Ideal)) (ix2 j d) : EReal)) ee).trans ?_
  exact marker j e

include hq hk in
/-- THE SCORES: the plain product where the query may look into the key's block, minus infinity elsewhere. -/
theorem prods_apply (n j : Fin 4096) : prods (keysOf x1) (queriesOf x0 x1) n.val j.val
    = (by classical exact if Allowed q k n.val (j.val / 256) then (dots q k n.val j.val : EReal) else ⊥) := by
  classical
  have hj := j.isLt
  rw [← prods_eq]
  refine (Fin.sum_univ_add (a := 128) (b := 128) (fun x : Fin (128 + 128) =>
    (queriesOf x0 x1 (ix2 n (x : Fin 256)) : EReal) * (keysOf x1 (ix2 j (x : Fin 256)) : EReal))).trans ?_
  have e1 : ∑ x : Fin 128, (queriesOf x0 x1 (ix2 n ((Fin.castAdd 128 x : Fin (128 + 128)) : Fin 256)) : EReal) * (keysOf x1 (ix2 j ((Fin.castAdd 128 x : Fin (128 + 128)) : Fin 256)) : EReal)
      = (dots q k n.val j.val : EReal) := by
    unfold dots
    rw [← coe_sum]
    refine Finset.sum_congr rfl fun x _ => ?_
    rw [EReal.coe_mul, ← plain_query q x0 x1 hq n x, ← plain_key k x1 hk j x]
    rfl
  have e2 : ∑ e : Fin 128, (queriesOf x0 x1 (ix2 n ((Fin.natAdd 128 e : Fin (128 + 128)) : Fin 256)) : EReal) * (keysOf x1 (ix2 j ((Fin.natAdd 128 e : Fin (128 + 128)) : Fin 256)) : EReal)
      = if Allowed q k n.val (j.val / 256) then 0 else ⊥ := by
    refine (Finset.sum_eq_single (⟨j.val / 256, by omega⟩ : Fin 128) ?_ ?_).trans ?_
    · intro e _ hne
      refine (congrArg (fun z : EReal => _ * z) ((extra_key x1 j e).trans (if_neg fun h => hne (Fin.ext h)))).trans ?_
      exact mul_zero _
    · intro h
      exact absurd (Finset.mem_univ _) h
    · refine (congrArg₂ (fun y z : EReal => y * z) (extra_apply q k x0 x1 hq hk n ⟨j.val / 256, by omega⟩ (by show j.val / 256 < 16; omega))
        ((extra_key x1 j ⟨j.val / 256, by omega⟩).trans (if_pos rfl))).trans ?_
      show (if Allowed q k n.val (j.val / 256) then (0 : EReal) else -1) * ⊤ = _
      split
      · exact zero_mul _
      · rw [neg_mul, one_mul]
        rfl
  refine (congrArg₂ (fun y z : EReal => y + z) e1 e2).trans ?_
  show (dots q k n.val j.val : EReal) + (if Allowed q k n.val (j.val / 256) then (0 : EReal) else ⊥) = _
  split
  · exact add_zero _
  · exact EReal.add_bot _

end

end Cert.Kernel10Ideal.Moba

end
-- ==== Proof.MobaSoft.lean ====
/-
  A row of the kernel's result is the weighted mean of the values the query sees.
-/
module

public import proofs.«01_k».proof.Proof.MobaSpec
public import proofs.«01_k».proof.Proof.MobaRow

@[expose] public section

set_option maxRecDepth 16384

noncomputable section

namespace Cert.Kernel10Ideal.Moba

open Cert.Kernel10Ideal Cert.Kernel10Ideal.Gen Idealize.ShloMosaic Idealize.ShloMosaic.TcCoe Idealize.SL.Sem Idealize.ShloMosaic.Tactic
open Cert.Stick (sc sc_pos coe_sum exp2_log2e)
open Cert.Moba (dots Allowed Seen score score_of score_else mu wt wt_of wt_else sup_eq mass mass_pos out)

variable (q k : ℕ → ℕ → ℝ)

theorem scale_real : (Named.named κ "scale_log2e" 0x3E0293EE#32 : Ideal .f32) = (((Real.sqrt 128)⁻¹ * (Real.log 2)⁻¹ : ℝ) : EReal) :=
  IdealRules.named_const.ideal_named_scalar _ _ _ _ rfl

theorem wg_eq (n j : ℕ) : wg (mu q k n : EReal) (score q k n j) = ((wt q k n j : ℝ) : EReal) := by
  unfold wg
  rw [scale_real]
  by_cases h : Seen q k n j
  · rw [score_of q k n j h, wt_of q k n j h, ← EReal.coe_sub, ← EReal.coe_mul, ← mul_assoc]
    exact exp2_log2e ((dots q k n j - mu q k n) * sc)
  · have hp : (0 : ℝ) < (Real.sqrt 128)⁻¹ * (Real.log 2)⁻¹ := by
      have := Real.log_pos (show (1 : ℝ) < 2 by norm_num)
      positivity
    rw [score_else q k n j h, wt_else q k n j h, EReal.bot_sub, EReal.bot_mul_coe_of_pos hp, EReal.coe_zero]
    rfl

theorem res_eq (D : ℕ → ℕ → EReal) (n kk : ℕ) (hn : n < kk) (hk : kk ≤ 4096) (v : ℕ → EReal)
    (hD : ∀ j, j < 4096 → D n j = (by classical exact if Allowed q k n (j / 256) then (dots q k n j : EReal) else ⊥)) :
    res (causal D n) kk v = out q k v n := by
  classical
  have hn' : n < 4096 := by omega
  have hZ : ∀ j, j < 4096 → causal D n j = score q k n j := fun j hj => by
    unfold causal
    by_cases h : j ≤ n
    · rw [if_pos h, hD j hj]
      by_cases a : Allowed q k n (j / 256)
      · rw [if_pos a, score_of q k n j ⟨a, h⟩]
      · rw [if_neg a, score_else q k n j fun hs => a hs.1]
    · rw [if_neg h, score_else q k n j fun hs => h hs.2]
  have htop : top (causal D n) kk = (mu q k n : EReal) := by
    unfold top
    rw [← sup_eq q k n hn']
    refine le_antisymm (Finset.sup_le fun j hj => ?_) (Finset.sup_le fun j hj => ?_)
    · have hj' := Finset.mem_range.mp hj
      rw [hZ j (by omega)]
      exact Finset.le_sup (f := score q k n) (Finset.mem_range.mpr (by omega))
    · have hj' := Finset.mem_range.mp hj
      by_cases h : j < kk
      · rw [← hZ j hj']
        exact Finset.le_sup (f := causal D n) (Finset.mem_range.mpr h)
      · rw [score_else q k n j fun hs => h (by have := hs.2; omega)]
        exact bot_le
  have hw : ∀ j ∈ Finset.range kk, wg (top (causal D n) kk) (causal D n j) = ((wt q k n j : ℝ) : EReal) := fun j hj => by
    have hj' := Finset.mem_range.mp hj
    rw [htop, hZ j (by omega), wg_eq]
  have hsub : Finset.range kk ⊆ Finset.range 4096 := fun j hj => Finset.mem_range.mpr (lt_of_lt_of_le (Finset.mem_range.mp hj) hk)
  have hz : ∀ j, j ∉ Finset.range kk → wt q k n j = 0 := fun j hj =>
    wt_else q k n j fun hs => hj (Finset.mem_range.mpr (by have := hs.2; omega))
  unfold res out
  rw [Finset.sum_congr rfl hw, coe_sum, Finset.sum_congr rfl fun j hj => congrArg (fun z : EReal => z * v j) (hw j hj),
    Finset.sum_subset hsub fun j _ hj => hz j hj,
    Finset.sum_subset hsub fun j _ hj => by rw [hz j hj, EReal.coe_zero, zero_mul]]
  have hm := mass_pos q k n hn'
  unfold mass at hm ⊢
  rw [Ideal.div_coe hm.ne']

end Cert.Kernel10Ideal.Moba

end
-- ==== Proof.MobaFinal.lean ====
/-
  The kernel's result array, for real queries and keys.
-/
module

public import proofs.«01_k».proof.Proof.MobaEntry
public import proofs.«01_k».proof.Proof.MobaGate
public import proofs.«01_k».proof.Proof.MobaSoft
public import proofs.«01_k».proof.Proof.MobaGrid

@[expose] public section

set_option maxRecDepth 16384

noncomputable section

namespace Cert.Kernel10Ideal.Moba

open Cert.Kernel10Ideal Cert.Kernel10Ideal.Gen Idealize.ShloMosaic Idealize.ShloMosaic.TcCoe Idealize.SL.Sem Idealize.ShloMosaic.Tactic
open Idealize.ShloMosaic.Pipeline (Dat)
open Cert.Moba (dots Allowed out entry Real2048 queryR keyR entry_query entry_key result)

variable (m : (ℓ : Loc nD τ sig) → Buf (Elt Ideal) ℓ) (c : Dev nD)

/-- The argument. -/
abbrev arg : (⟨3, ![8, 4096, 6144]⟩ : Shape).Idx → EReal := m ((c : Thread nD τ).loc main_arg0)

theorem blk0 (t : Fin cfg0.N) (z : Fin 1) (r : Fin 4096) (x : Fin 128) :
    (iblk m c 0 t (ix3 z r x) : EReal) = entry (arg m c) (t.val / 32) r.val (128 * (t.val / 4 % 8) + x.val) := by
  have ht := t_lt t
  have hr := r.isLt
  have hx := x.isLt
  unfold entry
  rw [dif_pos ⟨by omega, by omega, by omega⟩]
  blk_ext! [iblk, V, idx t]

theorem blk1 (t : Fin cfg0.N) (z : Fin 1) (r : Fin 4096) (x : Fin 128) :
    (iblk m c 1 t (ix3 z r x) : EReal) = entry (arg m c) (t.val / 32) r.val (1024 + 128 * (t.val / 4 % 8) + x.val) := by
  have ht := t_lt t
  have hr := r.isLt
  have hx := x.isLt
  unfold entry
  rw [dif_pos ⟨by omega, by omega, by omega⟩]
  blk_ext! [iblk, V, idx t]

theorem blk2 (t : Fin cfg0.N) (z : Fin 1) (r : Fin 4096) (x : Fin 128) :
    (iblk m c 2 t (ix3 z r x) : EReal) = entry (arg m c) (t.val / 32) r.val (2048 + 128 * (t.val / 4 % 8) + x.val) := by
  have ht := t_lt t
  have hr := r.isLt
  have hx := x.isLt
  unfold entry
  rw [dif_pos ⟨by omega, by omega, by omega⟩]
  blk_ext! [iblk, V, idx t]

theorem grp_batch (t : Fin cfg0.N) : (grp t.val).val / 32 = t.val / 32 ∧ (grp t.val).val / 4 % 8 = t.val / 4 % 8 := by
  have ht := t_lt t
  constructor
  · show 4 * (t.val / 4) % 256 / 32 = t.val / 32
    omega
  · show 4 * (t.val / 4) % 256 / 4 % 8 = t.val / 4 % 8
    omega

theorem values_apply (t : Fin cfg0.N) (d : Fin 128) :
    (fun j => valAt (valsAt m c t.val) j d.val) = fun j => entry (arg m c) (t.val / 32) j (2048 + (128 * (t.val / 4 % 8) + d.val)) := by
  funext j
  have hd := d.isLt
  by_cases h : j < 4096
  · rw [show valAt (valsAt m c t.val) j d.val = valsAt m c t.val (ix2 (⟨j, h⟩ : Fin 4096) d) from (valAt_eq _ ⟨j, h⟩ d).symm]
    unfold valsAt
    pointwise [k0_pay12]
    rw [blk2, (grp_batch t).1, (grp_batch t).2, add_assoc]
  · unfold valAt entry
    rw [dif_neg fun h' => h h'.1, dif_neg fun h' => h h'.2.1]

theorem written_apply (hP : Real2048 (arg m c)) (t : Fin cfg0.N) (z : Fin 1) (r : Fin 1024) (d : Fin 128) :
    (written m c t (ix3 z r d) : EReal) = result (arg m c) (t.val / 32) (1024 * (t.val % 4) + r.val) (128 * (t.val / 4 % 8) + d.val) := by
  have ht := t_lt t
  have hr := r.isLt
  have hd := d.isLt
  unfold written pointRes
  show res (causal (prods (keysAt m c t.val) (queriesAt m c t.val)) (1024 * ((grid0.coords t) 2).val + r.val)) (1024 * ((grid0.coords t) 2).val + 1024)
    (fun j => valAt (valsAt m c t.val) j d.val) = _
  rw [third t, values_apply]
  unfold result
  rw [show (128 * (t.val / 4 % 8) + d.val) / 128 = t.val / 4 % 8 by omega]
  refine res_eq _ _ _ _ _ (by omega) (by omega) _ fun j hj => ?_
  refine prods_apply (queryR (arg m c) (t.val / 32) (t.val / 4 % 8)) (keyR (arg m c) (t.val / 32) (t.val / 4 % 8))
    (iblk m c 0 (grp t.val)) (iblk m c 1 (grp t.val)) (fun n x => ?_) (fun n x => ?_) ⟨1024 * (t.val % 4) + r.val, by omega⟩ ⟨j, hj⟩
  · rw [blk0, (grp_batch t).1, (grp_batch t).2, entry_query _ hP _ _ _ _ (by omega) x.isLt]
  · rw [blk1, (grp_batch t).1, (grp_batch t).2, entry_key _ hP _ _ _ _ (by omega) x.isLt]

/-- THE KERNEL'S RESULT ARRAY. -/
theorem final (hP : Real2048 (arg m c)) : (valued m 0 c).arrAt 3 cfg0.N
    = fun i : S8x4096x1024.Idx => result (arg m c) (i 0).val (i 1).val (i 2).val := by
  refine (valued m 0 c).arrAt_eq_of_covers 3 _ (by decide +kernel) fun t hf y => ?_
  blk_simp [idx t]
  rw [valued_after3]
  idx_vars y
  rw [written_apply m c hP t, Nat.mul_comm 1024, Nat.mul_comm 128]

end Cert.Kernel10Ideal.Moba

end
-- ==== Proof.MobaRef.lean ====
/-
  The reference read at an index: the same weighted mean.
-/
module

public import proofs.«01_k».proof.Proof.MobaEntry
public import proofs.«01_k».proof.Proof.Gen.Reference10Ideal.Read
public import Idealize.ShloMosaic.Lib.Pipeline.ValueKit.Point
public import Idealize.ShloMosaic.Lib.KernelVsHost
public import Idealize.ShloMosaic.Lib.WordCmp

@[expose] public section

set_option maxRecDepth 16384

noncomputable section

namespace Cert.Moba

open Cert.Reference10Ideal Cert.Reference10Ideal.Gen Cert.Reference10Ideal.Read Idealize.ShloMosaic Idealize.ShloMosaic.TcCoe Idealize.SL.Sem Idealize.ShloMosaic.Tactic
open Cert.Stick (sc sc_pos coe_sum exp2_log2e)

theorem minus_inf : Ideal.ofBits .f32 0xFF800000#32 = ⊥ := by simp [Ideal.ofBits, Ideal.ieee]

/-- A position's block. -/
theorem own_word (n : Fin 4096) : val_main_v10 (F := Ideal) (ix1 n) = BitVec.ofNat 32 (n.val / 256) := by
  revert n
  decide +kernel

theorem block_word (m : Fin 16) : val_main_v11 (F := Ideal) (ix1 m) = BitVec.ofNat 32 m.val := rfl

theorem past_apply (n : Fin 4096) (m : Fin 16) : val_main_v21 (F := Ideal) (ix2 n m) = BitVec.ofBool (decide (m.val < n.val / 256)) := by
  have := n.isLt
  have := m.isLt
  rw [val_main_v21_apply, val_main_v19_apply, val_main_v17_apply, val_main_v20_apply, val_main_v18_apply,
    show idx_main_v18 (idx_main_v20 (ix2 n m)) = ix1 n from funext fun a => by fin_cases a <;> rfl,
    show idx_main_v17 (idx_main_v19 (ix2 n m)) = ix1 m from funext fun a => by fin_cases a <;> rfl, own_word, block_word,
    WordCmp.cmpi_slt_ofNat (by norm_num; omega) (by norm_num; omega)]

theorem same_apply (n : Fin 4096) (m : Fin 16) : val_main_v54 (F := Ideal) (ix2 n m) = BitVec.ofBool (decide (m.val = n.val / 256)) := by
  have := n.isLt
  have := m.isLt
  rw [val_main_v54_apply, val_main_v52_apply, val_main_v50_apply, val_main_v53_apply, val_main_v51_apply,
    show idx_main_v51 (idx_main_v53 (ix2 n m)) = ix1 n from funext fun a => by fin_cases a <;> rfl,
    show idx_main_v50 (idx_main_v52 (ix2 n m)) = ix1 m from funext fun a => by fin_cases a <;> rfl, own_word, block_word,
    WordCmp.cmpi_eq_ofNat (by norm_num; omega) (by norm_num; omega)]

theorem earlier_apply (n m : Fin 16) : val_main_v37 (F := Ideal) (ix2 n m) = BitVec.ofBool (decide (m.val < n.val)) := by
  have := n.isLt
  have := m.isLt
  rw [val_main_v37_apply, val_main_v35_apply, val_main_v33_apply, val_main_v36_apply, val_main_v34_apply,
    show idx_main_v34 (idx_main_v36 (ix2 n m)) = ix1 n from funext fun a => by fin_cases a <;> rfl,
    show idx_main_v33 (idx_main_v35 (ix2 n m)) = ix1 m from funext fun a => by fin_cases a <;> rfl, block_word, block_word,
    WordCmp.cmpi_slt_ofNat (by norm_num; omega) (by norm_num; omega)]

theorem causal_apply (n j : Fin 4096) : val_main_v64 (F := Ideal) (ix2 n j) = BitVec.ofBool (decide (j.val ≤ n.val)) := by
  have := n.isLt
  have := j.isLt
  rw [val_main_v64_apply, val_main_v62_apply, val_main_v60_apply, val_main_v63_apply, val_main_v61_apply, val_main_v9_apply, val_main_v9_apply]
  show IntOp.cmpi .sle (BitVec.ofNat 32 j.val) (BitVec.ofNat 32 n.val) = _
  rw [WordCmp.cmpi_sle_ofNat (by norm_num; omega) (by norm_num; omega)]

section

variable (P : (⟨3, ![8, 4096, 6144]⟩ : Shape).Idx → EReal)

theorem queries (b h : Fin 8) (n : Fin 4096) (x : Fin 128) :
    (val_main_v2 (F := Ideal) P (ix4 b h n x) : EReal) = entry P b.val n.val (128 * h.val + x.val) := by
  rw [val_main_v2_apply, val_main_v1_apply, val_main_v0_apply]
  unfold entry
  have := b.isLt
  have := h.isLt
  have := n.isLt
  have := x.isLt
  rw [dif_pos ⟨by omega, by omega, by omega⟩]
  refine congrArg P (funext fun a => Fin.ext ?_)
  match a with
  | ⟨0, _⟩ => show (((b.val * 4096 + n.val) * 8 + h.val) * 128 + x.val) / 4194304 = b.val; omega
  | ⟨1, _⟩ => show (((b.val * 4096 + n.val) * 8 + h.val) * 128 + x.val) / 1024 % 4096 = n.val; omega
  | ⟨2, _⟩ => show (((b.val * 4096 + n.val) * 8 + h.val) * 128 + x.val) % 1024 = 128 * h.val + x.val; omega

theorem keys (b h : Fin 8) (n : Fin 4096) (x : Fin 128) :
    (val_main_v5 (F := Ideal) P (ix4 b h n x) : EReal) = entry P b.val n.val (1024 + 128 * h.val + x.val) := by
  rw [val_main_v5_apply, val_main_v4_apply, val_main_v3_apply]
  unfold entry
  have := b.isLt
  have := h.isLt
  have := n.isLt
  have := x.isLt
  rw [dif_pos ⟨by omega, by omega, by omega⟩]
  refine congrArg P (funext fun a => Fin.ext ?_)
  match a with
  | ⟨0, _⟩ => show (((b.val * 4096 + n.val) * 8 + h.val) * 128 + x.val) / 4194304 = b.val; omega
  | ⟨1, _⟩ => show (((b.val * 4096 + n.val) * 8 + h.val) * 128 + x.val) / 1024 % 4096 = n.val; omega
  | ⟨2, _⟩ => show 1024 + (((b.val * 4096 + n.val) * 8 + h.val) * 128 + x.val) % 1024 = 1024 + 128 * h.val + x.val; omega

theorem values (b h : Fin 8) (n : Fin 4096) (x : Fin 128) :
    (val_main_v8 (F := Ideal) P (ix4 b h n x) : EReal) = entry P b.val n.val (2048 + 128 * h.val + x.val) := by
  rw [val_main_v8_apply, val_main_v7_apply, val_main_v6_apply]
  unfold entry
  have := b.isLt
  have := h.isLt
  have := n.isLt
  have := x.isLt
  rw [dif_pos ⟨by omega, by omega, by omega⟩]
  refine congrArg P (funext fun a => Fin.ext ?_)
  match a with
  | ⟨0, _⟩ => show (((b.val * 4096 + n.val) * 8 + h.val) * 128 + x.val) / 4194304 = b.val; omega
  | ⟨1, _⟩ => show (((b.val * 4096 + n.val) * 8 + h.val) * 128 + x.val) / 1024 % 4096 = n.val; omega
  | ⟨2, _⟩ => show 2048 + (((b.val * 4096 + n.val) * 8 + h.val) * 128 + x.val) % 1024 = 2048 + 128 * h.val + x.val; omega

variable (hP : Real2048 P)

include hP in
theorem query_apply (b h : Fin 8) (n : Fin 4096) (x : Fin 128) : (val_main_v2 (F := Ideal) P (ix4 b h n x) : EReal) = ((queryR P b.val h.val n.val x.val : ℝ) : EReal) := by
  rw [queries, entry_query P hP _ _ _ _ h.isLt x.isLt]

include hP in
theorem key_apply (b h : Fin 8) (n : Fin 4096) (x : Fin 128) : (val_main_v5 (F := Ideal) P (ix4 b h n x) : EReal) = ((keyR P b.val h.val n.val x.val : ℝ) : EReal) := by
  rw [keys, entry_key P hP _ _ _ _ h.isLt x.isLt]

theorem block_key (b h : Fin 8) (m : Fin 16) (x : Fin 128) (y : Fin 256) :
    idx_main_v12 (idx_main_v13 (ix4 b h m x) y) = ix4 b h (⟨256 * m.val + y.val, by have := m.isLt; have := y.isLt; omega⟩ : Fin 4096) x := by
  have := b.isLt
  have := h.isLt
  have := m.isLt
  have := x.isLt
  have := y.isLt
  refine funext fun a => Fin.ext ?_
  match a with
  | ⟨0, _⟩ => show ((((b.val * 8 + h.val) * 16 + m.val) * 256 + y.val) * 128 + x.val) / 4194304 = b.val; omega
  | ⟨1, _⟩ => show ((((b.val * 8 + h.val) * 16 + m.val) * 256 + y.val) * 128 + x.val) / 524288 % 8 = h.val; omega
  | ⟨2, _⟩ => show ((((b.val * 8 + h.val) * 16 + m.val) * 256 + y.val) * 128 + x.val) / 128 % 4096 = 256 * m.val + y.val; omega
  | ⟨3, _⟩ => show ((((b.val * 8 + h.val) * 16 + m.val) * 256 + y.val) * 128 + x.val) % 128 = x.val; omega

include hP in
theorem mean_apply (b h : Fin 8) (m : Fin 16) (x : Fin 128) : (val_main_v15 (F := Ideal) P (ix4 b h m x) : EReal) = ((mean (keyR P b.val h.val) m.val x.val : ℝ) : EReal) := by
  have e : (val_main_v13 (F := Ideal) P (ix4 b h m x) : EReal) = ((∑ y : Fin 256, keyR P b.val h.val (256 * m.val + y.val) x.val : ℝ) : EReal) := by
    rw [val_main_v13_apply, ← coe_sum, val_main_cst_apply]
    refine (congrArg (fun z : EReal => z + _) (show Ideal.ofBits .f32 0x00000000#32 = 0 by simp)).trans ((zero_add _).trans ?_)
    refine Finset.sum_congr rfl fun y _ => ?_
    rw [val_main_v12_apply, block_key]
    exact key_apply P hP _ _ _ _
  rw [val_main_v15_apply, e, val_main_v14_apply, val_main_cst_0_apply]
  have h256 : Ideal.ofBits .f32 0x43800000#32 = ((256 : ℝ) : EReal) := by
    simp [Ideal.ofBits, Ideal.ieee, -EReal.coe_mul]; norm_num
  show Ideal.div _ (Ideal.ofBits .f32 0x43800000#32) = _
  rw [h256, Ideal.div_coe (by norm_num), ← EReal.coe_mul]
  unfold mean
  rw [mul_one_div]

include hP in
theorem gate_apply (b h : Fin 8) (n : Fin 4096) (m : Fin 16) :
    (val_main_v22 (F := Ideal) P (ix4 b h n m) : EReal) = gate (queryR P b.val h.val) (keyR P b.val h.val) n.val m := by
  have e : (val_main_v16 (F := Ideal) P (ix4 b h n m) : EReal) = ((∑ x : Fin 128, queryR P b.val h.val n.val x.val * mean (keyR P b.val h.val) m.val x.val : ℝ) : EReal) := by
    rw [val_main_v16_apply, ← coe_sum]
    refine Finset.sum_congr rfl fun x _ => ?_
    rw [show lidx_main_v16 (ix4 b h n m) x = ix4 b h n x from funext fun a => by fin_cases a <;> rfl,
      show ridx_main_v16 (ix4 b h n m) x = ix4 b h m x from funext fun a => by fin_cases a <;> rfl, query_apply P hP, mean_apply P hP, EReal.coe_mul]
  rw [val_main_v22_apply, e, val_main_call1_v1_apply,
    show idx_main_call1_v1 (ix4 b h n m) = ix2 n m from funext fun a => by fin_cases a <;> rfl, past_apply,
    val_main_call1_v2_apply, val_main_call1_v0_apply, val_main_cst_1_apply]
  refine (congrArg (fun z : EReal => Scalar.select _ _ z) minus_inf).trans ?_
  unfold gate
  by_cases hl : m.val < n.val / 256
  · rw [if_pos hl]; simp [hl, Scalar.select]
  · rw [if_neg hl]; simp [hl, Scalar.select]

include hP in
/-- Whether block `k` comes before block `m`. -/
theorem ahead_apply (b h : Fin 8) (n : Fin 4096) (m k : Fin 16) :
    (val_main_v43 (F := Ideal) P (idx_main_v44 (ix4 b h n m) k) : EReal)
      = (((by classical exact if Beats (gate (queryR P b.val h.val) (keyR P b.val h.val) n.val) k m then 1 else 0) : ℝ) : EReal) := by
  classical
  rw [val_main_v43_apply, val_main_v42_apply, val_main_v41_apply, val_main_v27_apply, val_main_v40_apply, val_main_v32_apply,
    val_main_v25_apply, val_main_v23_apply, val_main_v26_apply, val_main_v24_apply, val_main_v30_apply, val_main_v28_apply, val_main_v31_apply, val_main_v29_apply,
    val_main_v39_apply, val_main_v38_apply, val_main_call2_v0_apply, val_main_call2_v1_apply, val_main_cst_2_apply, val_main_cst_3_apply,
    show idx_main_v23 (idx_main_v25 (idx_main_v44 (ix4 b h n m) k)) = ix4 b h n k from funext fun a => by fin_cases a <;> rfl,
    show idx_main_v24 (idx_main_v26 (idx_main_v44 (ix4 b h n m) k)) = ix4 b h n m from funext fun a => by fin_cases a <;> rfl,
    show idx_main_v28 (idx_main_v30 (idx_main_v44 (ix4 b h n m) k)) = ix4 b h n k from funext fun a => by fin_cases a <;> rfl,
    show idx_main_v29 (idx_main_v31 (idx_main_v44 (ix4 b h n m) k)) = ix4 b h n m from funext fun a => by fin_cases a <;> rfl,
    show idx_main_v38 (idx_main_v39 (idx_main_v44 (ix4 b h n m) k)) = ix2 m k from funext fun a => by fin_cases a <;> rfl, earlier_apply,
    gate_apply P hP, gate_apply P hP]
  generalize gate (queryR P b.val h.val) (keyR P b.val h.val) n.val = g
  have h1 : Ideal.ofBits .f32 0x3F800000#32 = 1 := by
    rw [show (1 : EReal) = ((1 : ℝ) : EReal) from rfl]
    simp [Ideal.ofBits, Ideal.ieee, -EReal.coe_mul]; norm_num
  have h0 : Ideal.ofBits .f32 0x00000000#32 = 0 := by simp
  show Scalar.select (IntOp.ori (BitVec.ofBool (decide (g m < g k))) (IntOp.andi (BitVec.ofBool (decide (g k = g m))) (BitVec.ofBool (decide (k.val < m.val)))))
    (Ideal.ofBits .f32 0x3F800000#32) (Ideal.ofBits .f32 0x00000000#32) = _
  rw [h1, h0]
  have hb : Beats g k m ↔ (g m < g k ∨ (g k = g m ∧ k.val < m.val)) := Iff.rfl
  by_cases a : g m < g k <;> by_cases b : g k = g m <;> by_cases d : k.val < m.val <;>
    simp only [hb, a, b, d, true_or, false_or, true_and, false_and, and_true, and_false, or_true, or_false, if_true, if_false, decide_true, decide_false] <;>
    simp [Scalar.select, IntOp.ori, IntOp.andi]

include hP in
theorem rank_apply (b h : Fin 8) (n : Fin 4096) (m : Fin 16) :
    (val_main_v44 (F := Ideal) P (ix4 b h n m) : EReal) = (((rank (gate (queryR P b.val h.val) (keyR P b.val h.val) n.val) m : ℕ) : ℝ) : EReal) := by
  classical
  rw [val_main_v44_apply, val_main_cst_4_apply]
  refine (congrArg (fun z : EReal => z + _) (show Ideal.ofBits .f32 0x00000000#32 = 0 by simp)).trans ((zero_add _).trans ?_)
  refine (Finset.sum_congr rfl fun k _ => ahead_apply P hP b h n m k).trans ?_
  rw [coe_sum]
  unfold rank
  rw [Finset.sum_boole]

include hP in
theorem allowed_apply (b h : Fin 8) (n : Fin 4096) (m : Fin 16) : val_main_v57 (F := Ideal) P (ix4 b h n m)
    = (by classical exact BitVec.ofBool (decide (Allowed (queryR P b.val h.val) (keyR P b.val h.val) n.val m.val))) := by
  classical
  rw [val_main_v57_apply, val_main_v49_apply, val_main_v48_apply, val_main_v47_apply, val_main_v46_apply, val_main_v56_apply, val_main_v55_apply,
    show idx_main_v47 (idx_main_v48 (ix4 b h n m)) = ix2 n m from funext fun a => by fin_cases a <;> rfl,
    show idx_main_v55 (idx_main_v56 (ix4 b h n m)) = ix2 n m from funext fun a => by fin_cases a <;> rfl, past_apply, same_apply,
    rank_apply P hP, val_main_v45_apply, val_main_cst_5_apply]
  have h3 : Ideal.ofBits .f32 0x40400000#32 = ((3 : ℝ) : EReal) := by
    simp [Ideal.ofBits, Ideal.ieee, -EReal.coe_mul]; norm_num
  show IntOp.ori (IntOp.andi (BitVec.ofBool (decide (m.val < n.val / 256)))
    (BitVec.ofBool (decide ((((rank (gate (queryR P b.val h.val) (keyR P b.val h.val) n.val) m : ℕ) : ℝ) : EReal) < Ideal.ofBits .f32 0x40400000#32))))
    (BitVec.ofBool (decide (m.val = n.val / 256))) = _
  have hr : ((((rank (gate (queryR P b.val h.val) (keyR P b.val h.val) n.val) m : ℕ) : ℝ) : EReal) < Ideal.ofBits .f32 0x40400000#32)
      ↔ rank (gate (queryR P b.val h.val) (keyR P b.val h.val) n.val) m < 3 := by
    rw [h3, EReal.coe_lt_coe_iff]
    norm_cast
  have ha : Allowed (queryR P b.val h.val) (keyR P b.val h.val) n.val m.val
      ↔ (m.val = n.val / 256 ∨ (m.val < n.val / 256 ∧ rank (gate (queryR P b.val h.val) (keyR P b.val h.val) n.val) m < 3)) :=
    ⟨fun h => h.elim Or.inl fun ⟨_, h⟩ => Or.inr h, fun h => h.elim Or.inl fun h => Or.inr ⟨m.isLt, h⟩⟩
  simp only [hr, ha]
  by_cases a : m.val < n.val / 256 <;> by_cases d : rank (gate (queryR P b.val h.val) (keyR P b.val h.val) n.val) m < 3 <;> by_cases f : m.val = n.val / 256 <;>
    simp only [a, d, f, true_or, false_or, true_and, false_and, and_true, and_false, or_true, or_false, decide_true, decide_false] <;>
    first | rfl | simp [IntOp.ori, IntOp.andi]

theorem key_block (b h : Fin 8) (n j : Fin 4096) :
    idx_main_v58 (idx_main_v59 (ix4 b h n j)) = ix4 b h n (⟨j.val / 256, by have := j.isLt; omega⟩ : Fin 16) := by
  have := b.isLt
  have := h.isLt
  have := n.isLt
  have := j.isLt
  refine funext fun a => Fin.ext ?_
  match a with
  | ⟨0, _⟩ => show (((b.val * 8 + h.val) * 4096 + n.val) * 4096 + j.val) / 134217728 = b.val; omega
  | ⟨1, _⟩ => show (((b.val * 8 + h.val) * 4096 + n.val) * 4096 + j.val) / 16777216 % 8 = h.val; omega
  | ⟨2, _⟩ => show (((b.val * 8 + h.val) * 4096 + n.val) * 4096 + j.val) / 4096 % 4096 = n.val; omega
  | ⟨3, _⟩ => show (((b.val * 8 + h.val) * 4096 + n.val) * 4096 + j.val) / 256 % 16 = j.val / 256; omega

include hP in
theorem seen_apply (b h : Fin 8) (n j : Fin 4096) : val_main_v67 (F := Ideal) P (ix4 b h n j)
    = (by classical exact BitVec.ofBool (decide (Seen (queryR P b.val h.val) (keyR P b.val h.val) n.val j.val))) := by
  classical
  rw [val_main_v67_apply, val_main_v59_apply, val_main_v58_apply, key_block, allowed_apply P hP, val_main_v66_apply, val_main_v65_apply,
    show idx_main_v65 (idx_main_v66 (ix4 b h n j)) = ix2 n j from funext fun a => by fin_cases a <;> rfl, causal_apply]
  have hs : Seen (queryR P b.val h.val) (keyR P b.val h.val) n.val j.val
      ↔ (Allowed (queryR P b.val h.val) (keyR P b.val h.val) n.val (j.val / 256) ∧ j.val ≤ n.val) := Iff.rfl
  by_cases a : Allowed (queryR P b.val h.val) (keyR P b.val h.val) n.val (j.val / 256) <;> by_cases d : j.val ≤ n.val <;>
    simp [hs, a, d, IntOp.andi]

include hP in
theorem masked_apply (b h : Fin 8) (n j : Fin 4096) : (val_main_v72 (F := Ideal) P (ix4 b h n j) : EReal)
    = (by classical exact if Seen (queryR P b.val h.val) (keyR P b.val h.val) n.val j.val
        then ((dots (queryR P b.val h.val) (keyR P b.val h.val) n.val j.val * sc : ℝ) : EReal) else ⊥) := by
  classical
  have e : (val_main_v68 (F := Ideal) P (ix4 b h n j) : EReal) = ((dots (queryR P b.val h.val) (keyR P b.val h.val) n.val j.val : ℝ) : EReal) := by
    unfold dots
    rw [val_main_v68_apply, ← coe_sum]
    refine Finset.sum_congr rfl fun x _ => ?_
    rw [show lidx_main_v68 (ix4 b h n j) x = ix4 b h n x from funext fun a => by fin_cases a <;> rfl,
      show ridx_main_v68 (ix4 b h n j) x = ix4 b h j x from funext fun a => by fin_cases a <;> rfl, query_apply P hP, key_apply P hP, EReal.coe_mul]
  have e2 : (val_main_v71 (F := Ideal) P (ix4 b h n j) : EReal) = ((dots (queryR P b.val h.val) (keyR P b.val h.val) n.val j.val * sc : ℝ) : EReal) := by
    rw [val_main_v71_apply, e, val_main_v70_apply, val_main_v69_apply, val_main_cst_6_apply]
    have h128 : Ideal.ofBits .f32 0x43000000#32 = ((128 : ℝ) : EReal) := by
      simp [Ideal.ofBits, Ideal.ieee, -EReal.coe_mul]; norm_num
    show Ideal.div _ (Ideal.sqrt (Ideal.ofBits .f32 0x43000000#32)) = _
    rw [h128, Ideal.sqrt_coe, if_neg (by norm_num), Ideal.div_coe (by positivity), ← EReal.coe_mul]
    unfold sc
    rw [one_div]
  rw [val_main_v72_apply, e2, seen_apply P hP, val_main_call3_v1_apply, val_main_call3_v0_apply, val_main_cst_7_apply]
  refine (congrArg (fun z : EReal => Scalar.select _ _ z) minus_inf).trans ?_
  by_cases hl : Seen (queryR P b.val h.val) (keyR P b.val h.val) n.val j.val
  · rw [if_pos hl]; simp [hl, Scalar.select]
  · rw [if_neg hl]; simp [hl, Scalar.select]

theorem max_le (b h : Fin 8) (n : Fin 4096) (x : EReal) :
    (val_main_v73 (F := Ideal) P (ix3 b h n) : EReal) ≤ x ↔ ∀ j : Fin 4096, (val_main_v72 (F := Ideal) P (ix4 b h n j) : EReal) ≤ x := by
  have e : @Eq (FVec Ideal S8x8x4096 .f32) (val_main_v73 (F := Ideal) P) (multiReduction (F := Ideal) (φ := .f32) .maximumf [3] S8x8x4096 (val_main_v72 (F := Ideal) P) 0xFF800000#32
      (show Shape.Reduces S8x8x4096x4096 [3] S8x8x4096 by decide) (.inl rfl) rfl) := by
    unfold val_main_v73 val_main_cst_8
    exact hostReduce_maximumf_eq_multiReduction _ _ _ _ _ _ _
  rw [e]
  generalize val_main_v72 (F := Ideal) P = w
  pointwise
  rw [Finset.fold_max_le, minus_inf]
  exact ⟨fun h j => h.2 j (Finset.mem_univ j), fun h => ⟨bot_le, fun j _ => h j⟩⟩

include hP in
theorem top_apply (b h : Fin 8) (n j : Fin 4096) : (val_main_v77 (F := Ideal) P (ix4 b h n j) : EReal)
    = ((mu (queryR P b.val h.val) (keyR P b.val h.val) n.val * sc : ℝ) : EReal) := by
  rw [val_main_v77_apply, val_main_v76_apply, val_main_v75_apply, val_main_v74_apply, val_main_cst_9_apply,
    show idx_main_v76 (idx_main_v77 (ix4 b h n j)) = ix3 b h n from funext fun a => by fin_cases a <;> rfl]
  show max (Ideal.ofBits .f32 0xFF800000#32) (val_main_v73 (F := Ideal) P (ix3 b h n) : EReal) = _
  rw [minus_inf, max_eq_right bot_le]
  refine le_antisymm ((max_le P b h n _).mpr fun j => ?_) ?_
  · rw [masked_apply P hP]
    split
    · rename_i hs
      exact EReal.coe_le_coe_iff.mpr (mul_le_mul_of_nonneg_right (le_mu _ _ _ n.isLt _ j.isLt hs) sc_pos.le)
    · exact bot_le
  · obtain ⟨i, hi, hs, e⟩ := mu_attained (queryR P b.val h.val) (keyR P b.val h.val) n.val n.isLt
    have := (max_le P b h n _).mp le_rfl ⟨i, hi⟩
    rw [masked_apply P hP, if_pos hs] at this
    rw [← e]
    exact this

include hP in
theorem weight_apply (b h : Fin 8) (n j : Fin 4096) : (val_main_v79 (F := Ideal) P (ix4 b h n j) : EReal)
    = ((wt (queryR P b.val h.val) (keyR P b.val h.val) n.val j.val : ℝ) : EReal) := by
  rw [val_main_v79_apply, val_main_v78_apply, top_apply P hP, masked_apply P hP]
  by_cases hs : Seen (queryR P b.val h.val) (keyR P b.val h.val) n.val j.val
  · rw [if_pos hs, wt_of _ _ _ _ hs, sub_mul]
    show Ideal.exp (((_ : ℝ) : EReal) - ((_ : ℝ) : EReal)) = _
    rw [← EReal.coe_sub, Ideal.exp_coe]
  · rw [if_neg hs, wt_else _ _ _ _ hs]
    refine (congrArg Ideal.exp (EReal.bot_sub (mu (queryR P b.val h.val) (keyR P b.val h.val) n.val * sc : ℝ))).trans ?_
    rw [Ideal.exp_bot, EReal.coe_zero]

include hP in
theorem mass_apply (b h : Fin 8) (n j : Fin 4096) : (val_main_v82 (F := Ideal) P (ix4 b h n j) : EReal)
    = ((mass (queryR P b.val h.val) (keyR P b.val h.val) n.val : ℝ) : EReal) := by
  rw [val_main_v82_apply, val_main_v81_apply,
    show idx_main_v81 (idx_main_v82 (ix4 b h n j)) = ix3 b h n from funext fun a => by fin_cases a <;> rfl, val_main_v80_apply, val_main_cst_10_apply]
  refine (congrArg (fun z : EReal => z + _) (show Ideal.ofBits .f32 0x00000000#32 = 0 by simp)).trans ((zero_add _).trans ?_)
  have e : ∀ k : Fin 4096, (val_main_v79 (F := Ideal) P (idx_main_v80 (ix3 b h n) k) : EReal) = ((wt (queryR P b.val h.val) (keyR P b.val h.val) n.val k.val : ℝ) : EReal) := fun k => by
    rw [show idx_main_v80 (ix3 b h n) k = ix4 b h n k from funext fun a => by fin_cases a <;> rfl, weight_apply P hP]
  refine (Finset.sum_congr rfl fun k _ => e k).trans ?_
  unfold mass
  rw [coe_sum, Fin.sum_univ_eq_sum_range (fun k => wt (queryR P b.val h.val) (keyR P b.val h.val) n.val k) 4096]

include hP in
theorem out_apply (b h : Fin 8) (n : Fin 4096) (d : Fin 128) : (val_main_v84 (F := Ideal) P (ix4 b h n d) : EReal)
    = out (queryR P b.val h.val) (keyR P b.val h.val) (fun j => entry P b.val j (2048 + 128 * h.val + d.val)) n.val := by
  have hm := mass_pos (queryR P b.val h.val) (keyR P b.val h.val) n.val n.isLt
  rw [val_main_v84_apply]
  have e : ∀ k : Fin 4096, (val_main_v83 (F := Ideal) P (lidx_main_v84 (ix4 b h n d) k) : EReal) * (val_main_v8 (F := Ideal) P (ridx_main_v84 (ix4 b h n d) k) : EReal)
      = ((wt (queryR P b.val h.val) (keyR P b.val h.val) n.val k.val * (1 / mass (queryR P b.val h.val) (keyR P b.val h.val) n.val) : ℝ) : EReal)
        * entry P b.val k.val (2048 + 128 * h.val + d.val) := fun k => by
    rw [show lidx_main_v84 (ix4 b h n d) k = ix4 b h n k from funext fun a => by fin_cases a <;> rfl,
      show ridx_main_v84 (ix4 b h n d) k = ix4 b h k d from funext fun a => by fin_cases a <;> rfl, values, val_main_v83_apply, weight_apply P hP, mass_apply P hP]
    refine congrArg (fun z : EReal => z * _) ?_
    show Ideal.div ((_ : ℝ) : EReal) ((_ : ℝ) : EReal) = _
    rw [Ideal.div_coe hm.ne', ← EReal.coe_mul]
  refine (Finset.sum_congr rfl fun k _ => e k).trans ?_
  rw [Fin.sum_univ_eq_sum_range (fun k => ((wt (queryR P b.val h.val) (keyR P b.val h.val) n.val k * (1 / mass (queryR P b.val h.val) (keyR P b.val h.val) n.val) : ℝ) : EReal)
        * entry P b.val k (2048 + 128 * h.val + d.val)) 4096]
  exact mul_out _ _ (by positivity) _ _

include hP in
/-- THE REFERENCE AT AN INDEX. -/
theorem reference_apply (b : Fin 8) (n : Fin 4096) (c : Fin 1024) :
    (val_main_v87 (F := Ideal) P (ix3 b n c) : EReal) = result P b.val n.val c.val := by
  have hb := b.isLt
  have hn := n.isLt
  have hc := c.isLt
  have e : idx_main_v85 (idx_main_v86 (ix3 b n c)) = ix4 b (⟨c.val / 128, by omega⟩ : Fin 8) n (⟨c.val % 128, by omega⟩ : Fin 128) := by
    refine funext fun a => Fin.ext ?_
    match a with
    | ⟨0, _⟩ => show ((b.val * 4096 + n.val) * 1024 + c.val) / 4194304 = b.val; omega
    | ⟨1, _⟩ => show ((b.val * 4096 + n.val) * 1024 + c.val) / 128 % 8 = c.val / 128; omega
    | ⟨2, _⟩ => show ((b.val * 4096 + n.val) * 1024 + c.val) / 1024 % 4096 = n.val; omega
    | ⟨3, _⟩ => show ((b.val * 4096 + n.val) * 1024 + c.val) % 128 = c.val % 128; omega
  rw [val_main_v87_apply, val_main_v86_apply, val_main_v85_apply, e]
  refine (out_apply P hP b _ n _).trans ?_
  unfold result
  show out _ _ (fun j => entry P b.val j (2048 + 128 * (c.val / 128) + c.val % 128)) n.val = _
  rw [show 2048 + 128 * (c.val / 128) + c.val % 128 = 2048 + c.val by omega]

end

end Cert.Moba

end
-- ==== Proof.MobaClaims.lean ====
/-
  The claims about the block-sparse attention: the programs run and leave their argument as it was, the named constants
  stand for the numbers written in the kernel, and the kernel's result is the reference's.
-/
module

public import proofs.«01_k».proof.Defs
public import proofs.«01_k».proof.Proof.MobaFrame
public import proofs.«01_k».proof.Proof.MobaIdealFrame
public import proofs.«01_k».proof.Proof.MobaFinal
public import proofs.«01_k».proof.Proof.MobaRef
public import proofs.«01_k».proof.Proof.Gen.Reference10Ideal.Run
public import Idealize.ShloMosaic.Lib.ReduceAll

@[expose] public section

set_option maxRecDepth 16384

noncomputable section

namespace Cert.Moba

open Idealize.ShloMosaic Idealize.ShloMosaic.TcCoe Idealize.SL.Sem Idealize.ShloMosaic.Tactic

theorem facts_finite10 : Cert.Pre_finite10.Facts where
  slices_S8x4096x6144_S8x4096x2048_0_0_0 := by decide
  bcast_S_S8x4096x2048 := by decide
  reducesTo_S8x4096x2048_S_d0_1_2 := by decide
  h_S_ := by decide

/-- The precondition says that the queries and keys are real numbers. -/
theorem real_of_pre (P : (⟨3, ![8, 4096, 6144]⟩ : Shape).Idx → EReal)
    (h : (haveI := facts_finite10; Cert.Pre_finite10.fn (F := Ideal) P) = fun _ => 1#1) : Real2048 P := by
  intro b n c hc
  unfold entry
  split
  · rename_i hb
    have e := congrFun h ix0
    unfold Cert.Pre_finite10.fn at e
    have e1 := Host.reduce_andi_all _ _ _ _ _ e (ix3 (⟨b, hb.1⟩ : Fin 8) (⟨n, hb.2.1⟩ : Fin 4096) (⟨c, hc⟩ : Fin 2048))
    have e2 : Ideal.cmp .olt (max (P (ix3 (⟨b, hb.1⟩ : Fin 8) (⟨n, hb.2.1⟩ : Fin 4096) (⟨c, hb.2.2⟩ : Fin 6144)))
        (-(P (ix3 (⟨b, hb.1⟩ : Fin 8) (⟨n, hb.2.1⟩ : Fin 4096) (⟨c, hb.2.2⟩ : Fin 6144))))) (Ideal.ofBits .f32 0x7F800000#32) = 1#1 := by
      rw [← e1]
      pointwise
      rfl
    have ht : Ideal.ofBits .f32 0x7F800000#32 = ⊤ := by simp [Ideal.ofBits, Ideal.ieee]
    rw [ht] at e2
    generalize P _ = p at e2 ⊢
    induction p with
    | bot => simp [Ideal.cmp] at e2
    | top => simp [Ideal.cmp] at e2
    | coe r => exact ⟨r, rfl⟩
  · exact ⟨0, rfl⟩

theorem frame_p : Cert.quiescent_Kernel10 := fun m ρ _ => Cert.Kernel10.Moba.frame m ρ
theorem frame_pi : Cert.quiescent_Kernel10Ideal := fun m ρ _ => Cert.Kernel10Ideal.Moba.frame m ρ
theorem frame_pi_finite10 : Cert.quiescent_Kernel10Ideal_pre_finite10 (hPre_finite10 := facts_finite10) := fun m ρ _ => Cert.Kernel10Ideal.Moba.frame m ρ
theorem frame_ri : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)
theorem frame_ri_finite10 : Cert.quiescent_Reference10Ideal_pre_finite10 (hPre_finite10 := facts_finite10) := fun m ρ _ => frame_ri m ρ trivial

theorem preserves : Cert.preserves_Kernel10_Kernel10Ideal :=
  ⟨IdealRules.named_const.statement Cert.Kernel10Ideal.κ "mask" .f32 0x7149F2CA#32 _ rfl,
    IdealRules.named_const.statement Cert.Kernel10Ideal.κ "neg_mask" .f32 0xF149F2CA#32 _ rfl,
    IdealRules.named_const.statement Cert.Kernel10Ideal.κ "scale_log2e" .f32 0x3E0293EE#32 _ rfl⟩

theorem algebraic : Cert.algebraic_Kernel10Ideal_Reference10Ideal_pre_finite10 (hPre_finite10 := facts_finite10) := by
  intro m ρ m' ρ' hpre hagree
  have hP : ∀ c : Dev Cert.Kernel10Ideal.nD, Real2048 (Cert.Kernel10Ideal.Moba.arg m c) := fun c => real_of_pre _ (hpre c)
  refine ⟨fun c => fun i : Cert.Kernel10Ideal.S8x4096x1024.Idx => result (Cert.Kernel10Ideal.Moba.arg m c) (i 0).val (i 1).val (i 2).val, ?_, ?_⟩
  · exact (θ_run Cert.Kernel10Ideal.defs _ _).mono (fun _ h c => ⟨(h c).1.trans (Cert.Kernel10Ideal.Moba.final m c (hP c)), (h c).2⟩)
      (Cert.Kernel10Ideal.Moba.result_run m ρ)
  · refine (θ_run Cert.Reference10Ideal.defs _ _).mono (fun _ h c => ⟨(h c).1.trans ?_, (h c).2⟩) (Cert.Reference10Ideal.Value.run (F := Ideal) m' ρ')
    rw [Cert.Reference10Ideal.Read.val_main_v87_eq, hagree c]
    funext i
    idx_vars i
    exact reference_apply _ (hP c) _ _ _

end Cert.Moba

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.StickClaims
public import proofs.«01_k».proof.Proof.FfnClaims
public import proofs.«01_k».proof.Proof.ProjAb
public import proofs.«01_k».proof.Proof.Gen.Reference10Ideal.Run
public import proofs.«01_k».proof.Proof.Gen.Reference10Ideal.Read
public import proofs.«01_k».proof.Proof.MobaClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Stick.facts_finite, Cert.Moba.facts_finite10,
  Cert.Stick.frame_p, Cert.Stick.frame_pi, Cert.Stick.frame_pi_finite, Cert.Stick.frame_ri, Cert.Stick.frame_ri_finite,
  Cert.Ffn.frame_p, Cert.Ffn.frame_pi, Cert.Ffn.frame_ri,
  Cert.FfnNext.frame_p, Cert.FfnNext.frame_pi, Cert.FfnNext.frame_ri,
  Cert.ProjSb.frame_p, Cert.ProjSb.frame_pi, Cert.ProjSb.frame_ri,
  Cert.ProjGdn.frame_p, Cert.ProjGdn.frame_pi, Cert.ProjGdn.frame_ri,
  Cert.ProjOdd.frame_p, Cert.ProjOdd.frame_pi, Cert.ProjOdd.frame_ri,
  Cert.OutProj.frame_p, Cert.OutProj.frame_pi, Cert.OutProj.frame_ri,
  Cert.PreNorm.frame_p, Cert.PreNorm.frame_pi, Cert.PreNorm.frame_ri,
  Cert.ProjAb.frame_p, Cert.ProjAb.frame_pi, Cert.ProjAb.frame_ri,
  Cert.Moba.frame_p, Cert.Moba.frame_pi, Cert.Moba.frame_pi_finite10, Cert.Moba.frame_ri, Cert.Moba.frame_ri_finite10,
  Cert.Stick.preserves, Cert.Stick.algebraic,
  Cert.Ffn.preserves, Cert.Ffn.algebraic,
  Cert.FfnNext.preserves, Cert.FfnNext.algebraic,
  Cert.ProjSb.preserves, Cert.ProjSb.algebraic,
  Cert.ProjGdn.preserves, Cert.ProjGdn.algebraic,
  Cert.ProjOdd.preserves, Cert.ProjOdd.algebraic,
  Cert.OutProj.preserves, Cert.OutProj.algebraic,
  Cert.PreNorm.preserves, Cert.PreNorm.algebraic,
  Cert.ProjAb.preserves, Cert.ProjAb.algebraic,
  Cert.Moba.preserves, Cert.Moba.algebraic⟩

end Cert.Proof

end
